-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 [hPre_nbr_in_range : Cert.Pre_nbr_in_range.Facts] (m : (ℓ : Loc Cert.Kernel2.nD Cert.Kernel2.τ Cert.Kernel2.sig) → Buf (Elt Bits) ℓ) : Prop :=
  ∀ c : Dev Cert.Kernel2.nD,
    (Cert.Pre_nbr_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3))) = (fun _ => 1#1)

def Pre_Kernel2Ideal [hPre_nbr_in_range : Cert.Pre_nbr_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_nbr_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_nbr_in_range [hPre_nbr_in_range : Cert.Pre_nbr_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_nbr_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_sim_above [hPre_sim_above : Cert.Pre_sim_above.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_sim_above.fn (F := Ideal) (m ((c.tc : Thread Cert.Kernel3Ideal.nD Cert.Kernel3Ideal.τ).loc Cert.Kernel3Ideal.main_arg0))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_sim_above [hPre_sim_above : Cert.Pre_sim_above.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_sim_above.fn (F := Ideal) (m ((c.tc : Thread Cert.Reference3Ideal.nD Cert.Reference3Ideal.τ).loc Cert.Reference3Ideal.main_arg0))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] [hPre_nbr_in_range : Cert.Pre_nbr_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] [hPre_nbr_in_range : Cert.Pre_nbr_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_nbr_in_range [hReference2Ideal : Cert.Reference2Ideal.Facts] [hPre_nbr_in_range : Cert.Pre_nbr_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_nbr_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ r.2.sem = fun _ => 0)

def quiescent_Kernel3Ideal_pre_sim_above [hKernel3Ideal : Cert.Kernel3Ideal.Facts] [hPre_sim_above : Cert.Pre_sim_above.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_sim_above m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0))
      ∧ r.2.sem = fun _ => 0)

def quiescent_Reference3Ideal_pre_sim_above [hReference3Ideal : Cert.Reference3Ideal.Facts] [hPre_sim_above : Cert.Pre_sim_above.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_sim_above m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] [hPre_nbr_in_range : Cert.Pre_nbr_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v20)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v65) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_sim_above [hKernel3Ideal : Cert.Kernel3Ideal.Facts] [hReference3Ideal : Cert.Reference3Ideal.Facts] [hPre_sim_above : Cert.Pre_sim_above.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_sim_above m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v0) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_ids_in_range : Cert.Pre_ids_in_range.Facts) (hPre_nbr_in_range : Cert.Pre_nbr_in_range.Facts) (hPre_sim_above : Cert.Pre_sim_above.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ quiescent_Kernel2 (hKernel2 := hKernel2) (hPre_nbr_in_range := hPre_nbr_in_range)
    ∧ quiescent_Kernel2Ideal (hKernel2Ideal := hKernel2Ideal) (hPre_nbr_in_range := hPre_nbr_in_range)
    ∧ quiescent_Reference2Ideal (hReference2Ideal := hReference2Ideal)
    ∧ quiescent_Reference2Ideal_pre_nbr_in_range (hReference2Ideal := hReference2Ideal) (hPre_nbr_in_range := hPre_nbr_in_range)
    ∧ quiescent_Kernel3 (hKernel3 := hKernel3)
    ∧ quiescent_Kernel3Ideal (hKernel3Ideal := hKernel3Ideal)
    ∧ quiescent_Kernel3Ideal_pre_sim_above (hKernel3Ideal := hKernel3Ideal) (hPre_sim_above := hPre_sim_above)
    ∧ quiescent_Reference3Ideal (hReference3Ideal := hReference3Ideal)
    ∧ quiescent_Reference3Ideal_pre_sim_above (hReference3Ideal := hReference3Ideal) (hPre_sim_above := hPre_sim_above)
    ∧ preserves_Kernel_KernelIdeal
    ∧ algebraic_KernelIdeal_ReferenceIdeal (hKernelIdeal := hKernelIdeal) (hReferenceIdeal := hReferenceIdeal) (hPre_ids_in_range := hPre_ids_in_range)
    ∧ preserves_Kernel2_Kernel2Ideal
    ∧ algebraic_Kernel2Ideal_Reference2Ideal (hKernel2Ideal := hKernel2Ideal) (hReference2Ideal := hReference2Ideal) (hPre_nbr_in_range := hPre_nbr_in_range)
    ∧ preserves_Kernel3_Kernel3Ideal
    ∧ algebraic_Kernel3Ideal_Reference3Ideal_pre_sim_above (hKernel3Ideal := hKernel3Ideal) (hReference3Ideal := hReference3Ideal) (hPre_sim_above := hPre_sim_above)
-- ==== Pre_ids_in_range.lean ====
abbrev S16384x3 : Shape := ⟨2, ![16384, 3]⟩
abbrev S10000x128 : Shape := ⟨2, ![10000, 128]⟩
abbrev S128x128 : Shape := ⟨2, ![128, 128]⟩
abbrev S128 : Shape := ⟨1, ![128]⟩
abbrev S64x512 : Shape := ⟨2, ![64, 512]⟩
abbrev S64 : Shape := ⟨1, ![64]⟩
abbrev S16384x2 : Shape := ⟨2, ![16384, 2]⟩
abbrev S_ : Shape := ⟨0, ![]⟩

class Facts : Prop where
  slices_S16384x3_S16384x2_0_1 : S16384x3.Slices ![0, 1] S16384x2
  bcast_S_S16384x2 : S_.BroadcastsInDim S16384x2 (![] : Fin 0 → Fin S16384x2.rank)
  reducesTo_S16384x2_S_d0_1 : S16384x2.ReducesTo [0, 1] S_
  h_S_ : 0 < S_.numel

variable [Facts]

def fn {F : FTy → Type} [FloatOps F] (main_arg0 : IVec S16384x3 32) (main_arg1 : FVec F S10000x128 .f32) (main_arg2 : FVec F S10000x128 .f32) (main_arg3 : FVec F S10000x128 .f32) (main_arg4 : FVec F S10000x128 .f32) (main_arg5 : FVec F S128x128 .f32) (main_arg6 : FVec F S128 .f32) (main_arg7 : FVec F S128x128 .f32) (main_arg8 : FVec F S128 .f32) (main_arg9 : FVec F S64x512 .f32) (main_arg10 : FVec F S64 .f32) : IVec S_ 1 :=
  let main_v0 : IVec S16384x2 32 := (extractStridedSlice S16384x2 ![0, 1] · slices_S16384x3_S16384x2_0_1) main_arg0
  let main_c : IVec S_ 32 := constantI S_ 32 0#32
  let main_v1 : IVec S16384x2 32 := broadcastInDim S16384x2 ![] bcast_S_S16384x2 main_c
  let main_v2 : IVec S16384x2 1 := cmpi .sge main_v0 main_v1
  let main_c_0 : IVec S_ 32 := constantI S_ 32 10000#32
  let main_v3 : IVec S16384x2 32 := broadcastInDim S16384x2 ![] bcast_S_S16384x2 main_c_0
  let main_v4 : IVec S16384x2 1 := cmpi .slt main_v0 main_v3
  let main_v5 : IVec S16384x2 1 := andi main_v2 main_v4
  let main_c_1 : IVec S_ 1 := constantI S_ 1 1#1
  let main_v6 : IVec S_ 1 := (fun x v => Host.reduce IntOp.andi x v reducesTo_S16384x2_S_d0_1 h_S_) main_v5 main_c_1
  main_v6
-- ==== Pre_nbr_in_range.lean ====
abbrev S10000x32 : Shape := ⟨2, ![10000, 32]⟩
abbrev S10000x128 : Shape := ⟨2, ![10000, 128]⟩
abbrev S1x1x32x7 : Shape := ⟨4, ![1, 1, 32, 7]⟩
abbrev S1 : Shape := ⟨1, ![1]⟩
abbrev S_ : Shape := ⟨0, ![]⟩

class Facts : Prop where
  bcast_S_S10000x32 : S_.BroadcastsInDim S10000x32 (![] : Fin 0 → Fin S10000x32.rank)
  reducesTo_S10000x32_S_d0_1 : S10000x32.ReducesTo [0, 1] S_
  h_S_ : 0 < S_.numel

variable [Facts]

def fn {F : FTy → Type} [FloatOps F] (main_arg0 : IVec S10000x32 32) (main_arg1 : FVec F S10000x128 .f32) (main_arg2 : FVec F S1x1x32x7 .f32) (main_arg3 : FVec F S1 .f32) : IVec S_ 1 :=
  let main_c : IVec S_ 32 := constantI S_ 32 0#32
  let main_v0 : IVec S10000x32 32 := broadcastInDim S10000x32 ![] bcast_S_S10000x32 main_c
  let main_v1 : IVec S10000x32 1 := cmpi .sge main_arg0 main_v0
  let main_c_0 : IVec S_ 32 := constantI S_ 32 10000#32
  let main_v2 : IVec S10000x32 32 := broadcastInDim S10000x32 ![] bcast_S_S10000x32 main_c_0
  let main_v3 : IVec S10000x32 1 := cmpi .slt main_arg0 main_v2
  let main_v4 : IVec S10000x32 1 := andi main_v1 main_v3
  let main_c_1 : IVec S_ 1 := constantI S_ 1 1#1
  let main_v5 : IVec S_ 1 := (fun x v => Host.reduce IntOp.andi x v reducesTo_S10000x32_S_d0_1 h_S_) main_v4 main_c_1
  main_v5
-- ==== Pre_sim_above.lean ====
abbrev S10000x10000 : Shape := ⟨2, ![10000, 10000]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel

variable [Facts]

def fn {F : FTy → Type} [FloatOps F] (main_arg0 : FVec F S10000x10000 .f32) : IVec S_ 1 :=
  let main_cst : FVec F S_ .f32 := constant S_ .f32 0xFF800000#32
  let main_v0 : FVec F S10000x10000 .f32 := broadcastInDim S10000x10000 ![] bcast_S_S10000x10000 main_cst
  let main_v1 : IVec S10000x10000 1 := cmpf .ogt main_arg0 main_v0
  let main_c : IVec S_ 1 := constantI S_ 1 1#1
  let main_v2 : IVec S_ 1 := (fun x v => Host.reduce IntOp.andi x v reducesTo_S10000x10000_S_d0_1 h_S_) main_v1 main_c
  main_v2
-- ==== Kernel.lean ====
abbrev S16384x3 : Shape := ⟨2, ![16384, 3]⟩
abbrev S10000x128 : Shape := ⟨2, ![10000, 128]⟩
abbrev S128x128 : Shape := ⟨2, ![128, 128]⟩
abbrev S128 : Shape := ⟨1, ![128]⟩
abbrev S64x512 : Shape := ⟨2, ![64, 512]⟩
abbrev S64 : Shape := ⟨1, ![64]⟩
abbrev S16384x1 : Shape := ⟨2, ![16384, 1]⟩
abbrev S16384 : Shape := ⟨1, ![16384]⟩
abbrev S16384x2 : Shape := ⟨2, ![16384, 2]⟩
abbrev S10000x1x128 : Shape := ⟨3, ![10000, 1, 128]⟩
abbrev S1x128 : Shape := ⟨2, ![1, 128]⟩
abbrev S512x64 : Shape := ⟨2, ![512, 64]⟩
abbrev S1x64 : Shape := ⟨2, ![1, 64]⟩
abbrev S16384x64 : Shape := ⟨2, ![16384, 64]⟩
abbrev S128x2 : Shape := ⟨2, ![128, 2]⟩
abbrev S128x64 : Shape := ⟨2, ![128, 64]⟩
abbrev S1x1 : Shape := ⟨2, ![1, 1]⟩
abbrev S1x1x128 : Shape := ⟨3, ![1, 1, 128]⟩
abbrev S128x1 : Shape := ⟨2, ![128, 1]⟩
abbrev S128x6 : Shape := ⟨2, ![128, 6]⟩

abbrev nBuf : Space → Nat
  | .hbm => 29
  | .vmem => 16
  | .smem => 2
  | _ => 0

abbrev bufTy : (tb : Table) → Fin (tcTables nBuf tb) → BufTy
  | .hbm, ⟨0, _⟩ => ⟨S16384x3, .i32⟩
  | .hbm, ⟨1, _⟩ => ⟨S10000x128, .f32⟩
  | .hbm, ⟨2, _⟩ => ⟨S10000x128, .f32⟩
  | .hbm, ⟨3, _⟩ => ⟨S10000x128, .f32⟩
  | .hbm, ⟨4, _⟩ => ⟨S10000x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S64x512, .f32⟩
  | .hbm, ⟨10, _⟩ => ⟨S64, .f32⟩
  | .hbm, ⟨11, _⟩ => ⟨S16384x1, .i32⟩
  | .hbm, ⟨12, _⟩ => ⟨S16384, .i32⟩
  | .hbm, ⟨13, _⟩ => ⟨S16384x1, .i32⟩
  | .hbm, ⟨14, _⟩ => ⟨S16384, .i32⟩
  | .hbm, ⟨15, _⟩ => ⟨S16384x1, .i32⟩
  | .hbm, ⟨16, _⟩ => ⟨S16384x1, .i32⟩
  | .hbm, ⟨17, _⟩ => ⟨S16384x2, .i32⟩
  | .hbm, ⟨18, _⟩ => ⟨S10000x1x128, .f32⟩
  | .hbm, ⟨19, _⟩ => ⟨S10000x1x128, .f32⟩
  | .hbm, ⟨20, _⟩ => ⟨S10000x1x128, .f32⟩
  | .hbm, ⟨21, _⟩ => ⟨S10000x1x128, .f32⟩
  | .hbm, ⟨22, _⟩ => ⟨S128x128, .f32⟩
  | .hbm, ⟨23, _⟩ => ⟨S1x128, .f32⟩
  | .hbm, ⟨24, _⟩ => ⟨S128x128, .f32⟩
  | .hbm, ⟨25, _⟩ => ⟨S1x128, .f32⟩
  | .hbm, ⟨26, _⟩ => ⟨S512x64, .f32⟩
  | .hbm, ⟨27, _⟩ => ⟨S1x64, .f32⟩
  | .hbm, ⟨28, _⟩ => ⟨S16384x64, .f32⟩
  | .local _ .vmem, ⟨0, _⟩ => ⟨S10000x1x128, .f32⟩
  | .local _ .vmem, ⟨1, _⟩ => ⟨S10000x1x128, .f32⟩
  | .local _ .vmem, ⟨2, _⟩ => ⟨S10000x1x128, .f32⟩
  | .local _ .vmem, ⟨3, _⟩ => ⟨S10000x1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S512x64, .f32⟩
  | .local _ .vmem, ⟨9, _⟩ => ⟨S1x64, .f32⟩
  | .local _ .vmem, ⟨10, _⟩ => ⟨S128x64, .f32⟩
  | .local _ .vmem, ⟨11, _⟩ => ⟨S128x64, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .smem, ⟨0, _⟩ => ⟨S128x2, .i32⟩
  | .local _ .smem, ⟨1, _⟩ => ⟨S128x2, .i32⟩
  | _, _ => ⟨S16384x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg11_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![128], ![false]⟩

def k0_off1 (v0 : BitVec 32) : Fin 3 → Nat :=
  let v2 : Index := Scalar.indexCast v0
  let c0_2 : Index := 0#32
  let c0_3 : Index := 0#32
  ![v2.toNat, 0, 0]

def k0_chk1 (v0 : BitVec 32) : Prop :=
  (∀ a, (k0_off1 v0) a + S1x1x128.size a ≤ S10000x1x128.size a)
theorem k0_off1_inb : ∀ (v0 : BitVec 32) (k0_hw1 : k0_chk1 v0), ∀ a, (k0_off1 v0) a + S1x1x128.size a ≤ S10000x1x128.size a := fun v0 k0_hw1 => k0_hw1

def k0_off2 (v1 : BitVec 32) : Fin 3 → Nat :=
  let v14 : Index := Scalar.indexCast v1
  let c0_10 : Index := 0#32
  let c0_11 : Index := 0#32
  ![v14.toNat, 0, 0]

def k0_chk2 (v1 : BitVec 32) : Prop :=
  (∀ a, (k0_off2 v1) a + S1x1x128.size a ≤ S10000x1x128.size a)
theorem k0_off2_inb : ∀ (v1 : BitVec 32) (k0_hw2 : k0_chk2 v1), ∀ a, (k0_off2 v1) a + S1x1x128.size a ≤ S10000x1x128.size a := fun v1 k0_hw2 => k0_hw2

def k0_off3 (v26 : BitVec 32) : Fin 3 → Nat :=
  let v28 : Index := Scalar.indexCast v26
  let c0_22 : Index := 0#32
  let c0_23 : Index := 0#32
  ![v28.toNat, 0, 0]

def k0_chk3 (v26 : BitVec 32) : Prop :=
  (∀ a, (k0_off3 v26) a + S1x1x128.size a ≤ S10000x1x128.size a)
theorem k0_off3_inb : ∀ (v26 : BitVec 32) (k0_hw3 : k0_chk3 v26), ∀ a, (k0_off3 v26) a + S1x1x128.size a ≤ S10000x1x128.size a := fun v26 k0_hw3 => k0_hw3

def k0_off4 (v27 : BitVec 32) : Fin 3 → Nat :=
  let v40 : Index := Scalar.indexCast v27
  let c0_30 : Index := 0#32
  let c0_31 : Index := 0#32
  ![v40.toNat, 0, 0]

def k0_chk4 (v27 : BitVec 32) : Prop :=
  (∀ a, (k0_off4 v27) a + S1x1x128.size a ≤ S10000x1x128.size a)
theorem k0_off4_inb : ∀ (v27 : BitVec 32) (k0_hw4 : k0_chk4 v27), ∀ a, (k0_off4 v27) a + S1x1x128.size a ≤ S10000x1x128.size a := fun v27 k0_hw4 => k0_hw4

def k0_off5 (v52 : BitVec 32) : Fin 3 → Nat :=
  let v54 : Index := Scalar.indexCast v52
  let c0_41 : Index := 0#32
  let c0_42 : Index := 0#32
  ![v54.toNat, 0, 0]

def k0_chk5 (v52 : BitVec 32) : Prop :=
  (∀ a, (k0_off5 v52) a + S1x1x128.size a ≤ S10000x1x128.size a)
theorem k0_off5_inb : ∀ (v52 : BitVec 32) (k0_hw5 : k0_chk5 v52), ∀ a, (k0_off5 v52) a + S1x1x128.size a ≤ S10000x1x128.size a := fun v52 k0_hw5 => k0_hw5

def k0_off6 (v53 : BitVec 32) : Fin 3 → Nat :=
  let v66 : Index := Scalar.indexCast v53
  let c0_49 : Index := 0#32
  let c0_50 : Index := 0#32
  ![v66.toNat, 0, 0]

def k0_chk6 (v53 : BitVec 32) : Prop :=
  (∀ a, (k0_off6 v53) a + S1x1x128.size a ≤ S10000x1x128.size a)
theorem k0_off6_inb : ∀ (v53 : BitVec 32) (k0_hw6 : k0_chk6 v53), ∀ a, (k0_off6 v53) a + S1x1x128.size a ≤ S10000x1x128.size a := fun v53 k0_hw6 => k0_hw6

def k0_off7 (v78 : BitVec 32) : Fin 3 → Nat :=
  let v80 : Index := Scalar.indexCast v78
  let c0_60 : Index := 0#32
  let c0_61 : Index := 0#32
  ![v80.toNat, 0, 0]

def k0_chk7 (v78 : BitVec 32) : Prop :=
  (∀ a, (k0_off7 v78) a + S1x1x128.size a ≤ S10000x1x128.size a)
theorem k0_off7_inb : ∀ (v78 : BitVec 32) (k0_hw7 : k0_chk7 v78), ∀ a, (k0_off7 v78) a + S1x1x128.size a ≤ S10000x1x128.size a := fun v78 k0_hw7 => k0_hw7

def k0_off8 (v79 : BitVec 32) : Fin 3 → Nat :=
  let v92 : Index := Scalar.indexCast v79
  let c0_68 : Index := 0#32
  let c0_69 : Index := 0#32
  ![v92.toNat, 0, 0]

def k0_chk8 (v79 : BitVec 32) : Prop :=
  (∀ a, (k0_off8 v79) a + S1x1x128.size a ≤ S10000x1x128.size a)
theorem k0_off8_inb : ∀ (v79 : BitVec 32) (k0_hw8 : k0_chk8 v79), ∀ a, (k0_off8 v79) a + S1x1x128.size a ≤ S10000x1x128.size a := fun v79 k0_hw8 => k0_hw8

def k0_off9 (v104 : BitVec 32) : Fin 3 → Nat :=
  let v106 : Index := Scalar.indexCast v104
  let c0_79 : Index := 0#32
  let c0_80 : Index := 0#32
  ![v106.toNat, 0, 0]

def k0_chk9 (v104 : BitVec 32) : Prop :=
  (∀ a, (k0_off9 v104) a + S1x1x128.size a ≤ S10000x1x128.size a)
theorem k0_off9_inb : ∀ (v104 : BitVec 32) (k0_hw9 : k0_chk9 v104), ∀ a, (k0_off9 v104) a + S1x1x128.size a ≤ S10000x1x128.size a := fun v104 k0_hw9 => k0_hw9

def k0_off10 (v105 : BitVec 32) : Fin 3 → Nat :=
  let v118 : Index := Scalar.indexCast v105
  let c0_87 : Index := 0#32
  let c0_88 : Index := 0#32
  ![v118.toNat, 0, 0]

def k0_chk10 (v105 : BitVec 32) : Prop :=
  (∀ a, (k0_off10 v105) a + S1x1x128.size a ≤ S10000x1x128.size a)
theorem k0_off10_inb : ∀ (v105 : BitVec 32) (k0_hw10 : k0_chk10 v105), ∀ a, (k0_off10 v105) a + S1x1x128.size a ≤ S10000x1x128.size a := fun v105 k0_hw10 => k0_hw10

def k0_off11 (v130 : BitVec 32) : Fin 3 → Nat :=
  let v132 : Index := Scalar.indexCast v130
  let c0_98 : Index := 0#32
  let c0_99 : Index := 0#32
  ![v132.toNat, 0, 0]

def k0_chk11 (v130 : BitVec 32) : Prop :=
  (∀ a, (k0_off11 v130) a + S1x1x128.size a ≤ S10000x1x128.size a)
theorem k0_off11_inb : ∀ (v130 : BitVec 32) (k0_hw11 : k0_chk11 v130), ∀ a, (k0_off11 v130) a + S1x1x128.size a ≤ S10000x1x128.size a := fun v130 k0_hw11 => k0_hw11

def k0_off12 (v131 : BitVec 32) : Fin 3 → Nat :=
  let v144 : Index := Scalar.indexCast v131
  let c0_106 : Index := 0#32
  let c0_107 : Index := 0#32
  ![v144.toNat, 0, 0]

def k0_chk12 (v131 : BitVec 32) : Prop :=
  (∀ a, (k0_off12 v131) a + S1x1x128.size a ≤ S10000x1x128.size a)
theorem k0_off12_inb : ∀ (v131 : BitVec 32) (k0_hw12 : k0_chk12 v131), ∀ a, (k0_off12 v131) a + S1x1x128.size a ≤ S10000x1x128.size a := fun v131 k0_hw12 => k0_hw12

def k0_off13 (v156 : BitVec 32) : Fin 3 → Nat :=
  let v158 : Index := Scalar.indexCast v156
  let c0_117 : Index := 0#32
  let c0_118 : Index := 0#32
  ![v158.toNat, 0, 0]

def k0_chk13 (v156 : BitVec 32) : Prop :=
  (∀ a, (k0_off13 v156) a + S1x1x128.size a ≤ S10000x1x128.size a)
theorem k0_off13_inb : ∀ (v156 : BitVec 32) (k0_hw13 : k0_chk13 v156), ∀ a, (k0_off13 v156) a + S1x1x128.size a ≤ S10000x1x128.size a := fun v156 k0_hw13 => k0_hw13

def k0_off14 (v157 : BitVec 32) : Fin 3 → Nat :=
  let v170 : Index := Scalar.indexCast v157
  let c0_125 : Index := 0#32
  let c0_126 : Index := 0#32
  ![v170.toNat, 0, 0]

def k0_chk14 (v157 : BitVec 32) : Prop :=
  (∀ a, (k0_off14 v157) a + S1x1x128.size a ≤ S10000x1x128.size a)
theorem k0_off14_inb : ∀ (v157 : BitVec 32) (k0_hw14 : k0_chk14 v157), ∀ a, (k0_off14 v157) a + S1x1x128.size a ≤ S10000x1x128.size a := fun v157 k0_hw14 => k0_hw14

def k0_off15 (v182 : BitVec 32) : Fin 3 → Nat :=
  let v184 : Index := Scalar.indexCast v182
  let c0_136 : Index := 0#32
  let c0_137 : Index := 0#32
  ![v184.toNat, 0, 0]

def k0_chk15 (v182 : BitVec 32) : Prop :=
  (∀ a, (k0_off15 v182) a + S1x1x128.size a ≤ S10000x1x128.size a)
theorem k0_off15_inb : ∀ (v182 : BitVec 32) (k0_hw15 : k0_chk15 v182), ∀ a, (k0_off15 v182) a + S1x1x128.size a ≤ S10000x1x128.size a := fun v182 k0_hw15 => k0_hw15

def k0_off16 (v183 : BitVec 32) : Fin 3 → Nat :=
  let v196 : Index := Scalar.indexCast v183
  let c0_144 : Index := 0#32
  let c0_145 : Index := 0#32
  ![v196.toNat, 0, 0]

def k0_chk16 (v183 : BitVec 32) : Prop :=
  (∀ a, (k0_off16 v183) a + S1x1x128.size a ≤ S10000x1x128.size a)
theorem k0_off16_inb : ∀ (v183 : BitVec 32) (k0_hw16 : k0_chk16 v183), ∀ a, (k0_off16 v183) a + S1x1x128.size a ≤ S10000x1x128.size a := fun v183 k0_hw16 => k0_hw16

def k0_off17 (v208 : BitVec 32) : Fin 3 → Nat :=
  let v210 : Index := Scalar.indexCast v208
  let c0_155 : Index := 0#32
  let c0_156 : Index := 0#32
  ![v210.toNat, 0, 0]

def k0_chk17 (v208 : BitVec 32) : Prop :=
  (∀ a, (k0_off17 v208) a + S1x1x128.size a ≤ S10000x1x128.size a)
theorem k0_off17_inb : ∀ (v208 : BitVec 32) (k0_hw17 : k0_chk17 v208), ∀ a, (k0_off17 v208) a + S1x1x128.size a ≤ S10000x1x128.size a := fun v208 k0_hw17 => k0_hw17

def k0_off18 (v209 : BitVec 32) : Fin 3 → Nat :=
  let v222 : Index := Scalar.indexCast v209
  let c0_163 : Index := 0#32
  let c0_164 : Index := 0#32
  ![v222.toNat, 0, 0]

def k0_chk18 (v209 : BitVec 32) : Prop :=
  (∀ a, (k0_off18 v209) a + S1x1x128.size a ≤ S10000x1x128.size a)
theorem k0_off18_inb : ∀ (v209 : BitVec 32) (k0_hw18 : k0_chk18 v209), ∀ a, (k0_off18 v209) a + S1x1x128.size a ≤ S10000x1x128.size a := fun v209 k0_hw18 => k0_hw18

def k0_off19 (v234 : BitVec 32) : Fin 3 → Nat :=
  let v236 : Index := Scalar.indexCast v234
  let c0_174 : Index := 0#32
  let c0_175 : Index := 0#32
  ![v236.toNat, 0, 0]

def k0_chk19 (v234 : BitVec 32) : Prop :=
  (∀ a, (k0_off19 v234) a + S1x1x128.size a ≤ S10000x1x128.size a)
theorem k0_off19_inb : ∀ (v234 : BitVec 32) (k0_hw19 : k0_chk19 v234), ∀ a, (k0_off19 v234) a + S1x1x128.size a ≤ S10000x1x128.size a := fun v234 k0_hw19 => k0_hw19

def k0_off20 (v235 : BitVec 32) : Fin 3 → Nat :=
  let v248 : Index := Scalar.indexCast v235
  let c0_182 : Index := 0#32
  let c0_183 : Index := 0#32
  ![v248.toNat, 0, 0]

def k0_chk20 (v235 : BitVec 32) : Prop :=
  (∀ a, (k0_off20 v235) a + S1x1x128.size a ≤ S10000x1x128.size a)
theorem k0_off20_inb : ∀ (v235 : BitVec 32) (k0_hw20 : k0_chk20 v235), ∀ a, (k0_off20 v235) a + S1x1x128.size a ≤ S10000x1x128.size a := fun v235 k0_hw20 => k0_hw20

def k0_off21 (v260 : BitVec 32) : Fin 3 → Nat :=
  let v262 : Index := Scalar.indexCast v260
  let c0_193 : Index := 0#32
  let c0_194 : Index := 0#32
  ![v262.toNat, 0, 0]

def k0_chk21 (v260 : BitVec 32) : Prop :=
  (∀ a, (k0_off21 v260) a + S1x1x128.size a ≤ S10000x1x128.size a)
theorem k0_off21_inb : ∀ (v260 : BitVec 32) (k0_hw21 : k0_chk21 v260), ∀ a, (k0_off21 v260) a + S1x1x128.size a ≤ S10000x1x128.size a := fun v260 k0_hw21 => k0_hw21

def k0_off22 (v261 : BitVec 32) : Fin 3 → Nat :=
  let v274 : Index := Scalar.indexCast v261
  let c0_201 : Index := 0#32
  let c0_202 : Index := 0#32
  ![v274.toNat, 0, 0]

def k0_chk22 (v261 : BitVec 32) : Prop :=
  (∀ a, (k0_off22 v261) a + S1x1x128.size a ≤ S10000x1x128.size a)
theorem k0_off22_inb : ∀ (v261 : BitVec 32) (k0_hw22 : k0_chk22 v261), ∀ a, (k0_off22 v261) a + S1x1x128.size a ≤ S10000x1x128.size a := fun v261 k0_hw22 => k0_hw22

def k0_off23 (v286 : BitVec 32) : Fin 3 → Nat :=
  let v288 : Index := Scalar.indexCast v286
  let c0_212 : Index := 0#32
  let c0_213 : Index := 0#32
  ![v288.toNat, 0, 0]

def k0_chk23 (v286 : BitVec 32) : Prop :=
  (∀ a, (k0_off23 v286) a + S1x1x128.size a ≤ S10000x1x128.size a)
theorem k0_off23_inb : ∀ (v286 : BitVec 32) (k0_hw23 : k0_chk23 v286), ∀ a, (k0_off23 v286) a + S1x1x128.size a ≤ S10000x1x128.size a := fun v286 k0_hw23 => k0_hw23

def k0_off24 (v287 : BitVec 32) : Fin 3 → Nat :=
  let v300 : Index := Scalar.indexCast v287
  let c0_220 : Index := 0#32
  let c0_221 : Index := 0#32
  ![v300.toNat, 0, 0]

def k0_chk24 (v287 : BitVec 32) : Prop :=
  (∀ a, (k0_off24 v287) a + S1x1x128.size a ≤ S10000x1x128.size a)
theorem k0_off24_inb : ∀ (v287 : BitVec 32) (k0_hw24 : k0_chk24 v287), ∀ a, (k0_off24 v287) a + S1x1x128.size a ≤ S10000x1x128.size a := fun v287 k0_hw24 => k0_hw24

def k0_off25 (v312 : BitVec 32) : Fin 3 → Nat :=
  let v314 : Index := Scalar.indexCast v312
  let c0_231 : Index := 0#32
  let c0_232 : Index := 0#32
  ![v314.toNat, 0, 0]

def k0_chk25 (v312 : BitVec 32) : Prop :=
  (∀ a, (k0_off25 v312) a + S1x1x128.size a ≤ S10000x1x128.size a)
theorem k0_off25_inb : ∀ (v312 : BitVec 32) (k0_hw25 : k0_chk25 v312), ∀ a, (k0_off25 v312) a + S1x1x128.size a ≤ S10000x1x128.size a := fun v312 k0_hw25 => k0_hw25

def k0_off26 (v313 : BitVec 32) : Fin 3 → Nat :=
  let v326 : Index := Scalar.indexCast v313
  let c0_239 : Index := 0#32
  let c0_240 : Index := 0#32
  ![v326.toNat, 0, 0]

def k0_chk26 (v313 : BitVec 32) : Prop :=
  (∀ a, (k0_off26 v313) a + S1x1x128.size a ≤ S10000x1x128.size a)
theorem k0_off26_inb : ∀ (v313 : BitVec 32) (k0_hw26 : k0_chk26 v313), ∀ a, (k0_off26 v313) a + S1x1x128.size a ≤ S10000x1x128.size a := fun v313 k0_hw26 => k0_hw26

def k0_off27 (v338 : BitVec 32) : Fin 3 → Nat :=
  let v340 : Index := Scalar.indexCast v338
  let c0_250 : Index := 0#32
  let c0_251 : Index := 0#32
  ![v340.toNat, 0, 0]

def k0_chk27 (v338 : BitVec 32) : Prop :=
  (∀ a, (k0_off27 v338) a + S1x1x128.size a ≤ S10000x1x128.size a)
theorem k0_off27_inb : ∀ (v338 : BitVec 32) (k0_hw27 : k0_chk27 v338), ∀ a, (k0_off27 v338) a + S1x1x128.size a ≤ S10000x1x128.size a := fun v338 k0_hw27 => k0_hw27

def k0_off28 (v339 : BitVec 32) : Fin 3 → Nat :=
  let v352 : Index := Scalar.indexCast v339
  let c0_258 : Index := 0#32
  let c0_259 : Index := 0#32
  ![v352.toNat, 0, 0]

def k0_chk28 (v339 : BitVec 32) : Prop :=
  (∀ a, (k0_off28 v339) a + S1x1x128.size a ≤ S10000x1x128.size a)
theorem k0_off28_inb : ∀ (v339 : BitVec 32) (k0_hw28 : k0_chk28 v339), ∀ a, (k0_off28 v339) a + S1x1x128.size a ≤ S10000x1x128.size a := fun v339 k0_hw28 => k0_hw28

def k0_off29 (v364 : BitVec 32) : Fin 3 → Nat :=
  let v366 : Index := Scalar.indexCast v364
  let c0_269 : Index := 0#32
  let c0_270 : Index := 0#32
  ![v366.toNat, 0, 0]

def k0_chk29 (v364 : BitVec 32) : Prop :=
  (∀ a, (k0_off29 v364) a + S1x1x128.size a ≤ S10000x1x128.size a)
theorem k0_off29_inb : ∀ (v364 : BitVec 32) (k0_hw29 : k0_chk29 v364), ∀ a, (k0_off29 v364) a + S1x1x128.size a ≤ S10000x1x128.size a := fun v364 k0_hw29 => k0_hw29

def k0_off30 (v365 : BitVec 32) : Fin 3 → Nat :=
  let v378 : Index := Scalar.indexCast v365
  let c0_277 : Index := 0#32
  let c0_278 : Index := 0#32
  ![v378.toNat, 0, 0]

def k0_chk30 (v365 : BitVec 32) : Prop :=
  (∀ a, (k0_off30 v365) a + S1x1x128.size a ≤ S10000x1x128.size a)
theorem k0_off30_inb : ∀ (v365 : BitVec 32) (k0_hw30 : k0_chk30 v365), ∀ a, (k0_off30 v365) a + S1x1x128.size a ≤ S10000x1x128.size a := fun v365 k0_hw30 => k0_hw30

def k0_off31 (v390 : BitVec 32) : Fin 3 → Nat :=
  let v392 : Index := Scalar.indexCast v390
  let c0_288 : Index := 0#32
  let c0_289 : Index := 0#32
  ![v392.toNat, 0, 0]

def k0_chk31 (v390 : BitVec 32) : Prop :=
  (∀ a, (k0_off31 v390) a + S1x1x128.size a ≤ S10000x1x128.size a)
theorem k0_off31_inb : ∀ (v390 : BitVec 32) (k0_hw31 : k0_chk31 v390), ∀ a, (k0_off31 v390) a + S1x1x128.size a ≤ S10000x1x128.size a := fun v390 k0_hw31 => k0_hw31

def k0_off32 (v391 : BitVec 32) : Fin 3 → Nat :=
  let v404 : Index := Scalar.indexCast v391
  let c0_296 : Index := 0#32
  let c0_297 : Index := 0#32
  ![v404.toNat, 0, 0]

def k0_chk32 (v391 : BitVec 32) : Prop :=
  (∀ a, (k0_off32 v391) a + S1x1x128.size a ≤ S10000x1x128.size a)
theorem k0_off32_inb : ∀ (v391 : BitVec 32) (k0_hw32 : k0_chk32 v391), ∀ a, (k0_off32 v391) a + S1x1x128.size a ≤ S10000x1x128.size a := fun v391 k0_hw32 => k0_hw32

def k0_off33 (v416 : BitVec 32) : Fin 3 → Nat :=
  let v418 : Index := Scalar.indexCast v416
  let c0_307 : Index := 0#32
  let c0_308 : Index := 0#32
  ![v418.toNat, 0, 0]

def k0_chk33 (v416 : BitVec 32) : Prop :=
  (∀ a, (k0_off33 v416) a + S1x1x128.size a ≤ S10000x1x128.size a)
theorem k0_off33_inb : ∀ (v416 : BitVec 32) (k0_hw33 : k0_chk33 v416), ∀ a, (k0_off33 v416) a + S1x1x128.size a ≤ S10000x1x128.size a := fun v416 k0_hw33 => k0_hw33

def k0_off34 (v417 : BitVec 32) : Fin 3 → Nat :=
  let v430 : Index := Scalar.indexCast v417
  let c0_315 : Index := 0#32
  let c0_316 : Index := 0#32
  ![v430.toNat, 0, 0]

def k0_chk34 (v417 : BitVec 32) : Prop :=
  (∀ a, (k0_off34 v417) a + S1x1x128.size a ≤ S10000x1x128.size a)
theorem k0_off34_inb : ∀ (v417 : BitVec 32) (k0_hw34 : k0_chk34 v417), ∀ a, (k0_off34 v417) a + S1x1x128.size a ≤ S10000x1x128.size a := fun v417 k0_hw34 => k0_hw34

def k0_off35 (v442 : BitVec 32) : Fin 3 → Nat :=
  let v444 : Index := Scalar.indexCast v442
  let c0_326 : Index := 0#32
  let c0_327 : Index := 0#32
  ![v444.toNat, 0, 0]

def k0_chk35 (v442 : BitVec 32) : Prop :=
  (∀ a, (k0_off35 v442) a + S1x1x128.size a ≤ S10000x1x128.size a)
theorem k0_off35_inb : ∀ (v442 : BitVec 32) (k0_hw35 : k0_chk35 v442), ∀ a, (k0_off35 v442) a + S1x1x128.size a ≤ S10000x1x128.size a := fun v442 k0_hw35 => k0_hw35

def k0_off36 (v443 : BitVec 32) : Fin 3 → Nat :=
  let v456 : Index := Scalar.indexCast v443
  let c0_334 : Index := 0#32
  let c0_335 : Index := 0#32
  ![v456.toNat, 0, 0]

def k0_chk36 (v443 : BitVec 32) : Prop :=
  (∀ a, (k0_off36 v443) a + S1x1x128.size a ≤ S10000x1x128.size a)
theorem k0_off36_inb : ∀ (v443 : BitVec 32) (k0_hw36 : k0_chk36 v443), ∀ a, (k0_off36 v443) a + S1x1x128.size a ≤ S10000x1x128.size a := fun v443 k0_hw36 => k0_hw36

def k0_off37 (v468 : BitVec 32) : Fin 3 → Nat :=
  let v470 : Index := Scalar.indexCast v468
  let c0_345 : Index := 0#32
  let c0_346 : Index := 0#32
  ![v470.toNat, 0, 0]

def k0_chk37 (v468 : BitVec 32) : Prop :=
  (∀ a, (k0_off37 v468) a + S1x1x128.size a ≤ S10000x1x128.size a)
theorem k0_off37_inb : ∀ (v468 : BitVec 32) (k0_hw37 : k0_chk37 v468), ∀ a, (k0_off37 v468) a + S1x1x128.size a ≤ S10000x1x128.size a := fun v468 k0_hw37 => k0_hw37

def k0_off38 (v469 : BitVec 32) : Fin 3 → Nat :=
  let v482 : Index := Scalar.indexCast v469
  let c0_353 : Index := 0#32
  let c0_354 : Index := 0#32
  ![v482.toNat, 0, 0]

def k0_chk38 (v469 : BitVec 32) : Prop :=
  (∀ a, (k0_off38 v469) a + S1x1x128.size a ≤ S10000x1x128.size a)
theorem k0_off38_inb : ∀ (v469 : BitVec 32) (k0_hw38 : k0_chk38 v469), ∀ a, (k0_off38 v469) a + S1x1x128.size a ≤ S10000x1x128.size a := fun v469 k0_hw38 => k0_hw38

def k0_off39 (v494 : BitVec 32) : Fin 3 → Nat :=
  let v496 : Index := Scalar.indexCast v494
  let c0_364 : Index := 0#32
  let c0_365 : Index := 0#32
  ![v496.toNat, 0, 0]

def k0_chk39 (v494 : BitVec 32) : Prop :=
  (∀ a, (k0_off39 v494) a + S1x1x128.size a ≤ S10000x1x128.size a)
theorem k0_off39_inb : ∀ (v494 : BitVec 32) (k0_hw39 : k0_chk39 v494), ∀ a, (k0_off39 v494) a + S1x1x128.size a ≤ S10000x1x128.size a := fun v494 k0_hw39 => k0_hw39

def k0_off40 (v495 : BitVec 32) : Fin 3 → Nat :=
  let v508 : Index := Scalar.indexCast v495
  let c0_372 : Index := 0#32
  let c0_373 : Index := 0#32
  ![v508.toNat, 0, 0]

def k0_chk40 (v495 : BitVec 32) : Prop :=
  (∀ a, (k0_off40 v495) a + S1x1x128.size a ≤ S10000x1x128.size a)
theorem k0_off40_inb : ∀ (v495 : BitVec 32) (k0_hw40 : k0_chk40 v495), ∀ a, (k0_off40 v495) a + S1x1x128.size a ≤ S10000x1x128.size a := fun v495 k0_hw40 => k0_hw40

def k0_off41 (v520 : BitVec 32) : Fin 3 → Nat :=
  let v522 : Index := Scalar.indexCast v520
  let c0_383 : Index := 0#32
  let c0_384 : Index := 0#32
  ![v522.toNat, 0, 0]

def k0_chk41 (v520 : BitVec 32) : Prop :=
  (∀ a, (k0_off41 v520) a + S1x1x128.size a ≤ S10000x1x128.size a)
theorem k0_off41_inb : ∀ (v520 : BitVec 32) (k0_hw41 : k0_chk41 v520), ∀ a, (k0_off41 v520) a + S1x1x128.size a ≤ S10000x1x128.size a := fun v520 k0_hw41 => k0_hw41

def k0_off42 (v521 : BitVec 32) : Fin 3 → Nat :=
  let v534 : Index := Scalar.indexCast v521
  let c0_391 : Index := 0#32
  let c0_392 : Index := 0#32
  ![v534.toNat, 0, 0]

def k0_chk42 (v521 : BitVec 32) : Prop :=
  (∀ a, (k0_off42 v521) a + S1x1x128.size a ≤ S10000x1x128.size a)
theorem k0_off42_inb : ∀ (v521 : BitVec 32) (k0_hw42 : k0_chk42 v521), ∀ a, (k0_off42 v521) a + S1x1x128.size a ≤ S10000x1x128.size a := fun v521 k0_hw42 => k0_hw42

def k0_off43 (v546 : BitVec 32) : Fin 3 → Nat :=
  let v548 : Index := Scalar.indexCast v546
  let c0_402 : Index := 0#32
  let c0_403 : Index := 0#32
  ![v548.toNat, 0, 0]

def k0_chk43 (v546 : BitVec 32) : Prop :=
  (∀ a, (k0_off43 v546) a + S1x1x128.size a ≤ S10000x1x128.size a)
theorem k0_off43_inb : ∀ (v546 : BitVec 32) (k0_hw43 : k0_chk43 v546), ∀ a, (k0_off43 v546) a + S1x1x128.size a ≤ S10000x1x128.size a := fun v546 k0_hw43 => k0_hw43

def k0_off44 (v547 : BitVec 32) : Fin 3 → Nat :=
  let v560 : Index := Scalar.indexCast v547
  let c0_410 : Index := 0#32
  let c0_411 : Index := 0#32
  ![v560.toNat, 0, 0]

def k0_chk44 (v547 : BitVec 32) : Prop :=
  (∀ a, (k0_off44 v547) a + S1x1x128.size a ≤ S10000x1x128.size a)
theorem k0_off44_inb : ∀ (v547 : BitVec 32) (k0_hw44 : k0_chk44 v547), ∀ a, (k0_off44 v547) a + S1x1x128.size a ≤ S10000x1x128.size a := fun v547 k0_hw44 => k0_hw44

def k0_off45 (v572 : BitVec 32) : Fin 3 → Nat :=
  let v574 : Index := Scalar.indexCast v572
  let c0_421 : Index := 0#32
  let c0_422 : Index := 0#32
  ![v574.toNat, 0, 0]

def k0_chk45 (v572 : BitVec 32) : Prop :=
  (∀ a, (k0_off45 v572) a + S1x1x128.size a ≤ S10000x1x128.size a)
theorem k0_off45_inb : ∀ (v572 : BitVec 32) (k0_hw45 : k0_chk45 v572), ∀ a, (k0_off45 v572) a + S1x1x128.size a ≤ S10000x1x128.size a := fun v572 k0_hw45 => k0_hw45

def k0_off46 (v573 : BitVec 32) : Fin 3 → Nat :=
  let v586 : Index := Scalar.indexCast v573
  let c0_429 : Index := 0#32
  let c0_430 : Index := 0#32
  ![v586.toNat, 0, 0]

def k0_chk46 (v573 : BitVec 32) : Prop :=
  (∀ a, (k0_off46 v573) a + S1x1x128.size a ≤ S10000x1x128.size a)
theorem k0_off46_inb : ∀ (v573 : BitVec 32) (k0_hw46 : k0_chk46 v573), ∀ a, (k0_off46 v573) a + S1x1x128.size a ≤ S10000x1x128.size a := fun v573 k0_hw46 => k0_hw46

def k0_off47 (v598 : BitVec 32) : Fin 3 → Nat :=
  let v600 : Index := Scalar.indexCast v598
  let c0_440 : Index := 0#32
  let c0_441 : Index := 0#32
  ![v600.toNat, 0, 0]

def k0_chk47 (v598 : BitVec 32) : Prop :=
  (∀ a, (k0_off47 v598) a + S1x1x128.size a ≤ S10000x1x128.size a)
theorem k0_off47_inb : ∀ (v598 : BitVec 32) (k0_hw47 : k0_chk47 v598), ∀ a, (k0_off47 v598) a + S1x1x128.size a ≤ S10000x1x128.size a := fun v598 k0_hw47 => k0_hw47

def k0_off48 (v599 : BitVec 32) : Fin 3 → Nat :=
  let v612 : Index := Scalar.indexCast v599
  let c0_448 : Index := 0#32
  let c0_449 : Index := 0#32
  ![v612.toNat, 0, 0]

def k0_chk48 (v599 : BitVec 32) : Prop :=
  (∀ a, (k0_off48 v599) a + S1x1x128.size a ≤ S10000x1x128.size a)
theorem k0_off48_inb : ∀ (v599 : BitVec 32) (k0_hw48 : k0_chk48 v599), ∀ a, (k0_off48 v599) a + S1x1x128.size a ≤ S10000x1x128.size a := fun v599 k0_hw48 => k0_hw48

def k0_off49 (v624 : BitVec 32) : Fin 3 → Nat :=
  let v626 : Index := Scalar.indexCast v624
  let c0_459 : Index := 0#32
  let c0_460 : Index := 0#32
  ![v626.toNat, 0, 0]

def k0_chk49 (v624 : BitVec 32) : Prop :=
  (∀ a, (k0_off49 v624) a + S1x1x128.size a ≤ S10000x1x128.size a)
theorem k0_off49_inb : ∀ (v624 : BitVec 32) (k0_hw49 : k0_chk49 v624), ∀ a, (k0_off49 v624) a + S1x1x128.size a ≤ S10000x1x128.size a := fun v624 k0_hw49 => k0_hw49

def k0_off50 (v625 : BitVec 32) : Fin 3 → Nat :=
  let v638 : Index := Scalar.indexCast v625
  let c0_467 : Index := 0#32
  let c0_468 : Index := 0#32
  ![v638.toNat, 0, 0]

def k0_chk50 (v625 : BitVec 32) : Prop :=
  (∀ a, (k0_off50 v625) a + S1x1x128.size a ≤ S10000x1x128.size a)
theorem k0_off50_inb : ∀ (v625 : BitVec 32) (k0_hw50 : k0_chk50 v625), ∀ a, (k0_off50 v625) a + S1x1x128.size a ≤ S10000x1x128.size a := fun v625 k0_hw50 => k0_hw50

def k0_off51 (v650 : BitVec 32) : Fin 3 → Nat :=
  let v652 : Index := Scalar.indexCast v650
  let c0_478 : Index := 0#32
  let c0_479 : Index := 0#32
  ![v652.toNat, 0, 0]

def k0_chk51 (v650 : BitVec 32) : Prop :=
  (∀ a, (k0_off51 v650) a + S1x1x128.size a ≤ S10000x1x128.size a)
theorem k0_off51_inb : ∀ (v650 : BitVec 32) (k0_hw51 : k0_chk51 v650), ∀ a, (k0_off51 v650) a + S1x1x128.size a ≤ S10000x1x128.size a := fun v650 k0_hw51 => k0_hw51

def k0_off52 (v651 : BitVec 32) : Fin 3 → Nat :=
  let v664 : Index := Scalar.indexCast v651
  let c0_486 : Index := 0#32
  let c0_487 : Index := 0#32
  ![v664.toNat, 0, 0]

def k0_chk52 (v651 : BitVec 32) : Prop :=
  (∀ a, (k0_off52 v651) a + S1x1x128.size a ≤ S10000x1x128.size a)
theorem k0_off52_inb : ∀ (v651 : BitVec 32) (k0_hw52 : k0_chk52 v651), ∀ a, (k0_off52 v651) a + S1x1x128.size a ≤ S10000x1x128.size a := fun v651 k0_hw52 => k0_hw52

def k0_off53 (v676 : BitVec 32) : Fin 3 → Nat :=
  let v678 : Index := Scalar.indexCast v676
  let c0_497 : Index := 0#32
  let c0_498 : Index := 0#32
  ![v678.toNat, 0, 0]

def k0_chk53 (v676 : BitVec 32) : Prop :=
  (∀ a, (k0_off53 v676) a + S1x1x128.size a ≤ S10000x1x128.size a)
theorem k0_off53_inb : ∀ (v676 : BitVec 32) (k0_hw53 : k0_chk53 v676), ∀ a, (k0_off53 v676) a + S1x1x128.size a ≤ S10000x1x128.size a := fun v676 k0_hw53 => k0_hw53

def k0_off54 (v677 : BitVec 32) : Fin 3 → Nat :=
  let v690 : Index := Scalar.indexCast v677
  let c0_505 : Index := 0#32
  let c0_506 : Index := 0#32
  ![v690.toNat, 0, 0]

def k0_chk54 (v677 : BitVec 32) : Prop :=
  (∀ a, (k0_off54 v677) a + S1x1x128.size a ≤ S10000x1x128.size a)
theorem k0_off54_inb : ∀ (v677 : BitVec 32) (k0_hw54 : k0_chk54 v677), ∀ a, (k0_off54 v677) a + S1x1x128.size a ≤ S10000x1x128.size a := fun v677 k0_hw54 => k0_hw54

def k0_off55 (v702 : BitVec 32) : Fin 3 → Nat :=
  let v704 : Index := Scalar.indexCast v702
  let c0_516 : Index := 0#32
  let c0_517 : Index := 0#32
  ![v704.toNat, 0, 0]

def k0_chk55 (v702 : BitVec 32) : Prop :=
  (∀ a, (k0_off55 v702) a + S1x1x128.size a ≤ S10000x1x128.size a)
theorem k0_off55_inb : ∀ (v702 : BitVec 32) (k0_hw55 : k0_chk55 v702), ∀ a, (k0_off55 v702) a + S1x1x128.size a ≤ S10000x1x128.size a := fun v702 k0_hw55 => k0_hw55

def k0_off56 (v703 : BitVec 32) : Fin 3 → Nat :=
  let v716 : Index := Scalar.indexCast v703
  let c0_524 : Index := 0#32
  let c0_525 : Index := 0#32
  ![v716.toNat, 0, 0]

def k0_chk56 (v703 : BitVec 32) : Prop :=
  (∀ a, (k0_off56 v703) a + S1x1x128.size a ≤ S10000x1x128.size a)
theorem k0_off56_inb : ∀ (v703 : BitVec 32) (k0_hw56 : k0_chk56 v703), ∀ a, (k0_off56 v703) a + S1x1x128.size a ≤ S10000x1x128.size a := fun v703 k0_hw56 => k0_hw56

def k0_off57 (v728 : BitVec 32) : Fin 3 → Nat :=
  let v730 : Index := Scalar.indexCast v728
  let c0_535 : Index := 0#32
  let c0_536 : Index := 0#32
  ![v730.toNat, 0, 0]

def k0_chk57 (v728 : BitVec 32) : Prop :=
  (∀ a, (k0_off57 v728) a + S1x1x128.size a ≤ S10000x1x128.size a)
theorem k0_off57_inb : ∀ (v728 : BitVec 32) (k0_hw57 : k0_chk57 v728), ∀ a, (k0_off57 v728) a + S1x1x128.size a ≤ S10000x1x128.size a := fun v728 k0_hw57 => k0_hw57

def k0_off58 (v729 : BitVec 32) : Fin 3 → Nat :=
  let v742 : Index := Scalar.indexCast v729
  let c0_543 : Index := 0#32
  let c0_544 : Index := 0#32
  ![v742.toNat, 0, 0]

def k0_chk58 (v729 : BitVec 32) : Prop :=
  (∀ a, (k0_off58 v729) a + S1x1x128.size a ≤ S10000x1x128.size a)
theorem k0_off58_inb : ∀ (v729 : BitVec 32) (k0_hw58 : k0_chk58 v729), ∀ a, (k0_off58 v729) a + S1x1x128.size a ≤ S10000x1x128.size a := fun v729 k0_hw58 => k0_hw58

def k0_off59 (v754 : BitVec 32) : Fin 3 → Nat :=
  let v756 : Index := Scalar.indexCast v754
  let c0_554 : Index := 0#32
  let c0_555 : Index := 0#32
  ![v756.toNat, 0, 0]

def k0_chk59 (v754 : BitVec 32) : Prop :=
  (∀ a, (k0_off59 v754) a + S1x1x128.size a ≤ S10000x1x128.size a)
theorem k0_off59_inb : ∀ (v754 : BitVec 32) (k0_hw59 : k0_chk59 v754), ∀ a, (k0_off59 v754) a + S1x1x128.size a ≤ S10000x1x128.size a := fun v754 k0_hw59 => k0_hw59

def k0_off60 (v755 : BitVec 32) : Fin 3 → Nat :=
  let v768 : Index := Scalar.indexCast v755
  let c0_562 : Index := 0#32
  let c0_563 : Index := 0#32
  ![v768.toNat, 0, 0]

def k0_chk60 (v755 : BitVec 32) : Prop :=
  (∀ a, (k0_off60 v755) a + S1x1x128.size a ≤ S10000x1x128.size a)
theorem k0_off60_inb : ∀ (v755 : BitVec 32) (k0_hw60 : k0_chk60 v755), ∀ a, (k0_off60 v755) a + S1x1x128.size a ≤ S10000x1x128.size a := fun v755 k0_hw60 => k0_hw60

def k0_off61 (v780 : BitVec 32) : Fin 3 → Nat :=
  let v782 : Index := Scalar.indexCast v780
  let c0_573 : Index := 0#32
  let c0_574 : Index := 0#32
  ![v782.toNat, 0, 0]

def k0_chk61 (v780 : BitVec 32) : Prop :=
  (∀ a, (k0_off61 v780) a + S1x1x128.size a ≤ S10000x1x128.size a)
theorem k0_off61_inb : ∀ (v780 : BitVec 32) (k0_hw61 : k0_chk61 v780), ∀ a, (k0_off61 v780) a + S1x1x128.size a ≤ S10000x1x128.size a := fun v780 k0_hw61 => k0_hw61

def k0_off62 (v781 : BitVec 32) : Fin 3 → Nat :=
  let v794 : Index := Scalar.indexCast v781
  let c0_581 : Index := 0#32
  let c0_582 : Index := 0#32
  ![v794.toNat, 0, 0]

def k0_chk62 (v781 : BitVec 32) : Prop :=
  (∀ a, (k0_off62 v781) a + S1x1x128.size a ≤ S10000x1x128.size a)
theorem k0_off62_inb : ∀ (v781 : BitVec 32) (k0_hw62 : k0_chk62 v781), ∀ a, (k0_off62 v781) a + S1x1x128.size a ≤ S10000x1x128.size a := fun v781 k0_hw62 => k0_hw62

def k0_off63 (v806 : BitVec 32) : Fin 3 → Nat :=
  let v808 : Index := Scalar.indexCast v806
  let c0_592 : Index := 0#32
  let c0_593 : Index := 0#32
  ![v808.toNat, 0, 0]

def k0_chk63 (v806 : BitVec 32) : Prop :=
  (∀ a, (k0_off63 v806) a + S1x1x128.size a ≤ S10000x1x128.size a)
theorem k0_off63_inb : ∀ (v806 : BitVec 32) (k0_hw63 : k0_chk63 v806), ∀ a, (k0_off63 v806) a + S1x1x128.size a ≤ S10000x1x128.size a := fun v806 k0_hw63 => k0_hw63

def k0_off64 (v807 : BitVec 32) : Fin 3 → Nat :=
  let v820 : Index := Scalar.indexCast v807
  let c0_600 : Index := 0#32
  let c0_601 : Index := 0#32
  ![v820.toNat, 0, 0]

def k0_chk64 (v807 : BitVec 32) : Prop :=
  (∀ a, (k0_off64 v807) a + S1x1x128.size a ≤ S10000x1x128.size a)
theorem k0_off64_inb : ∀ (v807 : BitVec 32) (k0_hw64 : k0_chk64 v807), ∀ a, (k0_off64 v807) a + S1x1x128.size a ≤ S10000x1x128.size a := fun v807 k0_hw64 => k0_hw64

def k0_off65 (v832 : BitVec 32) : Fin 3 → Nat :=
  let v834 : Index := Scalar.indexCast v832
  let c0_611 : Index := 0#32
  let c0_612 : Index := 0#32
  ![v834.toNat, 0, 0]

def k0_chk65 (v832 : BitVec 32) : Prop :=
  (∀ a, (k0_off65 v832) a + S1x1x128.size a ≤ S10000x1x128.size a)
theorem k0_off65_inb : ∀ (v832 : BitVec 32) (k0_hw65 : k0_chk65 v832), ∀ a, (k0_off65 v832) a + S1x1x128.size a ≤ S10000x1x128.size a := fun v832 k0_hw65 => k0_hw65

def k0_off66 (v833 : BitVec 32) : Fin 3 → Nat :=
  let v846 : Index := Scalar.indexCast v833
  let c0_619 : Index := 0#32
  let c0_620 : Index := 0#32
  ![v846.toNat, 0, 0]

def k0_chk66 (v833 : BitVec 32) : Prop :=
  (∀ a, (k0_off66 v833) a + S1x1x128.size a ≤ S10000x1x128.size a)
theorem k0_off66_inb : ∀ (v833 : BitVec 32) (k0_hw66 : k0_chk66 v833), ∀ a, (k0_off66 v833) a + S1x1x128.size a ≤ S10000x1x128.size a := fun v833 k0_hw66 => k0_hw66

def k0_off67 (v858 : BitVec 32) : Fin 3 → Nat :=
  let v860 : Index := Scalar.indexCast v858
  let c0_630 : Index := 0#32
  let c0_631 : Index := 0#32
  ![v860.toNat, 0, 0]

def k0_chk67 (v858 : BitVec 32) : Prop :=
  (∀ a, (k0_off67 v858) a + S1x1x128.size a ≤ S10000x1x128.size a)
theorem k0_off67_inb : ∀ (v858 : BitVec 32) (k0_hw67 : k0_chk67 v858), ∀ a, (k0_off67 v858) a + S1x1x128.size a ≤ S10000x1x128.size a := fun v858 k0_hw67 => k0_hw67

def k0_off68 (v859 : BitVec 32) : Fin 3 → Nat :=
  let v872 : Index := Scalar.indexCast v859
  let c0_638 : Index := 0#32
  let c0_639 : Index := 0#32
  ![v872.toNat, 0, 0]

def k0_chk68 (v859 : BitVec 32) : Prop :=
  (∀ a, (k0_off68 v859) a + S1x1x128.size a ≤ S10000x1x128.size a)
theorem k0_off68_inb : ∀ (v859 : BitVec 32) (k0_hw68 : k0_chk68 v859), ∀ a, (k0_off68 v859) a + S1x1x128.size a ≤ S10000x1x128.size a := fun v859 k0_hw68 => k0_hw68

def k0_off69 (v884 : BitVec 32) : Fin 3 → Nat :=
  let v886 : Index := Scalar.indexCast v884
  let c0_649 : Index := 0#32
  let c0_650 : Index := 0#32
  ![v886.toNat, 0, 0]

def k0_chk69 (v884 : BitVec 32) : Prop :=
  (∀ a, (k0_off69 v884) a + S1x1x128.size a ≤ S10000x1x128.size a)
theorem k0_off69_inb : ∀ (v884 : BitVec 32) (k0_hw69 : k0_chk69 v884), ∀ a, (k0_off69 v884) a + S1x1x128.size a ≤ S10000x1x128.size a := fun v884 k0_hw69 => k0_hw69

def k0_off70 (v885 : BitVec 32) : Fin 3 → Nat :=
  let v898 : Index := Scalar.indexCast v885
  let c0_657 : Index := 0#32
  let c0_658 : Index := 0#32
  ![v898.toNat, 0, 0]

def k0_chk70 (v885 : BitVec 32) : Prop :=
  (∀ a, (k0_off70 v885) a + S1x1x128.size a ≤ S10000x1x128.size a)
theorem k0_off70_inb : ∀ (v885 : BitVec 32) (k0_hw70 : k0_chk70 v885), ∀ a, (k0_off70 v885) a + S1x1x128.size a ≤ S10000x1x128.size a := fun v885 k0_hw70 => k0_hw70

def k0_off71 (v910 : BitVec 32) : Fin 3 → Nat :=
  let v912 : Index := Scalar.indexCast v910
  let c0_668 : Index := 0#32
  let c0_669 : Index := 0#32
  ![v912.toNat, 0, 0]

def k0_chk71 (v910 : BitVec 32) : Prop :=
  (∀ a, (k0_off71 v910) a + S1x1x128.size a ≤ S10000x1x128.size a)
theorem k0_off71_inb : ∀ (v910 : BitVec 32) (k0_hw71 : k0_chk71 v910), ∀ a, (k0_off71 v910) a + S1x1x128.size a ≤ S10000x1x128.size a := fun v910 k0_hw71 => k0_hw71

def k0_off72 (v911 : BitVec 32) : Fin 3 → Nat :=
  let v924 : Index := Scalar.indexCast v911
  let c0_676 : Index := 0#32
  let c0_677 : Index := 0#32
  ![v924.toNat, 0, 0]

def k0_chk72 (v911 : BitVec 32) : Prop :=
  (∀ a, (k0_off72 v911) a + S1x1x128.size a ≤ S10000x1x128.size a)
theorem k0_off72_inb : ∀ (v911 : BitVec 32) (k0_hw72 : k0_chk72 v911), ∀ a, (k0_off72 v911) a + S1x1x128.size a ≤ S10000x1x128.size a := fun v911 k0_hw72 => k0_hw72

def k0_off73 (v936 : BitVec 32) : Fin 3 → Nat :=
  let v938 : Index := Scalar.indexCast v936
  let c0_687 : Index := 0#32
  let c0_688 : Index := 0#32
  ![v938.toNat, 0, 0]

def k0_chk73 (v936 : BitVec 32) : Prop :=
  (∀ a, (k0_off73 v936) a + S1x1x128.size a ≤ S10000x1x128.size a)
theorem k0_off73_inb : ∀ (v936 : BitVec 32) (k0_hw73 : k0_chk73 v936), ∀ a, (k0_off73 v936) a + S1x1x128.size a ≤ S10000x1x128.size a := fun v936 k0_hw73 => k0_hw73

def k0_off74 (v937 : BitVec 32) : Fin 3 → Nat :=
  let v950 : Index := Scalar.indexCast v937
  let c0_695 : Index := 0#32
  let c0_696 : Index := 0#32
  ![v950.toNat, 0, 0]

def k0_chk74 (v937 : BitVec 32) : Prop :=
  (∀ a, (k0_off74 v937) a + S1x1x128.size a ≤ S10000x1x128.size a)
theorem k0_off74_inb : ∀ (v937 : BitVec 32) (k0_hw74 : k0_chk74 v937), ∀ a, (k0_off74 v937) a + S1x1x128.size a ≤ S10000x1x128.size a := fun v937 k0_hw74 => k0_hw74

def k0_off75 (v962 : BitVec 32) : Fin 3 → Nat :=
  let v964 : Index := Scalar.indexCast v962
  let c0_706 : Index := 0#32
  let c0_707 : Index := 0#32
  ![v964.toNat, 0, 0]

def k0_chk75 (v962 : BitVec 32) : Prop :=
  (∀ a, (k0_off75 v962) a + S1x1x128.size a ≤ S10000x1x128.size a)
theorem k0_off75_inb : ∀ (v962 : BitVec 32) (k0_hw75 : k0_chk75 v962), ∀ a, (k0_off75 v962) a + S1x1x128.size a ≤ S10000x1x128.size a := fun v962 k0_hw75 => k0_hw75

def k0_off76 (v963 : BitVec 32) : Fin 3 → Nat :=
  let v976 : Index := Scalar.indexCast v963
  let c0_714 : Index := 0#32
  let c0_715 : Index := 0#32
  ![v976.toNat, 0, 0]

def k0_chk76 (v963 : BitVec 32) : Prop :=
  (∀ a, (k0_off76 v963) a + S1x1x128.size a ≤ S10000x1x128.size a)
theorem k0_off76_inb : ∀ (v963 : BitVec 32) (k0_hw76 : k0_chk76 v963), ∀ a, (k0_off76 v963) a + S1x1x128.size a ≤ S10000x1x128.size a := fun v963 k0_hw76 => k0_hw76

def k0_off77 (v988 : BitVec 32) : Fin 3 → Nat :=
  let v990 : Index := Scalar.indexCast v988
  let c0_725 : Index := 0#32
  let c0_726 : Index := 0#32
  ![v990.toNat, 0, 0]

def k0_chk77 (v988 : BitVec 32) : Prop :=
  (∀ a, (k0_off77 v988) a + S1x1x128.size a ≤ S10000x1x128.size a)
theorem k0_off77_inb : ∀ (v988 : BitVec 32) (k0_hw77 : k0_chk77 v988), ∀ a, (k0_off77 v988) a + S1x1x128.size a ≤ S10000x1x128.size a := fun v988 k0_hw77 => k0_hw77

def k0_off78 (v989 : BitVec 32) : Fin 3 → Nat :=
  let v1002 : Index := Scalar.indexCast v989
  let c0_733 : Index := 0#32
  let c0_734 : Index := 0#32
  ![v1002.toNat, 0, 0]

def k0_chk78 (v989 : BitVec 32) : Prop :=
  (∀ a, (k0_off78 v989) a + S1x1x128.size a ≤ S10000x1x128.size a)
theorem k0_off78_inb : ∀ (v989 : BitVec 32) (k0_hw78 : k0_chk78 v989), ∀ a, (k0_off78 v989) a + S1x1x128.size a ≤ S10000x1x128.size a := fun v989 k0_hw78 => k0_hw78

def k0_off79 (v1014 : BitVec 32) : Fin 3 → Nat :=
  let v1016 : Index := Scalar.indexCast v1014
  let c0_744 : Index := 0#32
  let c0_745 : Index := 0#32
  ![v1016.toNat, 0, 0]

def k0_chk79 (v1014 : BitVec 32) : Prop :=
  (∀ a, (k0_off79 v1014) a + S1x1x128.size a ≤ S10000x1x128.size a)
theorem k0_off79_inb : ∀ (v1014 : BitVec 32) (k0_hw79 : k0_chk79 v1014), ∀ a, (k0_off79 v1014) a + S1x1x128.size a ≤ S10000x1x128.size a := fun v1014 k0_hw79 => k0_hw79

def k0_off80 (v1015 : BitVec 32) : Fin 3 → Nat :=
  let v1028 : Index := Scalar.indexCast v1015
  let c0_752 : Index := 0#32
  let c0_753 : Index := 0#32
  ![v1028.toNat, 0, 0]

def k0_chk80 (v1015 : BitVec 32) : Prop :=
  (∀ a, (k0_off80 v1015) a + S1x1x128.size a ≤ S10000x1x128.size a)
theorem k0_off80_inb : ∀ (v1015 : BitVec 32) (k0_hw80 : k0_chk80 v1015), ∀ a, (k0_off80 v1015) a + S1x1x128.size a ≤ S10000x1x128.size a := fun v1015 k0_hw80 => k0_hw80

def k0_off81 (v1040 : BitVec 32) : Fin 3 → Nat :=
  let v1042 : Index := Scalar.indexCast v1040
  let c0_763 : Index := 0#32
  let c0_764 : Index := 0#32
  ![v1042.toNat, 0, 0]

def k0_chk81 (v1040 : BitVec 32) : Prop :=
  (∀ a, (k0_off81 v1040) a + S1x1x128.size a ≤ S10000x1x128.size a)
theorem k0_off81_inb : ∀ (v1040 : BitVec 32) (k0_hw81 : k0_chk81 v1040), ∀ a, (k0_off81 v1040) a + S1x1x128.size a ≤ S10000x1x128.size a := fun v1040 k0_hw81 => k0_hw81

def k0_off82 (v1041 : BitVec 32) : Fin 3 → Nat :=
  let v1054 : Index := Scalar.indexCast v1041
  let c0_771 : Index := 0#32
  let c0_772 : Index := 0#32
  ![v1054.toNat, 0, 0]

def k0_chk82 (v1041 : BitVec 32) : Prop :=
  (∀ a, (k0_off82 v1041) a + S1x1x128.size a ≤ S10000x1x128.size a)
theorem k0_off82_inb : ∀ (v1041 : BitVec 32) (k0_hw82 : k0_chk82 v1041), ∀ a, (k0_off82 v1041) a + S1x1x128.size a ≤ S10000x1x128.size a := fun v1041 k0_hw82 => k0_hw82

def k0_off83 (v1066 : BitVec 32) : Fin 3 → Nat :=
  let v1068 : Index := Scalar.indexCast v1066
  let c0_782 : Index := 0#32
  let c0_783 : Index := 0#32
  ![v1068.toNat, 0, 0]

def k0_chk83 (v1066 : BitVec 32) : Prop :=
  (∀ a, (k0_off83 v1066) a + S1x1x128.size a ≤ S10000x1x128.size a)
theorem k0_off83_inb : ∀ (v1066 : BitVec 32) (k0_hw83 : k0_chk83 v1066), ∀ a, (k0_off83 v1066) a + S1x1x128.size a ≤ S10000x1x128.size a := fun v1066 k0_hw83 => k0_hw83

def k0_off84 (v1067 : BitVec 32) : Fin 3 → Nat :=
  let v1080 : Index := Scalar.indexCast v1067
  let c0_790 : Index := 0#32
  let c0_791 : Index := 0#32
  ![v1080.toNat, 0, 0]

def k0_chk84 (v1067 : BitVec 32) : Prop :=
  (∀ a, (k0_off84 v1067) a + S1x1x128.size a ≤ S10000x1x128.size a)
theorem k0_off84_inb : ∀ (v1067 : BitVec 32) (k0_hw84 : k0_chk84 v1067), ∀ a, (k0_off84 v1067) a + S1x1x128.size a ≤ S10000x1x128.size a := fun v1067 k0_hw84 => k0_hw84

def k0_off85 (v1092 : BitVec 32) : Fin 3 → Nat :=
  let v1094 : Index := Scalar.indexCast v1092
  let c0_801 : Index := 0#32
  let c0_802 : Index := 0#32
  ![v1094.toNat, 0, 0]

def k0_chk85 (v1092 : BitVec 32) : Prop :=
  (∀ a, (k0_off85 v1092) a + S1x1x128.size a ≤ S10000x1x128.size a)
theorem k0_off85_inb : ∀ (v1092 : BitVec 32) (k0_hw85 : k0_chk85 v1092), ∀ a, (k0_off85 v1092) a + S1x1x128.size a ≤ S10000x1x128.size a := fun v1092 k0_hw85 => k0_hw85

def k0_off86 (v1093 : BitVec 32) : Fin 3 → Nat :=
  let v1106 : Index := Scalar.indexCast v1093
  let c0_809 : Index := 0#32
  let c0_810 : Index := 0#32
  ![v1106.toNat, 0, 0]

def k0_chk86 (v1093 : BitVec 32) : Prop :=
  (∀ a, (k0_off86 v1093) a + S1x1x128.size a ≤ S10000x1x128.size a)
theorem k0_off86_inb : ∀ (v1093 : BitVec 32) (k0_hw86 : k0_chk86 v1093), ∀ a, (k0_off86 v1093) a + S1x1x128.size a ≤ S10000x1x128.size a := fun v1093 k0_hw86 => k0_hw86

def k0_off87 (v1118 : BitVec 32) : Fin 3 → Nat :=
  let v1120 : Index := Scalar.indexCast v1118
  let c0_820 : Index := 0#32
  let c0_821 : Index := 0#32
  ![v1120.toNat, 0, 0]

def k0_chk87 (v1118 : BitVec 32) : Prop :=
  (∀ a, (k0_off87 v1118) a + S1x1x128.size a ≤ S10000x1x128.size a)
theorem k0_off87_inb : ∀ (v1118 : BitVec 32) (k0_hw87 : k0_chk87 v1118), ∀ a, (k0_off87 v1118) a + S1x1x128.size a ≤ S10000x1x128.size a := fun v1118 k0_hw87 => k0_hw87

def k0_off88 (v1119 : BitVec 32) : Fin 3 → Nat :=
  let v1132 : Index := Scalar.indexCast v1119
  let c0_828 : Index := 0#32
  let c0_829 : Index := 0#32
  ![v1132.toNat, 0, 0]

def k0_chk88 (v1119 : BitVec 32) : Prop :=
  (∀ a, (k0_off88 v1119) a + S1x1x128.size a ≤ S10000x1x128.size a)
theorem k0_off88_inb : ∀ (v1119 : BitVec 32) (k0_hw88 : k0_chk88 v1119), ∀ a, (k0_off88 v1119) a + S1x1x128.size a ≤ S10000x1x128.size a := fun v1119 k0_hw88 => k0_hw88

def k0_off89 (v1144 : BitVec 32) : Fin 3 → Nat :=
  let v1146 : Index := Scalar.indexCast v1144
  let c0_839 : Index := 0#32
  let c0_840 : Index := 0#32
  ![v1146.toNat, 0, 0]

def k0_chk89 (v1144 : BitVec 32) : Prop :=
  (∀ a, (k0_off89 v1144) a + S1x1x128.size a ≤ S10000x1x128.size a)
theorem k0_off89_inb : ∀ (v1144 : BitVec 32) (k0_hw89 : k0_chk89 v1144), ∀ a, (k0_off89 v1144) a + S1x1x128.size a ≤ S10000x1x128.size a := fun v1144 k0_hw89 => k0_hw89

def k0_off90 (v1145 : BitVec 32) : Fin 3 → Nat :=
  let v1158 : Index := Scalar.indexCast v1145
  let c0_847 : Index := 0#32
  let c0_848 : Index := 0#32
  ![v1158.toNat, 0, 0]

def k0_chk90 (v1145 : BitVec 32) : Prop :=
  (∀ a, (k0_off90 v1145) a + S1x1x128.size a ≤ S10000x1x128.size a)
theorem k0_off90_inb : ∀ (v1145 : BitVec 32) (k0_hw90 : k0_chk90 v1145), ∀ a, (k0_off90 v1145) a + S1x1x128.size a ≤ S10000x1x128.size a := fun v1145 k0_hw90 => k0_hw90

def k0_off91 (v1170 : BitVec 32) : Fin 3 → Nat :=
  let v1172 : Index := Scalar.indexCast v1170
  let c0_858 : Index := 0#32
  let c0_859 : Index := 0#32
  ![v1172.toNat, 0, 0]

def k0_chk91 (v1170 : BitVec 32) : Prop :=
  (∀ a, (k0_off91 v1170) a + S1x1x128.size a ≤ S10000x1x128.size a)
theorem k0_off91_inb : ∀ (v1170 : BitVec 32) (k0_hw91 : k0_chk91 v1170), ∀ a, (k0_off91 v1170) a + S1x1x128.size a ≤ S10000x1x128.size a := fun v1170 k0_hw91 => k0_hw91

def k0_off92 (v1171 : BitVec 32) : Fin 3 → Nat :=
  let v1184 : Index := Scalar.indexCast v1171
  let c0_866 : Index := 0#32
  let c0_867 : Index := 0#32
  ![v1184.toNat, 0, 0]

def k0_chk92 (v1171 : BitVec 32) : Prop :=
  (∀ a, (k0_off92 v1171) a + S1x1x128.size a ≤ S10000x1x128.size a)
theorem k0_off92_inb : ∀ (v1171 : BitVec 32) (k0_hw92 : k0_chk92 v1171), ∀ a, (k0_off92 v1171) a + S1x1x128.size a ≤ S10000x1x128.size a := fun v1171 k0_hw92 => k0_hw92

def k0_off93 (v1196 : BitVec 32) : Fin 3 → Nat :=
  let v1198 : Index := Scalar.indexCast v1196
  let c0_877 : Index := 0#32
  let c0_878 : Index := 0#32
  ![v1198.toNat, 0, 0]

def k0_chk93 (v1196 : BitVec 32) : Prop :=
  (∀ a, (k0_off93 v1196) a + S1x1x128.size a ≤ S10000x1x128.size a)
theorem k0_off93_inb : ∀ (v1196 : BitVec 32) (k0_hw93 : k0_chk93 v1196), ∀ a, (k0_off93 v1196) a + S1x1x128.size a ≤ S10000x1x128.size a := fun v1196 k0_hw93 => k0_hw93

def k0_off94 (v1197 : BitVec 32) : Fin 3 → Nat :=
  let v1210 : Index := Scalar.indexCast v1197
  let c0_885 : Index := 0#32
  let c0_886 : Index := 0#32
  ![v1210.toNat, 0, 0]

def k0_chk94 (v1197 : BitVec 32) : Prop :=
  (∀ a, (k0_off94 v1197) a + S1x1x128.size a ≤ S10000x1x128.size a)
theorem k0_off94_inb : ∀ (v1197 : BitVec 32) (k0_hw94 : k0_chk94 v1197), ∀ a, (k0_off94 v1197) a + S1x1x128.size a ≤ S10000x1x128.size a := fun v1197 k0_hw94 => k0_hw94

def k0_off95 (v1222 : BitVec 32) : Fin 3 → Nat :=
  let v1224 : Index := Scalar.indexCast v1222
  let c0_896 : Index := 0#32
  let c0_897 : Index := 0#32
  ![v1224.toNat, 0, 0]

def k0_chk95 (v1222 : BitVec 32) : Prop :=
  (∀ a, (k0_off95 v1222) a + S1x1x128.size a ≤ S10000x1x128.size a)
theorem k0_off95_inb : ∀ (v1222 : BitVec 32) (k0_hw95 : k0_chk95 v1222), ∀ a, (k0_off95 v1222) a + S1x1x128.size a ≤ S10000x1x128.size a := fun v1222 k0_hw95 => k0_hw95

def k0_off96 (v1223 : BitVec 32) : Fin 3 → Nat :=
  let v1236 : Index := Scalar.indexCast v1223
  let c0_904 : Index := 0#32
  let c0_905 : Index := 0#32
  ![v1236.toNat, 0, 0]

def k0_chk96 (v1223 : BitVec 32) : Prop :=
  (∀ a, (k0_off96 v1223) a + S1x1x128.size a ≤ S10000x1x128.size a)
theorem k0_off96_inb : ∀ (v1223 : BitVec 32) (k0_hw96 : k0_chk96 v1223), ∀ a, (k0_off96 v1223) a + S1x1x128.size a ≤ S10000x1x128.size a := fun v1223 k0_hw96 => k0_hw96

def k0_off97 (v1248 : BitVec 32) : Fin 3 → Nat :=
  let v1250 : Index := Scalar.indexCast v1248
  let c0_915 : Index := 0#32
  let c0_916 : Index := 0#32
  ![v1250.toNat, 0, 0]

def k0_chk97 (v1248 : BitVec 32) : Prop :=
  (∀ a, (k0_off97 v1248) a + S1x1x128.size a ≤ S10000x1x128.size a)
theorem k0_off97_inb : ∀ (v1248 : BitVec 32) (k0_hw97 : k0_chk97 v1248), ∀ a, (k0_off97 v1248) a + S1x1x128.size a ≤ S10000x1x128.size a := fun v1248 k0_hw97 => k0_hw97

def k0_off98 (v1249 : BitVec 32) : Fin 3 → Nat :=
  let v1262 : Index := Scalar.indexCast v1249
  let c0_923 : Index := 0#32
  let c0_924 : Index := 0#32
  ![v1262.toNat, 0, 0]

def k0_chk98 (v1249 : BitVec 32) : Prop :=
  (∀ a, (k0_off98 v1249) a + S1x1x128.size a ≤ S10000x1x128.size a)
theorem k0_off98_inb : ∀ (v1249 : BitVec 32) (k0_hw98 : k0_chk98 v1249), ∀ a, (k0_off98 v1249) a + S1x1x128.size a ≤ S10000x1x128.size a := fun v1249 k0_hw98 => k0_hw98

def k0_off99 (v1274 : BitVec 32) : Fin 3 → Nat :=
  let v1276 : Index := Scalar.indexCast v1274
  let c0_934 : Index := 0#32
  let c0_935 : Index := 0#32
  ![v1276.toNat, 0, 0]

def k0_chk99 (v1274 : BitVec 32) : Prop :=
  (∀ a, (k0_off99 v1274) a + S1x1x128.size a ≤ S10000x1x128.size a)
theorem k0_off99_inb : ∀ (v1274 : BitVec 32) (k0_hw99 : k0_chk99 v1274), ∀ a, (k0_off99 v1274) a + S1x1x128.size a ≤ S10000x1x128.size a := fun v1274 k0_hw99 => k0_hw99

def k0_off100 (v1275 : BitVec 32) : Fin 3 → Nat :=
  let v1288 : Index := Scalar.indexCast v1275
  let c0_942 : Index := 0#32
  let c0_943 : Index := 0#32
  ![v1288.toNat, 0, 0]

def k0_chk100 (v1275 : BitVec 32) : Prop :=
  (∀ a, (k0_off100 v1275) a + S1x1x128.size a ≤ S10000x1x128.size a)
theorem k0_off100_inb : ∀ (v1275 : BitVec 32) (k0_hw100 : k0_chk100 v1275), ∀ a, (k0_off100 v1275) a + S1x1x128.size a ≤ S10000x1x128.size a := fun v1275 k0_hw100 => k0_hw100

def k0_off101 (v1300 : BitVec 32) : Fin 3 → Nat :=
  let v1302 : Index := Scalar.indexCast v1300
  let c0_953 : Index := 0#32
  let c0_954 : Index := 0#32
  ![v1302.toNat, 0, 0]

def k0_chk101 (v1300 : BitVec 32) : Prop :=
  (∀ a, (k0_off101 v1300) a + S1x1x128.size a ≤ S10000x1x128.size a)
theorem k0_off101_inb : ∀ (v1300 : BitVec 32) (k0_hw101 : k0_chk101 v1300), ∀ a, (k0_off101 v1300) a + S1x1x128.size a ≤ S10000x1x128.size a := fun v1300 k0_hw101 => k0_hw101

def k0_off102 (v1301 : BitVec 32) : Fin 3 → Nat :=
  let v1314 : Index := Scalar.indexCast v1301
  let c0_961 : Index := 0#32
  let c0_962 : Index := 0#32
  ![v1314.toNat, 0, 0]

def k0_chk102 (v1301 : BitVec 32) : Prop :=
  (∀ a, (k0_off102 v1301) a + S1x1x128.size a ≤ S10000x1x128.size a)
theorem k0_off102_inb : ∀ (v1301 : BitVec 32) (k0_hw102 : k0_chk102 v1301), ∀ a, (k0_off102 v1301) a + S1x1x128.size a ≤ S10000x1x128.size a := fun v1301 k0_hw102 => k0_hw102

def k0_off103 (v1326 : BitVec 32) : Fin 3 → Nat :=
  let v1328 : Index := Scalar.indexCast v1326
  let c0_972 : Index := 0#32
  let c0_973 : Index := 0#32
  ![v1328.toNat, 0, 0]

def k0_chk103 (v1326 : BitVec 32) : Prop :=
  (∀ a, (k0_off103 v1326) a + S1x1x128.size a ≤ S10000x1x128.size a)
theorem k0_off103_inb : ∀ (v1326 : BitVec 32) (k0_hw103 : k0_chk103 v1326), ∀ a, (k0_off103 v1326) a + S1x1x128.size a ≤ S10000x1x128.size a := fun v1326 k0_hw103 => k0_hw103

def k0_off104 (v1327 : BitVec 32) : Fin 3 → Nat :=
  let v1340 : Index := Scalar.indexCast v1327
  let c0_980 : Index := 0#32
  let c0_981 : Index := 0#32
  ![v1340.toNat, 0, 0]

def k0_chk104 (v1327 : BitVec 32) : Prop :=
  (∀ a, (k0_off104 v1327) a + S1x1x128.size a ≤ S10000x1x128.size a)
theorem k0_off104_inb : ∀ (v1327 : BitVec 32) (k0_hw104 : k0_chk104 v1327), ∀ a, (k0_off104 v1327) a + S1x1x128.size a ≤ S10000x1x128.size a := fun v1327 k0_hw104 => k0_hw104

def k0_off105 (v1352 : BitVec 32) : Fin 3 → Nat :=
  let v1354 : Index := Scalar.indexCast v1352
  let c0_991 : Index := 0#32
  let c0_992 : Index := 0#32
  ![v1354.toNat, 0, 0]

def k0_chk105 (v1352 : BitVec 32) : Prop :=
  (∀ a, (k0_off105 v1352) a + S1x1x128.size a ≤ S10000x1x128.size a)
theorem k0_off105_inb : ∀ (v1352 : BitVec 32) (k0_hw105 : k0_chk105 v1352), ∀ a, (k0_off105 v1352) a + S1x1x128.size a ≤ S10000x1x128.size a := fun v1352 k0_hw105 => k0_hw105

def k0_off106 (v1353 : BitVec 32) : Fin 3 → Nat :=
  let v1366 : Index := Scalar.indexCast v1353
  let c0_999 : Index := 0#32
  let c0_1000 : Index := 0#32
  ![v1366.toNat, 0, 0]

def k0_chk106 (v1353 : BitVec 32) : Prop :=
  (∀ a, (k0_off106 v1353) a + S1x1x128.size a ≤ S10000x1x128.size a)
theorem k0_off106_inb : ∀ (v1353 : BitVec 32) (k0_hw106 : k0_chk106 v1353), ∀ a, (k0_off106 v1353) a + S1x1x128.size a ≤ S10000x1x128.size a := fun v1353 k0_hw106 => k0_hw106

def k0_off107 (v1378 : BitVec 32) : Fin 3 → Nat :=
  let v1380 : Index := Scalar.indexCast v1378
  let c0_1010 : Index := 0#32
  let c0_1011 : Index := 0#32
  ![v1380.toNat, 0, 0]

def k0_chk107 (v1378 : BitVec 32) : Prop :=
  (∀ a, (k0_off107 v1378) a + S1x1x128.size a ≤ S10000x1x128.size a)
theorem k0_off107_inb : ∀ (v1378 : BitVec 32) (k0_hw107 : k0_chk107 v1378), ∀ a, (k0_off107 v1378) a + S1x1x128.size a ≤ S10000x1x128.size a := fun v1378 k0_hw107 => k0_hw107

def k0_off108 (v1379 : BitVec 32) : Fin 3 → Nat :=
  let v1392 : Index := Scalar.indexCast v1379
  let c0_1018 : Index := 0#32
  let c0_1019 : Index := 0#32
  ![v1392.toNat, 0, 0]

def k0_chk108 (v1379 : BitVec 32) : Prop :=
  (∀ a, (k0_off108 v1379) a + S1x1x128.size a ≤ S10000x1x128.size a)
theorem k0_off108_inb : ∀ (v1379 : BitVec 32) (k0_hw108 : k0_chk108 v1379), ∀ a, (k0_off108 v1379) a + S1x1x128.size a ≤ S10000x1x128.size a := fun v1379 k0_hw108 => k0_hw108

def k0_off109 (v1404 : BitVec 32) : Fin 3 → Nat :=
  let v1406 : Index := Scalar.indexCast v1404
  let c0_1029 : Index := 0#32
  let c0_1030 : Index := 0#32
  ![v1406.toNat, 0, 0]

def k0_chk109 (v1404 : BitVec 32) : Prop :=
  (∀ a, (k0_off109 v1404) a + S1x1x128.size a ≤ S10000x1x128.size a)
theorem k0_off109_inb : ∀ (v1404 : BitVec 32) (k0_hw109 : k0_chk109 v1404), ∀ a, (k0_off109 v1404) a + S1x1x128.size a ≤ S10000x1x128.size a := fun v1404 k0_hw109 => k0_hw109

def k0_off110 (v1405 : BitVec 32) : Fin 3 → Nat :=
  let v1418 : Index := Scalar.indexCast v1405
  let c0_1037 : Index := 0#32
  let c0_1038 : Index := 0#32
  ![v1418.toNat, 0, 0]

def k0_chk110 (v1405 : BitVec 32) : Prop :=
  (∀ a, (k0_off110 v1405) a + S1x1x128.size a ≤ S10000x1x128.size a)
theorem k0_off110_inb : ∀ (v1405 : BitVec 32) (k0_hw110 : k0_chk110 v1405), ∀ a, (k0_off110 v1405) a + S1x1x128.size a ≤ S10000x1x128.size a := fun v1405 k0_hw110 => k0_hw110

def k0_off111 (v1430 : BitVec 32) : Fin 3 → Nat :=
  let v1432 : Index := Scalar.indexCast v1430
  let c0_1048 : Index := 0#32
  let c0_1049 : Index := 0#32
  ![v1432.toNat, 0, 0]

def k0_chk111 (v1430 : BitVec 32) : Prop :=
  (∀ a, (k0_off111 v1430) a + S1x1x128.size a ≤ S10000x1x128.size a)
theorem k0_off111_inb : ∀ (v1430 : BitVec 32) (k0_hw111 : k0_chk111 v1430), ∀ a, (k0_off111 v1430) a + S1x1x128.size a ≤ S10000x1x128.size a := fun v1430 k0_hw111 => k0_hw111

def k0_off112 (v1431 : BitVec 32) : Fin 3 → Nat :=
  let v1444 : Index := Scalar.indexCast v1431
  let c0_1056 : Index := 0#32
  let c0_1057 : Index := 0#32
  ![v1444.toNat, 0, 0]

def k0_chk112 (v1431 : BitVec 32) : Prop :=
  (∀ a, (k0_off112 v1431) a + S1x1x128.size a ≤ S10000x1x128.size a)
theorem k0_off112_inb : ∀ (v1431 : BitVec 32) (k0_hw112 : k0_chk112 v1431), ∀ a, (k0_off112 v1431) a + S1x1x128.size a ≤ S10000x1x128.size a := fun v1431 k0_hw112 => k0_hw112

def k0_off113 (v1456 : BitVec 32) : Fin 3 → Nat :=
  let v1458 : Index := Scalar.indexCast v1456
  let c0_1067 : Index := 0#32
  let c0_1068 : Index := 0#32
  ![v1458.toNat, 0, 0]

def k0_chk113 (v1456 : BitVec 32) : Prop :=
  (∀ a, (k0_off113 v1456) a + S1x1x128.size a ≤ S10000x1x128.size a)
theorem k0_off113_inb : ∀ (v1456 : BitVec 32) (k0_hw113 : k0_chk113 v1456), ∀ a, (k0_off113 v1456) a + S1x1x128.size a ≤ S10000x1x128.size a := fun v1456 k0_hw113 => k0_hw113

def k0_off114 (v1457 : BitVec 32) : Fin 3 → Nat :=
  let v1470 : Index := Scalar.indexCast v1457
  let c0_1075 : Index := 0#32
  let c0_1076 : Index := 0#32
  ![v1470.toNat, 0, 0]

def k0_chk114 (v1457 : BitVec 32) : Prop :=
  (∀ a, (k0_off114 v1457) a + S1x1x128.size a ≤ S10000x1x128.size a)
theorem k0_off114_inb : ∀ (v1457 : BitVec 32) (k0_hw114 : k0_chk114 v1457), ∀ a, (k0_off114 v1457) a + S1x1x128.size a ≤ S10000x1x128.size a := fun v1457 k0_hw114 => k0_hw114

def k0_off115 (v1482 : BitVec 32) : Fin 3 → Nat :=
  let v1484 : Index := Scalar.indexCast v1482
  let c0_1086 : Index := 0#32
  let c0_1087 : Index := 0#32
  ![v1484.toNat, 0, 0]

def k0_chk115 (v1482 : BitVec 32) : Prop :=
  (∀ a, (k0_off115 v1482) a + S1x1x128.size a ≤ S10000x1x128.size a)
theorem k0_off115_inb : ∀ (v1482 : BitVec 32) (k0_hw115 : k0_chk115 v1482), ∀ a, (k0_off115 v1482) a + S1x1x128.size a ≤ S10000x1x128.size a := fun v1482 k0_hw115 => k0_hw115

def k0_off116 (v1483 : BitVec 32) : Fin 3 → Nat :=
  let v1496 : Index := Scalar.indexCast v1483
  let c0_1094 : Index := 0#32
  let c0_1095 : Index := 0#32
  ![v1496.toNat, 0, 0]

def k0_chk116 (v1483 : BitVec 32) : Prop :=
  (∀ a, (k0_off116 v1483) a + S1x1x128.size a ≤ S10000x1x128.size a)
theorem k0_off116_inb : ∀ (v1483 : BitVec 32) (k0_hw116 : k0_chk116 v1483), ∀ a, (k0_off116 v1483) a + S1x1x128.size a ≤ S10000x1x128.size a := fun v1483 k0_hw116 => k0_hw116

def k0_off117 (v1508 : BitVec 32) : Fin 3 → Nat :=
  let v1510 : Index := Scalar.indexCast v1508
  let c0_1105 : Index := 0#32
  let c0_1106 : Index := 0#32
  ![v1510.toNat, 0, 0]

def k0_chk117 (v1508 : BitVec 32) : Prop :=
  (∀ a, (k0_off117 v1508) a + S1x1x128.size a ≤ S10000x1x128.size a)
theorem k0_off117_inb : ∀ (v1508 : BitVec 32) (k0_hw117 : k0_chk117 v1508), ∀ a, (k0_off117 v1508) a + S1x1x128.size a ≤ S10000x1x128.size a := fun v1508 k0_hw117 => k0_hw117

def k0_off118 (v1509 : BitVec 32) : Fin 3 → Nat :=
  let v1522 : Index := Scalar.indexCast v1509
  let c0_1113 : Index := 0#32
  let c0_1114 : Index := 0#32
  ![v1522.toNat, 0, 0]

def k0_chk118 (v1509 : BitVec 32) : Prop :=
  (∀ a, (k0_off118 v1509) a + S1x1x128.size a ≤ S10000x1x128.size a)
theorem k0_off118_inb : ∀ (v1509 : BitVec 32) (k0_hw118 : k0_chk118 v1509), ∀ a, (k0_off118 v1509) a + S1x1x128.size a ≤ S10000x1x128.size a := fun v1509 k0_hw118 => k0_hw118

def k0_off119 (v1534 : BitVec 32) : Fin 3 → Nat :=
  let v1536 : Index := Scalar.indexCast v1534
  let c0_1124 : Index := 0#32
  let c0_1125 : Index := 0#32
  ![v1536.toNat, 0, 0]

def k0_chk119 (v1534 : BitVec 32) : Prop :=
  (∀ a, (k0_off119 v1534) a + S1x1x128.size a ≤ S10000x1x128.size a)
theorem k0_off119_inb : ∀ (v1534 : BitVec 32) (k0_hw119 : k0_chk119 v1534), ∀ a, (k0_off119 v1534) a + S1x1x128.size a ≤ S10000x1x128.size a := fun v1534 k0_hw119 => k0_hw119

def k0_off120 (v1535 : BitVec 32) : Fin 3 → Nat :=
  let v1548 : Index := Scalar.indexCast v1535
  let c0_1132 : Index := 0#32
  let c0_1133 : Index := 0#32
  ![v1548.toNat, 0, 0]

def k0_chk120 (v1535 : BitVec 32) : Prop :=
  (∀ a, (k0_off120 v1535) a + S1x1x128.size a ≤ S10000x1x128.size a)
theorem k0_off120_inb : ∀ (v1535 : BitVec 32) (k0_hw120 : k0_chk120 v1535), ∀ a, (k0_off120 v1535) a + S1x1x128.size a ≤ S10000x1x128.size a := fun v1535 k0_hw120 => k0_hw120

def k0_off121 (v1560 : BitVec 32) : Fin 3 → Nat :=
  let v1562 : Index := Scalar.indexCast v1560
  let c0_1143 : Index := 0#32
  let c0_1144 : Index := 0#32
  ![v1562.toNat, 0, 0]

def k0_chk121 (v1560 : BitVec 32) : Prop :=
  (∀ a, (k0_off121 v1560) a + S1x1x128.size a ≤ S10000x1x128.size a)
theorem k0_off121_inb : ∀ (v1560 : BitVec 32) (k0_hw121 : k0_chk121 v1560), ∀ a, (k0_off121 v1560) a + S1x1x128.size a ≤ S10000x1x128.size a := fun v1560 k0_hw121 => k0_hw121

def k0_off122 (v1561 : BitVec 32) : Fin 3 → Nat :=
  let v1574 : Index := Scalar.indexCast v1561
  let c0_1151 : Index := 0#32
  let c0_1152 : Index := 0#32
  ![v1574.toNat, 0, 0]

def k0_chk122 (v1561 : BitVec 32) : Prop :=
  (∀ a, (k0_off122 v1561) a + S1x1x128.size a ≤ S10000x1x128.size a)
theorem k0_off122_inb : ∀ (v1561 : BitVec 32) (k0_hw122 : k0_chk122 v1561), ∀ a, (k0_off122 v1561) a + S1x1x128.size a ≤ S10000x1x128.size a := fun v1561 k0_hw122 => k0_hw122

def k0_off123 (v1586 : BitVec 32) : Fin 3 → Nat :=
  let v1588 : Index := Scalar.indexCast v1586
  let c0_1162 : Index := 0#32
  let c0_1163 : Index := 0#32
  ![v1588.toNat, 0, 0]

def k0_chk123 (v1586 : BitVec 32) : Prop :=
  (∀ a, (k0_off123 v1586) a + S1x1x128.size a ≤ S10000x1x128.size a)
theorem k0_off123_inb : ∀ (v1586 : BitVec 32) (k0_hw123 : k0_chk123 v1586), ∀ a, (k0_off123 v1586) a + S1x1x128.size a ≤ S10000x1x128.size a := fun v1586 k0_hw123 => k0_hw123

def k0_off124 (v1587 : BitVec 32) : Fin 3 → Nat :=
  let v1600 : Index := Scalar.indexCast v1587
  let c0_1170 : Index := 0#32
  let c0_1171 : Index := 0#32
  ![v1600.toNat, 0, 0]

def k0_chk124 (v1587 : BitVec 32) : Prop :=
  (∀ a, (k0_off124 v1587) a + S1x1x128.size a ≤ S10000x1x128.size a)
theorem k0_off124_inb : ∀ (v1587 : BitVec 32) (k0_hw124 : k0_chk124 v1587), ∀ a, (k0_off124 v1587) a + S1x1x128.size a ≤ S10000x1x128.size a := fun v1587 k0_hw124 => k0_hw124

def k0_off125 (v1612 : BitVec 32) : Fin 3 → Nat :=
  let v1614 : Index := Scalar.indexCast v1612
  let c0_1181 : Index := 0#32
  let c0_1182 : Index := 0#32
  ![v1614.toNat, 0, 0]

def k0_chk125 (v1612 : BitVec 32) : Prop :=
  (∀ a, (k0_off125 v1612) a + S1x1x128.size a ≤ S10000x1x128.size a)
theorem k0_off125_inb : ∀ (v1612 : BitVec 32) (k0_hw125 : k0_chk125 v1612), ∀ a, (k0_off125 v1612) a + S1x1x128.size a ≤ S10000x1x128.size a := fun v1612 k0_hw125 => k0_hw125

def k0_off126 (v1613 : BitVec 32) : Fin 3 → Nat :=
  let v1626 : Index := Scalar.indexCast v1613
  let c0_1189 : Index := 0#32
  let c0_1190 : Index := 0#32
  ![v1626.toNat, 0, 0]

def k0_chk126 (v1613 : BitVec 32) : Prop :=
  (∀ a, (k0_off126 v1613) a + S1x1x128.size a ≤ S10000x1x128.size a)
theorem k0_off126_inb : ∀ (v1613 : BitVec 32) (k0_hw126 : k0_chk126 v1613), ∀ a, (k0_off126 v1613) a + S1x1x128.size a ≤ S10000x1x128.size a := fun v1613 k0_hw126 => k0_hw126

def k0_off127 (v1638 : BitVec 32) : Fin 3 → Nat :=
  let v1640 : Index := Scalar.indexCast v1638
  let c0_1200 : Index := 0#32
  let c0_1201 : Index := 0#32
  ![v1640.toNat, 0, 0]

def k0_chk127 (v1638 : BitVec 32) : Prop :=
  (∀ a, (k0_off127 v1638) a + S1x1x128.size a ≤ S10000x1x128.size a)
theorem k0_off127_inb : ∀ (v1638 : BitVec 32) (k0_hw127 : k0_chk127 v1638), ∀ a, (k0_off127 v1638) a + S1x1x128.size a ≤ S10000x1x128.size a := fun v1638 k0_hw127 => k0_hw127

def k0_off128 (v1639 : BitVec 32) : Fin 3 → Nat :=
  let v1652 : Index := Scalar.indexCast v1639
  let c0_1208 : Index := 0#32
  let c0_1209 : Index := 0#32
  ![v1652.toNat, 0, 0]

def k0_chk128 (v1639 : BitVec 32) : Prop :=
  (∀ a, (k0_off128 v1639) a + S1x1x128.size a ≤ S10000x1x128.size a)
theorem k0_off128_inb : ∀ (v1639 : BitVec 32) (k0_hw128 : k0_chk128 v1639), ∀ a, (k0_off128 v1639) a + S1x1x128.size a ≤ S10000x1x128.size a := fun v1639 k0_hw128 => k0_hw128

def k0_off129 (v1664 : BitVec 32) : Fin 3 → Nat :=
  let v1666 : Index := Scalar.indexCast v1664
  let c0_1219 : Index := 0#32
  let c0_1220 : Index := 0#32
  ![v1666.toNat, 0, 0]

def k0_chk129 (v1664 : BitVec 32) : Prop :=
  (∀ a, (k0_off129 v1664) a + S1x1x128.size a ≤ S10000x1x128.size a)
theorem k0_off129_inb : ∀ (v1664 : BitVec 32) (k0_hw129 : k0_chk129 v1664), ∀ a, (k0_off129 v1664) a + S1x1x128.size a ≤ S10000x1x128.size a := fun v1664 k0_hw129 => k0_hw129

def k0_off130 (v1665 : BitVec 32) : Fin 3 → Nat :=
  let v1678 : Index := Scalar.indexCast v1665
  let c0_1227 : Index := 0#32
  let c0_1228 : Index := 0#32
  ![v1678.toNat, 0, 0]

def k0_chk130 (v1665 : BitVec 32) : Prop :=
  (∀ a, (k0_off130 v1665) a + S1x1x128.size a ≤ S10000x1x128.size a)
theorem k0_off130_inb : ∀ (v1665 : BitVec 32) (k0_hw130 : k0_chk130 v1665), ∀ a, (k0_off130 v1665) a + S1x1x128.size a ≤ S10000x1x128.size a := fun v1665 k0_hw130 => k0_hw130

def k0_off131 (v1690 : BitVec 32) : Fin 3 → Nat :=
  let v1692 : Index := Scalar.indexCast v1690
  let c0_1238 : Index := 0#32
  let c0_1239 : Index := 0#32
  ![v1692.toNat, 0, 0]

def k0_chk131 (v1690 : BitVec 32) : Prop :=
  (∀ a, (k0_off131 v1690) a + S1x1x128.size a ≤ S10000x1x128.size a)
theorem k0_off131_inb : ∀ (v1690 : BitVec 32) (k0_hw131 : k0_chk131 v1690), ∀ a, (k0_off131 v1690) a + S1x1x128.size a ≤ S10000x1x128.size a := fun v1690 k0_hw131 => k0_hw131

def k0_off132 (v1691 : BitVec 32) : Fin 3 → Nat :=
  let v1704 : Index := Scalar.indexCast v1691
  let c0_1246 : Index := 0#32
  let c0_1247 : Index := 0#32
  ![v1704.toNat, 0, 0]

def k0_chk132 (v1691 : BitVec 32) : Prop :=
  (∀ a, (k0_off132 v1691) a + S1x1x128.size a ≤ S10000x1x128.size a)
theorem k0_off132_inb : ∀ (v1691 : BitVec 32) (k0_hw132 : k0_chk132 v1691), ∀ a, (k0_off132 v1691) a + S1x1x128.size a ≤ S10000x1x128.size a := fun v1691 k0_hw132 => k0_hw132

def k0_off133 (v1716 : BitVec 32) : Fin 3 → Nat :=
  let v1718 : Index := Scalar.indexCast v1716
  let c0_1257 : Index := 0#32
  let c0_1258 : Index := 0#32
  ![v1718.toNat, 0, 0]

def k0_chk133 (v1716 : BitVec 32) : Prop :=
  (∀ a, (k0_off133 v1716) a + S1x1x128.size a ≤ S10000x1x128.size a)
theorem k0_off133_inb : ∀ (v1716 : BitVec 32) (k0_hw133 : k0_chk133 v1716), ∀ a, (k0_off133 v1716) a + S1x1x128.size a ≤ S10000x1x128.size a := fun v1716 k0_hw133 => k0_hw133

def k0_off134 (v1717 : BitVec 32) : Fin 3 → Nat :=
  let v1730 : Index := Scalar.indexCast v1717
  let c0_1265 : Index := 0#32
  let c0_1266 : Index := 0#32
  ![v1730.toNat, 0, 0]

def k0_chk134 (v1717 : BitVec 32) : Prop :=
  (∀ a, (k0_off134 v1717) a + S1x1x128.size a ≤ S10000x1x128.size a)
theorem k0_off134_inb : ∀ (v1717 : BitVec 32) (k0_hw134 : k0_chk134 v1717), ∀ a, (k0_off134 v1717) a + S1x1x128.size a ≤ S10000x1x128.size a := fun v1717 k0_hw134 => k0_hw134

def k0_off135 (v1742 : BitVec 32) : Fin 3 → Nat :=
  let v1744 : Index := Scalar.indexCast v1742
  let c0_1276 : Index := 0#32
  let c0_1277 : Index := 0#32
  ![v1744.toNat, 0, 0]

def k0_chk135 (v1742 : BitVec 32) : Prop :=
  (∀ a, (k0_off135 v1742) a + S1x1x128.size a ≤ S10000x1x128.size a)
theorem k0_off135_inb : ∀ (v1742 : BitVec 32) (k0_hw135 : k0_chk135 v1742), ∀ a, (k0_off135 v1742) a + S1x1x128.size a ≤ S10000x1x128.size a := fun v1742 k0_hw135 => k0_hw135

def k0_off136 (v1743 : BitVec 32) : Fin 3 → Nat :=
  let v1756 : Index := Scalar.indexCast v1743
  let c0_1284 : Index := 0#32
  let c0_1285 : Index := 0#32
  ![v1756.toNat, 0, 0]

def k0_chk136 (v1743 : BitVec 32) : Prop :=
  (∀ a, (k0_off136 v1743) a + S1x1x128.size a ≤ S10000x1x128.size a)
theorem k0_off136_inb : ∀ (v1743 : BitVec 32) (k0_hw136 : k0_chk136 v1743), ∀ a, (k0_off136 v1743) a + S1x1x128.size a ≤ S10000x1x128.size a := fun v1743 k0_hw136 => k0_hw136

def k0_off137 (v1768 : BitVec 32) : Fin 3 → Nat :=
  let v1770 : Index := Scalar.indexCast v1768
  let c0_1295 : Index := 0#32
  let c0_1296 : Index := 0#32
  ![v1770.toNat, 0, 0]

def k0_chk137 (v1768 : BitVec 32) : Prop :=
  (∀ a, (k0_off137 v1768) a + S1x1x128.size a ≤ S10000x1x128.size a)
theorem k0_off137_inb : ∀ (v1768 : BitVec 32) (k0_hw137 : k0_chk137 v1768), ∀ a, (k0_off137 v1768) a + S1x1x128.size a ≤ S10000x1x128.size a := fun v1768 k0_hw137 => k0_hw137

def k0_off138 (v1769 : BitVec 32) : Fin 3 → Nat :=
  let v1782 : Index := Scalar.indexCast v1769
  let c0_1303 : Index := 0#32
  let c0_1304 : Index := 0#32
  ![v1782.toNat, 0, 0]

def k0_chk138 (v1769 : BitVec 32) : Prop :=
  (∀ a, (k0_off138 v1769) a + S1x1x128.size a ≤ S10000x1x128.size a)
theorem k0_off138_inb : ∀ (v1769 : BitVec 32) (k0_hw138 : k0_chk138 v1769), ∀ a, (k0_off138 v1769) a + S1x1x128.size a ≤ S10000x1x128.size a := fun v1769 k0_hw138 => k0_hw138

def k0_off139 (v1794 : BitVec 32) : Fin 3 → Nat :=
  let v1796 : Index := Scalar.indexCast v1794
  let c0_1314 : Index := 0#32
  let c0_1315 : Index := 0#32
  ![v1796.toNat, 0, 0]

def k0_chk139 (v1794 : BitVec 32) : Prop :=
  (∀ a, (k0_off139 v1794) a + S1x1x128.size a ≤ S10000x1x128.size a)
theorem k0_off139_inb : ∀ (v1794 : BitVec 32) (k0_hw139 : k0_chk139 v1794), ∀ a, (k0_off139 v1794) a + S1x1x128.size a ≤ S10000x1x128.size a := fun v1794 k0_hw139 => k0_hw139

def k0_off140 (v1795 : BitVec 32) : Fin 3 → Nat :=
  let v1808 : Index := Scalar.indexCast v1795
  let c0_1322 : Index := 0#32
  let c0_1323 : Index := 0#32
  ![v1808.toNat, 0, 0]

def k0_chk140 (v1795 : BitVec 32) : Prop :=
  (∀ a, (k0_off140 v1795) a + S1x1x128.size a ≤ S10000x1x128.size a)
theorem k0_off140_inb : ∀ (v1795 : BitVec 32) (k0_hw140 : k0_chk140 v1795), ∀ a, (k0_off140 v1795) a + S1x1x128.size a ≤ S10000x1x128.size a := fun v1795 k0_hw140 => k0_hw140

def k0_off141 (v1820 : BitVec 32) : Fin 3 → Nat :=
  let v1822 : Index := Scalar.indexCast v1820
  let c0_1333 : Index := 0#32
  let c0_1334 : Index := 0#32
  ![v1822.toNat, 0, 0]

def k0_chk141 (v1820 : BitVec 32) : Prop :=
  (∀ a, (k0_off141 v1820) a + S1x1x128.size a ≤ S10000x1x128.size a)
theorem k0_off141_inb : ∀ (v1820 : BitVec 32) (k0_hw141 : k0_chk141 v1820), ∀ a, (k0_off141 v1820) a + S1x1x128.size a ≤ S10000x1x128.size a := fun v1820 k0_hw141 => k0_hw141

def k0_off142 (v1821 : BitVec 32) : Fin 3 → Nat :=
  let v1834 : Index := Scalar.indexCast v1821
  let c0_1341 : Index := 0#32
  let c0_1342 : Index := 0#32
  ![v1834.toNat, 0, 0]

def k0_chk142 (v1821 : BitVec 32) : Prop :=
  (∀ a, (k0_off142 v1821) a + S1x1x128.size a ≤ S10000x1x128.size a)
theorem k0_off142_inb : ∀ (v1821 : BitVec 32) (k0_hw142 : k0_chk142 v1821), ∀ a, (k0_off142 v1821) a + S1x1x128.size a ≤ S10000x1x128.size a := fun v1821 k0_hw142 => k0_hw142

def k0_off143 (v1846 : BitVec 32) : Fin 3 → Nat :=
  let v1848 : Index := Scalar.indexCast v1846
  let c0_1352 : Index := 0#32
  let c0_1353 : Index := 0#32
  ![v1848.toNat, 0, 0]

def k0_chk143 (v1846 : BitVec 32) : Prop :=
  (∀ a, (k0_off143 v1846) a + S1x1x128.size a ≤ S10000x1x128.size a)
theorem k0_off143_inb : ∀ (v1846 : BitVec 32) (k0_hw143 : k0_chk143 v1846), ∀ a, (k0_off143 v1846) a + S1x1x128.size a ≤ S10000x1x128.size a := fun v1846 k0_hw143 => k0_hw143

def k0_off144 (v1847 : BitVec 32) : Fin 3 → Nat :=
  let v1860 : Index := Scalar.indexCast v1847
  let c0_1360 : Index := 0#32
  let c0_1361 : Index := 0#32
  ![v1860.toNat, 0, 0]

def k0_chk144 (v1847 : BitVec 32) : Prop :=
  (∀ a, (k0_off144 v1847) a + S1x1x128.size a ≤ S10000x1x128.size a)
theorem k0_off144_inb : ∀ (v1847 : BitVec 32) (k0_hw144 : k0_chk144 v1847), ∀ a, (k0_off144 v1847) a + S1x1x128.size a ≤ S10000x1x128.size a := fun v1847 k0_hw144 => k0_hw144

def k0_off145 (v1872 : BitVec 32) : Fin 3 → Nat :=
  let v1874 : Index := Scalar.indexCast v1872
  let c0_1371 : Index := 0#32
  let c0_1372 : Index := 0#32
  ![v1874.toNat, 0, 0]

def k0_chk145 (v1872 : BitVec 32) : Prop :=
  (∀ a, (k0_off145 v1872) a + S1x1x128.size a ≤ S10000x1x128.size a)
theorem k0_off145_inb : ∀ (v1872 : BitVec 32) (k0_hw145 : k0_chk145 v1872), ∀ a, (k0_off145 v1872) a + S1x1x128.size a ≤ S10000x1x128.size a := fun v1872 k0_hw145 => k0_hw145

def k0_off146 (v1873 : BitVec 32) : Fin 3 → Nat :=
  let v1886 : Index := Scalar.indexCast v1873
  let c0_1379 : Index := 0#32
  let c0_1380 : Index := 0#32
  ![v1886.toNat, 0, 0]

def k0_chk146 (v1873 : BitVec 32) : Prop :=
  (∀ a, (k0_off146 v1873) a + S1x1x128.size a ≤ S10000x1x128.size a)
theorem k0_off146_inb : ∀ (v1873 : BitVec 32) (k0_hw146 : k0_chk146 v1873), ∀ a, (k0_off146 v1873) a + S1x1x128.size a ≤ S10000x1x128.size a := fun v1873 k0_hw146 => k0_hw146

def k0_off147 (v1898 : BitVec 32) : Fin 3 → Nat :=
  let v1900 : Index := Scalar.indexCast v1898
  let c0_1390 : Index := 0#32
  let c0_1391 : Index := 0#32
  ![v1900.toNat, 0, 0]

def k0_chk147 (v1898 : BitVec 32) : Prop :=
  (∀ a, (k0_off147 v1898) a + S1x1x128.size a ≤ S10000x1x128.size a)
theorem k0_off147_inb : ∀ (v1898 : BitVec 32) (k0_hw147 : k0_chk147 v1898), ∀ a, (k0_off147 v1898) a + S1x1x128.size a ≤ S10000x1x128.size a := fun v1898 k0_hw147 => k0_hw147

def k0_off148 (v1899 : BitVec 32) : Fin 3 → Nat :=
  let v1912 : Index := Scalar.indexCast v1899
  let c0_1398 : Index := 0#32
  let c0_1399 : Index := 0#32
  ![v1912.toNat, 0, 0]

def k0_chk148 (v1899 : BitVec 32) : Prop :=
  (∀ a, (k0_off148 v1899) a + S1x1x128.size a ≤ S10000x1x128.size a)
theorem k0_off148_inb : ∀ (v1899 : BitVec 32) (k0_hw148 : k0_chk148 v1899), ∀ a, (k0_off148 v1899) a + S1x1x128.size a ≤ S10000x1x128.size a := fun v1899 k0_hw148 => k0_hw148

def k0_off149 (v1924 : BitVec 32) : Fin 3 → Nat :=
  let v1926 : Index := Scalar.indexCast v1924
  let c0_1409 : Index := 0#32
  let c0_1410 : Index := 0#32
  ![v1926.toNat, 0, 0]

def k0_chk149 (v1924 : BitVec 32) : Prop :=
  (∀ a, (k0_off149 v1924) a + S1x1x128.size a ≤ S10000x1x128.size a)
theorem k0_off149_inb : ∀ (v1924 : BitVec 32) (k0_hw149 : k0_chk149 v1924), ∀ a, (k0_off149 v1924) a + S1x1x128.size a ≤ S10000x1x128.size a := fun v1924 k0_hw149 => k0_hw149

def k0_off150 (v1925 : BitVec 32) : Fin 3 → Nat :=
  let v1938 : Index := Scalar.indexCast v1925
  let c0_1417 : Index := 0#32
  let c0_1418 : Index := 0#32
  ![v1938.toNat, 0, 0]

def k0_chk150 (v1925 : BitVec 32) : Prop :=
  (∀ a, (k0_off150 v1925) a + S1x1x128.size a ≤ S10000x1x128.size a)
theorem k0_off150_inb : ∀ (v1925 : BitVec 32) (k0_hw150 : k0_chk150 v1925), ∀ a, (k0_off150 v1925) a + S1x1x128.size a ≤ S10000x1x128.size a := fun v1925 k0_hw150 => k0_hw150

def k0_off151 (v1950 : BitVec 32) : Fin 3 → Nat :=
  let v1952 : Index := Scalar.indexCast v1950
  let c0_1428 : Index := 0#32
  let c0_1429 : Index := 0#32
  ![v1952.toNat, 0, 0]

def k0_chk151 (v1950 : BitVec 32) : Prop :=
  (∀ a, (k0_off151 v1950) a + S1x1x128.size a ≤ S10000x1x128.size a)
theorem k0_off151_inb : ∀ (v1950 : BitVec 32) (k0_hw151 : k0_chk151 v1950), ∀ a, (k0_off151 v1950) a + S1x1x128.size a ≤ S10000x1x128.size a := fun v1950 k0_hw151 => k0_hw151

def k0_off152 (v1951 : BitVec 32) : Fin 3 → Nat :=
  let v1964 : Index := Scalar.indexCast v1951
  let c0_1436 : Index := 0#32
  let c0_1437 : Index := 0#32
  ![v1964.toNat, 0, 0]

def k0_chk152 (v1951 : BitVec 32) : Prop :=
  (∀ a, (k0_off152 v1951) a + S1x1x128.size a ≤ S10000x1x128.size a)
theorem k0_off152_inb : ∀ (v1951 : BitVec 32) (k0_hw152 : k0_chk152 v1951), ∀ a, (k0_off152 v1951) a + S1x1x128.size a ≤ S10000x1x128.size a := fun v1951 k0_hw152 => k0_hw152

def k0_off153 (v1976 : BitVec 32) : Fin 3 → Nat :=
  let v1978 : Index := Scalar.indexCast v1976
  let c0_1447 : Index := 0#32
  let c0_1448 : Index := 0#32
  ![v1978.toNat, 0, 0]

def k0_chk153 (v1976 : BitVec 32) : Prop :=
  (∀ a, (k0_off153 v1976) a + S1x1x128.size a ≤ S10000x1x128.size a)
theorem k0_off153_inb : ∀ (v1976 : BitVec 32) (k0_hw153 : k0_chk153 v1976), ∀ a, (k0_off153 v1976) a + S1x1x128.size a ≤ S10000x1x128.size a := fun v1976 k0_hw153 => k0_hw153

def k0_off154 (v1977 : BitVec 32) : Fin 3 → Nat :=
  let v1990 : Index := Scalar.indexCast v1977
  let c0_1455 : Index := 0#32
  let c0_1456 : Index := 0#32
  ![v1990.toNat, 0, 0]

def k0_chk154 (v1977 : BitVec 32) : Prop :=
  (∀ a, (k0_off154 v1977) a + S1x1x128.size a ≤ S10000x1x128.size a)
theorem k0_off154_inb : ∀ (v1977 : BitVec 32) (k0_hw154 : k0_chk154 v1977), ∀ a, (k0_off154 v1977) a + S1x1x128.size a ≤ S10000x1x128.size a := fun v1977 k0_hw154 => k0_hw154

def k0_off155 (v2002 : BitVec 32) : Fin 3 → Nat :=
  let v2004 : Index := Scalar.indexCast v2002
  let c0_1466 : Index := 0#32
  let c0_1467 : Index := 0#32
  ![v2004.toNat, 0, 0]

def k0_chk155 (v2002 : BitVec 32) : Prop :=
  (∀ a, (k0_off155 v2002) a + S1x1x128.size a ≤ S10000x1x128.size a)
theorem k0_off155_inb : ∀ (v2002 : BitVec 32) (k0_hw155 : k0_chk155 v2002), ∀ a, (k0_off155 v2002) a + S1x1x128.size a ≤ S10000x1x128.size a := fun v2002 k0_hw155 => k0_hw155

def k0_off156 (v2003 : BitVec 32) : Fin 3 → Nat :=
  let v2016 : Index := Scalar.indexCast v2003
  let c0_1474 : Index := 0#32
  let c0_1475 : Index := 0#32
  ![v2016.toNat, 0, 0]

def k0_chk156 (v2003 : BitVec 32) : Prop :=
  (∀ a, (k0_off156 v2003) a + S1x1x128.size a ≤ S10000x1x128.size a)
theorem k0_off156_inb : ∀ (v2003 : BitVec 32) (k0_hw156 : k0_chk156 v2003), ∀ a, (k0_off156 v2003) a + S1x1x128.size a ≤ S10000x1x128.size a := fun v2003 k0_hw156 => k0_hw156

def k0_off157 (v2028 : BitVec 32) : Fin 3 → Nat :=
  let v2030 : Index := Scalar.indexCast v2028
  let c0_1485 : Index := 0#32
  let c0_1486 : Index := 0#32
  ![v2030.toNat, 0, 0]

def k0_chk157 (v2028 : BitVec 32) : Prop :=
  (∀ a, (k0_off157 v2028) a + S1x1x128.size a ≤ S10000x1x128.size a)
theorem k0_off157_inb : ∀ (v2028 : BitVec 32) (k0_hw157 : k0_chk157 v2028), ∀ a, (k0_off157 v2028) a + S1x1x128.size a ≤ S10000x1x128.size a := fun v2028 k0_hw157 => k0_hw157

def k0_off158 (v2029 : BitVec 32) : Fin 3 → Nat :=
  let v2042 : Index := Scalar.indexCast v2029
  let c0_1493 : Index := 0#32
  let c0_1494 : Index := 0#32
  ![v2042.toNat, 0, 0]

def k0_chk158 (v2029 : BitVec 32) : Prop :=
  (∀ a, (k0_off158 v2029) a + S1x1x128.size a ≤ S10000x1x128.size a)
theorem k0_off158_inb : ∀ (v2029 : BitVec 32) (k0_hw158 : k0_chk158 v2029), ∀ a, (k0_off158 v2029) a + S1x1x128.size a ≤ S10000x1x128.size a := fun v2029 k0_hw158 => k0_hw158

def k0_off159 (v2054 : BitVec 32) : Fin 3 → Nat :=
  let v2056 : Index := Scalar.indexCast v2054
  let c0_1504 : Index := 0#32
  let c0_1505 : Index := 0#32
  ![v2056.toNat, 0, 0]

def k0_chk159 (v2054 : BitVec 32) : Prop :=
  (∀ a, (k0_off159 v2054) a + S1x1x128.size a ≤ S10000x1x128.size a)
theorem k0_off159_inb : ∀ (v2054 : BitVec 32) (k0_hw159 : k0_chk159 v2054), ∀ a, (k0_off159 v2054) a + S1x1x128.size a ≤ S10000x1x128.size a := fun v2054 k0_hw159 => k0_hw159

def k0_off160 (v2055 : BitVec 32) : Fin 3 → Nat :=
  let v2068 : Index := Scalar.indexCast v2055
  let c0_1512 : Index := 0#32
  let c0_1513 : Index := 0#32
  ![v2068.toNat, 0, 0]

def k0_chk160 (v2055 : BitVec 32) : Prop :=
  (∀ a, (k0_off160 v2055) a + S1x1x128.size a ≤ S10000x1x128.size a)
theorem k0_off160_inb : ∀ (v2055 : BitVec 32) (k0_hw160 : k0_chk160 v2055), ∀ a, (k0_off160 v2055) a + S1x1x128.size a ≤ S10000x1x128.size a := fun v2055 k0_hw160 => k0_hw160

def k0_off161 (v2080 : BitVec 32) : Fin 3 → Nat :=
  let v2082 : Index := Scalar.indexCast v2080
  let c0_1523 : Index := 0#32
  let c0_1524 : Index := 0#32
  ![v2082.toNat, 0, 0]

def k0_chk161 (v2080 : BitVec 32) : Prop :=
  (∀ a, (k0_off161 v2080) a + S1x1x128.size a ≤ S10000x1x128.size a)
theorem k0_off161_inb : ∀ (v2080 : BitVec 32) (k0_hw161 : k0_chk161 v2080), ∀ a, (k0_off161 v2080) a + S1x1x128.size a ≤ S10000x1x128.size a := fun v2080 k0_hw161 => k0_hw161

def k0_off162 (v2081 : BitVec 32) : Fin 3 → Nat :=
  let v2094 : Index := Scalar.indexCast v2081
  let c0_1531 : Index := 0#32
  let c0_1532 : Index := 0#32
  ![v2094.toNat, 0, 0]

def k0_chk162 (v2081 : BitVec 32) : Prop :=
  (∀ a, (k0_off162 v2081) a + S1x1x128.size a ≤ S10000x1x128.size a)
theorem k0_off162_inb : ∀ (v2081 : BitVec 32) (k0_hw162 : k0_chk162 v2081), ∀ a, (k0_off162 v2081) a + S1x1x128.size a ≤ S10000x1x128.size a := fun v2081 k0_hw162 => k0_hw162

def k0_off163 (v2106 : BitVec 32) : Fin 3 → Nat :=
  let v2108 : Index := Scalar.indexCast v2106
  let c0_1542 : Index := 0#32
  let c0_1543 : Index := 0#32
  ![v2108.toNat, 0, 0]

def k0_chk163 (v2106 : BitVec 32) : Prop :=
  (∀ a, (k0_off163 v2106) a + S1x1x128.size a ≤ S10000x1x128.size a)
theorem k0_off163_inb : ∀ (v2106 : BitVec 32) (k0_hw163 : k0_chk163 v2106), ∀ a, (k0_off163 v2106) a + S1x1x128.size a ≤ S10000x1x128.size a := fun v2106 k0_hw163 => k0_hw163

def k0_off164 (v2107 : BitVec 32) : Fin 3 → Nat :=
  let v2120 : Index := Scalar.indexCast v2107
  let c0_1550 : Index := 0#32
  let c0_1551 : Index := 0#32
  ![v2120.toNat, 0, 0]

def k0_chk164 (v2107 : BitVec 32) : Prop :=
  (∀ a, (k0_off164 v2107) a + S1x1x128.size a ≤ S10000x1x128.size a)
theorem k0_off164_inb : ∀ (v2107 : BitVec 32) (k0_hw164 : k0_chk164 v2107), ∀ a, (k0_off164 v2107) a + S1x1x128.size a ≤ S10000x1x128.size a := fun v2107 k0_hw164 => k0_hw164

def k0_off165 (v2132 : BitVec 32) : Fin 3 → Nat :=
  let v2134 : Index := Scalar.indexCast v2132
  let c0_1561 : Index := 0#32
  let c0_1562 : Index := 0#32
  ![v2134.toNat, 0, 0]

def k0_chk165 (v2132 : BitVec 32) : Prop :=
  (∀ a, (k0_off165 v2132) a + S1x1x128.size a ≤ S10000x1x128.size a)
theorem k0_off165_inb : ∀ (v2132 : BitVec 32) (k0_hw165 : k0_chk165 v2132), ∀ a, (k0_off165 v2132) a + S1x1x128.size a ≤ S10000x1x128.size a := fun v2132 k0_hw165 => k0_hw165

def k0_off166 (v2133 : BitVec 32) : Fin 3 → Nat :=
  let v2146 : Index := Scalar.indexCast v2133
  let c0_1569 : Index := 0#32
  let c0_1570 : Index := 0#32
  ![v2146.toNat, 0, 0]

def k0_chk166 (v2133 : BitVec 32) : Prop :=
  (∀ a, (k0_off166 v2133) a + S1x1x128.size a ≤ S10000x1x128.size a)
theorem k0_off166_inb : ∀ (v2133 : BitVec 32) (k0_hw166 : k0_chk166 v2133), ∀ a, (k0_off166 v2133) a + S1x1x128.size a ≤ S10000x1x128.size a := fun v2133 k0_hw166 => k0_hw166

def k0_off167 (v2158 : BitVec 32) : Fin 3 → Nat :=
  let v2160 : Index := Scalar.indexCast v2158
  let c0_1580 : Index := 0#32
  let c0_1581 : Index := 0#32
  ![v2160.toNat, 0, 0]

def k0_chk167 (v2158 : BitVec 32) : Prop :=
  (∀ a, (k0_off167 v2158) a + S1x1x128.size a ≤ S10000x1x128.size a)
theorem k0_off167_inb : ∀ (v2158 : BitVec 32) (k0_hw167 : k0_chk167 v2158), ∀ a, (k0_off167 v2158) a + S1x1x128.size a ≤ S10000x1x128.size a := fun v2158 k0_hw167 => k0_hw167

def k0_off168 (v2159 : BitVec 32) : Fin 3 → Nat :=
  let v2172 : Index := Scalar.indexCast v2159
  let c0_1588 : Index := 0#32
  let c0_1589 : Index := 0#32
  ![v2172.toNat, 0, 0]

def k0_chk168 (v2159 : BitVec 32) : Prop :=
  (∀ a, (k0_off168 v2159) a + S1x1x128.size a ≤ S10000x1x128.size a)
theorem k0_off168_inb : ∀ (v2159 : BitVec 32) (k0_hw168 : k0_chk168 v2159), ∀ a, (k0_off168 v2159) a + S1x1x128.size a ≤ S10000x1x128.size a := fun v2159 k0_hw168 => k0_hw168

def k0_off169 (v2184 : BitVec 32) : Fin 3 → Nat :=
  let v2186 : Index := Scalar.indexCast v2184
  let c0_1599 : Index := 0#32
  let c0_1600 : Index := 0#32
  ![v2186.toNat, 0, 0]

def k0_chk169 (v2184 : BitVec 32) : Prop :=
  (∀ a, (k0_off169 v2184) a + S1x1x128.size a ≤ S10000x1x128.size a)
theorem k0_off169_inb : ∀ (v2184 : BitVec 32) (k0_hw169 : k0_chk169 v2184), ∀ a, (k0_off169 v2184) a + S1x1x128.size a ≤ S10000x1x128.size a := fun v2184 k0_hw169 => k0_hw169

def k0_off170 (v2185 : BitVec 32) : Fin 3 → Nat :=
  let v2198 : Index := Scalar.indexCast v2185
  let c0_1607 : Index := 0#32
  let c0_1608 : Index := 0#32
  ![v2198.toNat, 0, 0]

def k0_chk170 (v2185 : BitVec 32) : Prop :=
  (∀ a, (k0_off170 v2185) a + S1x1x128.size a ≤ S10000x1x128.size a)
theorem k0_off170_inb : ∀ (v2185 : BitVec 32) (k0_hw170 : k0_chk170 v2185), ∀ a, (k0_off170 v2185) a + S1x1x128.size a ≤ S10000x1x128.size a := fun v2185 k0_hw170 => k0_hw170

def k0_off171 (v2210 : BitVec 32) : Fin 3 → Nat :=
  let v2212 : Index := Scalar.indexCast v2210
  let c0_1618 : Index := 0#32
  let c0_1619 : Index := 0#32
  ![v2212.toNat, 0, 0]

def k0_chk171 (v2210 : BitVec 32) : Prop :=
  (∀ a, (k0_off171 v2210) a + S1x1x128.size a ≤ S10000x1x128.size a)
theorem k0_off171_inb : ∀ (v2210 : BitVec 32) (k0_hw171 : k0_chk171 v2210), ∀ a, (k0_off171 v2210) a + S1x1x128.size a ≤ S10000x1x128.size a := fun v2210 k0_hw171 => k0_hw171

def k0_off172 (v2211 : BitVec 32) : Fin 3 → Nat :=
  let v2224 : Index := Scalar.indexCast v2211
  let c0_1626 : Index := 0#32
  let c0_1627 : Index := 0#32
  ![v2224.toNat, 0, 0]

def k0_chk172 (v2211 : BitVec 32) : Prop :=
  (∀ a, (k0_off172 v2211) a + S1x1x128.size a ≤ S10000x1x128.size a)
theorem k0_off172_inb : ∀ (v2211 : BitVec 32) (k0_hw172 : k0_chk172 v2211), ∀ a, (k0_off172 v2211) a + S1x1x128.size a ≤ S10000x1x128.size a := fun v2211 k0_hw172 => k0_hw172

def k0_off173 (v2236 : BitVec 32) : Fin 3 → Nat :=
  let v2238 : Index := Scalar.indexCast v2236
  let c0_1637 : Index := 0#32
  let c0_1638 : Index := 0#32
  ![v2238.toNat, 0, 0]

def k0_chk173 (v2236 : BitVec 32) : Prop :=
  (∀ a, (k0_off173 v2236) a + S1x1x128.size a ≤ S10000x1x128.size a)
theorem k0_off173_inb : ∀ (v2236 : BitVec 32) (k0_hw173 : k0_chk173 v2236), ∀ a, (k0_off173 v2236) a + S1x1x128.size a ≤ S10000x1x128.size a := fun v2236 k0_hw173 => k0_hw173

def k0_off174 (v2237 : BitVec 32) : Fin 3 → Nat :=
  let v2250 : Index := Scalar.indexCast v2237
  let c0_1645 : Index := 0#32
  let c0_1646 : Index := 0#32
  ![v2250.toNat, 0, 0]

def k0_chk174 (v2237 : BitVec 32) : Prop :=
  (∀ a, (k0_off174 v2237) a + S1x1x128.size a ≤ S10000x1x128.size a)
theorem k0_off174_inb : ∀ (v2237 : BitVec 32) (k0_hw174 : k0_chk174 v2237), ∀ a, (k0_off174 v2237) a + S1x1x128.size a ≤ S10000x1x128.size a := fun v2237 k0_hw174 => k0_hw174

def k0_off175 (v2262 : BitVec 32) : Fin 3 → Nat :=
  let v2264 : Index := Scalar.indexCast v2262
  let c0_1656 : Index := 0#32
  let c0_1657 : Index := 0#32
  ![v2264.toNat, 0, 0]

def k0_chk175 (v2262 : BitVec 32) : Prop :=
  (∀ a, (k0_off175 v2262) a + S1x1x128.size a ≤ S10000x1x128.size a)
theorem k0_off175_inb : ∀ (v2262 : BitVec 32) (k0_hw175 : k0_chk175 v2262), ∀ a, (k0_off175 v2262) a + S1x1x128.size a ≤ S10000x1x128.size a := fun v2262 k0_hw175 => k0_hw175

def k0_off176 (v2263 : BitVec 32) : Fin 3 → Nat :=
  let v2276 : Index := Scalar.indexCast v2263
  let c0_1664 : Index := 0#32
  let c0_1665 : Index := 0#32
  ![v2276.toNat, 0, 0]

def k0_chk176 (v2263 : BitVec 32) : Prop :=
  (∀ a, (k0_off176 v2263) a + S1x1x128.size a ≤ S10000x1x128.size a)
theorem k0_off176_inb : ∀ (v2263 : BitVec 32) (k0_hw176 : k0_chk176 v2263), ∀ a, (k0_off176 v2263) a + S1x1x128.size a ≤ S10000x1x128.size a := fun v2263 k0_hw176 => k0_hw176

def k0_off177 (v2288 : BitVec 32) : Fin 3 → Nat :=
  let v2290 : Index := Scalar.indexCast v2288
  let c0_1675 : Index := 0#32
  let c0_1676 : Index := 0#32
  ![v2290.toNat, 0, 0]

def k0_chk177 (v2288 : BitVec 32) : Prop :=
  (∀ a, (k0_off177 v2288) a + S1x1x128.size a ≤ S10000x1x128.size a)
theorem k0_off177_inb : ∀ (v2288 : BitVec 32) (k0_hw177 : k0_chk177 v2288), ∀ a, (k0_off177 v2288) a + S1x1x128.size a ≤ S10000x1x128.size a := fun v2288 k0_hw177 => k0_hw177

def k0_off178 (v2289 : BitVec 32) : Fin 3 → Nat :=
  let v2302 : Index := Scalar.indexCast v2289
  let c0_1683 : Index := 0#32
  let c0_1684 : Index := 0#32
  ![v2302.toNat, 0, 0]

def k0_chk178 (v2289 : BitVec 32) : Prop :=
  (∀ a, (k0_off178 v2289) a + S1x1x128.size a ≤ S10000x1x128.size a)
theorem k0_off178_inb : ∀ (v2289 : BitVec 32) (k0_hw178 : k0_chk178 v2289), ∀ a, (k0_off178 v2289) a + S1x1x128.size a ≤ S10000x1x128.size a := fun v2289 k0_hw178 => k0_hw178

def k0_off179 (v2314 : BitVec 32) : Fin 3 → Nat :=
  let v2316 : Index := Scalar.indexCast v2314
  let c0_1694 : Index := 0#32
  let c0_1695 : Index := 0#32
  ![v2316.toNat, 0, 0]

def k0_chk179 (v2314 : BitVec 32) : Prop :=
  (∀ a, (k0_off179 v2314) a + S1x1x128.size a ≤ S10000x1x128.size a)
theorem k0_off179_inb : ∀ (v2314 : BitVec 32) (k0_hw179 : k0_chk179 v2314), ∀ a, (k0_off179 v2314) a + S1x1x128.size a ≤ S10000x1x128.size a := fun v2314 k0_hw179 => k0_hw179

def k0_off180 (v2315 : BitVec 32) : Fin 3 → Nat :=
  let v2328 : Index := Scalar.indexCast v2315
  let c0_1702 : Index := 0#32
  let c0_1703 : Index := 0#32
  ![v2328.toNat, 0, 0]

def k0_chk180 (v2315 : BitVec 32) : Prop :=
  (∀ a, (k0_off180 v2315) a + S1x1x128.size a ≤ S10000x1x128.size a)
theorem k0_off180_inb : ∀ (v2315 : BitVec 32) (k0_hw180 : k0_chk180 v2315), ∀ a, (k0_off180 v2315) a + S1x1x128.size a ≤ S10000x1x128.size a := fun v2315 k0_hw180 => k0_hw180

def k0_off181 (v2340 : BitVec 32) : Fin 3 → Nat :=
  let v2342 : Index := Scalar.indexCast v2340
  let c0_1713 : Index := 0#32
  let c0_1714 : Index := 0#32
  ![v2342.toNat, 0, 0]

def k0_chk181 (v2340 : BitVec 32) : Prop :=
  (∀ a, (k0_off181 v2340) a + S1x1x128.size a ≤ S10000x1x128.size a)
theorem k0_off181_inb : ∀ (v2340 : BitVec 32) (k0_hw181 : k0_chk181 v2340), ∀ a, (k0_off181 v2340) a + S1x1x128.size a ≤ S10000x1x128.size a := fun v2340 k0_hw181 => k0_hw181

def k0_off182 (v2341 : BitVec 32) : Fin 3 → Nat :=
  let v2354 : Index := Scalar.indexCast v2341
  let c0_1721 : Index := 0#32
  let c0_1722 : Index := 0#32
  ![v2354.toNat, 0, 0]

def k0_chk182 (v2341 : BitVec 32) : Prop :=
  (∀ a, (k0_off182 v2341) a + S1x1x128.size a ≤ S10000x1x128.size a)
theorem k0_off182_inb : ∀ (v2341 : BitVec 32) (k0_hw182 : k0_chk182 v2341), ∀ a, (k0_off182 v2341) a + S1x1x128.size a ≤ S10000x1x128.size a := fun v2341 k0_hw182 => k0_hw182

def k0_off183 (v2366 : BitVec 32) : Fin 3 → Nat :=
  let v2368 : Index := Scalar.indexCast v2366
  let c0_1732 : Index := 0#32
  let c0_1733 : Index := 0#32
  ![v2368.toNat, 0, 0]

def k0_chk183 (v2366 : BitVec 32) : Prop :=
  (∀ a, (k0_off183 v2366) a + S1x1x128.size a ≤ S10000x1x128.size a)
theorem k0_off183_inb : ∀ (v2366 : BitVec 32) (k0_hw183 : k0_chk183 v2366), ∀ a, (k0_off183 v2366) a + S1x1x128.size a ≤ S10000x1x128.size a := fun v2366 k0_hw183 => k0_hw183

def k0_off184 (v2367 : BitVec 32) : Fin 3 → Nat :=
  let v2380 : Index := Scalar.indexCast v2367
  let c0_1740 : Index := 0#32
  let c0_1741 : Index := 0#32
  ![v2380.toNat, 0, 0]

def k0_chk184 (v2367 : BitVec 32) : Prop :=
  (∀ a, (k0_off184 v2367) a + S1x1x128.size a ≤ S10000x1x128.size a)
theorem k0_off184_inb : ∀ (v2367 : BitVec 32) (k0_hw184 : k0_chk184 v2367), ∀ a, (k0_off184 v2367) a + S1x1x128.size a ≤ S10000x1x128.size a := fun v2367 k0_hw184 => k0_hw184

def k0_off185 (v2392 : BitVec 32) : Fin 3 → Nat :=
  let v2394 : Index := Scalar.indexCast v2392
  let c0_1751 : Index := 0#32
  let c0_1752 : Index := 0#32
  ![v2394.toNat, 0, 0]

def k0_chk185 (v2392 : BitVec 32) : Prop :=
  (∀ a, (k0_off185 v2392) a + S1x1x128.size a ≤ S10000x1x128.size a)
theorem k0_off185_inb : ∀ (v2392 : BitVec 32) (k0_hw185 : k0_chk185 v2392), ∀ a, (k0_off185 v2392) a + S1x1x128.size a ≤ S10000x1x128.size a := fun v2392 k0_hw185 => k0_hw185

def k0_off186 (v2393 : BitVec 32) : Fin 3 → Nat :=
  let v2406 : Index := Scalar.indexCast v2393
  let c0_1759 : Index := 0#32
  let c0_1760 : Index := 0#32
  ![v2406.toNat, 0, 0]

def k0_chk186 (v2393 : BitVec 32) : Prop :=
  (∀ a, (k0_off186 v2393) a + S1x1x128.size a ≤ S10000x1x128.size a)
theorem k0_off186_inb : ∀ (v2393 : BitVec 32) (k0_hw186 : k0_chk186 v2393), ∀ a, (k0_off186 v2393) a + S1x1x128.size a ≤ S10000x1x128.size a := fun v2393 k0_hw186 => k0_hw186

def k0_off187 (v2418 : BitVec 32) : Fin 3 → Nat :=
  let v2420 : Index := Scalar.indexCast v2418
  let c0_1770 : Index := 0#32
  let c0_1771 : Index := 0#32
  ![v2420.toNat, 0, 0]

def k0_chk187 (v2418 : BitVec 32) : Prop :=
  (∀ a, (k0_off187 v2418) a + S1x1x128.size a ≤ S10000x1x128.size a)
theorem k0_off187_inb : ∀ (v2418 : BitVec 32) (k0_hw187 : k0_chk187 v2418), ∀ a, (k0_off187 v2418) a + S1x1x128.size a ≤ S10000x1x128.size a := fun v2418 k0_hw187 => k0_hw187

def k0_off188 (v2419 : BitVec 32) : Fin 3 → Nat :=
  let v2432 : Index := Scalar.indexCast v2419
  let c0_1778 : Index := 0#32
  let c0_1779 : Index := 0#32
  ![v2432.toNat, 0, 0]

def k0_chk188 (v2419 : BitVec 32) : Prop :=
  (∀ a, (k0_off188 v2419) a + S1x1x128.size a ≤ S10000x1x128.size a)
theorem k0_off188_inb : ∀ (v2419 : BitVec 32) (k0_hw188 : k0_chk188 v2419), ∀ a, (k0_off188 v2419) a + S1x1x128.size a ≤ S10000x1x128.size a := fun v2419 k0_hw188 => k0_hw188

def k0_off189 (v2444 : BitVec 32) : Fin 3 → Nat :=
  let v2446 : Index := Scalar.indexCast v2444
  let c0_1789 : Index := 0#32
  let c0_1790 : Index := 0#32
  ![v2446.toNat, 0, 0]

def k0_chk189 (v2444 : BitVec 32) : Prop :=
  (∀ a, (k0_off189 v2444) a + S1x1x128.size a ≤ S10000x1x128.size a)
theorem k0_off189_inb : ∀ (v2444 : BitVec 32) (k0_hw189 : k0_chk189 v2444), ∀ a, (k0_off189 v2444) a + S1x1x128.size a ≤ S10000x1x128.size a := fun v2444 k0_hw189 => k0_hw189

def k0_off190 (v2445 : BitVec 32) : Fin 3 → Nat :=
  let v2458 : Index := Scalar.indexCast v2445
  let c0_1797 : Index := 0#32
  let c0_1798 : Index := 0#32
  ![v2458.toNat, 0, 0]

def k0_chk190 (v2445 : BitVec 32) : Prop :=
  (∀ a, (k0_off190 v2445) a + S1x1x128.size a ≤ S10000x1x128.size a)
theorem k0_off190_inb : ∀ (v2445 : BitVec 32) (k0_hw190 : k0_chk190 v2445), ∀ a, (k0_off190 v2445) a + S1x1x128.size a ≤ S10000x1x128.size a := fun v2445 k0_hw190 => k0_hw190

def k0_off191 (v2470 : BitVec 32) : Fin 3 → Nat :=
  let v2472 : Index := Scalar.indexCast v2470
  let c0_1808 : Index := 0#32
  let c0_1809 : Index := 0#32
  ![v2472.toNat, 0, 0]

def k0_chk191 (v2470 : BitVec 32) : Prop :=
  (∀ a, (k0_off191 v2470) a + S1x1x128.size a ≤ S10000x1x128.size a)
theorem k0_off191_inb : ∀ (v2470 : BitVec 32) (k0_hw191 : k0_chk191 v2470), ∀ a, (k0_off191 v2470) a + S1x1x128.size a ≤ S10000x1x128.size a := fun v2470 k0_hw191 => k0_hw191

def k0_off192 (v2471 : BitVec 32) : Fin 3 → Nat :=
  let v2484 : Index := Scalar.indexCast v2471
  let c0_1816 : Index := 0#32
  let c0_1817 : Index := 0#32
  ![v2484.toNat, 0, 0]

def k0_chk192 (v2471 : BitVec 32) : Prop :=
  (∀ a, (k0_off192 v2471) a + S1x1x128.size a ≤ S10000x1x128.size a)
theorem k0_off192_inb : ∀ (v2471 : BitVec 32) (k0_hw192 : k0_chk192 v2471), ∀ a, (k0_off192 v2471) a + S1x1x128.size a ≤ S10000x1x128.size a := fun v2471 k0_hw192 => k0_hw192

def k0_off193 (v2496 : BitVec 32) : Fin 3 → Nat :=
  let v2498 : Index := Scalar.indexCast v2496
  let c0_1827 : Index := 0#32
  let c0_1828 : Index := 0#32
  ![v2498.toNat, 0, 0]

def k0_chk193 (v2496 : BitVec 32) : Prop :=
  (∀ a, (k0_off193 v2496) a + S1x1x128.size a ≤ S10000x1x128.size a)
theorem k0_off193_inb : ∀ (v2496 : BitVec 32) (k0_hw193 : k0_chk193 v2496), ∀ a, (k0_off193 v2496) a + S1x1x128.size a ≤ S10000x1x128.size a := fun v2496 k0_hw193 => k0_hw193

def k0_off194 (v2497 : BitVec 32) : Fin 3 → Nat :=
  let v2510 : Index := Scalar.indexCast v2497
  let c0_1835 : Index := 0#32
  let c0_1836 : Index := 0#32
  ![v2510.toNat, 0, 0]

def k0_chk194 (v2497 : BitVec 32) : Prop :=
  (∀ a, (k0_off194 v2497) a + S1x1x128.size a ≤ S10000x1x128.size a)
theorem k0_off194_inb : ∀ (v2497 : BitVec 32) (k0_hw194 : k0_chk194 v2497), ∀ a, (k0_off194 v2497) a + S1x1x128.size a ≤ S10000x1x128.size a := fun v2497 k0_hw194 => k0_hw194

def k0_off195 (v2522 : BitVec 32) : Fin 3 → Nat :=
  let v2524 : Index := Scalar.indexCast v2522
  let c0_1846 : Index := 0#32
  let c0_1847 : Index := 0#32
  ![v2524.toNat, 0, 0]

def k0_chk195 (v2522 : BitVec 32) : Prop :=
  (∀ a, (k0_off195 v2522) a + S1x1x128.size a ≤ S10000x1x128.size a)
theorem k0_off195_inb : ∀ (v2522 : BitVec 32) (k0_hw195 : k0_chk195 v2522), ∀ a, (k0_off195 v2522) a + S1x1x128.size a ≤ S10000x1x128.size a := fun v2522 k0_hw195 => k0_hw195

def k0_off196 (v2523 : BitVec 32) : Fin 3 → Nat :=
  let v2536 : Index := Scalar.indexCast v2523
  let c0_1854 : Index := 0#32
  let c0_1855 : Index := 0#32
  ![v2536.toNat, 0, 0]

def k0_chk196 (v2523 : BitVec 32) : Prop :=
  (∀ a, (k0_off196 v2523) a + S1x1x128.size a ≤ S10000x1x128.size a)
theorem k0_off196_inb : ∀ (v2523 : BitVec 32) (k0_hw196 : k0_chk196 v2523), ∀ a, (k0_off196 v2523) a + S1x1x128.size a ≤ S10000x1x128.size a := fun v2523 k0_hw196 => k0_hw196

def k0_off197 (v2548 : BitVec 32) : Fin 3 → Nat :=
  let v2550 : Index := Scalar.indexCast v2548
  let c0_1865 : Index := 0#32
  let c0_1866 : Index := 0#32
  ![v2550.toNat, 0, 0]

def k0_chk197 (v2548 : BitVec 32) : Prop :=
  (∀ a, (k0_off197 v2548) a + S1x1x128.size a ≤ S10000x1x128.size a)
theorem k0_off197_inb : ∀ (v2548 : BitVec 32) (k0_hw197 : k0_chk197 v2548), ∀ a, (k0_off197 v2548) a + S1x1x128.size a ≤ S10000x1x128.size a := fun v2548 k0_hw197 => k0_hw197

def k0_off198 (v2549 : BitVec 32) : Fin 3 → Nat :=
  let v2562 : Index := Scalar.indexCast v2549
  let c0_1873 : Index := 0#32
  let c0_1874 : Index := 0#32
  ![v2562.toNat, 0, 0]

def k0_chk198 (v2549 : BitVec 32) : Prop :=
  (∀ a, (k0_off198 v2549) a + S1x1x128.size a ≤ S10000x1x128.size a)
theorem k0_off198_inb : ∀ (v2549 : BitVec 32) (k0_hw198 : k0_chk198 v2549), ∀ a, (k0_off198 v2549) a + S1x1x128.size a ≤ S10000x1x128.size a := fun v2549 k0_hw198 => k0_hw198

def k0_off199 (v2574 : BitVec 32) : Fin 3 → Nat :=
  let v2576 : Index := Scalar.indexCast v2574
  let c0_1884 : Index := 0#32
  let c0_1885 : Index := 0#32
  ![v2576.toNat, 0, 0]

def k0_chk199 (v2574 : BitVec 32) : Prop :=
  (∀ a, (k0_off199 v2574) a + S1x1x128.size a ≤ S10000x1x128.size a)
theorem k0_off199_inb : ∀ (v2574 : BitVec 32) (k0_hw199 : k0_chk199 v2574), ∀ a, (k0_off199 v2574) a + S1x1x128.size a ≤ S10000x1x128.size a := fun v2574 k0_hw199 => k0_hw199

def k0_off200 (v2575 : BitVec 32) : Fin 3 → Nat :=
  let v2588 : Index := Scalar.indexCast v2575
  let c0_1892 : Index := 0#32
  let c0_1893 : Index := 0#32
  ![v2588.toNat, 0, 0]

def k0_chk200 (v2575 : BitVec 32) : Prop :=
  (∀ a, (k0_off200 v2575) a + S1x1x128.size a ≤ S10000x1x128.size a)
theorem k0_off200_inb : ∀ (v2575 : BitVec 32) (k0_hw200 : k0_chk200 v2575), ∀ a, (k0_off200 v2575) a + S1x1x128.size a ≤ S10000x1x128.size a := fun v2575 k0_hw200 => k0_hw200

def k0_off201 (v2600 : BitVec 32) : Fin 3 → Nat :=
  let v2602 : Index := Scalar.indexCast v2600
  let c0_1903 : Index := 0#32
  let c0_1904 : Index := 0#32
  ![v2602.toNat, 0, 0]

def k0_chk201 (v2600 : BitVec 32) : Prop :=
  (∀ a, (k0_off201 v2600) a + S1x1x128.size a ≤ S10000x1x128.size a)
theorem k0_off201_inb : ∀ (v2600 : BitVec 32) (k0_hw201 : k0_chk201 v2600), ∀ a, (k0_off201 v2600) a + S1x1x128.size a ≤ S10000x1x128.size a := fun v2600 k0_hw201 => k0_hw201

def k0_off202 (v2601 : BitVec 32) : Fin 3 → Nat :=
  let v2614 : Index := Scalar.indexCast v2601
  let c0_1911 : Index := 0#32
  let c0_1912 : Index := 0#32
  ![v2614.toNat, 0, 0]

def k0_chk202 (v2601 : BitVec 32) : Prop :=
  (∀ a, (k0_off202 v2601) a + S1x1x128.size a ≤ S10000x1x128.size a)
theorem k0_off202_inb : ∀ (v2601 : BitVec 32) (k0_hw202 : k0_chk202 v2601), ∀ a, (k0_off202 v2601) a + S1x1x128.size a ≤ S10000x1x128.size a := fun v2601 k0_hw202 => k0_hw202

def k0_off203 (v2626 : BitVec 32) : Fin 3 → Nat :=
  let v2628 : Index := Scalar.indexCast v2626
  let c0_1922 : Index := 0#32
  let c0_1923 : Index := 0#32
  ![v2628.toNat, 0, 0]

def k0_chk203 (v2626 : BitVec 32) : Prop :=
  (∀ a, (k0_off203 v2626) a + S1x1x128.size a ≤ S10000x1x128.size a)
theorem k0_off203_inb : ∀ (v2626 : BitVec 32) (k0_hw203 : k0_chk203 v2626), ∀ a, (k0_off203 v2626) a + S1x1x128.size a ≤ S10000x1x128.size a := fun v2626 k0_hw203 => k0_hw203

def k0_off204 (v2627 : BitVec 32) : Fin 3 → Nat :=
  let v2640 : Index := Scalar.indexCast v2627
  let c0_1930 : Index := 0#32
  let c0_1931 : Index := 0#32
  ![v2640.toNat, 0, 0]

def k0_chk204 (v2627 : BitVec 32) : Prop :=
  (∀ a, (k0_off204 v2627) a + S1x1x128.size a ≤ S10000x1x128.size a)
theorem k0_off204_inb : ∀ (v2627 : BitVec 32) (k0_hw204 : k0_chk204 v2627), ∀ a, (k0_off204 v2627) a + S1x1x128.size a ≤ S10000x1x128.size a := fun v2627 k0_hw204 => k0_hw204

def k0_off205 (v2652 : BitVec 32) : Fin 3 → Nat :=
  let v2654 : Index := Scalar.indexCast v2652
  let c0_1941 : Index := 0#32
  let c0_1942 : Index := 0#32
  ![v2654.toNat, 0, 0]

def k0_chk205 (v2652 : BitVec 32) : Prop :=
  (∀ a, (k0_off205 v2652) a + S1x1x128.size a ≤ S10000x1x128.size a)
theorem k0_off205_inb : ∀ (v2652 : BitVec 32) (k0_hw205 : k0_chk205 v2652), ∀ a, (k0_off205 v2652) a + S1x1x128.size a ≤ S10000x1x128.size a := fun v2652 k0_hw205 => k0_hw205

def k0_off206 (v2653 : BitVec 32) : Fin 3 → Nat :=
  let v2666 : Index := Scalar.indexCast v2653
  let c0_1949 : Index := 0#32
  let c0_1950 : Index := 0#32
  ![v2666.toNat, 0, 0]

def k0_chk206 (v2653 : BitVec 32) : Prop :=
  (∀ a, (k0_off206 v2653) a + S1x1x128.size a ≤ S10000x1x128.size a)
theorem k0_off206_inb : ∀ (v2653 : BitVec 32) (k0_hw206 : k0_chk206 v2653), ∀ a, (k0_off206 v2653) a + S1x1x128.size a ≤ S10000x1x128.size a := fun v2653 k0_hw206 => k0_hw206

def k0_off207 (v2678 : BitVec 32) : Fin 3 → Nat :=
  let v2680 : Index := Scalar.indexCast v2678
  let c0_1960 : Index := 0#32
  let c0_1961 : Index := 0#32
  ![v2680.toNat, 0, 0]

def k0_chk207 (v2678 : BitVec 32) : Prop :=
  (∀ a, (k0_off207 v2678) a + S1x1x128.size a ≤ S10000x1x128.size a)
theorem k0_off207_inb : ∀ (v2678 : BitVec 32) (k0_hw207 : k0_chk207 v2678), ∀ a, (k0_off207 v2678) a + S1x1x128.size a ≤ S10000x1x128.size a := fun v2678 k0_hw207 => k0_hw207

def k0_off208 (v2679 : BitVec 32) : Fin 3 → Nat :=
  let v2692 : Index := Scalar.indexCast v2679
  let c0_1968 : Index := 0#32
  let c0_1969 : Index := 0#32
  ![v2692.toNat, 0, 0]

def k0_chk208 (v2679 : BitVec 32) : Prop :=
  (∀ a, (k0_off208 v2679) a + S1x1x128.size a ≤ S10000x1x128.size a)
theorem k0_off208_inb : ∀ (v2679 : BitVec 32) (k0_hw208 : k0_chk208 v2679), ∀ a, (k0_off208 v2679) a + S1x1x128.size a ≤ S10000x1x128.size a := fun v2679 k0_hw208 => k0_hw208

def k0_off209 (v2704 : BitVec 32) : Fin 3 → Nat :=
  let v2706 : Index := Scalar.indexCast v2704
  let c0_1979 : Index := 0#32
  let c0_1980 : Index := 0#32
  ![v2706.toNat, 0, 0]

def k0_chk209 (v2704 : BitVec 32) : Prop :=
  (∀ a, (k0_off209 v2704) a + S1x1x128.size a ≤ S10000x1x128.size a)
theorem k0_off209_inb : ∀ (v2704 : BitVec 32) (k0_hw209 : k0_chk209 v2704), ∀ a, (k0_off209 v2704) a + S1x1x128.size a ≤ S10000x1x128.size a := fun v2704 k0_hw209 => k0_hw209

def k0_off210 (v2705 : BitVec 32) : Fin 3 → Nat :=
  let v2718 : Index := Scalar.indexCast v2705
  let c0_1987 : Index := 0#32
  let c0_1988 : Index := 0#32
  ![v2718.toNat, 0, 0]

def k0_chk210 (v2705 : BitVec 32) : Prop :=
  (∀ a, (k0_off210 v2705) a + S1x1x128.size a ≤ S10000x1x128.size a)
theorem k0_off210_inb : ∀ (v2705 : BitVec 32) (k0_hw210 : k0_chk210 v2705), ∀ a, (k0_off210 v2705) a + S1x1x128.size a ≤ S10000x1x128.size a := fun v2705 k0_hw210 => k0_hw210

def k0_off211 (v2730 : BitVec 32) : Fin 3 → Nat :=
  let v2732 : Index := Scalar.indexCast v2730
  let c0_1998 : Index := 0#32
  let c0_1999 : Index := 0#32
  ![v2732.toNat, 0, 0]

def k0_chk211 (v2730 : BitVec 32) : Prop :=
  (∀ a, (k0_off211 v2730) a + S1x1x128.size a ≤ S10000x1x128.size a)
theorem k0_off211_inb : ∀ (v2730 : BitVec 32) (k0_hw211 : k0_chk211 v2730), ∀ a, (k0_off211 v2730) a + S1x1x128.size a ≤ S10000x1x128.size a := fun v2730 k0_hw211 => k0_hw211

def k0_off212 (v2731 : BitVec 32) : Fin 3 → Nat :=
  let v2744 : Index := Scalar.indexCast v2731
  let c0_2006 : Index := 0#32
  let c0_2007 : Index := 0#32
  ![v2744.toNat, 0, 0]

def k0_chk212 (v2731 : BitVec 32) : Prop :=
  (∀ a, (k0_off212 v2731) a + S1x1x128.size a ≤ S10000x1x128.size a)
theorem k0_off212_inb : ∀ (v2731 : BitVec 32) (k0_hw212 : k0_chk212 v2731), ∀ a, (k0_off212 v2731) a + S1x1x128.size a ≤ S10000x1x128.size a := fun v2731 k0_hw212 => k0_hw212

def k0_off213 (v2756 : BitVec 32) : Fin 3 → Nat :=
  let v2758 : Index := Scalar.indexCast v2756
  let c0_2017 : Index := 0#32
  let c0_2018 : Index := 0#32
  ![v2758.toNat, 0, 0]

def k0_chk213 (v2756 : BitVec 32) : Prop :=
  (∀ a, (k0_off213 v2756) a + S1x1x128.size a ≤ S10000x1x128.size a)
theorem k0_off213_inb : ∀ (v2756 : BitVec 32) (k0_hw213 : k0_chk213 v2756), ∀ a, (k0_off213 v2756) a + S1x1x128.size a ≤ S10000x1x128.size a := fun v2756 k0_hw213 => k0_hw213

def k0_off214 (v2757 : BitVec 32) : Fin 3 → Nat :=
  let v2770 : Index := Scalar.indexCast v2757
  let c0_2025 : Index := 0#32
  let c0_2026 : Index := 0#32
  ![v2770.toNat, 0, 0]

def k0_chk214 (v2757 : BitVec 32) : Prop :=
  (∀ a, (k0_off214 v2757) a + S1x1x128.size a ≤ S10000x1x128.size a)
theorem k0_off214_inb : ∀ (v2757 : BitVec 32) (k0_hw214 : k0_chk214 v2757), ∀ a, (k0_off214 v2757) a + S1x1x128.size a ≤ S10000x1x128.size a := fun v2757 k0_hw214 => k0_hw214

def k0_off215 (v2782 : BitVec 32) : Fin 3 → Nat :=
  let v2784 : Index := Scalar.indexCast v2782
  let c0_2036 : Index := 0#32
  let c0_2037 : Index := 0#32
  ![v2784.toNat, 0, 0]

def k0_chk215 (v2782 : BitVec 32) : Prop :=
  (∀ a, (k0_off215 v2782) a + S1x1x128.size a ≤ S10000x1x128.size a)
theorem k0_off215_inb : ∀ (v2782 : BitVec 32) (k0_hw215 : k0_chk215 v2782), ∀ a, (k0_off215 v2782) a + S1x1x128.size a ≤ S10000x1x128.size a := fun v2782 k0_hw215 => k0_hw215

def k0_off216 (v2783 : BitVec 32) : Fin 3 → Nat :=
  let v2796 : Index := Scalar.indexCast v2783
  let c0_2044 : Index := 0#32
  let c0_2045 : Index := 0#32
  ![v2796.toNat, 0, 0]

def k0_chk216 (v2783 : BitVec 32) : Prop :=
  (∀ a, (k0_off216 v2783) a + S1x1x128.size a ≤ S10000x1x128.size a)
theorem k0_off216_inb : ∀ (v2783 : BitVec 32) (k0_hw216 : k0_chk216 v2783), ∀ a, (k0_off216 v2783) a + S1x1x128.size a ≤ S10000x1x128.size a := fun v2783 k0_hw216 => k0_hw216

def k0_off217 (v2808 : BitVec 32) : Fin 3 → Nat :=
  let v2810 : Index := Scalar.indexCast v2808
  let c0_2055 : Index := 0#32
  let c0_2056 : Index := 0#32
  ![v2810.toNat, 0, 0]

def k0_chk217 (v2808 : BitVec 32) : Prop :=
  (∀ a, (k0_off217 v2808) a + S1x1x128.size a ≤ S10000x1x128.size a)
theorem k0_off217_inb : ∀ (v2808 : BitVec 32) (k0_hw217 : k0_chk217 v2808), ∀ a, (k0_off217 v2808) a + S1x1x128.size a ≤ S10000x1x128.size a := fun v2808 k0_hw217 => k0_hw217

def k0_off218 (v2809 : BitVec 32) : Fin 3 → Nat :=
  let v2822 : Index := Scalar.indexCast v2809
  let c0_2063 : Index := 0#32
  let c0_2064 : Index := 0#32
  ![v2822.toNat, 0, 0]

def k0_chk218 (v2809 : BitVec 32) : Prop :=
  (∀ a, (k0_off218 v2809) a + S1x1x128.size a ≤ S10000x1x128.size a)
theorem k0_off218_inb : ∀ (v2809 : BitVec 32) (k0_hw218 : k0_chk218 v2809), ∀ a, (k0_off218 v2809) a + S1x1x128.size a ≤ S10000x1x128.size a := fun v2809 k0_hw218 => k0_hw218

def k0_off219 (v2834 : BitVec 32) : Fin 3 → Nat :=
  let v2836 : Index := Scalar.indexCast v2834
  let c0_2074 : Index := 0#32
  let c0_2075 : Index := 0#32
  ![v2836.toNat, 0, 0]

def k0_chk219 (v2834 : BitVec 32) : Prop :=
  (∀ a, (k0_off219 v2834) a + S1x1x128.size a ≤ S10000x1x128.size a)
theorem k0_off219_inb : ∀ (v2834 : BitVec 32) (k0_hw219 : k0_chk219 v2834), ∀ a, (k0_off219 v2834) a + S1x1x128.size a ≤ S10000x1x128.size a := fun v2834 k0_hw219 => k0_hw219

def k0_off220 (v2835 : BitVec 32) : Fin 3 → Nat :=
  let v2848 : Index := Scalar.indexCast v2835
  let c0_2082 : Index := 0#32
  let c0_2083 : Index := 0#32
  ![v2848.toNat, 0, 0]

def k0_chk220 (v2835 : BitVec 32) : Prop :=
  (∀ a, (k0_off220 v2835) a + S1x1x128.size a ≤ S10000x1x128.size a)
theorem k0_off220_inb : ∀ (v2835 : BitVec 32) (k0_hw220 : k0_chk220 v2835), ∀ a, (k0_off220 v2835) a + S1x1x128.size a ≤ S10000x1x128.size a := fun v2835 k0_hw220 => k0_hw220

def k0_off221 (v2860 : BitVec 32) : Fin 3 → Nat :=
  let v2862 : Index := Scalar.indexCast v2860
  let c0_2093 : Index := 0#32
  let c0_2094 : Index := 0#32
  ![v2862.toNat, 0, 0]

def k0_chk221 (v2860 : BitVec 32) : Prop :=
  (∀ a, (k0_off221 v2860) a + S1x1x128.size a ≤ S10000x1x128.size a)
theorem k0_off221_inb : ∀ (v2860 : BitVec 32) (k0_hw221 : k0_chk221 v2860), ∀ a, (k0_off221 v2860) a + S1x1x128.size a ≤ S10000x1x128.size a := fun v2860 k0_hw221 => k0_hw221

def k0_off222 (v2861 : BitVec 32) : Fin 3 → Nat :=
  let v2874 : Index := Scalar.indexCast v2861
  let c0_2101 : Index := 0#32
  let c0_2102 : Index := 0#32
  ![v2874.toNat, 0, 0]

def k0_chk222 (v2861 : BitVec 32) : Prop :=
  (∀ a, (k0_off222 v2861) a + S1x1x128.size a ≤ S10000x1x128.size a)
theorem k0_off222_inb : ∀ (v2861 : BitVec 32) (k0_hw222 : k0_chk222 v2861), ∀ a, (k0_off222 v2861) a + S1x1x128.size a ≤ S10000x1x128.size a := fun v2861 k0_hw222 => k0_hw222

def k0_off223 (v2886 : BitVec 32) : Fin 3 → Nat :=
  let v2888 : Index := Scalar.indexCast v2886
  let c0_2112 : Index := 0#32
  let c0_2113 : Index := 0#32
  ![v2888.toNat, 0, 0]

def k0_chk223 (v2886 : BitVec 32) : Prop :=
  (∀ a, (k0_off223 v2886) a + S1x1x128.size a ≤ S10000x1x128.size a)
theorem k0_off223_inb : ∀ (v2886 : BitVec 32) (k0_hw223 : k0_chk223 v2886), ∀ a, (k0_off223 v2886) a + S1x1x128.size a ≤ S10000x1x128.size a := fun v2886 k0_hw223 => k0_hw223

def k0_off224 (v2887 : BitVec 32) : Fin 3 → Nat :=
  let v2900 : Index := Scalar.indexCast v2887
  let c0_2120 : Index := 0#32
  let c0_2121 : Index := 0#32
  ![v2900.toNat, 0, 0]

def k0_chk224 (v2887 : BitVec 32) : Prop :=
  (∀ a, (k0_off224 v2887) a + S1x1x128.size a ≤ S10000x1x128.size a)
theorem k0_off224_inb : ∀ (v2887 : BitVec 32) (k0_hw224 : k0_chk224 v2887), ∀ a, (k0_off224 v2887) a + S1x1x128.size a ≤ S10000x1x128.size a := fun v2887 k0_hw224 => k0_hw224

def k0_off225 (v2912 : BitVec 32) : Fin 3 → Nat :=
  let v2914 : Index := Scalar.indexCast v2912
  let c0_2131 : Index := 0#32
  let c0_2132 : Index := 0#32
  ![v2914.toNat, 0, 0]

def k0_chk225 (v2912 : BitVec 32) : Prop :=
  (∀ a, (k0_off225 v2912) a + S1x1x128.size a ≤ S10000x1x128.size a)
theorem k0_off225_inb : ∀ (v2912 : BitVec 32) (k0_hw225 : k0_chk225 v2912), ∀ a, (k0_off225 v2912) a + S1x1x128.size a ≤ S10000x1x128.size a := fun v2912 k0_hw225 => k0_hw225

def k0_off226 (v2913 : BitVec 32) : Fin 3 → Nat :=
  let v2926 : Index := Scalar.indexCast v2913
  let c0_2139 : Index := 0#32
  let c0_2140 : Index := 0#32
  ![v2926.toNat, 0, 0]

def k0_chk226 (v2913 : BitVec 32) : Prop :=
  (∀ a, (k0_off226 v2913) a + S1x1x128.size a ≤ S10000x1x128.size a)
theorem k0_off226_inb : ∀ (v2913 : BitVec 32) (k0_hw226 : k0_chk226 v2913), ∀ a, (k0_off226 v2913) a + S1x1x128.size a ≤ S10000x1x128.size a := fun v2913 k0_hw226 => k0_hw226

def k0_off227 (v2938 : BitVec 32) : Fin 3 → Nat :=
  let v2940 : Index := Scalar.indexCast v2938
  let c0_2150 : Index := 0#32
  let c0_2151 : Index := 0#32
  ![v2940.toNat, 0, 0]

def k0_chk227 (v2938 : BitVec 32) : Prop :=
  (∀ a, (k0_off227 v2938) a + S1x1x128.size a ≤ S10000x1x128.size a)
theorem k0_off227_inb : ∀ (v2938 : BitVec 32) (k0_hw227 : k0_chk227 v2938), ∀ a, (k0_off227 v2938) a + S1x1x128.size a ≤ S10000x1x128.size a := fun v2938 k0_hw227 => k0_hw227

def k0_off228 (v2939 : BitVec 32) : Fin 3 → Nat :=
  let v2952 : Index := Scalar.indexCast v2939
  let c0_2158 : Index := 0#32
  let c0_2159 : Index := 0#32
  ![v2952.toNat, 0, 0]

def k0_chk228 (v2939 : BitVec 32) : Prop :=
  (∀ a, (k0_off228 v2939) a + S1x1x128.size a ≤ S10000x1x128.size a)
theorem k0_off228_inb : ∀ (v2939 : BitVec 32) (k0_hw228 : k0_chk228 v2939), ∀ a, (k0_off228 v2939) a + S1x1x128.size a ≤ S10000x1x128.size a := fun v2939 k0_hw228 => k0_hw228

def k0_off229 (v2964 : BitVec 32) : Fin 3 → Nat :=
  let v2966 : Index := Scalar.indexCast v2964
  let c0_2169 : Index := 0#32
  let c0_2170 : Index := 0#32
  ![v2966.toNat, 0, 0]

def k0_chk229 (v2964 : BitVec 32) : Prop :=
  (∀ a, (k0_off229 v2964) a + S1x1x128.size a ≤ S10000x1x128.size a)
theorem k0_off229_inb : ∀ (v2964 : BitVec 32) (k0_hw229 : k0_chk229 v2964), ∀ a, (k0_off229 v2964) a + S1x1x128.size a ≤ S10000x1x128.size a := fun v2964 k0_hw229 => k0_hw229

def k0_off230 (v2965 : BitVec 32) : Fin 3 → Nat :=
  let v2978 : Index := Scalar.indexCast v2965
  let c0_2177 : Index := 0#32
  let c0_2178 : Index := 0#32
  ![v2978.toNat, 0, 0]

def k0_chk230 (v2965 : BitVec 32) : Prop :=
  (∀ a, (k0_off230 v2965) a + S1x1x128.size a ≤ S10000x1x128.size a)
theorem k0_off230_inb : ∀ (v2965 : BitVec 32) (k0_hw230 : k0_chk230 v2965), ∀ a, (k0_off230 v2965) a + S1x1x128.size a ≤ S10000x1x128.size a := fun v2965 k0_hw230 => k0_hw230

def k0_off231 (v2990 : BitVec 32) : Fin 3 → Nat :=
  let v2992 : Index := Scalar.indexCast v2990
  let c0_2188 : Index := 0#32
  let c0_2189 : Index := 0#32
  ![v2992.toNat, 0, 0]

def k0_chk231 (v2990 : BitVec 32) : Prop :=
  (∀ a, (k0_off231 v2990) a + S1x1x128.size a ≤ S10000x1x128.size a)
theorem k0_off231_inb : ∀ (v2990 : BitVec 32) (k0_hw231 : k0_chk231 v2990), ∀ a, (k0_off231 v2990) a + S1x1x128.size a ≤ S10000x1x128.size a := fun v2990 k0_hw231 => k0_hw231

def k0_off232 (v2991 : BitVec 32) : Fin 3 → Nat :=
  let v3004 : Index := Scalar.indexCast v2991
  let c0_2196 : Index := 0#32
  let c0_2197 : Index := 0#32
  ![v3004.toNat, 0, 0]

def k0_chk232 (v2991 : BitVec 32) : Prop :=
  (∀ a, (k0_off232 v2991) a + S1x1x128.size a ≤ S10000x1x128.size a)
theorem k0_off232_inb : ∀ (v2991 : BitVec 32) (k0_hw232 : k0_chk232 v2991), ∀ a, (k0_off232 v2991) a + S1x1x128.size a ≤ S10000x1x128.size a := fun v2991 k0_hw232 => k0_hw232

def k0_off233 (v3016 : BitVec 32) : Fin 3 → Nat :=
  let v3018 : Index := Scalar.indexCast v3016
  let c0_2207 : Index := 0#32
  let c0_2208 : Index := 0#32
  ![v3018.toNat, 0, 0]

def k0_chk233 (v3016 : BitVec 32) : Prop :=
  (∀ a, (k0_off233 v3016) a + S1x1x128.size a ≤ S10000x1x128.size a)
theorem k0_off233_inb : ∀ (v3016 : BitVec 32) (k0_hw233 : k0_chk233 v3016), ∀ a, (k0_off233 v3016) a + S1x1x128.size a ≤ S10000x1x128.size a := fun v3016 k0_hw233 => k0_hw233

def k0_off234 (v3017 : BitVec 32) : Fin 3 → Nat :=
  let v3030 : Index := Scalar.indexCast v3017
  let c0_2215 : Index := 0#32
  let c0_2216 : Index := 0#32
  ![v3030.toNat, 0, 0]

def k0_chk234 (v3017 : BitVec 32) : Prop :=
  (∀ a, (k0_off234 v3017) a + S1x1x128.size a ≤ S10000x1x128.size a)
theorem k0_off234_inb : ∀ (v3017 : BitVec 32) (k0_hw234 : k0_chk234 v3017), ∀ a, (k0_off234 v3017) a + S1x1x128.size a ≤ S10000x1x128.size a := fun v3017 k0_hw234 => k0_hw234

def k0_off235 (v3042 : BitVec 32) : Fin 3 → Nat :=
  let v3044 : Index := Scalar.indexCast v3042
  let c0_2226 : Index := 0#32
  let c0_2227 : Index := 0#32
  ![v3044.toNat, 0, 0]

def k0_chk235 (v3042 : BitVec 32) : Prop :=
  (∀ a, (k0_off235 v3042) a + S1x1x128.size a ≤ S10000x1x128.size a)
theorem k0_off235_inb : ∀ (v3042 : BitVec 32) (k0_hw235 : k0_chk235 v3042), ∀ a, (k0_off235 v3042) a + S1x1x128.size a ≤ S10000x1x128.size a := fun v3042 k0_hw235 => k0_hw235

def k0_off236 (v3043 : BitVec 32) : Fin 3 → Nat :=
  let v3056 : Index := Scalar.indexCast v3043
  let c0_2234 : Index := 0#32
  let c0_2235 : Index := 0#32
  ![v3056.toNat, 0, 0]

def k0_chk236 (v3043 : BitVec 32) : Prop :=
  (∀ a, (k0_off236 v3043) a + S1x1x128.size a ≤ S10000x1x128.size a)
theorem k0_off236_inb : ∀ (v3043 : BitVec 32) (k0_hw236 : k0_chk236 v3043), ∀ a, (k0_off236 v3043) a + S1x1x128.size a ≤ S10000x1x128.size a := fun v3043 k0_hw236 => k0_hw236

def k0_off237 (v3068 : BitVec 32) : Fin 3 → Nat :=
  let v3070 : Index := Scalar.indexCast v3068
  let c0_2245 : Index := 0#32
  let c0_2246 : Index := 0#32
  ![v3070.toNat, 0, 0]

def k0_chk237 (v3068 : BitVec 32) : Prop :=
  (∀ a, (k0_off237 v3068) a + S1x1x128.size a ≤ S10000x1x128.size a)
theorem k0_off237_inb : ∀ (v3068 : BitVec 32) (k0_hw237 : k0_chk237 v3068), ∀ a, (k0_off237 v3068) a + S1x1x128.size a ≤ S10000x1x128.size a := fun v3068 k0_hw237 => k0_hw237

def k0_off238 (v3069 : BitVec 32) : Fin 3 → Nat :=
  let v3082 : Index := Scalar.indexCast v3069
  let c0_2253 : Index := 0#32
  let c0_2254 : Index := 0#32
  ![v3082.toNat, 0, 0]

def k0_chk238 (v3069 : BitVec 32) : Prop :=
  (∀ a, (k0_off238 v3069) a + S1x1x128.size a ≤ S10000x1x128.size a)
theorem k0_off238_inb : ∀ (v3069 : BitVec 32) (k0_hw238 : k0_chk238 v3069), ∀ a, (k0_off238 v3069) a + S1x1x128.size a ≤ S10000x1x128.size a := fun v3069 k0_hw238 => k0_hw238

def k0_off239 (v3094 : BitVec 32) : Fin 3 → Nat :=
  let v3096 : Index := Scalar.indexCast v3094
  let c0_2264 : Index := 0#32
  let c0_2265 : Index := 0#32
  ![v3096.toNat, 0, 0]

def k0_chk239 (v3094 : BitVec 32) : Prop :=
  (∀ a, (k0_off239 v3094) a + S1x1x128.size a ≤ S10000x1x128.size a)
theorem k0_off239_inb : ∀ (v3094 : BitVec 32) (k0_hw239 : k0_chk239 v3094), ∀ a, (k0_off239 v3094) a + S1x1x128.size a ≤ S10000x1x128.size a := fun v3094 k0_hw239 => k0_hw239

def k0_off240 (v3095 : BitVec 32) : Fin 3 → Nat :=
  let v3108 : Index := Scalar.indexCast v3095
  let c0_2272 : Index := 0#32
  let c0_2273 : Index := 0#32
  ![v3108.toNat, 0, 0]

def k0_chk240 (v3095 : BitVec 32) : Prop :=
  (∀ a, (k0_off240 v3095) a + S1x1x128.size a ≤ S10000x1x128.size a)
theorem k0_off240_inb : ∀ (v3095 : BitVec 32) (k0_hw240 : k0_chk240 v3095), ∀ a, (k0_off240 v3095) a + S1x1x128.size a ≤ S10000x1x128.size a := fun v3095 k0_hw240 => k0_hw240

def k0_off241 (v3120 : BitVec 32) : Fin 3 → Nat :=
  let v3122 : Index := Scalar.indexCast v3120
  let c0_2283 : Index := 0#32
  let c0_2284 : Index := 0#32
  ![v3122.toNat, 0, 0]

def k0_chk241 (v3120 : BitVec 32) : Prop :=
  (∀ a, (k0_off241 v3120) a + S1x1x128.size a ≤ S10000x1x128.size a)
theorem k0_off241_inb : ∀ (v3120 : BitVec 32) (k0_hw241 : k0_chk241 v3120), ∀ a, (k0_off241 v3120) a + S1x1x128.size a ≤ S10000x1x128.size a := fun v3120 k0_hw241 => k0_hw241

def k0_off242 (v3121 : BitVec 32) : Fin 3 → Nat :=
  let v3134 : Index := Scalar.indexCast v3121
  let c0_2291 : Index := 0#32
  let c0_2292 : Index := 0#32
  ![v3134.toNat, 0, 0]

def k0_chk242 (v3121 : BitVec 32) : Prop :=
  (∀ a, (k0_off242 v3121) a + S1x1x128.size a ≤ S10000x1x128.size a)
theorem k0_off242_inb : ∀ (v3121 : BitVec 32) (k0_hw242 : k0_chk242 v3121), ∀ a, (k0_off242 v3121) a + S1x1x128.size a ≤ S10000x1x128.size a := fun v3121 k0_hw242 => k0_hw242

def k0_off243 (v3146 : BitVec 32) : Fin 3 → Nat :=
  let v3148 : Index := Scalar.indexCast v3146
  let c0_2302 : Index := 0#32
  let c0_2303 : Index := 0#32
  ![v3148.toNat, 0, 0]

def k0_chk243 (v3146 : BitVec 32) : Prop :=
  (∀ a, (k0_off243 v3146) a + S1x1x128.size a ≤ S10000x1x128.size a)
theorem k0_off243_inb : ∀ (v3146 : BitVec 32) (k0_hw243 : k0_chk243 v3146), ∀ a, (k0_off243 v3146) a + S1x1x128.size a ≤ S10000x1x128.size a := fun v3146 k0_hw243 => k0_hw243

def k0_off244 (v3147 : BitVec 32) : Fin 3 → Nat :=
  let v3160 : Index := Scalar.indexCast v3147
  let c0_2310 : Index := 0#32
  let c0_2311 : Index := 0#32
  ![v3160.toNat, 0, 0]

def k0_chk244 (v3147 : BitVec 32) : Prop :=
  (∀ a, (k0_off244 v3147) a + S1x1x128.size a ≤ S10000x1x128.size a)
theorem k0_off244_inb : ∀ (v3147 : BitVec 32) (k0_hw244 : k0_chk244 v3147), ∀ a, (k0_off244 v3147) a + S1x1x128.size a ≤ S10000x1x128.size a := fun v3147 k0_hw244 => k0_hw244

def k0_off245 (v3172 : BitVec 32) : Fin 3 → Nat :=
  let v3174 : Index := Scalar.indexCast v3172
  let c0_2321 : Index := 0#32
  let c0_2322 : Index := 0#32
  ![v3174.toNat, 0, 0]

def k0_chk245 (v3172 : BitVec 32) : Prop :=
  (∀ a, (k0_off245 v3172) a + S1x1x128.size a ≤ S10000x1x128.size a)
theorem k0_off245_inb : ∀ (v3172 : BitVec 32) (k0_hw245 : k0_chk245 v3172), ∀ a, (k0_off245 v3172) a + S1x1x128.size a ≤ S10000x1x128.size a := fun v3172 k0_hw245 => k0_hw245

def k0_off246 (v3173 : BitVec 32) : Fin 3 → Nat :=
  let v3186 : Index := Scalar.indexCast v3173
  let c0_2329 : Index := 0#32
  let c0_2330 : Index := 0#32
  ![v3186.toNat, 0, 0]

def k0_chk246 (v3173 : BitVec 32) : Prop :=
  (∀ a, (k0_off246 v3173) a + S1x1x128.size a ≤ S10000x1x128.size a)
theorem k0_off246_inb : ∀ (v3173 : BitVec 32) (k0_hw246 : k0_chk246 v3173), ∀ a, (k0_off246 v3173) a + S1x1x128.size a ≤ S10000x1x128.size a := fun v3173 k0_hw246 => k0_hw246

def k0_off247 (v3198 : BitVec 32) : Fin 3 → Nat :=
  let v3200 : Index := Scalar.indexCast v3198
  let c0_2340 : Index := 0#32
  let c0_2341 : Index := 0#32
  ![v3200.toNat, 0, 0]

def k0_chk247 (v3198 : BitVec 32) : Prop :=
  (∀ a, (k0_off247 v3198) a + S1x1x128.size a ≤ S10000x1x128.size a)
theorem k0_off247_inb : ∀ (v3198 : BitVec 32) (k0_hw247 : k0_chk247 v3198), ∀ a, (k0_off247 v3198) a + S1x1x128.size a ≤ S10000x1x128.size a := fun v3198 k0_hw247 => k0_hw247

def k0_off248 (v3199 : BitVec 32) : Fin 3 → Nat :=
  let v3212 : Index := Scalar.indexCast v3199
  let c0_2348 : Index := 0#32
  let c0_2349 : Index := 0#32
  ![v3212.toNat, 0, 0]

def k0_chk248 (v3199 : BitVec 32) : Prop :=
  (∀ a, (k0_off248 v3199) a + S1x1x128.size a ≤ S10000x1x128.size a)
theorem k0_off248_inb : ∀ (v3199 : BitVec 32) (k0_hw248 : k0_chk248 v3199), ∀ a, (k0_off248 v3199) a + S1x1x128.size a ≤ S10000x1x128.size a := fun v3199 k0_hw248 => k0_hw248

def k0_off249 (v3224 : BitVec 32) : Fin 3 → Nat :=
  let v3226 : Index := Scalar.indexCast v3224
  let c0_2359 : Index := 0#32
  let c0_2360 : Index := 0#32
  ![v3226.toNat, 0, 0]

def k0_chk249 (v3224 : BitVec 32) : Prop :=
  (∀ a, (k0_off249 v3224) a + S1x1x128.size a ≤ S10000x1x128.size a)
theorem k0_off249_inb : ∀ (v3224 : BitVec 32) (k0_hw249 : k0_chk249 v3224), ∀ a, (k0_off249 v3224) a + S1x1x128.size a ≤ S10000x1x128.size a := fun v3224 k0_hw249 => k0_hw249

def k0_off250 (v3225 : BitVec 32) : Fin 3 → Nat :=
  let v3238 : Index := Scalar.indexCast v3225
  let c0_2367 : Index := 0#32
  let c0_2368 : Index := 0#32
  ![v3238.toNat, 0, 0]

def k0_chk250 (v3225 : BitVec 32) : Prop :=
  (∀ a, (k0_off250 v3225) a + S1x1x128.size a ≤ S10000x1x128.size a)
theorem k0_off250_inb : ∀ (v3225 : BitVec 32) (k0_hw250 : k0_chk250 v3225), ∀ a, (k0_off250 v3225) a + S1x1x128.size a ≤ S10000x1x128.size a := fun v3225 k0_hw250 => k0_hw250

def k0_off251 (v3250 : BitVec 32) : Fin 3 → Nat :=
  let v3252 : Index := Scalar.indexCast v3250
  let c0_2378 : Index := 0#32
  let c0_2379 : Index := 0#32
  ![v3252.toNat, 0, 0]

def k0_chk251 (v3250 : BitVec 32) : Prop :=
  (∀ a, (k0_off251 v3250) a + S1x1x128.size a ≤ S10000x1x128.size a)
theorem k0_off251_inb : ∀ (v3250 : BitVec 32) (k0_hw251 : k0_chk251 v3250), ∀ a, (k0_off251 v3250) a + S1x1x128.size a ≤ S10000x1x128.size a := fun v3250 k0_hw251 => k0_hw251

def k0_off252 (v3251 : BitVec 32) : Fin 3 → Nat :=
  let v3264 : Index := Scalar.indexCast v3251
  let c0_2386 : Index := 0#32
  let c0_2387 : Index := 0#32
  ![v3264.toNat, 0, 0]

def k0_chk252 (v3251 : BitVec 32) : Prop :=
  (∀ a, (k0_off252 v3251) a + S1x1x128.size a ≤ S10000x1x128.size a)
theorem k0_off252_inb : ∀ (v3251 : BitVec 32) (k0_hw252 : k0_chk252 v3251), ∀ a, (k0_off252 v3251) a + S1x1x128.size a ≤ S10000x1x128.size a := fun v3251 k0_hw252 => k0_hw252

def k0_off253 (v3276 : BitVec 32) : Fin 3 → Nat :=
  let v3278 : Index := Scalar.indexCast v3276
  let c0_2397 : Index := 0#32
  let c0_2398 : Index := 0#32
  ![v3278.toNat, 0, 0]

def k0_chk253 (v3276 : BitVec 32) : Prop :=
  (∀ a, (k0_off253 v3276) a + S1x1x128.size a ≤ S10000x1x128.size a)
theorem k0_off253_inb : ∀ (v3276 : BitVec 32) (k0_hw253 : k0_chk253 v3276), ∀ a, (k0_off253 v3276) a + S1x1x128.size a ≤ S10000x1x128.size a := fun v3276 k0_hw253 => k0_hw253

def k0_off254 (v3277 : BitVec 32) : Fin 3 → Nat :=
  let v3290 : Index := Scalar.indexCast v3277
  let c0_2405 : Index := 0#32
  let c0_2406 : Index := 0#32
  ![v3290.toNat, 0, 0]

def k0_chk254 (v3277 : BitVec 32) : Prop :=
  (∀ a, (k0_off254 v3277) a + S1x1x128.size a ≤ S10000x1x128.size a)
theorem k0_off254_inb : ∀ (v3277 : BitVec 32) (k0_hw254 : k0_chk254 v3277), ∀ a, (k0_off254 v3277) a + S1x1x128.size a ≤ S10000x1x128.size a := fun v3277 k0_hw254 => k0_hw254

def k0_off255 (v3302 : BitVec 32) : Fin 3 → Nat :=
  let v3304 : Index := Scalar.indexCast v3302
  let c0_2416 : Index := 0#32
  let c0_2417 : Index := 0#32
  ![v3304.toNat, 0, 0]

def k0_chk255 (v3302 : BitVec 32) : Prop :=
  (∀ a, (k0_off255 v3302) a + S1x1x128.size a ≤ S10000x1x128.size a)
theorem k0_off255_inb : ∀ (v3302 : BitVec 32) (k0_hw255 : k0_chk255 v3302), ∀ a, (k0_off255 v3302) a + S1x1x128.size a ≤ S10000x1x128.size a := fun v3302 k0_hw255 => k0_hw255

def k0_off256 (v3303 : BitVec 32) : Fin 3 → Nat :=
  let v3316 : Index := Scalar.indexCast v3303
  let c0_2424 : Index := 0#32
  let c0_2425 : Index := 0#32
  ![v3316.toNat, 0, 0]

def k0_chk256 (v3303 : BitVec 32) : Prop :=
  (∀ a, (k0_off256 v3303) a + S1x1x128.size a ≤ S10000x1x128.size a)
theorem k0_off256_inb : ∀ (v3303 : BitVec 32) (k0_hw256 : k0_chk256 v3303), ∀ a, (k0_off256 v3303) a + S1x1x128.size a ≤ S10000x1x128.size a := fun v3303 k0_hw256 => k0_hw256

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S128x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10000x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10000x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10000x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S16384x3 : Shape := ⟨2, ![16384, 3]⟩
abbrev S10000x128 : Shape := ⟨2, ![10000, 128]⟩
abbrev S128x128 : Shape := ⟨2, ![128, 128]⟩
abbrev S128 : Shape := ⟨1, ![128]⟩
abbrev S64x512 : Shape := ⟨2, ![64, 512]⟩
abbrev S64 : Shape := ⟨1, ![64]⟩
abbrev S6 : Shape := ⟨1, ![6]⟩
abbrev S16384x1 : Shape := ⟨2, ![16384, 1]⟩
abbrev S16384 : Shape := ⟨1, ![16384]⟩
abbrev S_ : Shape := ⟨0, ![]⟩
abbrev S16384x128 : Shape := ⟨2, ![16384, 128]⟩
abbrev S16384x1x128 : Shape := ⟨3, ![16384, 1, 128]⟩
abbrev S16384x4x128 : Shape := ⟨3, ![16384, 4, 128]⟩
abbrev S6x1 : Shape := ⟨2, ![6, 1]⟩
abbrev S16384x6x128 : Shape := ⟨3, ![16384, 6, 128]⟩
abbrev S1x1x128 : Shape := ⟨3, ![1, 1, 128]⟩
abbrev S16384x6 : Shape := ⟨2, ![16384, 6]⟩
abbrev S16384x4 : Shape := ⟨2, ![16384, 4]⟩
abbrev S16384x4x1 : Shape := ⟨3, ![16384, 4, 1]⟩
abbrev S1 : Shape := ⟨1, ![1]⟩
abbrev S1x1x1 : Shape := ⟨3, ![1, 1, 1]⟩
abbrev S16384x512 : Shape := ⟨2, ![16384, 512]⟩
abbrev S512x64 : Shape := ⟨2, ![512, 64]⟩
abbrev S16384x64 : Shape := ⟨2, ![16384, 64]⟩
abbrev S1x64 : Shape := ⟨2, ![1, 64]⟩

abbrev nBuf : Space → Nat
  | .hbm => 139
  | .vmem => 0
  | .smem => 0
  | _ => 0

abbrev hbmTy0_0 (i : Nat) : BufTy := match i % 128 with
  | 0 => ⟨S16384x3, .i32⟩
  | 1 => ⟨S10000x128, .f32⟩
  | 2 => ⟨S10000x128, .f32⟩
  | 3 => ⟨S10000x128, .f32⟩
  | 4 => ⟨S10000x128, .f32⟩
  | 5 => ⟨S128x128, .f32⟩
  | 6 => ⟨S128, .f32⟩
  | 7 => ⟨S128x128, .f32⟩
  | 8 => ⟨S128, .f32⟩
  | 9 => ⟨S64x512, .f32⟩
  | 10 => ⟨S64, .f32⟩
  | 11 => ⟨S6, .i32⟩
  | 12 => ⟨S6, .i32⟩
  | 13 => ⟨S16384x1, .i32⟩
  | 14 => ⟨S16384, .i32⟩
  | 15 => ⟨S16384x1, .i32⟩
  | 16 => ⟨S16384, .i32⟩
  | 17 => ⟨S_, .i32⟩
  | 18 => ⟨S16384, .i32⟩
  | 19 => ⟨S16384, .i1⟩
  | 20 => ⟨S_, .i32⟩
  | 21 => ⟨S16384, .i32⟩
  | 22 => ⟨S16384, .i32⟩
  | 23 => ⟨S16384, .i32⟩
  | 24 => ⟨S16384x1, .i32⟩
  | 25 => ⟨S16384x128, .f32⟩
  | 26 => ⟨S_, .i32⟩
  | 27 => ⟨S16384, .i32⟩
  | 28 => ⟨S16384, .i1⟩
  | 29 => ⟨S_, .i32⟩
  | 30 => ⟨S16384, .i32⟩
  | 31 => ⟨S16384, .i32⟩
  | 32 => ⟨S16384, .i32⟩
  | 33 => ⟨S16384x1, .i32⟩
  | 34 => ⟨S16384x128, .f32⟩
  | 35 => ⟨S_, .i32⟩
  | 36 => ⟨S16384, .i32⟩
  | 37 => ⟨S16384, .i1⟩
  | 38 => ⟨S_, .i32⟩
  | 39 => ⟨S16384, .i32⟩
  | 40 => ⟨S16384, .i32⟩
  | 41 => ⟨S16384, .i32⟩
  | 42 => ⟨S16384x1, .i32⟩
  | 43 => ⟨S16384x128, .f32⟩
  | 44 => ⟨S_, .i32⟩
  | 45 => ⟨S16384, .i32⟩
  | 46 => ⟨S16384, .i1⟩
  | 47 => ⟨S_, .i32⟩
  | 48 => ⟨S16384, .i32⟩
  | 49 => ⟨S16384, .i32⟩
  | 50 => ⟨S16384, .i32⟩
  | 51 => ⟨S16384x1, .i32⟩
  | 52 => ⟨S16384x128, .f32⟩
  | 53 => ⟨S16384x1x128, .f32⟩
  | 54 => ⟨S16384x1x128, .f32⟩
  | 55 => ⟨S16384x1x128, .f32⟩
  | 56 => ⟨S16384x1x128, .f32⟩
  | 57 => ⟨S16384x4x128, .f32⟩
  | 58 => ⟨S_, .i32⟩
  | 59 => ⟨S6, .i32⟩
  | 60 => ⟨S6, .i1⟩
  | 61 => ⟨S_, .i32⟩
  | 62 => ⟨S6, .i32⟩
  | 63 => ⟨S6, .i32⟩
  | 64 => ⟨S6, .i32⟩
  | 65 => ⟨S6x1, .i32⟩
  | 66 => ⟨S16384x6x128, .f32⟩
  | 67 => ⟨S_, .i32⟩
  | 68 => ⟨S6, .i32⟩
  | 69 => ⟨S6, .i1⟩
  | 70 => ⟨S_, .i32⟩
  | 71 => ⟨S6, .i32⟩
  | 72 => ⟨S6, .i32⟩
  | 73 => ⟨S6, .i32⟩
  | 74 => ⟨S6x1, .i32⟩
  | 75 => ⟨S16384x6x128, .f32⟩
  | 76 => ⟨S16384x6x128, .f32⟩
  | 77 => ⟨S128x128, .f32⟩
  | 78 => ⟨S16384x6x128, .f32⟩
  | 79 => ⟨S1x1x128, .f32⟩
  | 80 => ⟨S16384x6x128, .f32⟩
  | 81 => ⟨S16384x6x128, .f32⟩
  | 82 => ⟨S16384x6x128, .f32⟩
  | 83 => ⟨S16384x6x128, .f32⟩
  | 84 => ⟨S_, .f32⟩
  | 85 => ⟨S16384x6x128, .f32⟩
  | 86 => ⟨S16384x6x128, .f32⟩
  | 87 => ⟨S_, .f32⟩
  | 88 => ⟨S16384x6x128, .f32⟩
  | 89 => ⟨S16384x6x128, .f32⟩
  | 90 => ⟨S128x128, .f32⟩
  | 91 => ⟨S16384x6x128, .f32⟩
  | 92 => ⟨S1x1x128, .f32⟩
  | 93 => ⟨S16384x6x128, .f32⟩
  | 94 => ⟨S16384x6x128, .f32⟩
  | 95 => ⟨S16384x6x128, .f32⟩
  | 96 => ⟨S_, .f32⟩
  | 97 => ⟨S16384x6x128, .f32⟩
  | 98 => ⟨S16384x6x128, .f32⟩
  | 99 => ⟨S16384x6x128, .f32⟩
  | 100 => ⟨S16384x6x128, .f32⟩
  | 101 => ⟨S_, .f32⟩
  | 102 => ⟨S16384x6x128, .f32⟩
  | 103 => ⟨S16384x6x128, .f32⟩
  | 104 => ⟨S16384x6x128, .f32⟩
  | 105 => ⟨S_, .f32⟩
  | 106 => ⟨S16384x6, .f32⟩
  | 107 => ⟨S16384x6, .f32⟩
  | 108 => ⟨S16384x4, .f32⟩
  | 109 => ⟨S16384x4, .i32⟩
  | 110 => ⟨S16384x4x1, .i32⟩
  | 111 => ⟨S_, .i32⟩
  | 112 => ⟨S16384x4x1, .i32⟩
  | 113 => ⟨S16384x4x1, .i1⟩
  | 114 => ⟨S_, .i32⟩
  | 115 => ⟨S16384x4x1, .i32⟩
  | 116 => ⟨S16384x4x1, .i32⟩
  | 117 => ⟨S16384x4x1, .i32⟩
  | 118 => ⟨S1, .i32⟩
  | 119 => ⟨S_, .i32⟩
  | 120 => ⟨S16384x4x1, .i32⟩
  | 121 => ⟨S16384x4x1, .i1⟩
  | 122 => ⟨S1x1x1, .i32⟩
  | 123 => ⟨S16384x4x1, .i32⟩
  | 124 => ⟨S16384x4x1, .i1⟩
  | 125 => ⟨S16384x4x1, .i1⟩
  | 126 => ⟨S_, .i1⟩
  | 127 => ⟨S16384x4, .i1⟩
  | _ => ⟨S16384x3, .i32⟩

abbrev hbmTy0_1 (i : Nat) : BufTy := match i % 128 with
  | 0 => ⟨S16384x4x128, .f32⟩
  | 1 => ⟨S16384x4x128, .i1⟩
  | 2 => ⟨S_, .f32⟩
  | 3 => ⟨S16384x4x128, .f32⟩
  | 4 => ⟨S16384x4x128, .f32⟩
  | 5 => ⟨S16384x512, .f32⟩
  | 6 => ⟨S512x64, .f32⟩
  | 7 => ⟨S16384x64, .f32⟩
  | 8 => ⟨S1x64, .f32⟩
  | 9 => ⟨S16384x64, .f32⟩
  | 10 => ⟨S16384x64, .f32⟩
  | _ => ⟨S16384x3, .i32⟩

abbrev hbmTy (i : Nat) : BufTy := match i / 128 with
  | 0 => hbmTy0_0 i
  | 1 => hbmTy0_1 i
  | _ => ⟨S16384x3, .i32⟩

abbrev bufTy : (tb : Table) → Fin (tcTables nBuf tb) → BufTy
  | .hbm, ⟨i, _⟩ => hbmTy i
  | _, _ => ⟨S16384x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c_1 : Ref sig .tc := ⟨.hbm, 17, rfl⟩
abbrev main_v4 : Ref sig .tc := ⟨.hbm, 18, rfl⟩
abbrev main_v5 : Ref sig .tc := ⟨.hbm, 19, rfl⟩
abbrev main_c_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_3 : Ref sig .tc := ⟨.hbm, 26, rfl⟩
abbrev main_v11 : Ref sig .tc := ⟨.hbm, 27, rfl⟩
abbrev main_v12 : Ref sig .tc := ⟨.hbm, 28, rfl⟩
abbrev main_c_4 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_5 : Ref sig .tc := ⟨.hbm, 35, rfl⟩
abbrev main_v18 : Ref sig .tc := ⟨.hbm, 36, rfl⟩
abbrev main_v19 : Ref sig .tc := ⟨.hbm, 37, rfl⟩
abbrev main_c_6 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_7 : Ref sig .tc := ⟨.hbm, 44, rfl⟩
abbrev main_v25 : Ref sig .tc := ⟨.hbm, 45, rfl⟩
abbrev main_v26 : Ref sig .tc := ⟨.hbm, 46, rfl⟩
abbrev main_c_8 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_c_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_11 : Ref sig .tc := ⟨.hbm, 67, rfl⟩
abbrev main_v44 : Ref sig .tc := ⟨.hbm, 68, rfl⟩
abbrev main_v45 : Ref sig .tc := ⟨.hbm, 69, rfl⟩
abbrev main_c_12 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst : Ref sig .tc := ⟨.hbm, 84, rfl⟩
abbrev main_v59 : Ref sig .tc := ⟨.hbm, 85, rfl⟩
abbrev main_v60 : Ref sig .tc := ⟨.hbm, 86, rfl⟩
abbrev main_cst_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_call0_cst : Ref sig .tc := ⟨.hbm, 101, rfl⟩
abbrev main_call0_v0 : Ref sig .tc := ⟨.hbm, 102, rfl⟩
abbrev main_v73 : Ref sig .tc := ⟨.hbm, 103, rfl⟩
abbrev main_call1_v0 : Ref sig .tc := ⟨.hbm, 104, rfl⟩
abbrev main_call1_cst : Ref sig .tc := ⟨.hbm, 105, rfl⟩
abbrev main_call1_v1 : Ref sig .tc := ⟨.hbm, 106, rfl⟩
abbrev main_v74 : Ref sig .tc := ⟨.hbm, 107, rfl⟩
abbrev main_values : Ref sig .tc := ⟨.hbm, 108, rfl⟩
abbrev main_indices : Ref sig .tc := ⟨.hbm, 109, rfl⟩
abbrev main_v75 : Ref sig .tc := ⟨.hbm, 110, rfl⟩
abbrev main_call2_c : Ref sig .tc := ⟨.hbm, 111, rfl⟩
abbrev main_call2_v0 : Ref sig .tc := ⟨.hbm, 112, rfl⟩
abbrev main_call2_v1 : Ref sig .tc := ⟨.hbm, 113, rfl⟩
abbrev main_call2_c_0 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_call2_c_1 : Ref sig .tc := ⟨.hbm, 118, rfl⟩
abbrev main_call2_c_2 : Ref sig .tc := ⟨.hbm, 119, rfl⟩
abbrev main_call2_v5 : Ref sig .tc := ⟨.hbm, 120, rfl⟩
abbrev main_call2_v6 : Ref sig .tc := ⟨.hbm, 121, rfl⟩
abbrev main_call2_v7 : Ref sig .tc := ⟨.hbm, 122, rfl⟩
abbrev main_call2_v8 : Ref sig .tc := ⟨.hbm, 123, rfl⟩
abbrev main_call2_v9 : Ref sig .tc := ⟨.hbm, 124, rfl⟩
abbrev main_call2_v10 : Ref sig .tc := ⟨.hbm, 125, rfl⟩
abbrev main_call2_c_3 : Ref sig .tc := ⟨.hbm, 126, rfl⟩
abbrev main_call2_v11 : Ref sig .tc := ⟨.hbm, 127, rfl⟩
abbrev main_call2_v12 : Ref sig .tc := ⟨.hbm, 128, rfl⟩
abbrev main_call2_v13 : Ref sig .tc := ⟨.hbm, 129, rfl⟩
abbrev main_call2_cst : Ref sig .tc := ⟨.hbm, 130, rfl⟩
abbrev main_call2_v14 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩

abbrev nD : Nat := 1
abbrev τ : Topo := Topo.v7x

variable {F : FTy → Type} [FloatOps F]
-- ==== Kernel2.lean ====
abbrev S10000x32 : Shape := ⟨2, ![10000, 32]⟩
abbrev S10000x128 : Shape := ⟨2, ![10000, 128]⟩
abbrev S1x1x32x7 : Shape := ⟨4, ![1, 1, 32, 7]⟩
abbrev S1 : Shape := ⟨1, ![1]⟩
abbrev S_ : Shape := ⟨0, ![]⟩
abbrev S10000x134 : Shape := ⟨2, ![10000, 134]⟩
abbrev S10000x1x128 : Shape := ⟨3, ![10000, 1, 128]⟩
abbrev S10000x7x128 : Shape := ⟨3, ![10000, 7, 128]⟩
abbrev S32x7 : Shape := ⟨2, ![32, 7]⟩
abbrev S1x224 : Shape := ⟨2, ![1, 224]⟩
abbrev S16x224 : Shape := ⟨2, ![16, 224]⟩
abbrev S1x1 : Shape := ⟨2, ![1, 1]⟩
abbrev S16x32 : Shape := ⟨2, ![16, 32]⟩
abbrev S16x128 : Shape := ⟨2, ![16, 128]⟩
abbrev S224x2048 : Shape := ⟨2, ![224, 2048]⟩
abbrev S1x7x128 : Shape := ⟨3, ![1, 7, 128]⟩
abbrev S7x128 : Shape := ⟨2, ![7, 128]⟩
abbrev S16x2048 : Shape := ⟨2, ![16, 2048]⟩
abbrev S1x128 : Shape := ⟨2, ![1, 128]⟩
abbrev S128 : Shape := ⟨1, ![128]⟩

abbrev nBuf : Space → Nat
  | .hbm => 27
  | .vmem => 5
  | .smem => 3
  | _ => 0

abbrev bufTy : (tb : Table) → Fin (tcTables nBuf tb) → BufTy
  | .hbm, ⟨0, _⟩ => ⟨S10000x32, .i32⟩
  | .hbm, ⟨1, _⟩ => ⟨S10000x128, .f32⟩
  | .hbm, ⟨2, _⟩ => ⟨S1x1x32x7, .f32⟩
  | .hbm, ⟨3, _⟩ => ⟨S1, .f32⟩
  | .hbm, ⟨4, _⟩ => ⟨S_, .i32⟩
  | .hbm, ⟨5, _⟩ => ⟨S_, .f32⟩
  | .hbm, ⟨6, _⟩ => ⟨S10000x134, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S10000x128, .f32⟩
  | .hbm, ⟨13, _⟩ => ⟨S10000x128, .f32⟩
  | .hbm, ⟨14, _⟩ => ⟨S10000x1x128, .f32⟩
  | .hbm, ⟨15, _⟩ => ⟨S10000x1x128, .f32⟩
  | .hbm, ⟨16, _⟩ => ⟨S10000x1x128, .f32⟩
  | .hbm, ⟨17, _⟩ => ⟨S10000x1x128, .f32⟩
  | .hbm, ⟨18, _⟩ => ⟨S10000x1x128, .f32⟩
  | .hbm, ⟨19, _⟩ => ⟨S10000x1x128, .f32⟩
  | .hbm, ⟨20, _⟩ => ⟨S10000x1x128, .f32⟩
  | .hbm, ⟨21, _⟩ => ⟨S10000x7x128, .f32⟩
  | .hbm, ⟨22, _⟩ => ⟨S32x7, .f32⟩
  | .hbm, ⟨23, _⟩ => ⟨S1x224, .f32⟩
  | .hbm, ⟨24, _⟩ => ⟨S16x224, .f32⟩
  | .hbm, ⟨25, _⟩ => ⟨S1x1, .f32⟩
  | .hbm, ⟨26, _⟩ => ⟨S10000x128, .f32⟩
  | .local _ .vmem, ⟨0, _⟩ => ⟨S10000x7x128, .f32⟩
  | .local _ .vmem, ⟨1, _⟩ => ⟨S16x224, .f32⟩
  | .local _ .vmem, ⟨2, _⟩ => ⟨S16x128, .f32⟩
  | .local _ .vmem, ⟨3, _⟩ => ⟨S16x128, .f32⟩
  | .local _ .vmem, ⟨4, _⟩ => ⟨S224x2048, .f32⟩
  | .local _ .smem, ⟨0, _⟩ => ⟨S16x32, .i32⟩
  | .local _ .smem, ⟨1, _⟩ => ⟨S16x32, .i32⟩
  | .local _ .smem, ⟨2, _⟩ => ⟨S1x1, .f32⟩
  | _, _ => ⟨S10000x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg1_0 : Ref sig .tc := ⟨.vmem, 0, rfl⟩
abbrev cc0_stg2_0 : Ref sig .tc := ⟨.vmem, 1, rfl⟩
abbrev cc0_stg4_0 : Ref sig .tc := ⟨.vmem, 2, rfl⟩
abbrev cc0_stg4_1 : Ref sig .tc := ⟨.vmem, 3, rfl⟩
abbrev cc0_scratch0 : Ref sig .tc := ⟨.vmem, 4, rfl⟩
abbrev cc0_stg0_0 : Ref sig .tc := ⟨.smem, 0, rfl⟩
abbrev cc0_stg0_1 : Ref sig .tc := ⟨.smem, 1, rfl⟩
abbrev cc0_stg3_0 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![625], ![false]⟩

def k0_off1 (v0 : BitVec 32) : Fin 3 → Nat :=
  let v1 : Index := Scalar.indexCast v0
  let c0_1 : Index := 0#32
  let c0_2 : Index := 0#32
  ![v1.toNat, 0, 0]

def k0_chk1 (v0 : BitVec 32) : Prop :=
  (∀ a, (k0_off1 v0) a + S1x7x128.size a ≤ S10000x7x128.size a)
theorem k0_off1_inb : ∀ (v0 : BitVec 32) (k0_hw1 : k0_chk1 v0), ∀ a, (k0_off1 v0) a + S1x7x128.size a ≤ S10000x7x128.size a := fun v0 k0_hw1 => k0_hw1

def k0_off2 (v7 : BitVec 32) : Fin 3 → Nat :=
  let v8 : Index := Scalar.indexCast v7
  let c0_6 : Index := 0#32
  let c0_7 : Index := 0#32
  ![v8.toNat, 0, 0]

def k0_chk2 (v7 : BitVec 32) : Prop :=
  (∀ a, (k0_off2 v7) a + S1x7x128.size a ≤ S10000x7x128.size a)
theorem k0_off2_inb : ∀ (v7 : BitVec 32) (k0_hw2 : k0_chk2 v7), ∀ a, (k0_off2 v7) a + S1x7x128.size a ≤ S10000x7x128.size a := fun v7 k0_hw2 => k0_hw2

def k0_off3 (v14 : BitVec 32) : Fin 3 → Nat :=
  let v15 : Index := Scalar.indexCast v14
  let c0_10 : Index := 0#32
  let c0_11 : Index := 0#32
  ![v15.toNat, 0, 0]

def k0_chk3 (v14 : BitVec 32) : Prop :=
  (∀ a, (k0_off3 v14) a + S1x7x128.size a ≤ S10000x7x128.size a)
theorem k0_off3_inb : ∀ (v14 : BitVec 32) (k0_hw3 : k0_chk3 v14), ∀ a, (k0_off3 v14) a + S1x7x128.size a ≤ S10000x7x128.size a := fun v14 k0_hw3 => k0_hw3

def k0_off4 (v21 : BitVec 32) : Fin 3 → Nat :=
  let v22 : Index := Scalar.indexCast v21
  let c0_14 : Index := 0#32
  let c0_15 : Index := 0#32
  ![v22.toNat, 0, 0]

def k0_chk4 (v21 : BitVec 32) : Prop :=
  (∀ a, (k0_off4 v21) a + S1x7x128.size a ≤ S10000x7x128.size a)
theorem k0_off4_inb : ∀ (v21 : BitVec 32) (k0_hw4 : k0_chk4 v21), ∀ a, (k0_off4 v21) a + S1x7x128.size a ≤ S10000x7x128.size a := fun v21 k0_hw4 => k0_hw4

def k0_off5 (v28 : BitVec 32) : Fin 3 → Nat :=
  let v29 : Index := Scalar.indexCast v28
  let c0_18 : Index := 0#32
  let c0_19 : Index := 0#32
  ![v29.toNat, 0, 0]

def k0_chk5 (v28 : BitVec 32) : Prop :=
  (∀ a, (k0_off5 v28) a + S1x7x128.size a ≤ S10000x7x128.size a)
theorem k0_off5_inb : ∀ (v28 : BitVec 32) (k0_hw5 : k0_chk5 v28), ∀ a, (k0_off5 v28) a + S1x7x128.size a ≤ S10000x7x128.size a := fun v28 k0_hw5 => k0_hw5

def k0_off6 (v35 : BitVec 32) : Fin 3 → Nat :=
  let v36 : Index := Scalar.indexCast v35
  let c0_22 : Index := 0#32
  let c0_23 : Index := 0#32
  ![v36.toNat, 0, 0]

def k0_chk6 (v35 : BitVec 32) : Prop :=
  (∀ a, (k0_off6 v35) a + S1x7x128.size a ≤ S10000x7x128.size a)
theorem k0_off6_inb : ∀ (v35 : BitVec 32) (k0_hw6 : k0_chk6 v35), ∀ a, (k0_off6 v35) a + S1x7x128.size a ≤ S10000x7x128.size a := fun v35 k0_hw6 => k0_hw6

def k0_off7 (v42 : BitVec 32) : Fin 3 → Nat :=
  let v43 : Index := Scalar.indexCast v42
  let c0_26 : Index := 0#32
  let c0_27 : Index := 0#32
  ![v43.toNat, 0, 0]

def k0_chk7 (v42 : BitVec 32) : Prop :=
  (∀ a, (k0_off7 v42) a + S1x7x128.size a ≤ S10000x7x128.size a)
theorem k0_off7_inb : ∀ (v42 : BitVec 32) (k0_hw7 : k0_chk7 v42), ∀ a, (k0_off7 v42) a + S1x7x128.size a ≤ S10000x7x128.size a := fun v42 k0_hw7 => k0_hw7

def k0_off8 (v49 : BitVec 32) : Fin 3 → Nat :=
  let v50 : Index := Scalar.indexCast v49
  let c0_31 : Index := 0#32
  let c0_32 : Index := 0#32
  ![v50.toNat, 0, 0]

def k0_chk8 (v49 : BitVec 32) : Prop :=
  (∀ a, (k0_off8 v49) a + S1x7x128.size a ≤ S10000x7x128.size a)
theorem k0_off8_inb : ∀ (v49 : BitVec 32) (k0_hw8 : k0_chk8 v49), ∀ a, (k0_off8 v49) a + S1x7x128.size a ≤ S10000x7x128.size a := fun v49 k0_hw8 => k0_hw8

def k0_off9 (v56 : BitVec 32) : Fin 3 → Nat :=
  let v57 : Index := Scalar.indexCast v56
  let c0_35 : Index := 0#32
  let c0_36 : Index := 0#32
  ![v57.toNat, 0, 0]

def k0_chk9 (v56 : BitVec 32) : Prop :=
  (∀ a, (k0_off9 v56) a + S1x7x128.size a ≤ S10000x7x128.size a)
theorem k0_off9_inb : ∀ (v56 : BitVec 32) (k0_hw9 : k0_chk9 v56), ∀ a, (k0_off9 v56) a + S1x7x128.size a ≤ S10000x7x128.size a := fun v56 k0_hw9 => k0_hw9

def k0_off10 (v63 : BitVec 32) : Fin 3 → Nat :=
  let v64 : Index := Scalar.indexCast v63
  let c0_39 : Index := 0#32
  let c0_40 : Index := 0#32
  ![v64.toNat, 0, 0]

def k0_chk10 (v63 : BitVec 32) : Prop :=
  (∀ a, (k0_off10 v63) a + S1x7x128.size a ≤ S10000x7x128.size a)
theorem k0_off10_inb : ∀ (v63 : BitVec 32) (k0_hw10 : k0_chk10 v63), ∀ a, (k0_off10 v63) a + S1x7x128.size a ≤ S10000x7x128.size a := fun v63 k0_hw10 => k0_hw10

def k0_off11 (v70 : BitVec 32) : Fin 3 → Nat :=
  let v71 : Index := Scalar.indexCast v70
  let c0_43 : Index := 0#32
  let c0_44 : Index := 0#32
  ![v71.toNat, 0, 0]

def k0_chk11 (v70 : BitVec 32) : Prop :=
  (∀ a, (k0_off11 v70) a + S1x7x128.size a ≤ S10000x7x128.size a)
theorem k0_off11_inb : ∀ (v70 : BitVec 32) (k0_hw11 : k0_chk11 v70), ∀ a, (k0_off11 v70) a + S1x7x128.size a ≤ S10000x7x128.size a := fun v70 k0_hw11 => k0_hw11

def k0_off12 (v77 : BitVec 32) : Fin 3 → Nat :=
  let v78 : Index := Scalar.indexCast v77
  let c0_47 : Index := 0#32
  let c0_48 : Index := 0#32
  ![v78.toNat, 0, 0]

def k0_chk12 (v77 : BitVec 32) : Prop :=
  (∀ a, (k0_off12 v77) a + S1x7x128.size a ≤ S10000x7x128.size a)
theorem k0_off12_inb : ∀ (v77 : BitVec 32) (k0_hw12 : k0_chk12 v77), ∀ a, (k0_off12 v77) a + S1x7x128.size a ≤ S10000x7x128.size a := fun v77 k0_hw12 => k0_hw12

def k0_off13 (v84 : BitVec 32) : Fin 3 → Nat :=
  let v85 : Index := Scalar.indexCast v84
  let c0_51 : Index := 0#32
  let c0_52 : Index := 0#32
  ![v85.toNat, 0, 0]

def k0_chk13 (v84 : BitVec 32) : Prop :=
  (∀ a, (k0_off13 v84) a + S1x7x128.size a ≤ S10000x7x128.size a)
theorem k0_off13_inb : ∀ (v84 : BitVec 32) (k0_hw13 : k0_chk13 v84), ∀ a, (k0_off13 v84) a + S1x7x128.size a ≤ S10000x7x128.size a := fun v84 k0_hw13 => k0_hw13

def k0_off14 (v91 : BitVec 32) : Fin 3 → Nat :=
  let v92 : Index := Scalar.indexCast v91
  let c0_55 : Index := 0#32
  let c0_56 : Index := 0#32
  ![v92.toNat, 0, 0]

def k0_chk14 (v91 : BitVec 32) : Prop :=
  (∀ a, (k0_off14 v91) a + S1x7x128.size a ≤ S10000x7x128.size a)
theorem k0_off14_inb : ∀ (v91 : BitVec 32) (k0_hw14 : k0_chk14 v91), ∀ a, (k0_off14 v91) a + S1x7x128.size a ≤ S10000x7x128.size a := fun v91 k0_hw14 => k0_hw14

def k0_off15 (v98 : BitVec 32) : Fin 3 → Nat :=
  let v99 : Index := Scalar.indexCast v98
  let c0_60 : Index := 0#32
  let c0_61 : Index := 0#32
  ![v99.toNat, 0, 0]

def k0_chk15 (v98 : BitVec 32) : Prop :=
  (∀ a, (k0_off15 v98) a + S1x7x128.size a ≤ S10000x7x128.size a)
theorem k0_off15_inb : ∀ (v98 : BitVec 32) (k0_hw15 : k0_chk15 v98), ∀ a, (k0_off15 v98) a + S1x7x128.size a ≤ S10000x7x128.size a := fun v98 k0_hw15 => k0_hw15

def k0_off16 (v105 : BitVec 32) : Fin 3 → Nat :=
  let v106 : Index := Scalar.indexCast v105
  let c0_64 : Index := 0#32
  let c0_65 : Index := 0#32
  ![v106.toNat, 0, 0]

def k0_chk16 (v105 : BitVec 32) : Prop :=
  (∀ a, (k0_off16 v105) a + S1x7x128.size a ≤ S10000x7x128.size a)
theorem k0_off16_inb : ∀ (v105 : BitVec 32) (k0_hw16 : k0_chk16 v105), ∀ a, (k0_off16 v105) a + S1x7x128.size a ≤ S10000x7x128.size a := fun v105 k0_hw16 => k0_hw16

def k0_off17 (v112 : BitVec 32) : Fin 3 → Nat :=
  let v113 : Index := Scalar.indexCast v112
  let c0_68 : Index := 0#32
  let c0_69 : Index := 0#32
  ![v113.toNat, 0, 0]

def k0_chk17 (v112 : BitVec 32) : Prop :=
  (∀ a, (k0_off17 v112) a + S1x7x128.size a ≤ S10000x7x128.size a)
theorem k0_off17_inb : ∀ (v112 : BitVec 32) (k0_hw17 : k0_chk17 v112), ∀ a, (k0_off17 v112) a + S1x7x128.size a ≤ S10000x7x128.size a := fun v112 k0_hw17 => k0_hw17

def k0_off18 (v119 : BitVec 32) : Fin 3 → Nat :=
  let v120 : Index := Scalar.indexCast v119
  let c0_72 : Index := 0#32
  let c0_73 : Index := 0#32
  ![v120.toNat, 0, 0]

def k0_chk18 (v119 : BitVec 32) : Prop :=
  (∀ a, (k0_off18 v119) a + S1x7x128.size a ≤ S10000x7x128.size a)
theorem k0_off18_inb : ∀ (v119 : BitVec 32) (k0_hw18 : k0_chk18 v119), ∀ a, (k0_off18 v119) a + S1x7x128.size a ≤ S10000x7x128.size a := fun v119 k0_hw18 => k0_hw18

def k0_off19 (v126 : BitVec 32) : Fin 3 → Nat :=
  let v127 : Index := Scalar.indexCast v126
  let c0_76 : Index := 0#32
  let c0_77 : Index := 0#32
  ![v127.toNat, 0, 0]

def k0_chk19 (v126 : BitVec 32) : Prop :=
  (∀ a, (k0_off19 v126) a + S1x7x128.size a ≤ S10000x7x128.size a)
theorem k0_off19_inb : ∀ (v126 : BitVec 32) (k0_hw19 : k0_chk19 v126), ∀ a, (k0_off19 v126) a + S1x7x128.size a ≤ S10000x7x128.size a := fun v126 k0_hw19 => k0_hw19

def k0_off20 (v133 : BitVec 32) : Fin 3 → Nat :=
  let v134 : Index := Scalar.indexCast v133
  let c0_80 : Index := 0#32
  let c0_81 : Index := 0#32
  ![v134.toNat, 0, 0]

def k0_chk20 (v133 : BitVec 32) : Prop :=
  (∀ a, (k0_off20 v133) a + S1x7x128.size a ≤ S10000x7x128.size a)
theorem k0_off20_inb : ∀ (v133 : BitVec 32) (k0_hw20 : k0_chk20 v133), ∀ a, (k0_off20 v133) a + S1x7x128.size a ≤ S10000x7x128.size a := fun v133 k0_hw20 => k0_hw20

def k0_off21 (v140 : BitVec 32) : Fin 3 → Nat :=
  let v141 : Index := Scalar.indexCast v140
  let c0_84 : Index := 0#32
  let c0_85 : Index := 0#32
  ![v141.toNat, 0, 0]

def k0_chk21 (v140 : BitVec 32) : Prop :=
  (∀ a, (k0_off21 v140) a + S1x7x128.size a ≤ S10000x7x128.size a)
theorem k0_off21_inb : ∀ (v140 : BitVec 32) (k0_hw21 : k0_chk21 v140), ∀ a, (k0_off21 v140) a + S1x7x128.size a ≤ S10000x7x128.size a := fun v140 k0_hw21 => k0_hw21

def k0_off22 (v147 : BitVec 32) : Fin 3 → Nat :=
  let v148 : Index := Scalar.indexCast v147
  let c0_89 : Index := 0#32
  let c0_90 : Index := 0#32
  ![v148.toNat, 0, 0]

def k0_chk22 (v147 : BitVec 32) : Prop :=
  (∀ a, (k0_off22 v147) a + S1x7x128.size a ≤ S10000x7x128.size a)
theorem k0_off22_inb : ∀ (v147 : BitVec 32) (k0_hw22 : k0_chk22 v147), ∀ a, (k0_off22 v147) a + S1x7x128.size a ≤ S10000x7x128.size a := fun v147 k0_hw22 => k0_hw22

def k0_off23 (v154 : BitVec 32) : Fin 3 → Nat :=
  let v155 : Index := Scalar.indexCast v154
  let c0_93 : Index := 0#32
  let c0_94 : Index := 0#32
  ![v155.toNat, 0, 0]

def k0_chk23 (v154 : BitVec 32) : Prop :=
  (∀ a, (k0_off23 v154) a + S1x7x128.size a ≤ S10000x7x128.size a)
theorem k0_off23_inb : ∀ (v154 : BitVec 32) (k0_hw23 : k0_chk23 v154), ∀ a, (k0_off23 v154) a + S1x7x128.size a ≤ S10000x7x128.size a := fun v154 k0_hw23 => k0_hw23

def k0_off24 (v161 : BitVec 32) : Fin 3 → Nat :=
  let v162 : Index := Scalar.indexCast v161
  let c0_97 : Index := 0#32
  let c0_98 : Index := 0#32
  ![v162.toNat, 0, 0]

def k0_chk24 (v161 : BitVec 32) : Prop :=
  (∀ a, (k0_off24 v161) a + S1x7x128.size a ≤ S10000x7x128.size a)
theorem k0_off24_inb : ∀ (v161 : BitVec 32) (k0_hw24 : k0_chk24 v161), ∀ a, (k0_off24 v161) a + S1x7x128.size a ≤ S10000x7x128.size a := fun v161 k0_hw24 => k0_hw24

def k0_off25 (v168 : BitVec 32) : Fin 3 → Nat :=
  let v169 : Index := Scalar.indexCast v168
  let c0_101 : Index := 0#32
  let c0_102 : Index := 0#32
  ![v169.toNat, 0, 0]

def k0_chk25 (v168 : BitVec 32) : Prop :=
  (∀ a, (k0_off25 v168) a + S1x7x128.size a ≤ S10000x7x128.size a)
theorem k0_off25_inb : ∀ (v168 : BitVec 32) (k0_hw25 : k0_chk25 v168), ∀ a, (k0_off25 v168) a + S1x7x128.size a ≤ S10000x7x128.size a := fun v168 k0_hw25 => k0_hw25

def k0_off26 (v175 : BitVec 32) : Fin 3 → Nat :=
  let v176 : Index := Scalar.indexCast v175
  let c0_105 : Index := 0#32
  let c0_106 : Index := 0#32
  ![v176.toNat, 0, 0]

def k0_chk26 (v175 : BitVec 32) : Prop :=
  (∀ a, (k0_off26 v175) a + S1x7x128.size a ≤ S10000x7x128.size a)
theorem k0_off26_inb : ∀ (v175 : BitVec 32) (k0_hw26 : k0_chk26 v175), ∀ a, (k0_off26 v175) a + S1x7x128.size a ≤ S10000x7x128.size a := fun v175 k0_hw26 => k0_hw26

def k0_off27 (v182 : BitVec 32) : Fin 3 → Nat :=
  let v183 : Index := Scalar.indexCast v182
  let c0_109 : Index := 0#32
  let c0_110 : Index := 0#32
  ![v183.toNat, 0, 0]

def k0_chk27 (v182 : BitVec 32) : Prop :=
  (∀ a, (k0_off27 v182) a + S1x7x128.size a ≤ S10000x7x128.size a)
theorem k0_off27_inb : ∀ (v182 : BitVec 32) (k0_hw27 : k0_chk27 v182), ∀ a, (k0_off27 v182) a + S1x7x128.size a ≤ S10000x7x128.size a := fun v182 k0_hw27 => k0_hw27

def k0_off28 (v189 : BitVec 32) : Fin 3 → Nat :=
  let v190 : Index := Scalar.indexCast v189
  let c0_113 : Index := 0#32
  let c0_114 : Index := 0#32
  ![v190.toNat, 0, 0]

def k0_chk28 (v189 : BitVec 32) : Prop :=
  (∀ a, (k0_off28 v189) a + S1x7x128.size a ≤ S10000x7x128.size a)
theorem k0_off28_inb : ∀ (v189 : BitVec 32) (k0_hw28 : k0_chk28 v189), ∀ a, (k0_off28 v189) a + S1x7x128.size a ≤ S10000x7x128.size a := fun v189 k0_hw28 => k0_hw28

def k0_off29 (v196 : BitVec 32) : Fin 3 → Nat :=
  let v197 : Index := Scalar.indexCast v196
  let c0_118 : Index := 0#32
  let c0_119 : Index := 0#32
  ![v197.toNat, 0, 0]

def k0_chk29 (v196 : BitVec 32) : Prop :=
  (∀ a, (k0_off29 v196) a + S1x7x128.size a ≤ S10000x7x128.size a)
theorem k0_off29_inb : ∀ (v196 : BitVec 32) (k0_hw29 : k0_chk29 v196), ∀ a, (k0_off29 v196) a + S1x7x128.size a ≤ S10000x7x128.size a := fun v196 k0_hw29 => k0_hw29

def k0_off30 (v203 : BitVec 32) : Fin 3 → Nat :=
  let v204 : Index := Scalar.indexCast v203
  let c0_122 : Index := 0#32
  let c0_123 : Index := 0#32
  ![v204.toNat, 0, 0]

def k0_chk30 (v203 : BitVec 32) : Prop :=
  (∀ a, (k0_off30 v203) a + S1x7x128.size a ≤ S10000x7x128.size a)
theorem k0_off30_inb : ∀ (v203 : BitVec 32) (k0_hw30 : k0_chk30 v203), ∀ a, (k0_off30 v203) a + S1x7x128.size a ≤ S10000x7x128.size a := fun v203 k0_hw30 => k0_hw30

def k0_off31 (v210 : BitVec 32) : Fin 3 → Nat :=
  let v211 : Index := Scalar.indexCast v210
  let c0_126 : Index := 0#32
  let c0_127 : Index := 0#32
  ![v211.toNat, 0, 0]

def k0_chk31 (v210 : BitVec 32) : Prop :=
  (∀ a, (k0_off31 v210) a + S1x7x128.size a ≤ S10000x7x128.size a)
theorem k0_off31_inb : ∀ (v210 : BitVec 32) (k0_hw31 : k0_chk31 v210), ∀ a, (k0_off31 v210) a + S1x7x128.size a ≤ S10000x7x128.size a := fun v210 k0_hw31 => k0_hw31

def k0_off32 (v217 : BitVec 32) : Fin 3 → Nat :=
  let v218 : Index := Scalar.indexCast v217
  let c0_130 : Index := 0#32
  let c0_131 : Index := 0#32
  ![v218.toNat, 0, 0]

def k0_chk32 (v217 : BitVec 32) : Prop :=
  (∀ a, (k0_off32 v217) a + S1x7x128.size a ≤ S10000x7x128.size a)
theorem k0_off32_inb : ∀ (v217 : BitVec 32) (k0_hw32 : k0_chk32 v217), ∀ a, (k0_off32 v217) a + S1x7x128.size a ≤ S10000x7x128.size a := fun v217 k0_hw32 => k0_hw32

def k0_off33 (v224 : BitVec 32) : Fin 3 → Nat :=
  let v225 : Index := Scalar.indexCast v224
  let c0_135 : Index := 0#32
  let c0_136 : Index := 0#32
  ![v225.toNat, 0, 0]

def k0_chk33 (v224 : BitVec 32) : Prop :=
  (∀ a, (k0_off33 v224) a + S1x7x128.size a ≤ S10000x7x128.size a)
theorem k0_off33_inb : ∀ (v224 : BitVec 32) (k0_hw33 : k0_chk33 v224), ∀ a, (k0_off33 v224) a + S1x7x128.size a ≤ S10000x7x128.size a := fun v224 k0_hw33 => k0_hw33

def k0_off34 (v231 : BitVec 32) : Fin 3 → Nat :=
  let v232 : Index := Scalar.indexCast v231
  let c0_140 : Index := 0#32
  let c0_141 : Index := 0#32
  ![v232.toNat, 0, 0]

def k0_chk34 (v231 : BitVec 32) : Prop :=
  (∀ a, (k0_off34 v231) a + S1x7x128.size a ≤ S10000x7x128.size a)
theorem k0_off34_inb : ∀ (v231 : BitVec 32) (k0_hw34 : k0_chk34 v231), ∀ a, (k0_off34 v231) a + S1x7x128.size a ≤ S10000x7x128.size a := fun v231 k0_hw34 => k0_hw34

def k0_off35 (v238 : BitVec 32) : Fin 3 → Nat :=
  let v239 : Index := Scalar.indexCast v238
  let c0_146 : Index := 0#32
  let c0_147 : Index := 0#32
  ![v239.toNat, 0, 0]

def k0_chk35 (v238 : BitVec 32) : Prop :=
  (∀ a, (k0_off35 v238) a + S1x7x128.size a ≤ S10000x7x128.size a)
theorem k0_off35_inb : ∀ (v238 : BitVec 32) (k0_hw35 : k0_chk35 v238), ∀ a, (k0_off35 v238) a + S1x7x128.size a ≤ S10000x7x128.size a := fun v238 k0_hw35 => k0_hw35

def k0_off36 (v245 : BitVec 32) : Fin 3 → Nat :=
  let v246 : Index := Scalar.indexCast v245
  let c0_152 : Index := 0#32
  let c0_153 : Index := 0#32
  ![v246.toNat, 0, 0]

def k0_chk36 (v245 : BitVec 32) : Prop :=
  (∀ a, (k0_off36 v245) a + S1x7x128.size a ≤ S10000x7x128.size a)
theorem k0_off36_inb : ∀ (v245 : BitVec 32) (k0_hw36 : k0_chk36 v245), ∀ a, (k0_off36 v245) a + S1x7x128.size a ≤ S10000x7x128.size a := fun v245 k0_hw36 => k0_hw36

def k0_off37 (v252 : BitVec 32) : Fin 3 → Nat :=
  let v253 : Index := Scalar.indexCast v252
  let c0_158 : Index := 0#32
  let c0_159 : Index := 0#32
  ![v253.toNat, 0, 0]

def k0_chk37 (v252 : BitVec 32) : Prop :=
  (∀ a, (k0_off37 v252) a + S1x7x128.size a ≤ S10000x7x128.size a)
theorem k0_off37_inb : ∀ (v252 : BitVec 32) (k0_hw37 : k0_chk37 v252), ∀ a, (k0_off37 v252) a + S1x7x128.size a ≤ S10000x7x128.size a := fun v252 k0_hw37 => k0_hw37

def k0_off38 (v259 : BitVec 32) : Fin 3 → Nat :=
  let v260 : Index := Scalar.indexCast v259
  let c0_164 : Index := 0#32
  let c0_165 : Index := 0#32
  ![v260.toNat, 0, 0]

def k0_chk38 (v259 : BitVec 32) : Prop :=
  (∀ a, (k0_off38 v259) a + S1x7x128.size a ≤ S10000x7x128.size a)
theorem k0_off38_inb : ∀ (v259 : BitVec 32) (k0_hw38 : k0_chk38 v259), ∀ a, (k0_off38 v259) a + S1x7x128.size a ≤ S10000x7x128.size a := fun v259 k0_hw38 => k0_hw38

def k0_off39 (v266 : BitVec 32) : Fin 3 → Nat :=
  let v267 : Index := Scalar.indexCast v266
  let c0_170 : Index := 0#32
  let c0_171 : Index := 0#32
  ![v267.toNat, 0, 0]

def k0_chk39 (v266 : BitVec 32) : Prop :=
  (∀ a, (k0_off39 v266) a + S1x7x128.size a ≤ S10000x7x128.size a)
theorem k0_off39_inb : ∀ (v266 : BitVec 32) (k0_hw39 : k0_chk39 v266), ∀ a, (k0_off39 v266) a + S1x7x128.size a ≤ S10000x7x128.size a := fun v266 k0_hw39 => k0_hw39

def k0_off40 (v273 : BitVec 32) : Fin 3 → Nat :=
  let v274 : Index := Scalar.indexCast v273
  let c0_176 : Index := 0#32
  let c0_177 : Index := 0#32
  ![v274.toNat, 0, 0]

def k0_chk40 (v273 : BitVec 32) : Prop :=
  (∀ a, (k0_off40 v273) a + S1x7x128.size a ≤ S10000x7x128.size a)
theorem k0_off40_inb : ∀ (v273 : BitVec 32) (k0_hw40 : k0_chk40 v273), ∀ a, (k0_off40 v273) a + S1x7x128.size a ≤ S10000x7x128.size a := fun v273 k0_hw40 => k0_hw40

def k0_off41 (v280 : BitVec 32) : Fin 3 → Nat :=
  let v281 : Index := Scalar.indexCast v280
  let c0_182 : Index := 0#32
  let c0_183 : Index := 0#32
  ![v281.toNat, 0, 0]

def k0_chk41 (v280 : BitVec 32) : Prop :=
  (∀ a, (k0_off41 v280) a + S1x7x128.size a ≤ S10000x7x128.size a)
theorem k0_off41_inb : ∀ (v280 : BitVec 32) (k0_hw41 : k0_chk41 v280), ∀ a, (k0_off41 v280) a + S1x7x128.size a ≤ S10000x7x128.size a := fun v280 k0_hw41 => k0_hw41

def k0_off42 (v287 : BitVec 32) : Fin 3 → Nat :=
  let v288 : Index := Scalar.indexCast v287
  let c0_188 : Index := 0#32
  let c0_189 : Index := 0#32
  ![v288.toNat, 0, 0]

def k0_chk42 (v287 : BitVec 32) : Prop :=
  (∀ a, (k0_off42 v287) a + S1x7x128.size a ≤ S10000x7x128.size a)
theorem k0_off42_inb : ∀ (v287 : BitVec 32) (k0_hw42 : k0_chk42 v287), ∀ a, (k0_off42 v287) a + S1x7x128.size a ≤ S10000x7x128.size a := fun v287 k0_hw42 => k0_hw42

def k0_off43 (v294 : BitVec 32) : Fin 3 → Nat :=
  let v295 : Index := Scalar.indexCast v294
  let c0_194 : Index := 0#32
  let c0_195 : Index := 0#32
  ![v295.toNat, 0, 0]

def k0_chk43 (v294 : BitVec 32) : Prop :=
  (∀ a, (k0_off43 v294) a + S1x7x128.size a ≤ S10000x7x128.size a)
theorem k0_off43_inb : ∀ (v294 : BitVec 32) (k0_hw43 : k0_chk43 v294), ∀ a, (k0_off43 v294) a + S1x7x128.size a ≤ S10000x7x128.size a := fun v294 k0_hw43 => k0_hw43

def k0_off44 (v301 : BitVec 32) : Fin 3 → Nat :=
  let v302 : Index := Scalar.indexCast v301
  let c0_200 : Index := 0#32
  let c0_201 : Index := 0#32
  ![v302.toNat, 0, 0]

def k0_chk44 (v301 : BitVec 32) : Prop :=
  (∀ a, (k0_off44 v301) a + S1x7x128.size a ≤ S10000x7x128.size a)
theorem k0_off44_inb : ∀ (v301 : BitVec 32) (k0_hw44 : k0_chk44 v301), ∀ a, (k0_off44 v301) a + S1x7x128.size a ≤ S10000x7x128.size a := fun v301 k0_hw44 => k0_hw44

def k0_off45 (v308 : BitVec 32) : Fin 3 → Nat :=
  let v309 : Index := Scalar.indexCast v308
  let c0_206 : Index := 0#32
  let c0_207 : Index := 0#32
  ![v309.toNat, 0, 0]

def k0_chk45 (v308 : BitVec 32) : Prop :=
  (∀ a, (k0_off45 v308) a + S1x7x128.size a ≤ S10000x7x128.size a)
theorem k0_off45_inb : ∀ (v308 : BitVec 32) (k0_hw45 : k0_chk45 v308), ∀ a, (k0_off45 v308) a + S1x7x128.size a ≤ S10000x7x128.size a := fun v308 k0_hw45 => k0_hw45

def k0_off46 (v315 : BitVec 32) : Fin 3 → Nat :=
  let v316 : Index := Scalar.indexCast v315
  let c0_212 : Index := 0#32
  let c0_213 : Index := 0#32
  ![v316.toNat, 0, 0]

def k0_chk46 (v315 : BitVec 32) : Prop :=
  (∀ a, (k0_off46 v315) a + S1x7x128.size a ≤ S10000x7x128.size a)
theorem k0_off46_inb : ∀ (v315 : BitVec 32) (k0_hw46 : k0_chk46 v315), ∀ a, (k0_off46 v315) a + S1x7x128.size a ≤ S10000x7x128.size a := fun v315 k0_hw46 => k0_hw46

def k0_off47 (v322 : BitVec 32) : Fin 3 → Nat :=
  let v323 : Index := Scalar.indexCast v322
  let c0_218 : Index := 0#32
  let c0_219 : Index := 0#32
  ![v323.toNat, 0, 0]

def k0_chk47 (v322 : BitVec 32) : Prop :=
  (∀ a, (k0_off47 v322) a + S1x7x128.size a ≤ S10000x7x128.size a)
theorem k0_off47_inb : ∀ (v322 : BitVec 32) (k0_hw47 : k0_chk47 v322), ∀ a, (k0_off47 v322) a + S1x7x128.size a ≤ S10000x7x128.size a := fun v322 k0_hw47 => k0_hw47

def k0_off48 (v329 : BitVec 32) : Fin 3 → Nat :=
  let v330 : Index := Scalar.indexCast v329
  let c0_224 : Index := 0#32
  let c0_225 : Index := 0#32
  ![v330.toNat, 0, 0]

def k0_chk48 (v329 : BitVec 32) : Prop :=
  (∀ a, (k0_off48 v329) a + S1x7x128.size a ≤ S10000x7x128.size a)
theorem k0_off48_inb : ∀ (v329 : BitVec 32) (k0_hw48 : k0_chk48 v329), ∀ a, (k0_off48 v329) a + S1x7x128.size a ≤ S10000x7x128.size a := fun v329 k0_hw48 => k0_hw48

def k0_off49 (v336 : BitVec 32) : Fin 3 → Nat :=
  let v337 : Index := Scalar.indexCast v336
  let c0_230 : Index := 0#32
  let c0_231 : Index := 0#32
  ![v337.toNat, 0, 0]

def k0_chk49 (v336 : BitVec 32) : Prop :=
  (∀ a, (k0_off49 v336) a + S1x7x128.size a ≤ S10000x7x128.size a)
theorem k0_off49_inb : ∀ (v336 : BitVec 32) (k0_hw49 : k0_chk49 v336), ∀ a, (k0_off49 v336) a + S1x7x128.size a ≤ S10000x7x128.size a := fun v336 k0_hw49 => k0_hw49

def k0_off50 (v343 : BitVec 32) : Fin 3 → Nat :=
  let v344 : Index := Scalar.indexCast v343
  let c0_236 : Index := 0#32
  let c0_237 : Index := 0#32
  ![v344.toNat, 0, 0]

def k0_chk50 (v343 : BitVec 32) : Prop :=
  (∀ a, (k0_off50 v343) a + S1x7x128.size a ≤ S10000x7x128.size a)
theorem k0_off50_inb : ∀ (v343 : BitVec 32) (k0_hw50 : k0_chk50 v343), ∀ a, (k0_off50 v343) a + S1x7x128.size a ≤ S10000x7x128.size a := fun v343 k0_hw50 => k0_hw50

def k0_off51 (v350 : BitVec 32) : Fin 3 → Nat :=
  let v351 : Index := Scalar.indexCast v350
  let c0_242 : Index := 0#32
  let c0_243 : Index := 0#32
  ![v351.toNat, 0, 0]

def k0_chk51 (v350 : BitVec 32) : Prop :=
  (∀ a, (k0_off51 v350) a + S1x7x128.size a ≤ S10000x7x128.size a)
theorem k0_off51_inb : ∀ (v350 : BitVec 32) (k0_hw51 : k0_chk51 v350), ∀ a, (k0_off51 v350) a + S1x7x128.size a ≤ S10000x7x128.size a := fun v350 k0_hw51 => k0_hw51

def k0_off52 (v357 : BitVec 32) : Fin 3 → Nat :=
  let v358 : Index := Scalar.indexCast v357
  let c0_248 : Index := 0#32
  let c0_249 : Index := 0#32
  ![v358.toNat, 0, 0]

def k0_chk52 (v357 : BitVec 32) : Prop :=
  (∀ a, (k0_off52 v357) a + S1x7x128.size a ≤ S10000x7x128.size a)
theorem k0_off52_inb : ∀ (v357 : BitVec 32) (k0_hw52 : k0_chk52 v357), ∀ a, (k0_off52 v357) a + S1x7x128.size a ≤ S10000x7x128.size a := fun v357 k0_hw52 => k0_hw52

def k0_off53 (v364 : BitVec 32) : Fin 3 → Nat :=
  let v365 : Index := Scalar.indexCast v364
  let c0_254 : Index := 0#32
  let c0_255 : Index := 0#32
  ![v365.toNat, 0, 0]

def k0_chk53 (v364 : BitVec 32) : Prop :=
  (∀ a, (k0_off53 v364) a + S1x7x128.size a ≤ S10000x7x128.size a)
theorem k0_off53_inb : ∀ (v364 : BitVec 32) (k0_hw53 : k0_chk53 v364), ∀ a, (k0_off53 v364) a + S1x7x128.size a ≤ S10000x7x128.size a := fun v364 k0_hw53 => k0_hw53

def k0_off54 (v371 : BitVec 32) : Fin 3 → Nat :=
  let v372 : Index := Scalar.indexCast v371
  let c0_260 : Index := 0#32
  let c0_261 : Index := 0#32
  ![v372.toNat, 0, 0]

def k0_chk54 (v371 : BitVec 32) : Prop :=
  (∀ a, (k0_off54 v371) a + S1x7x128.size a ≤ S10000x7x128.size a)
theorem k0_off54_inb : ∀ (v371 : BitVec 32) (k0_hw54 : k0_chk54 v371), ∀ a, (k0_off54 v371) a + S1x7x128.size a ≤ S10000x7x128.size a := fun v371 k0_hw54 => k0_hw54

def k0_off55 (v378 : BitVec 32) : Fin 3 → Nat :=
  let v379 : Index := Scalar.indexCast v378
  let c0_266 : Index := 0#32
  let c0_267 : Index := 0#32
  ![v379.toNat, 0, 0]

def k0_chk55 (v378 : BitVec 32) : Prop :=
  (∀ a, (k0_off55 v378) a + S1x7x128.size a ≤ S10000x7x128.size a)
theorem k0_off55_inb : ∀ (v378 : BitVec 32) (k0_hw55 : k0_chk55 v378), ∀ a, (k0_off55 v378) a + S1x7x128.size a ≤ S10000x7x128.size a := fun v378 k0_hw55 => k0_hw55

def k0_off56 (v385 : BitVec 32) : Fin 3 → Nat :=
  let v386 : Index := Scalar.indexCast v385
  let c0_272 : Index := 0#32
  let c0_273 : Index := 0#32
  ![v386.toNat, 0, 0]

def k0_chk56 (v385 : BitVec 32) : Prop :=
  (∀ a, (k0_off56 v385) a + S1x7x128.size a ≤ S10000x7x128.size a)
theorem k0_off56_inb : ∀ (v385 : BitVec 32) (k0_hw56 : k0_chk56 v385), ∀ a, (k0_off56 v385) a + S1x7x128.size a ≤ S10000x7x128.size a := fun v385 k0_hw56 => k0_hw56

def k0_off57 (v392 : BitVec 32) : Fin 3 → Nat :=
  let v393 : Index := Scalar.indexCast v392
  let c0_278 : Index := 0#32
  let c0_279 : Index := 0#32
  ![v393.toNat, 0, 0]

def k0_chk57 (v392 : BitVec 32) : Prop :=
  (∀ a, (k0_off57 v392) a + S1x7x128.size a ≤ S10000x7x128.size a)
theorem k0_off57_inb : ∀ (v392 : BitVec 32) (k0_hw57 : k0_chk57 v392), ∀ a, (k0_off57 v392) a + S1x7x128.size a ≤ S10000x7x128.size a := fun v392 k0_hw57 => k0_hw57

def k0_off58 (v399 : BitVec 32) : Fin 3 → Nat :=
  let v400 : Index := Scalar.indexCast v399
  let c0_284 : Index := 0#32
  let c0_285 : Index := 0#32
  ![v400.toNat, 0, 0]

def k0_chk58 (v399 : BitVec 32) : Prop :=
  (∀ a, (k0_off58 v399) a + S1x7x128.size a ≤ S10000x7x128.size a)
theorem k0_off58_inb : ∀ (v399 : BitVec 32) (k0_hw58 : k0_chk58 v399), ∀ a, (k0_off58 v399) a + S1x7x128.size a ≤ S10000x7x128.size a := fun v399 k0_hw58 => k0_hw58

def k0_off59 (v406 : BitVec 32) : Fin 3 → Nat :=
  let v407 : Index := Scalar.indexCast v406
  let c0_290 : Index := 0#32
  let c0_291 : Index := 0#32
  ![v407.toNat, 0, 0]

def k0_chk59 (v406 : BitVec 32) : Prop :=
  (∀ a, (k0_off59 v406) a + S1x7x128.size a ≤ S10000x7x128.size a)
theorem k0_off59_inb : ∀ (v406 : BitVec 32) (k0_hw59 : k0_chk59 v406), ∀ a, (k0_off59 v406) a + S1x7x128.size a ≤ S10000x7x128.size a := fun v406 k0_hw59 => k0_hw59

def k0_off60 (v413 : BitVec 32) : Fin 3 → Nat :=
  let v414 : Index := Scalar.indexCast v413
  let c0_296 : Index := 0#32
  let c0_297 : Index := 0#32
  ![v414.toNat, 0, 0]

def k0_chk60 (v413 : BitVec 32) : Prop :=
  (∀ a, (k0_off60 v413) a + S1x7x128.size a ≤ S10000x7x128.size a)
theorem k0_off60_inb : ∀ (v413 : BitVec 32) (k0_hw60 : k0_chk60 v413), ∀ a, (k0_off60 v413) a + S1x7x128.size a ≤ S10000x7x128.size a := fun v413 k0_hw60 => k0_hw60

def k0_off61 (v420 : BitVec 32) : Fin 3 → Nat :=
  let v421 : Index := Scalar.indexCast v420
  let c0_302 : Index := 0#32
  let c0_303 : Index := 0#32
  ![v421.toNat, 0, 0]

def k0_chk61 (v420 : BitVec 32) : Prop :=
  (∀ a, (k0_off61 v420) a + S1x7x128.size a ≤ S10000x7x128.size a)
theorem k0_off61_inb : ∀ (v420 : BitVec 32) (k0_hw61 : k0_chk61 v420), ∀ a, (k0_off61 v420) a + S1x7x128.size a ≤ S10000x7x128.size a := fun v420 k0_hw61 => k0_hw61

def k0_off62 (v427 : BitVec 32) : Fin 3 → Nat :=
  let v428 : Index := Scalar.indexCast v427
  let c0_308 : Index := 0#32
  let c0_309 : Index := 0#32
  ![v428.toNat, 0, 0]

def k0_chk62 (v427 : BitVec 32) : Prop :=
  (∀ a, (k0_off62 v427) a + S1x7x128.size a ≤ S10000x7x128.size a)
theorem k0_off62_inb : ∀ (v427 : BitVec 32) (k0_hw62 : k0_chk62 v427), ∀ a, (k0_off62 v427) a + S1x7x128.size a ≤ S10000x7x128.size a := fun v427 k0_hw62 => k0_hw62

def k0_off63 (v434 : BitVec 32) : Fin 3 → Nat :=
  let v435 : Index := Scalar.indexCast v434
  let c0_314 : Index := 0#32
  let c0_315 : Index := 0#32
  ![v435.toNat, 0, 0]

def k0_chk63 (v434 : BitVec 32) : Prop :=
  (∀ a, (k0_off63 v434) a + S1x7x128.size a ≤ S10000x7x128.size a)
theorem k0_off63_inb : ∀ (v434 : BitVec 32) (k0_hw63 : k0_chk63 v434), ∀ a, (k0_off63 v434) a + S1x7x128.size a ≤ S10000x7x128.size a := fun v434 k0_hw63 => k0_hw63

def k0_off64 (v441 : BitVec 32) : Fin 3 → Nat :=
  let v442 : Index := Scalar.indexCast v441
  let c0_320 : Index := 0#32
  let c0_321 : Index := 0#32
  ![v442.toNat, 0, 0]

def k0_chk64 (v441 : BitVec 32) : Prop :=
  (∀ a, (k0_off64 v441) a + S1x7x128.size a ≤ S10000x7x128.size a)
theorem k0_off64_inb : ∀ (v441 : BitVec 32) (k0_hw64 : k0_chk64 v441), ∀ a, (k0_off64 v441) a + S1x7x128.size a ≤ S10000x7x128.size a := fun v441 k0_hw64 => k0_hw64

def k0_off65 (v448 : BitVec 32) : Fin 3 → Nat :=
  let v449 : Index := Scalar.indexCast v448
  let c0_326 : Index := 0#32
  let c0_327 : Index := 0#32
  ![v449.toNat, 0, 0]

def k0_chk65 (v448 : BitVec 32) : Prop :=
  (∀ a, (k0_off65 v448) a + S1x7x128.size a ≤ S10000x7x128.size a)
theorem k0_off65_inb : ∀ (v448 : BitVec 32) (k0_hw65 : k0_chk65 v448), ∀ a, (k0_off65 v448) a + S1x7x128.size a ≤ S10000x7x128.size a := fun v448 k0_hw65 => k0_hw65

def k0_off66 (v455 : BitVec 32) : Fin 3 → Nat :=
  let v456 : Index := Scalar.indexCast v455
  let c0_331 : Index := 0#32
  let c0_332 : Index := 0#32
  ![v456.toNat, 0, 0]

def k0_chk66 (v455 : BitVec 32) : Prop :=
  (∀ a, (k0_off66 v455) a + S1x7x128.size a ≤ S10000x7x128.size a)
theorem k0_off66_inb : ∀ (v455 : BitVec 32) (k0_hw66 : k0_chk66 v455), ∀ a, (k0_off66 v455) a + S1x7x128.size a ≤ S10000x7x128.size a := fun v455 k0_hw66 => k0_hw66

def k0_off67 (v462 : BitVec 32) : Fin 3 → Nat :=
  let v463 : Index := Scalar.indexCast v462
  let c0_337 : Index := 0#32
  let c0_338 : Index := 0#32
  ![v463.toNat, 0, 0]

def k0_chk67 (v462 : BitVec 32) : Prop :=
  (∀ a, (k0_off67 v462) a + S1x7x128.size a ≤ S10000x7x128.size a)
theorem k0_off67_inb : ∀ (v462 : BitVec 32) (k0_hw67 : k0_chk67 v462), ∀ a, (k0_off67 v462) a + S1x7x128.size a ≤ S10000x7x128.size a := fun v462 k0_hw67 => k0_hw67

def k0_off68 (v469 : BitVec 32) : Fin 3 → Nat :=
  let v470 : Index := Scalar.indexCast v469
  let c0_343 : Index := 0#32
  let c0_344 : Index := 0#32
  ![v470.toNat, 0, 0]

def k0_chk68 (v469 : BitVec 32) : Prop :=
  (∀ a, (k0_off68 v469) a + S1x7x128.size a ≤ S10000x7x128.size a)
theorem k0_off68_inb : ∀ (v469 : BitVec 32) (k0_hw68 : k0_chk68 v469), ∀ a, (k0_off68 v469) a + S1x7x128.size a ≤ S10000x7x128.size a := fun v469 k0_hw68 => k0_hw68

def k0_off69 (v476 : BitVec 32) : Fin 3 → Nat :=
  let v477 : Index := Scalar.indexCast v476
  let c0_349 : Index := 0#32
  let c0_350 : Index := 0#32
  ![v477.toNat, 0, 0]

def k0_chk69 (v476 : BitVec 32) : Prop :=
  (∀ a, (k0_off69 v476) a + S1x7x128.size a ≤ S10000x7x128.size a)
theorem k0_off69_inb : ∀ (v476 : BitVec 32) (k0_hw69 : k0_chk69 v476), ∀ a, (k0_off69 v476) a + S1x7x128.size a ≤ S10000x7x128.size a := fun v476 k0_hw69 => k0_hw69

def k0_off70 (v483 : BitVec 32) : Fin 3 → Nat :=
  let v484 : Index := Scalar.indexCast v483
  let c0_355 : Index := 0#32
  let c0_356 : Index := 0#32
  ![v484.toNat, 0, 0]

def k0_chk70 (v483 : BitVec 32) : Prop :=
  (∀ a, (k0_off70 v483) a + S1x7x128.size a ≤ S10000x7x128.size a)
theorem k0_off70_inb : ∀ (v483 : BitVec 32) (k0_hw70 : k0_chk70 v483), ∀ a, (k0_off70 v483) a + S1x7x128.size a ≤ S10000x7x128.size a := fun v483 k0_hw70 => k0_hw70

def k0_off71 (v490 : BitVec 32) : Fin 3 → Nat :=
  let v491 : Index := Scalar.indexCast v490
  let c0_361 : Index := 0#32
  let c0_362 : Index := 0#32
  ![v491.toNat, 0, 0]

def k0_chk71 (v490 : BitVec 32) : Prop :=
  (∀ a, (k0_off71 v490) a + S1x7x128.size a ≤ S10000x7x128.size a)
theorem k0_off71_inb : ∀ (v490 : BitVec 32) (k0_hw71 : k0_chk71 v490), ∀ a, (k0_off71 v490) a + S1x7x128.size a ≤ S10000x7x128.size a := fun v490 k0_hw71 => k0_hw71

def k0_off72 (v497 : BitVec 32) : Fin 3 → Nat :=
  let v498 : Index := Scalar.indexCast v497
  let c0_367 : Index := 0#32
  let c0_368 : Index := 0#32
  ![v498.toNat, 0, 0]

def k0_chk72 (v497 : BitVec 32) : Prop :=
  (∀ a, (k0_off72 v497) a + S1x7x128.size a ≤ S10000x7x128.size a)
theorem k0_off72_inb : ∀ (v497 : BitVec 32) (k0_hw72 : k0_chk72 v497), ∀ a, (k0_off72 v497) a + S1x7x128.size a ≤ S10000x7x128.size a := fun v497 k0_hw72 => k0_hw72

def k0_off73 (v504 : BitVec 32) : Fin 3 → Nat :=
  let v505 : Index := Scalar.indexCast v504
  let c0_373 : Index := 0#32
  let c0_374 : Index := 0#32
  ![v505.toNat, 0, 0]

def k0_chk73 (v504 : BitVec 32) : Prop :=
  (∀ a, (k0_off73 v504) a + S1x7x128.size a ≤ S10000x7x128.size a)
theorem k0_off73_inb : ∀ (v504 : BitVec 32) (k0_hw73 : k0_chk73 v504), ∀ a, (k0_off73 v504) a + S1x7x128.size a ≤ S10000x7x128.size a := fun v504 k0_hw73 => k0_hw73

def k0_off74 (v511 : BitVec 32) : Fin 3 → Nat :=
  let v512 : Index := Scalar.indexCast v511
  let c0_379 : Index := 0#32
  let c0_380 : Index := 0#32
  ![v512.toNat, 0, 0]

def k0_chk74 (v511 : BitVec 32) : Prop :=
  (∀ a, (k0_off74 v511) a + S1x7x128.size a ≤ S10000x7x128.size a)
theorem k0_off74_inb : ∀ (v511 : BitVec 32) (k0_hw74 : k0_chk74 v511), ∀ a, (k0_off74 v511) a + S1x7x128.size a ≤ S10000x7x128.size a := fun v511 k0_hw74 => k0_hw74

def k0_off75 (v518 : BitVec 32) : Fin 3 → Nat :=
  let v519 : Index := Scalar.indexCast v518
  let c0_385 : Index := 0#32
  let c0_386 : Index := 0#32
  ![v519.toNat, 0, 0]

def k0_chk75 (v518 : BitVec 32) : Prop :=
  (∀ a, (k0_off75 v518) a + S1x7x128.size a ≤ S10000x7x128.size a)
theorem k0_off75_inb : ∀ (v518 : BitVec 32) (k0_hw75 : k0_chk75 v518), ∀ a, (k0_off75 v518) a + S1x7x128.size a ≤ S10000x7x128.size a := fun v518 k0_hw75 => k0_hw75

def k0_off76 (v525 : BitVec 32) : Fin 3 → Nat :=
  let v526 : Index := Scalar.indexCast v525
  let c0_391 : Index := 0#32
  let c0_392 : Index := 0#32
  ![v526.toNat, 0, 0]

def k0_chk76 (v525 : BitVec 32) : Prop :=
  (∀ a, (k0_off76 v525) a + S1x7x128.size a ≤ S10000x7x128.size a)
theorem k0_off76_inb : ∀ (v525 : BitVec 32) (k0_hw76 : k0_chk76 v525), ∀ a, (k0_off76 v525) a + S1x7x128.size a ≤ S10000x7x128.size a := fun v525 k0_hw76 => k0_hw76

def k0_off77 (v532 : BitVec 32) : Fin 3 → Nat :=
  let v533 : Index := Scalar.indexCast v532
  let c0_397 : Index := 0#32
  let c0_398 : Index := 0#32
  ![v533.toNat, 0, 0]

def k0_chk77 (v532 : BitVec 32) : Prop :=
  (∀ a, (k0_off77 v532) a + S1x7x128.size a ≤ S10000x7x128.size a)
theorem k0_off77_inb : ∀ (v532 : BitVec 32) (k0_hw77 : k0_chk77 v532), ∀ a, (k0_off77 v532) a + S1x7x128.size a ≤ S10000x7x128.size a := fun v532 k0_hw77 => k0_hw77

def k0_off78 (v539 : BitVec 32) : Fin 3 → Nat :=
  let v540 : Index := Scalar.indexCast v539
  let c0_403 : Index := 0#32
  let c0_404 : Index := 0#32
  ![v540.toNat, 0, 0]

def k0_chk78 (v539 : BitVec 32) : Prop :=
  (∀ a, (k0_off78 v539) a + S1x7x128.size a ≤ S10000x7x128.size a)
theorem k0_off78_inb : ∀ (v539 : BitVec 32) (k0_hw78 : k0_chk78 v539), ∀ a, (k0_off78 v539) a + S1x7x128.size a ≤ S10000x7x128.size a := fun v539 k0_hw78 => k0_hw78

def k0_off79 (v546 : BitVec 32) : Fin 3 → Nat :=
  let v547 : Index := Scalar.indexCast v546
  let c0_409 : Index := 0#32
  let c0_410 : Index := 0#32
  ![v547.toNat, 0, 0]

def k0_chk79 (v546 : BitVec 32) : Prop :=
  (∀ a, (k0_off79 v546) a + S1x7x128.size a ≤ S10000x7x128.size a)
theorem k0_off79_inb : ∀ (v546 : BitVec 32) (k0_hw79 : k0_chk79 v546), ∀ a, (k0_off79 v546) a + S1x7x128.size a ≤ S10000x7x128.size a := fun v546 k0_hw79 => k0_hw79

def k0_off80 (v553 : BitVec 32) : Fin 3 → Nat :=
  let v554 : Index := Scalar.indexCast v553
  let c0_415 : Index := 0#32
  let c0_416 : Index := 0#32
  ![v554.toNat, 0, 0]

def k0_chk80 (v553 : BitVec 32) : Prop :=
  (∀ a, (k0_off80 v553) a + S1x7x128.size a ≤ S10000x7x128.size a)
theorem k0_off80_inb : ∀ (v553 : BitVec 32) (k0_hw80 : k0_chk80 v553), ∀ a, (k0_off80 v553) a + S1x7x128.size a ≤ S10000x7x128.size a := fun v553 k0_hw80 => k0_hw80

def k0_off81 (v560 : BitVec 32) : Fin 3 → Nat :=
  let v561 : Index := Scalar.indexCast v560
  let c0_421 : Index := 0#32
  let c0_422 : Index := 0#32
  ![v561.toNat, 0, 0]

def k0_chk81 (v560 : BitVec 32) : Prop :=
  (∀ a, (k0_off81 v560) a + S1x7x128.size a ≤ S10000x7x128.size a)
theorem k0_off81_inb : ∀ (v560 : BitVec 32) (k0_hw81 : k0_chk81 v560), ∀ a, (k0_off81 v560) a + S1x7x128.size a ≤ S10000x7x128.size a := fun v560 k0_hw81 => k0_hw81

def k0_off82 (v567 : BitVec 32) : Fin 3 → Nat :=
  let v568 : Index := Scalar.indexCast v567
  let c0_427 : Index := 0#32
  let c0_428 : Index := 0#32
  ![v568.toNat, 0, 0]

def k0_chk82 (v567 : BitVec 32) : Prop :=
  (∀ a, (k0_off82 v567) a + S1x7x128.size a ≤ S10000x7x128.size a)
theorem k0_off82_inb : ∀ (v567 : BitVec 32) (k0_hw82 : k0_chk82 v567), ∀ a, (k0_off82 v567) a + S1x7x128.size a ≤ S10000x7x128.size a := fun v567 k0_hw82 => k0_hw82

def k0_off83 (v574 : BitVec 32) : Fin 3 → Nat :=
  let v575 : Index := Scalar.indexCast v574
  let c0_433 : Index := 0#32
  let c0_434 : Index := 0#32
  ![v575.toNat, 0, 0]

def k0_chk83 (v574 : BitVec 32) : Prop :=
  (∀ a, (k0_off83 v574) a + S1x7x128.size a ≤ S10000x7x128.size a)
theorem k0_off83_inb : ∀ (v574 : BitVec 32) (k0_hw83 : k0_chk83 v574), ∀ a, (k0_off83 v574) a + S1x7x128.size a ≤ S10000x7x128.size a := fun v574 k0_hw83 => k0_hw83

def k0_off84 (v581 : BitVec 32) : Fin 3 → Nat :=
  let v582 : Index := Scalar.indexCast v581
  let c0_439 : Index := 0#32
  let c0_440 : Index := 0#32
  ![v582.toNat, 0, 0]

def k0_chk84 (v581 : BitVec 32) : Prop :=
  (∀ a, (k0_off84 v581) a + S1x7x128.size a ≤ S10000x7x128.size a)
theorem k0_off84_inb : ∀ (v581 : BitVec 32) (k0_hw84 : k0_chk84 v581), ∀ a, (k0_off84 v581) a + S1x7x128.size a ≤ S10000x7x128.size a := fun v581 k0_hw84 => k0_hw84

def k0_off85 (v588 : BitVec 32) : Fin 3 → Nat :=
  let v589 : Index := Scalar.indexCast v588
  let c0_445 : Index := 0#32
  let c0_446 : Index := 0#32
  ![v589.toNat, 0, 0]

def k0_chk85 (v588 : BitVec 32) : Prop :=
  (∀ a, (k0_off85 v588) a + S1x7x128.size a ≤ S10000x7x128.size a)
theorem k0_off85_inb : ∀ (v588 : BitVec 32) (k0_hw85 : k0_chk85 v588), ∀ a, (k0_off85 v588) a + S1x7x128.size a ≤ S10000x7x128.size a := fun v588 k0_hw85 => k0_hw85

def k0_off86 (v595 : BitVec 32) : Fin 3 → Nat :=
  let v596 : Index := Scalar.indexCast v595
  let c0_451 : Index := 0#32
  let c0_452 : Index := 0#32
  ![v596.toNat, 0, 0]

def k0_chk86 (v595 : BitVec 32) : Prop :=
  (∀ a, (k0_off86 v595) a + S1x7x128.size a ≤ S10000x7x128.size a)
theorem k0_off86_inb : ∀ (v595 : BitVec 32) (k0_hw86 : k0_chk86 v595), ∀ a, (k0_off86 v595) a + S1x7x128.size a ≤ S10000x7x128.size a := fun v595 k0_hw86 => k0_hw86

def k0_off87 (v602 : BitVec 32) : Fin 3 → Nat :=
  let v603 : Index := Scalar.indexCast v602
  let c0_457 : Index := 0#32
  let c0_458 : Index := 0#32
  ![v603.toNat, 0, 0]

def k0_chk87 (v602 : BitVec 32) : Prop :=
  (∀ a, (k0_off87 v602) a + S1x7x128.size a ≤ S10000x7x128.size a)
theorem k0_off87_inb : ∀ (v602 : BitVec 32) (k0_hw87 : k0_chk87 v602), ∀ a, (k0_off87 v602) a + S1x7x128.size a ≤ S10000x7x128.size a := fun v602 k0_hw87 => k0_hw87

def k0_off88 (v609 : BitVec 32) : Fin 3 → Nat :=
  let v610 : Index := Scalar.indexCast v609
  let c0_463 : Index := 0#32
  let c0_464 : Index := 0#32
  ![v610.toNat, 0, 0]

def k0_chk88 (v609 : BitVec 32) : Prop :=
  (∀ a, (k0_off88 v609) a + S1x7x128.size a ≤ S10000x7x128.size a)
theorem k0_off88_inb : ∀ (v609 : BitVec 32) (k0_hw88 : k0_chk88 v609), ∀ a, (k0_off88 v609) a + S1x7x128.size a ≤ S10000x7x128.size a := fun v609 k0_hw88 => k0_hw88

def k0_off89 (v616 : BitVec 32) : Fin 3 → Nat :=
  let v617 : Index := Scalar.indexCast v616
  let c0_469 : Index := 0#32
  let c0_470 : Index := 0#32
  ![v617.toNat, 0, 0]

def k0_chk89 (v616 : BitVec 32) : Prop :=
  (∀ a, (k0_off89 v616) a + S1x7x128.size a ≤ S10000x7x128.size a)
theorem k0_off89_inb : ∀ (v616 : BitVec 32) (k0_hw89 : k0_chk89 v616), ∀ a, (k0_off89 v616) a + S1x7x128.size a ≤ S10000x7x128.size a := fun v616 k0_hw89 => k0_hw89

def k0_off90 (v623 : BitVec 32) : Fin 3 → Nat :=
  let v624 : Index := Scalar.indexCast v623
  let c0_475 : Index := 0#32
  let c0_476 : Index := 0#32
  ![v624.toNat, 0, 0]

def k0_chk90 (v623 : BitVec 32) : Prop :=
  (∀ a, (k0_off90 v623) a + S1x7x128.size a ≤ S10000x7x128.size a)
theorem k0_off90_inb : ∀ (v623 : BitVec 32) (k0_hw90 : k0_chk90 v623), ∀ a, (k0_off90 v623) a + S1x7x128.size a ≤ S10000x7x128.size a := fun v623 k0_hw90 => k0_hw90

def k0_off91 (v630 : BitVec 32) : Fin 3 → Nat :=
  let v631 : Index := Scalar.indexCast v630
  let c0_481 : Index := 0#32
  let c0_482 : Index := 0#32
  ![v631.toNat, 0, 0]

def k0_chk91 (v630 : BitVec 32) : Prop :=
  (∀ a, (k0_off91 v630) a + S1x7x128.size a ≤ S10000x7x128.size a)
theorem k0_off91_inb : ∀ (v630 : BitVec 32) (k0_hw91 : k0_chk91 v630), ∀ a, (k0_off91 v630) a + S1x7x128.size a ≤ S10000x7x128.size a := fun v630 k0_hw91 => k0_hw91

def k0_off92 (v637 : BitVec 32) : Fin 3 → Nat :=
  let v638 : Index := Scalar.indexCast v637
  let c0_487 : Index := 0#32
  let c0_488 : Index := 0#32
  ![v638.toNat, 0, 0]

def k0_chk92 (v637 : BitVec 32) : Prop :=
  (∀ a, (k0_off92 v637) a + S1x7x128.size a ≤ S10000x7x128.size a)
theorem k0_off92_inb : ∀ (v637 : BitVec 32) (k0_hw92 : k0_chk92 v637), ∀ a, (k0_off92 v637) a + S1x7x128.size a ≤ S10000x7x128.size a := fun v637 k0_hw92 => k0_hw92

def k0_off93 (v644 : BitVec 32) : Fin 3 → Nat :=
  let v645 : Index := Scalar.indexCast v644
  let c0_493 : Index := 0#32
  let c0_494 : Index := 0#32
  ![v645.toNat, 0, 0]

def k0_chk93 (v644 : BitVec 32) : Prop :=
  (∀ a, (k0_off93 v644) a + S1x7x128.size a ≤ S10000x7x128.size a)
theorem k0_off93_inb : ∀ (v644 : BitVec 32) (k0_hw93 : k0_chk93 v644), ∀ a, (k0_off93 v644) a + S1x7x128.size a ≤ S10000x7x128.size a := fun v644 k0_hw93 => k0_hw93

def k0_off94 (v651 : BitVec 32) : Fin 3 → Nat :=
  let v652 : Index := Scalar.indexCast v651
  let c0_499 : Index := 0#32
  let c0_500 : Index := 0#32
  ![v652.toNat, 0, 0]

def k0_chk94 (v651 : BitVec 32) : Prop :=
  (∀ a, (k0_off94 v651) a + S1x7x128.size a ≤ S10000x7x128.size a)
theorem k0_off94_inb : ∀ (v651 : BitVec 32) (k0_hw94 : k0_chk94 v651), ∀ a, (k0_off94 v651) a + S1x7x128.size a ≤ S10000x7x128.size a := fun v651 k0_hw94 => k0_hw94

def k0_off95 (v658 : BitVec 32) : Fin 3 → Nat :=
  let v659 : Index := Scalar.indexCast v658
  let c0_505 : Index := 0#32
  let c0_506 : Index := 0#32
  ![v659.toNat, 0, 0]

def k0_chk95 (v658 : BitVec 32) : Prop :=
  (∀ a, (k0_off95 v658) a + S1x7x128.size a ≤ S10000x7x128.size a)
theorem k0_off95_inb : ∀ (v658 : BitVec 32) (k0_hw95 : k0_chk95 v658), ∀ a, (k0_off95 v658) a + S1x7x128.size a ≤ S10000x7x128.size a := fun v658 k0_hw95 => k0_hw95

def k0_off96 (v665 : BitVec 32) : Fin 3 → Nat :=
  let v666 : Index := Scalar.indexCast v665
  let c0_511 : Index := 0#32
  let c0_512 : Index := 0#32
  ![v666.toNat, 0, 0]

def k0_chk96 (v665 : BitVec 32) : Prop :=
  (∀ a, (k0_off96 v665) a + S1x7x128.size a ≤ S10000x7x128.size a)
theorem k0_off96_inb : ∀ (v665 : BitVec 32) (k0_hw96 : k0_chk96 v665), ∀ a, (k0_off96 v665) a + S1x7x128.size a ≤ S10000x7x128.size a := fun v665 k0_hw96 => k0_hw96

def k0_off97 (v672 : BitVec 32) : Fin 3 → Nat :=
  let v673 : Index := Scalar.indexCast v672
  let c0_517 : Index := 0#32
  let c0_518 : Index := 0#32
  ![v673.toNat, 0, 0]

def k0_chk97 (v672 : BitVec 32) : Prop :=
  (∀ a, (k0_off97 v672) a + S1x7x128.size a ≤ S10000x7x128.size a)
theorem k0_off97_inb : ∀ (v672 : BitVec 32) (k0_hw97 : k0_chk97 v672), ∀ a, (k0_off97 v672) a + S1x7x128.size a ≤ S10000x7x128.size a := fun v672 k0_hw97 => k0_hw97

def k0_off98 (v679 : BitVec 32) : Fin 3 → Nat :=
  let v680 : Index := Scalar.indexCast v679
  let c0_522 : Index := 0#32
  let c0_523 : Index := 0#32
  ![v680.toNat, 0, 0]

def k0_chk98 (v679 : BitVec 32) : Prop :=
  (∀ a, (k0_off98 v679) a + S1x7x128.size a ≤ S10000x7x128.size a)
theorem k0_off98_inb : ∀ (v679 : BitVec 32) (k0_hw98 : k0_chk98 v679), ∀ a, (k0_off98 v679) a + S1x7x128.size a ≤ S10000x7x128.size a := fun v679 k0_hw98 => k0_hw98

def k0_off99 (v686 : BitVec 32) : Fin 3 → Nat :=
  let v687 : Index := Scalar.indexCast v686
  let c0_528 : Index := 0#32
  let c0_529 : Index := 0#32
  ![v687.toNat, 0, 0]

def k0_chk99 (v686 : BitVec 32) : Prop :=
  (∀ a, (k0_off99 v686) a + S1x7x128.size a ≤ S10000x7x128.size a)
theorem k0_off99_inb : ∀ (v686 : BitVec 32) (k0_hw99 : k0_chk99 v686), ∀ a, (k0_off99 v686) a + S1x7x128.size a ≤ S10000x7x128.size a := fun v686 k0_hw99 => k0_hw99

def k0_off100 (v693 : BitVec 32) : Fin 3 → Nat :=
  let v694 : Index := Scalar.indexCast v693
  let c0_534 : Index := 0#32
  let c0_535 : Index := 0#32
  ![v694.toNat, 0, 0]

def k0_chk100 (v693 : BitVec 32) : Prop :=
  (∀ a, (k0_off100 v693) a + S1x7x128.size a ≤ S10000x7x128.size a)
theorem k0_off100_inb : ∀ (v693 : BitVec 32) (k0_hw100 : k0_chk100 v693), ∀ a, (k0_off100 v693) a + S1x7x128.size a ≤ S10000x7x128.size a := fun v693 k0_hw100 => k0_hw100

def k0_off101 (v700 : BitVec 32) : Fin 3 → Nat :=
  let v701 : Index := Scalar.indexCast v700
  let c0_540 : Index := 0#32
  let c0_541 : Index := 0#32
  ![v701.toNat, 0, 0]

def k0_chk101 (v700 : BitVec 32) : Prop :=
  (∀ a, (k0_off101 v700) a + S1x7x128.size a ≤ S10000x7x128.size a)
theorem k0_off101_inb : ∀ (v700 : BitVec 32) (k0_hw101 : k0_chk101 v700), ∀ a, (k0_off101 v700) a + S1x7x128.size a ≤ S10000x7x128.size a := fun v700 k0_hw101 => k0_hw101

def k0_off102 (v707 : BitVec 32) : Fin 3 → Nat :=
  let v708 : Index := Scalar.indexCast v707
  let c0_546 : Index := 0#32
  let c0_547 : Index := 0#32
  ![v708.toNat, 0, 0]

def k0_chk102 (v707 : BitVec 32) : Prop :=
  (∀ a, (k0_off102 v707) a + S1x7x128.size a ≤ S10000x7x128.size a)
theorem k0_off102_inb : ∀ (v707 : BitVec 32) (k0_hw102 : k0_chk102 v707), ∀ a, (k0_off102 v707) a + S1x7x128.size a ≤ S10000x7x128.size a := fun v707 k0_hw102 => k0_hw102

def k0_off103 (v714 : BitVec 32) : Fin 3 → Nat :=
  let v715 : Index := Scalar.indexCast v714
  let c0_552 : Index := 0#32
  let c0_553 : Index := 0#32
  ![v715.toNat, 0, 0]

def k0_chk103 (v714 : BitVec 32) : Prop :=
  (∀ a, (k0_off103 v714) a + S1x7x128.size a ≤ S10000x7x128.size a)
theorem k0_off103_inb : ∀ (v714 : BitVec 32) (k0_hw103 : k0_chk103 v714), ∀ a, (k0_off103 v714) a + S1x7x128.size a ≤ S10000x7x128.size a := fun v714 k0_hw103 => k0_hw103

def k0_off104 (v721 : BitVec 32) : Fin 3 → Nat :=
  let v722 : Index := Scalar.indexCast v721
  let c0_558 : Index := 0#32
  let c0_559 : Index := 0#32
  ![v722.toNat, 0, 0]

def k0_chk104 (v721 : BitVec 32) : Prop :=
  (∀ a, (k0_off104 v721) a + S1x7x128.size a ≤ S10000x7x128.size a)
theorem k0_off104_inb : ∀ (v721 : BitVec 32) (k0_hw104 : k0_chk104 v721), ∀ a, (k0_off104 v721) a + S1x7x128.size a ≤ S10000x7x128.size a := fun v721 k0_hw104 => k0_hw104

def k0_off105 (v728 : BitVec 32) : Fin 3 → Nat :=
  let v729 : Index := Scalar.indexCast v728
  let c0_564 : Index := 0#32
  let c0_565 : Index := 0#32
  ![v729.toNat, 0, 0]

def k0_chk105 (v728 : BitVec 32) : Prop :=
  (∀ a, (k0_off105 v728) a + S1x7x128.size a ≤ S10000x7x128.size a)
theorem k0_off105_inb : ∀ (v728 : BitVec 32) (k0_hw105 : k0_chk105 v728), ∀ a, (k0_off105 v728) a + S1x7x128.size a ≤ S10000x7x128.size a := fun v728 k0_hw105 => k0_hw105

def k0_off106 (v735 : BitVec 32) : Fin 3 → Nat :=
  let v736 : Index := Scalar.indexCast v735
  let c0_570 : Index := 0#32
  let c0_571 : Index := 0#32
  ![v736.toNat, 0, 0]

def k0_chk106 (v735 : BitVec 32) : Prop :=
  (∀ a, (k0_off106 v735) a + S1x7x128.size a ≤ S10000x7x128.size a)
theorem k0_off106_inb : ∀ (v735 : BitVec 32) (k0_hw106 : k0_chk106 v735), ∀ a, (k0_off106 v735) a + S1x7x128.size a ≤ S10000x7x128.size a := fun v735 k0_hw106 => k0_hw106

def k0_off107 (v742 : BitVec 32) : Fin 3 → Nat :=
  let v743 : Index := Scalar.indexCast v742
  let c0_576 : Index := 0#32
  let c0_577 : Index := 0#32
  ![v743.toNat, 0, 0]

def k0_chk107 (v742 : BitVec 32) : Prop :=
  (∀ a, (k0_off107 v742) a + S1x7x128.size a ≤ S10000x7x128.size a)
theorem k0_off107_inb : ∀ (v742 : BitVec 32) (k0_hw107 : k0_chk107 v742), ∀ a, (k0_off107 v742) a + S1x7x128.size a ≤ S10000x7x128.size a := fun v742 k0_hw107 => k0_hw107

def k0_off108 (v749 : BitVec 32) : Fin 3 → Nat :=
  let v750 : Index := Scalar.indexCast v749
  let c0_582 : Index := 0#32
  let c0_583 : Index := 0#32
  ![v750.toNat, 0, 0]

def k0_chk108 (v749 : BitVec 32) : Prop :=
  (∀ a, (k0_off108 v749) a + S1x7x128.size a ≤ S10000x7x128.size a)
theorem k0_off108_inb : ∀ (v749 : BitVec 32) (k0_hw108 : k0_chk108 v749), ∀ a, (k0_off108 v749) a + S1x7x128.size a ≤ S10000x7x128.size a := fun v749 k0_hw108 => k0_hw108

def k0_off109 (v756 : BitVec 32) : Fin 3 → Nat :=
  let v757 : Index := Scalar.indexCast v756
  let c0_588 : Index := 0#32
  let c0_589 : Index := 0#32
  ![v757.toNat, 0, 0]

def k0_chk109 (v756 : BitVec 32) : Prop :=
  (∀ a, (k0_off109 v756) a + S1x7x128.size a ≤ S10000x7x128.size a)
theorem k0_off109_inb : ∀ (v756 : BitVec 32) (k0_hw109 : k0_chk109 v756), ∀ a, (k0_off109 v756) a + S1x7x128.size a ≤ S10000x7x128.size a := fun v756 k0_hw109 => k0_hw109

def k0_off110 (v763 : BitVec 32) : Fin 3 → Nat :=
  let v764 : Index := Scalar.indexCast v763
  let c0_594 : Index := 0#32
  let c0_595 : Index := 0#32
  ![v764.toNat, 0, 0]

def k0_chk110 (v763 : BitVec 32) : Prop :=
  (∀ a, (k0_off110 v763) a + S1x7x128.size a ≤ S10000x7x128.size a)
theorem k0_off110_inb : ∀ (v763 : BitVec 32) (k0_hw110 : k0_chk110 v763), ∀ a, (k0_off110 v763) a + S1x7x128.size a ≤ S10000x7x128.size a := fun v763 k0_hw110 => k0_hw110

def k0_off111 (v770 : BitVec 32) : Fin 3 → Nat :=
  let v771 : Index := Scalar.indexCast v770
  let c0_600 : Index := 0#32
  let c0_601 : Index := 0#32
  ![v771.toNat, 0, 0]

def k0_chk111 (v770 : BitVec 32) : Prop :=
  (∀ a, (k0_off111 v770) a + S1x7x128.size a ≤ S10000x7x128.size a)
theorem k0_off111_inb : ∀ (v770 : BitVec 32) (k0_hw111 : k0_chk111 v770), ∀ a, (k0_off111 v770) a + S1x7x128.size a ≤ S10000x7x128.size a := fun v770 k0_hw111 => k0_hw111

def k0_off112 (v777 : BitVec 32) : Fin 3 → Nat :=
  let v778 : Index := Scalar.indexCast v777
  let c0_606 : Index := 0#32
  let c0_607 : Index := 0#32
  ![v778.toNat, 0, 0]

def k0_chk112 (v777 : BitVec 32) : Prop :=
  (∀ a, (k0_off112 v777) a + S1x7x128.size a ≤ S10000x7x128.size a)
theorem k0_off112_inb : ∀ (v777 : BitVec 32) (k0_hw112 : k0_chk112 v777), ∀ a, (k0_off112 v777) a + S1x7x128.size a ≤ S10000x7x128.size a := fun v777 k0_hw112 => k0_hw112

def k0_off113 (v784 : BitVec 32) : Fin 3 → Nat :=
  let v785 : Index := Scalar.indexCast v784
  let c0_612 : Index := 0#32
  let c0_613 : Index := 0#32
  ![v785.toNat, 0, 0]

def k0_chk113 (v784 : BitVec 32) : Prop :=
  (∀ a, (k0_off113 v784) a + S1x7x128.size a ≤ S10000x7x128.size a)
theorem k0_off113_inb : ∀ (v784 : BitVec 32) (k0_hw113 : k0_chk113 v784), ∀ a, (k0_off113 v784) a + S1x7x128.size a ≤ S10000x7x128.size a := fun v784 k0_hw113 => k0_hw113

def k0_off114 (v791 : BitVec 32) : Fin 3 → Nat :=
  let v792 : Index := Scalar.indexCast v791
  let c0_618 : Index := 0#32
  let c0_619 : Index := 0#32
  ![v792.toNat, 0, 0]

def k0_chk114 (v791 : BitVec 32) : Prop :=
  (∀ a, (k0_off114 v791) a + S1x7x128.size a ≤ S10000x7x128.size a)
theorem k0_off114_inb : ∀ (v791 : BitVec 32) (k0_hw114 : k0_chk114 v791), ∀ a, (k0_off114 v791) a + S1x7x128.size a ≤ S10000x7x128.size a := fun v791 k0_hw114 => k0_hw114

def k0_off115 (v798 : BitVec 32) : Fin 3 → Nat :=
  let v799 : Index := Scalar.indexCast v798
  let c0_624 : Index := 0#32
  let c0_625 : Index := 0#32
  ![v799.toNat, 0, 0]

def k0_chk115 (v798 : BitVec 32) : Prop :=
  (∀ a, (k0_off115 v798) a + S1x7x128.size a ≤ S10000x7x128.size a)
theorem k0_off115_inb : ∀ (v798 : BitVec 32) (k0_hw115 : k0_chk115 v798), ∀ a, (k0_off115 v798) a + S1x7x128.size a ≤ S10000x7x128.size a := fun v798 k0_hw115 => k0_hw115

def k0_off116 (v805 : BitVec 32) : Fin 3 → Nat :=
  let v806 : Index := Scalar.indexCast v805
  let c0_630 : Index := 0#32
  let c0_631 : Index := 0#32
  ![v806.toNat, 0, 0]

def k0_chk116 (v805 : BitVec 32) : Prop :=
  (∀ a, (k0_off116 v805) a + S1x7x128.size a ≤ S10000x7x128.size a)
theorem k0_off116_inb : ∀ (v805 : BitVec 32) (k0_hw116 : k0_chk116 v805), ∀ a, (k0_off116 v805) a + S1x7x128.size a ≤ S10000x7x128.size a := fun v805 k0_hw116 => k0_hw116

def k0_off117 (v812 : BitVec 32) : Fin 3 → Nat :=
  let v813 : Index := Scalar.indexCast v812
  let c0_636 : Index := 0#32
  let c0_637 : Index := 0#32
  ![v813.toNat, 0, 0]

def k0_chk117 (v812 : BitVec 32) : Prop :=
  (∀ a, (k0_off117 v812) a + S1x7x128.size a ≤ S10000x7x128.size a)
theorem k0_off117_inb : ∀ (v812 : BitVec 32) (k0_hw117 : k0_chk117 v812), ∀ a, (k0_off117 v812) a + S1x7x128.size a ≤ S10000x7x128.size a := fun v812 k0_hw117 => k0_hw117

def k0_off118 (v819 : BitVec 32) : Fin 3 → Nat :=
  let v820 : Index := Scalar.indexCast v819
  let c0_642 : Index := 0#32
  let c0_643 : Index := 0#32
  ![v820.toNat, 0, 0]

def k0_chk118 (v819 : BitVec 32) : Prop :=
  (∀ a, (k0_off118 v819) a + S1x7x128.size a ≤ S10000x7x128.size a)
theorem k0_off118_inb : ∀ (v819 : BitVec 32) (k0_hw118 : k0_chk118 v819), ∀ a, (k0_off118 v819) a + S1x7x128.size a ≤ S10000x7x128.size a := fun v819 k0_hw118 => k0_hw118

def k0_off119 (v826 : BitVec 32) : Fin 3 → Nat :=
  let v827 : Index := Scalar.indexCast v826
  let c0_648 : Index := 0#32
  let c0_649 : Index := 0#32
  ![v827.toNat, 0, 0]

def k0_chk119 (v826 : BitVec 32) : Prop :=
  (∀ a, (k0_off119 v826) a + S1x7x128.size a ≤ S10000x7x128.size a)
theorem k0_off119_inb : ∀ (v826 : BitVec 32) (k0_hw119 : k0_chk119 v826), ∀ a, (k0_off119 v826) a + S1x7x128.size a ≤ S10000x7x128.size a := fun v826 k0_hw119 => k0_hw119

def k0_off120 (v833 : BitVec 32) : Fin 3 → Nat :=
  let v834 : Index := Scalar.indexCast v833
  let c0_654 : Index := 0#32
  let c0_655 : Index := 0#32
  ![v834.toNat, 0, 0]

def k0_chk120 (v833 : BitVec 32) : Prop :=
  (∀ a, (k0_off120 v833) a + S1x7x128.size a ≤ S10000x7x128.size a)
theorem k0_off120_inb : ∀ (v833 : BitVec 32) (k0_hw120 : k0_chk120 v833), ∀ a, (k0_off120 v833) a + S1x7x128.size a ≤ S10000x7x128.size a := fun v833 k0_hw120 => k0_hw120

def k0_off121 (v840 : BitVec 32) : Fin 3 → Nat :=
  let v841 : Index := Scalar.indexCast v840
  let c0_660 : Index := 0#32
  let c0_661 : Index := 0#32
  ![v841.toNat, 0, 0]

def k0_chk121 (v840 : BitVec 32) : Prop :=
  (∀ a, (k0_off121 v840) a + S1x7x128.size a ≤ S10000x7x128.size a)
theorem k0_off121_inb : ∀ (v840 : BitVec 32) (k0_hw121 : k0_chk121 v840), ∀ a, (k0_off121 v840) a + S1x7x128.size a ≤ S10000x7x128.size a := fun v840 k0_hw121 => k0_hw121

def k0_off122 (v847 : BitVec 32) : Fin 3 → Nat :=
  let v848 : Index := Scalar.indexCast v847
  let c0_666 : Index := 0#32
  let c0_667 : Index := 0#32
  ![v848.toNat, 0, 0]

def k0_chk122 (v847 : BitVec 32) : Prop :=
  (∀ a, (k0_off122 v847) a + S1x7x128.size a ≤ S10000x7x128.size a)
theorem k0_off122_inb : ∀ (v847 : BitVec 32) (k0_hw122 : k0_chk122 v847), ∀ a, (k0_off122 v847) a + S1x7x128.size a ≤ S10000x7x128.size a := fun v847 k0_hw122 => k0_hw122

def k0_off123 (v854 : BitVec 32) : Fin 3 → Nat :=
  let v855 : Index := Scalar.indexCast v854
  let c0_672 : Index := 0#32
  let c0_673 : Index := 0#32
  ![v855.toNat, 0, 0]

def k0_chk123 (v854 : BitVec 32) : Prop :=
  (∀ a, (k0_off123 v854) a + S1x7x128.size a ≤ S10000x7x128.size a)
theorem k0_off123_inb : ∀ (v854 : BitVec 32) (k0_hw123 : k0_chk123 v854), ∀ a, (k0_off123 v854) a + S1x7x128.size a ≤ S10000x7x128.size a := fun v854 k0_hw123 => k0_hw123

def k0_off124 (v861 : BitVec 32) : Fin 3 → Nat :=
  let v862 : Index := Scalar.indexCast v861
  let c0_678 : Index := 0#32
  let c0_679 : Index := 0#32
  ![v862.toNat, 0, 0]

def k0_chk124 (v861 : BitVec 32) : Prop :=
  (∀ a, (k0_off124 v861) a + S1x7x128.size a ≤ S10000x7x128.size a)
theorem k0_off124_inb : ∀ (v861 : BitVec 32) (k0_hw124 : k0_chk124 v861), ∀ a, (k0_off124 v861) a + S1x7x128.size a ≤ S10000x7x128.size a := fun v861 k0_hw124 => k0_hw124

def k0_off125 (v868 : BitVec 32) : Fin 3 → Nat :=
  let v869 : Index := Scalar.indexCast v868
  let c0_684 : Index := 0#32
  let c0_685 : Index := 0#32
  ![v869.toNat, 0, 0]

def k0_chk125 (v868 : BitVec 32) : Prop :=
  (∀ a, (k0_off125 v868) a + S1x7x128.size a ≤ S10000x7x128.size a)
theorem k0_off125_inb : ∀ (v868 : BitVec 32) (k0_hw125 : k0_chk125 v868), ∀ a, (k0_off125 v868) a + S1x7x128.size a ≤ S10000x7x128.size a := fun v868 k0_hw125 => k0_hw125

def k0_off126 (v875 : BitVec 32) : Fin 3 → Nat :=
  let v876 : Index := Scalar.indexCast v875
  let c0_690 : Index := 0#32
  let c0_691 : Index := 0#32
  ![v876.toNat, 0, 0]

def k0_chk126 (v875 : BitVec 32) : Prop :=
  (∀ a, (k0_off126 v875) a + S1x7x128.size a ≤ S10000x7x128.size a)
theorem k0_off126_inb : ∀ (v875 : BitVec 32) (k0_hw126 : k0_chk126 v875), ∀ a, (k0_off126 v875) a + S1x7x128.size a ≤ S10000x7x128.size a := fun v875 k0_hw126 => k0_hw126

def k0_off127 (v882 : BitVec 32) : Fin 3 → Nat :=
  let v883 : Index := Scalar.indexCast v882
  let c0_696 : Index := 0#32
  let c0_697 : Index := 0#32
  ![v883.toNat, 0, 0]

def k0_chk127 (v882 : BitVec 32) : Prop :=
  (∀ a, (k0_off127 v882) a + S1x7x128.size a ≤ S10000x7x128.size a)
theorem k0_off127_inb : ∀ (v882 : BitVec 32) (k0_hw127 : k0_chk127 v882), ∀ a, (k0_off127 v882) a + S1x7x128.size a ≤ S10000x7x128.size a := fun v882 k0_hw127 => k0_hw127

def k0_off128 (v889 : BitVec 32) : Fin 3 → Nat :=
  let v890 : Index := Scalar.indexCast v889
  let c0_702 : Index := 0#32
  let c0_703 : Index := 0#32
  ![v890.toNat, 0, 0]

def k0_chk128 (v889 : BitVec 32) : Prop :=
  (∀ a, (k0_off128 v889) a + S1x7x128.size a ≤ S10000x7x128.size a)
theorem k0_off128_inb : ∀ (v889 : BitVec 32) (k0_hw128 : k0_chk128 v889), ∀ a, (k0_off128 v889) a + S1x7x128.size a ≤ S10000x7x128.size a := fun v889 k0_hw128 => k0_hw128

def k0_off129 (v896 : BitVec 32) : Fin 3 → Nat :=
  let v897 : Index := Scalar.indexCast v896
  let c0_708 : Index := 0#32
  let c0_709 : Index := 0#32
  ![v897.toNat, 0, 0]

def k0_chk129 (v896 : BitVec 32) : Prop :=
  (∀ a, (k0_off129 v896) a + S1x7x128.size a ≤ S10000x7x128.size a)
theorem k0_off129_inb : ∀ (v896 : BitVec 32) (k0_hw129 : k0_chk129 v896), ∀ a, (k0_off129 v896) a + S1x7x128.size a ≤ S10000x7x128.size a := fun v896 k0_hw129 => k0_hw129

def k0_off130 (v903 : BitVec 32) : Fin 3 → Nat :=
  let v904 : Index := Scalar.indexCast v903
  let c0_713 : Index := 0#32
  let c0_714 : Index := 0#32
  ![v904.toNat, 0, 0]

def k0_chk130 (v903 : BitVec 32) : Prop :=
  (∀ a, (k0_off130 v903) a + S1x7x128.size a ≤ S10000x7x128.size a)
theorem k0_off130_inb : ∀ (v903 : BitVec 32) (k0_hw130 : k0_chk130 v903), ∀ a, (k0_off130 v903) a + S1x7x128.size a ≤ S10000x7x128.size a := fun v903 k0_hw130 => k0_hw130

def k0_off131 (v910 : BitVec 32) : Fin 3 → Nat :=
  let v911 : Index := Scalar.indexCast v910
  let c0_719 : Index := 0#32
  let c0_720 : Index := 0#32
  ![v911.toNat, 0, 0]

def k0_chk131 (v910 : BitVec 32) : Prop :=
  (∀ a, (k0_off131 v910) a + S1x7x128.size a ≤ S10000x7x128.size a)
theorem k0_off131_inb : ∀ (v910 : BitVec 32) (k0_hw131 : k0_chk131 v910), ∀ a, (k0_off131 v910) a + S1x7x128.size a ≤ S10000x7x128.size a := fun v910 k0_hw131 => k0_hw131

def k0_off132 (v917 : BitVec 32) : Fin 3 → Nat :=
  let v918 : Index := Scalar.indexCast v917
  let c0_725 : Index := 0#32
  let c0_726 : Index := 0#32
  ![v918.toNat, 0, 0]

def k0_chk132 (v917 : BitVec 32) : Prop :=
  (∀ a, (k0_off132 v917) a + S1x7x128.size a ≤ S10000x7x128.size a)
theorem k0_off132_inb : ∀ (v917 : BitVec 32) (k0_hw132 : k0_chk132 v917), ∀ a, (k0_off132 v917) a + S1x7x128.size a ≤ S10000x7x128.size a := fun v917 k0_hw132 => k0_hw132

def k0_off133 (v924 : BitVec 32) : Fin 3 → Nat :=
  let v925 : Index := Scalar.indexCast v924
  let c0_731 : Index := 0#32
  let c0_732 : Index := 0#32
  ![v925.toNat, 0, 0]

def k0_chk133 (v924 : BitVec 32) : Prop :=
  (∀ a, (k0_off133 v924) a + S1x7x128.size a ≤ S10000x7x128.size a)
theorem k0_off133_inb : ∀ (v924 : BitVec 32) (k0_hw133 : k0_chk133 v924), ∀ a, (k0_off133 v924) a + S1x7x128.size a ≤ S10000x7x128.size a := fun v924 k0_hw133 => k0_hw133

def k0_off134 (v931 : BitVec 32) : Fin 3 → Nat :=
  let v932 : Index := Scalar.indexCast v931
  let c0_737 : Index := 0#32
  let c0_738 : Index := 0#32
  ![v932.toNat, 0, 0]

def k0_chk134 (v931 : BitVec 32) : Prop :=
  (∀ a, (k0_off134 v931) a + S1x7x128.size a ≤ S10000x7x128.size a)
theorem k0_off134_inb : ∀ (v931 : BitVec 32) (k0_hw134 : k0_chk134 v931), ∀ a, (k0_off134 v931) a + S1x7x128.size a ≤ S10000x7x128.size a := fun v931 k0_hw134 => k0_hw134

def k0_off135 (v938 : BitVec 32) : Fin 3 → Nat :=
  let v939 : Index := Scalar.indexCast v938
  let c0_743 : Index := 0#32
  let c0_744 : Index := 0#32
  ![v939.toNat, 0, 0]

def k0_chk135 (v938 : BitVec 32) : Prop :=
  (∀ a, (k0_off135 v938) a + S1x7x128.size a ≤ S10000x7x128.size a)
theorem k0_off135_inb : ∀ (v938 : BitVec 32) (k0_hw135 : k0_chk135 v938), ∀ a, (k0_off135 v938) a + S1x7x128.size a ≤ S10000x7x128.size a := fun v938 k0_hw135 => k0_hw135

def k0_off136 (v945 : BitVec 32) : Fin 3 → Nat :=
  let v946 : Index := Scalar.indexCast v945
  let c0_749 : Index := 0#32
  let c0_750 : Index := 0#32
  ![v946.toNat, 0, 0]

def k0_chk136 (v945 : BitVec 32) : Prop :=
  (∀ a, (k0_off136 v945) a + S1x7x128.size a ≤ S10000x7x128.size a)
theorem k0_off136_inb : ∀ (v945 : BitVec 32) (k0_hw136 : k0_chk136 v945), ∀ a, (k0_off136 v945) a + S1x7x128.size a ≤ S10000x7x128.size a := fun v945 k0_hw136 => k0_hw136

def k0_off137 (v952 : BitVec 32) : Fin 3 → Nat :=
  let v953 : Index := Scalar.indexCast v952
  let c0_755 : Index := 0#32
  let c0_756 : Index := 0#32
  ![v953.toNat, 0, 0]

def k0_chk137 (v952 : BitVec 32) : Prop :=
  (∀ a, (k0_off137 v952) a + S1x7x128.size a ≤ S10000x7x128.size a)
theorem k0_off137_inb : ∀ (v952 : BitVec 32) (k0_hw137 : k0_chk137 v952), ∀ a, (k0_off137 v952) a + S1x7x128.size a ≤ S10000x7x128.size a := fun v952 k0_hw137 => k0_hw137

def k0_off138 (v959 : BitVec 32) : Fin 3 → Nat :=
  let v960 : Index := Scalar.indexCast v959
  let c0_761 : Index := 0#32
  let c0_762 : Index := 0#32
  ![v960.toNat, 0, 0]

def k0_chk138 (v959 : BitVec 32) : Prop :=
  (∀ a, (k0_off138 v959) a + S1x7x128.size a ≤ S10000x7x128.size a)
theorem k0_off138_inb : ∀ (v959 : BitVec 32) (k0_hw138 : k0_chk138 v959), ∀ a, (k0_off138 v959) a + S1x7x128.size a ≤ S10000x7x128.size a := fun v959 k0_hw138 => k0_hw138

def k0_off139 (v966 : BitVec 32) : Fin 3 → Nat :=
  let v967 : Index := Scalar.indexCast v966
  let c0_767 : Index := 0#32
  let c0_768 : Index := 0#32
  ![v967.toNat, 0, 0]

def k0_chk139 (v966 : BitVec 32) : Prop :=
  (∀ a, (k0_off139 v966) a + S1x7x128.size a ≤ S10000x7x128.size a)
theorem k0_off139_inb : ∀ (v966 : BitVec 32) (k0_hw139 : k0_chk139 v966), ∀ a, (k0_off139 v966) a + S1x7x128.size a ≤ S10000x7x128.size a := fun v966 k0_hw139 => k0_hw139

def k0_off140 (v973 : BitVec 32) : Fin 3 → Nat :=
  let v974 : Index := Scalar.indexCast v973
  let c0_773 : Index := 0#32
  let c0_774 : Index := 0#32
  ![v974.toNat, 0, 0]

def k0_chk140 (v973 : BitVec 32) : Prop :=
  (∀ a, (k0_off140 v973) a + S1x7x128.size a ≤ S10000x7x128.size a)
theorem k0_off140_inb : ∀ (v973 : BitVec 32) (k0_hw140 : k0_chk140 v973), ∀ a, (k0_off140 v973) a + S1x7x128.size a ≤ S10000x7x128.size a := fun v973 k0_hw140 => k0_hw140

def k0_off141 (v980 : BitVec 32) : Fin 3 → Nat :=
  let v981 : Index := Scalar.indexCast v980
  let c0_779 : Index := 0#32
  let c0_780 : Index := 0#32
  ![v981.toNat, 0, 0]

def k0_chk141 (v980 : BitVec 32) : Prop :=
  (∀ a, (k0_off141 v980) a + S1x7x128.size a ≤ S10000x7x128.size a)
theorem k0_off141_inb : ∀ (v980 : BitVec 32) (k0_hw141 : k0_chk141 v980), ∀ a, (k0_off141 v980) a + S1x7x128.size a ≤ S10000x7x128.size a := fun v980 k0_hw141 => k0_hw141

def k0_off142 (v987 : BitVec 32) : Fin 3 → Nat :=
  let v988 : Index := Scalar.indexCast v987
  let c0_785 : Index := 0#32
  let c0_786 : Index := 0#32
  ![v988.toNat, 0, 0]

def k0_chk142 (v987 : BitVec 32) : Prop :=
  (∀ a, (k0_off142 v987) a + S1x7x128.size a ≤ S10000x7x128.size a)
theorem k0_off142_inb : ∀ (v987 : BitVec 32) (k0_hw142 : k0_chk142 v987), ∀ a, (k0_off142 v987) a + S1x7x128.size a ≤ S10000x7x128.size a := fun v987 k0_hw142 => k0_hw142

def k0_off143 (v994 : BitVec 32) : Fin 3 → Nat :=
  let v995 : Index := Scalar.indexCast v994
  let c0_791 : Index := 0#32
  let c0_792 : Index := 0#32
  ![v995.toNat, 0, 0]

def k0_chk143 (v994 : BitVec 32) : Prop :=
  (∀ a, (k0_off143 v994) a + S1x7x128.size a ≤ S10000x7x128.size a)
theorem k0_off143_inb : ∀ (v994 : BitVec 32) (k0_hw143 : k0_chk143 v994), ∀ a, (k0_off143 v994) a + S1x7x128.size a ≤ S10000x7x128.size a := fun v994 k0_hw143 => k0_hw143

def k0_off144 (v1001 : BitVec 32) : Fin 3 → Nat :=
  let v1002 : Index := Scalar.indexCast v1001
  let c0_797 : Index := 0#32
  let c0_798 : Index := 0#32
  ![v1002.toNat, 0, 0]

def k0_chk144 (v1001 : BitVec 32) : Prop :=
  (∀ a, (k0_off144 v1001) a + S1x7x128.size a ≤ S10000x7x128.size a)
theorem k0_off144_inb : ∀ (v1001 : BitVec 32) (k0_hw144 : k0_chk144 v1001), ∀ a, (k0_off144 v1001) a + S1x7x128.size a ≤ S10000x7x128.size a := fun v1001 k0_hw144 => k0_hw144

def k0_off145 (v1008 : BitVec 32) : Fin 3 → Nat :=
  let v1009 : Index := Scalar.indexCast v1008
  let c0_803 : Index := 0#32
  let c0_804 : Index := 0#32
  ![v1009.toNat, 0, 0]

def k0_chk145 (v1008 : BitVec 32) : Prop :=
  (∀ a, (k0_off145 v1008) a + S1x7x128.size a ≤ S10000x7x128.size a)
theorem k0_off145_inb : ∀ (v1008 : BitVec 32) (k0_hw145 : k0_chk145 v1008), ∀ a, (k0_off145 v1008) a + S1x7x128.size a ≤ S10000x7x128.size a := fun v1008 k0_hw145 => k0_hw145

def k0_off146 (v1015 : BitVec 32) : Fin 3 → Nat :=
  let v1016 : Index := Scalar.indexCast v1015
  let c0_809 : Index := 0#32
  let c0_810 : Index := 0#32
  ![v1016.toNat, 0, 0]

def k0_chk146 (v1015 : BitVec 32) : Prop :=
  (∀ a, (k0_off146 v1015) a + S1x7x128.size a ≤ S10000x7x128.size a)
theorem k0_off146_inb : ∀ (v1015 : BitVec 32) (k0_hw146 : k0_chk146 v1015), ∀ a, (k0_off146 v1015) a + S1x7x128.size a ≤ S10000x7x128.size a := fun v1015 k0_hw146 => k0_hw146

def k0_off147 (v1022 : BitVec 32) : Fin 3 → Nat :=
  let v1023 : Index := Scalar.indexCast v1022
  let c0_815 : Index := 0#32
  let c0_816 : Index := 0#32
  ![v1023.toNat, 0, 0]

def k0_chk147 (v1022 : BitVec 32) : Prop :=
  (∀ a, (k0_off147 v1022) a + S1x7x128.size a ≤ S10000x7x128.size a)
theorem k0_off147_inb : ∀ (v1022 : BitVec 32) (k0_hw147 : k0_chk147 v1022), ∀ a, (k0_off147 v1022) a + S1x7x128.size a ≤ S10000x7x128.size a := fun v1022 k0_hw147 => k0_hw147

def k0_off148 (v1029 : BitVec 32) : Fin 3 → Nat :=
  let v1030 : Index := Scalar.indexCast v1029
  let c0_821 : Index := 0#32
  let c0_822 : Index := 0#32
  ![v1030.toNat, 0, 0]

def k0_chk148 (v1029 : BitVec 32) : Prop :=
  (∀ a, (k0_off148 v1029) a + S1x7x128.size a ≤ S10000x7x128.size a)
theorem k0_off148_inb : ∀ (v1029 : BitVec 32) (k0_hw148 : k0_chk148 v1029), ∀ a, (k0_off148 v1029) a + S1x7x128.size a ≤ S10000x7x128.size a := fun v1029 k0_hw148 => k0_hw148

def k0_off149 (v1036 : BitVec 32) : Fin 3 → Nat :=
  let v1037 : Index := Scalar.indexCast v1036
  let c0_827 : Index := 0#32
  let c0_828 : Index := 0#32
  ![v1037.toNat, 0, 0]

def k0_chk149 (v1036 : BitVec 32) : Prop :=
  (∀ a, (k0_off149 v1036) a + S1x7x128.size a ≤ S10000x7x128.size a)
theorem k0_off149_inb : ∀ (v1036 : BitVec 32) (k0_hw149 : k0_chk149 v1036), ∀ a, (k0_off149 v1036) a + S1x7x128.size a ≤ S10000x7x128.size a := fun v1036 k0_hw149 => k0_hw149

def k0_off150 (v1043 : BitVec 32) : Fin 3 → Nat :=
  let v1044 : Index := Scalar.indexCast v1043
  let c0_833 : Index := 0#32
  let c0_834 : Index := 0#32
  ![v1044.toNat, 0, 0]

def k0_chk150 (v1043 : BitVec 32) : Prop :=
  (∀ a, (k0_off150 v1043) a + S1x7x128.size a ≤ S10000x7x128.size a)
theorem k0_off150_inb : ∀ (v1043 : BitVec 32) (k0_hw150 : k0_chk150 v1043), ∀ a, (k0_off150 v1043) a + S1x7x128.size a ≤ S10000x7x128.size a := fun v1043 k0_hw150 => k0_hw150

def k0_off151 (v1050 : BitVec 32) : Fin 3 → Nat :=
  let v1051 : Index := Scalar.indexCast v1050
  let c0_839 : Index := 0#32
  let c0_840 : Index := 0#32
  ![v1051.toNat, 0, 0]

def k0_chk151 (v1050 : BitVec 32) : Prop :=
  (∀ a, (k0_off151 v1050) a + S1x7x128.size a ≤ S10000x7x128.size a)
theorem k0_off151_inb : ∀ (v1050 : BitVec 32) (k0_hw151 : k0_chk151 v1050), ∀ a, (k0_off151 v1050) a + S1x7x128.size a ≤ S10000x7x128.size a := fun v1050 k0_hw151 => k0_hw151

def k0_off152 (v1057 : BitVec 32) : Fin 3 → Nat :=
  let v1058 : Index := Scalar.indexCast v1057
  let c0_845 : Index := 0#32
  let c0_846 : Index := 0#32
  ![v1058.toNat, 0, 0]

def k0_chk152 (v1057 : BitVec 32) : Prop :=
  (∀ a, (k0_off152 v1057) a + S1x7x128.size a ≤ S10000x7x128.size a)
theorem k0_off152_inb : ∀ (v1057 : BitVec 32) (k0_hw152 : k0_chk152 v1057), ∀ a, (k0_off152 v1057) a + S1x7x128.size a ≤ S10000x7x128.size a := fun v1057 k0_hw152 => k0_hw152

def k0_off153 (v1064 : BitVec 32) : Fin 3 → Nat :=
  let v1065 : Index := Scalar.indexCast v1064
  let c0_851 : Index := 0#32
  let c0_852 : Index := 0#32
  ![v1065.toNat, 0, 0]

def k0_chk153 (v1064 : BitVec 32) : Prop :=
  (∀ a, (k0_off153 v1064) a + S1x7x128.size a ≤ S10000x7x128.size a)
theorem k0_off153_inb : ∀ (v1064 : BitVec 32) (k0_hw153 : k0_chk153 v1064), ∀ a, (k0_off153 v1064) a + S1x7x128.size a ≤ S10000x7x128.size a := fun v1064 k0_hw153 => k0_hw153

def k0_off154 (v1071 : BitVec 32) : Fin 3 → Nat :=
  let v1072 : Index := Scalar.indexCast v1071
  let c0_857 : Index := 0#32
  let c0_858 : Index := 0#32
  ![v1072.toNat, 0, 0]

def k0_chk154 (v1071 : BitVec 32) : Prop :=
  (∀ a, (k0_off154 v1071) a + S1x7x128.size a ≤ S10000x7x128.size a)
theorem k0_off154_inb : ∀ (v1071 : BitVec 32) (k0_hw154 : k0_chk154 v1071), ∀ a, (k0_off154 v1071) a + S1x7x128.size a ≤ S10000x7x128.size a := fun v1071 k0_hw154 => k0_hw154

def k0_off155 (v1078 : BitVec 32) : Fin 3 → Nat :=
  let v1079 : Index := Scalar.indexCast v1078
  let c0_863 : Index := 0#32
  let c0_864 : Index := 0#32
  ![v1079.toNat, 0, 0]

def k0_chk155 (v1078 : BitVec 32) : Prop :=
  (∀ a, (k0_off155 v1078) a + S1x7x128.size a ≤ S10000x7x128.size a)
theorem k0_off155_inb : ∀ (v1078 : BitVec 32) (k0_hw155 : k0_chk155 v1078), ∀ a, (k0_off155 v1078) a + S1x7x128.size a ≤ S10000x7x128.size a := fun v1078 k0_hw155 => k0_hw155

def k0_off156 (v1085 : BitVec 32) : Fin 3 → Nat :=
  let v1086 : Index := Scalar.indexCast v1085
  let c0_869 : Index := 0#32
  let c0_870 : Index := 0#32
  ![v1086.toNat, 0, 0]

def k0_chk156 (v1085 : BitVec 32) : Prop :=
  (∀ a, (k0_off156 v1085) a + S1x7x128.size a ≤ S10000x7x128.size a)
theorem k0_off156_inb : ∀ (v1085 : BitVec 32) (k0_hw156 : k0_chk156 v1085), ∀ a, (k0_off156 v1085) a + S1x7x128.size a ≤ S10000x7x128.size a := fun v1085 k0_hw156 => k0_hw156

def k0_off157 (v1092 : BitVec 32) : Fin 3 → Nat :=
  let v1093 : Index := Scalar.indexCast v1092
  let c0_875 : Index := 0#32
  let c0_876 : Index := 0#32
  ![v1093.toNat, 0, 0]

def k0_chk157 (v1092 : BitVec 32) : Prop :=
  (∀ a, (k0_off157 v1092) a + S1x7x128.size a ≤ S10000x7x128.size a)
theorem k0_off157_inb : ∀ (v1092 : BitVec 32) (k0_hw157 : k0_chk157 v1092), ∀ a, (k0_off157 v1092) a + S1x7x128.size a ≤ S10000x7x128.size a := fun v1092 k0_hw157 => k0_hw157

def k0_off158 (v1099 : BitVec 32) : Fin 3 → Nat :=
  let v1100 : Index := Scalar.indexCast v1099
  let c0_881 : Index := 0#32
  let c0_882 : Index := 0#32
  ![v1100.toNat, 0, 0]

def k0_chk158 (v1099 : BitVec 32) : Prop :=
  (∀ a, (k0_off158 v1099) a + S1x7x128.size a ≤ S10000x7x128.size a)
theorem k0_off158_inb : ∀ (v1099 : BitVec 32) (k0_hw158 : k0_chk158 v1099), ∀ a, (k0_off158 v1099) a + S1x7x128.size a ≤ S10000x7x128.size a := fun v1099 k0_hw158 => k0_hw158

def k0_off159 (v1106 : BitVec 32) : Fin 3 → Nat :=
  let v1107 : Index := Scalar.indexCast v1106
  let c0_887 : Index := 0#32
  let c0_888 : Index := 0#32
  ![v1107.toNat, 0, 0]

def k0_chk159 (v1106 : BitVec 32) : Prop :=
  (∀ a, (k0_off159 v1106) a + S1x7x128.size a ≤ S10000x7x128.size a)
theorem k0_off159_inb : ∀ (v1106 : BitVec 32) (k0_hw159 : k0_chk159 v1106), ∀ a, (k0_off159 v1106) a + S1x7x128.size a ≤ S10000x7x128.size a := fun v1106 k0_hw159 => k0_hw159

def k0_off160 (v1113 : BitVec 32) : Fin 3 → Nat :=
  let v1114 : Index := Scalar.indexCast v1113
  let c0_893 : Index := 0#32
  let c0_894 : Index := 0#32
  ![v1114.toNat, 0, 0]

def k0_chk160 (v1113 : BitVec 32) : Prop :=
  (∀ a, (k0_off160 v1113) a + S1x7x128.size a ≤ S10000x7x128.size a)
theorem k0_off160_inb : ∀ (v1113 : BitVec 32) (k0_hw160 : k0_chk160 v1113), ∀ a, (k0_off160 v1113) a + S1x7x128.size a ≤ S10000x7x128.size a := fun v1113 k0_hw160 => k0_hw160

def k0_off161 (v1120 : BitVec 32) : Fin 3 → Nat :=
  let v1121 : Index := Scalar.indexCast v1120
  let c0_899 : Index := 0#32
  let c0_900 : Index := 0#32
  ![v1121.toNat, 0, 0]

def k0_chk161 (v1120 : BitVec 32) : Prop :=
  (∀ a, (k0_off161 v1120) a + S1x7x128.size a ≤ S10000x7x128.size a)
theorem k0_off161_inb : ∀ (v1120 : BitVec 32) (k0_hw161 : k0_chk161 v1120), ∀ a, (k0_off161 v1120) a + S1x7x128.size a ≤ S10000x7x128.size a := fun v1120 k0_hw161 => k0_hw161

def k0_off162 (v1127 : BitVec 32) : Fin 3 → Nat :=
  let v1128 : Index := Scalar.indexCast v1127
  let c0_904 : Index := 0#32
  let c0_905 : Index := 0#32
  ![v1128.toNat, 0, 0]

def k0_chk162 (v1127 : BitVec 32) : Prop :=
  (∀ a, (k0_off162 v1127) a + S1x7x128.size a ≤ S10000x7x128.size a)
theorem k0_off162_inb : ∀ (v1127 : BitVec 32) (k0_hw162 : k0_chk162 v1127), ∀ a, (k0_off162 v1127) a + S1x7x128.size a ≤ S10000x7x128.size a := fun v1127 k0_hw162 => k0_hw162

def k0_off163 (v1134 : BitVec 32) : Fin 3 → Nat :=
  let v1135 : Index := Scalar.indexCast v1134
  let c0_910 : Index := 0#32
  let c0_911 : Index := 0#32
  ![v1135.toNat, 0, 0]

def k0_chk163 (v1134 : BitVec 32) : Prop :=
  (∀ a, (k0_off163 v1134) a + S1x7x128.size a ≤ S10000x7x128.size a)
theorem k0_off163_inb : ∀ (v1134 : BitVec 32) (k0_hw163 : k0_chk163 v1134), ∀ a, (k0_off163 v1134) a + S1x7x128.size a ≤ S10000x7x128.size a := fun v1134 k0_hw163 => k0_hw163

def k0_off164 (v1141 : BitVec 32) : Fin 3 → Nat :=
  let v1142 : Index := Scalar.indexCast v1141
  let c0_916 : Index := 0#32
  let c0_917 : Index := 0#32
  ![v1142.toNat, 0, 0]

def k0_chk164 (v1141 : BitVec 32) : Prop :=
  (∀ a, (k0_off164 v1141) a + S1x7x128.size a ≤ S10000x7x128.size a)
theorem k0_off164_inb : ∀ (v1141 : BitVec 32) (k0_hw164 : k0_chk164 v1141), ∀ a, (k0_off164 v1141) a + S1x7x128.size a ≤ S10000x7x128.size a := fun v1141 k0_hw164 => k0_hw164

def k0_off165 (v1148 : BitVec 32) : Fin 3 → Nat :=
  let v1149 : Index := Scalar.indexCast v1148
  let c0_922 : Index := 0#32
  let c0_923 : Index := 0#32
  ![v1149.toNat, 0, 0]

def k0_chk165 (v1148 : BitVec 32) : Prop :=
  (∀ a, (k0_off165 v1148) a + S1x7x128.size a ≤ S10000x7x128.size a)
theorem k0_off165_inb : ∀ (v1148 : BitVec 32) (k0_hw165 : k0_chk165 v1148), ∀ a, (k0_off165 v1148) a + S1x7x128.size a ≤ S10000x7x128.size a := fun v1148 k0_hw165 => k0_hw165

def k0_off166 (v1155 : BitVec 32) : Fin 3 → Nat :=
  let v1156 : Index := Scalar.indexCast v1155
  let c0_928 : Index := 0#32
  let c0_929 : Index := 0#32
  ![v1156.toNat, 0, 0]

def k0_chk166 (v1155 : BitVec 32) : Prop :=
  (∀ a, (k0_off166 v1155) a + S1x7x128.size a ≤ S10000x7x128.size a)
theorem k0_off166_inb : ∀ (v1155 : BitVec 32) (k0_hw166 : k0_chk166 v1155), ∀ a, (k0_off166 v1155) a + S1x7x128.size a ≤ S10000x7x128.size a := fun v1155 k0_hw166 => k0_hw166

def k0_off167 (v1162 : BitVec 32) : Fin 3 → Nat :=
  let v1163 : Index := Scalar.indexCast v1162
  let c0_934 : Index := 0#32
  let c0_935 : Index := 0#32
  ![v1163.toNat, 0, 0]

def k0_chk167 (v1162 : BitVec 32) : Prop :=
  (∀ a, (k0_off167 v1162) a + S1x7x128.size a ≤ S10000x7x128.size a)
theorem k0_off167_inb : ∀ (v1162 : BitVec 32) (k0_hw167 : k0_chk167 v1162), ∀ a, (k0_off167 v1162) a + S1x7x128.size a ≤ S10000x7x128.size a := fun v1162 k0_hw167 => k0_hw167

def k0_off168 (v1169 : BitVec 32) : Fin 3 → Nat :=
  let v1170 : Index := Scalar.indexCast v1169
  let c0_940 : Index := 0#32
  let c0_941 : Index := 0#32
  ![v1170.toNat, 0, 0]

def k0_chk168 (v1169 : BitVec 32) : Prop :=
  (∀ a, (k0_off168 v1169) a + S1x7x128.size a ≤ S10000x7x128.size a)
theorem k0_off168_inb : ∀ (v1169 : BitVec 32) (k0_hw168 : k0_chk168 v1169), ∀ a, (k0_off168 v1169) a + S1x7x128.size a ≤ S10000x7x128.size a := fun v1169 k0_hw168 => k0_hw168

def k0_off169 (v1176 : BitVec 32) : Fin 3 → Nat :=
  let v1177 : Index := Scalar.indexCast v1176
  let c0_946 : Index := 0#32
  let c0_947 : Index := 0#32
  ![v1177.toNat, 0, 0]

def k0_chk169 (v1176 : BitVec 32) : Prop :=
  (∀ a, (k0_off169 v1176) a + S1x7x128.size a ≤ S10000x7x128.size a)
theorem k0_off169_inb : ∀ (v1176 : BitVec 32) (k0_hw169 : k0_chk169 v1176), ∀ a, (k0_off169 v1176) a + S1x7x128.size a ≤ S10000x7x128.size a := fun v1176 k0_hw169 => k0_hw169

def k0_off170 (v1183 : BitVec 32) : Fin 3 → Nat :=
  let v1184 : Index := Scalar.indexCast v1183
  let c0_952 : Index := 0#32
  let c0_953 : Index := 0#32
  ![v1184.toNat, 0, 0]

def k0_chk170 (v1183 : BitVec 32) : Prop :=
  (∀ a, (k0_off170 v1183) a + S1x7x128.size a ≤ S10000x7x128.size a)
theorem k0_off170_inb : ∀ (v1183 : BitVec 32) (k0_hw170 : k0_chk170 v1183), ∀ a, (k0_off170 v1183) a + S1x7x128.size a ≤ S10000x7x128.size a := fun v1183 k0_hw170 => k0_hw170

def k0_off171 (v1190 : BitVec 32) : Fin 3 → Nat :=
  let v1191 : Index := Scalar.indexCast v1190
  let c0_958 : Index := 0#32
  let c0_959 : Index := 0#32
  ![v1191.toNat, 0, 0]

def k0_chk171 (v1190 : BitVec 32) : Prop :=
  (∀ a, (k0_off171 v1190) a + S1x7x128.size a ≤ S10000x7x128.size a)
theorem k0_off171_inb : ∀ (v1190 : BitVec 32) (k0_hw171 : k0_chk171 v1190), ∀ a, (k0_off171 v1190) a + S1x7x128.size a ≤ S10000x7x128.size a := fun v1190 k0_hw171 => k0_hw171

def k0_off172 (v1197 : BitVec 32) : Fin 3 → Nat :=
  let v1198 : Index := Scalar.indexCast v1197
  let c0_964 : Index := 0#32
  let c0_965 : Index := 0#32
  ![v1198.toNat, 0, 0]

def k0_chk172 (v1197 : BitVec 32) : Prop :=
  (∀ a, (k0_off172 v1197) a + S1x7x128.size a ≤ S10000x7x128.size a)
theorem k0_off172_inb : ∀ (v1197 : BitVec 32) (k0_hw172 : k0_chk172 v1197), ∀ a, (k0_off172 v1197) a + S1x7x128.size a ≤ S10000x7x128.size a := fun v1197 k0_hw172 => k0_hw172

def k0_off173 (v1204 : BitVec 32) : Fin 3 → Nat :=
  let v1205 : Index := Scalar.indexCast v1204
  let c0_970 : Index := 0#32
  let c0_971 : Index := 0#32
  ![v1205.toNat, 0, 0]

def k0_chk173 (v1204 : BitVec 32) : Prop :=
  (∀ a, (k0_off173 v1204) a + S1x7x128.size a ≤ S10000x7x128.size a)
theorem k0_off173_inb : ∀ (v1204 : BitVec 32) (k0_hw173 : k0_chk173 v1204), ∀ a, (k0_off173 v1204) a + S1x7x128.size a ≤ S10000x7x128.size a := fun v1204 k0_hw173 => k0_hw173

def k0_off174 (v1211 : BitVec 32) : Fin 3 → Nat :=
  let v1212 : Index := Scalar.indexCast v1211
  let c0_976 : Index := 0#32
  let c0_977 : Index := 0#32
  ![v1212.toNat, 0, 0]

def k0_chk174 (v1211 : BitVec 32) : Prop :=
  (∀ a, (k0_off174 v1211) a + S1x7x128.size a ≤ S10000x7x128.size a)
theorem k0_off174_inb : ∀ (v1211 : BitVec 32) (k0_hw174 : k0_chk174 v1211), ∀ a, (k0_off174 v1211) a + S1x7x128.size a ≤ S10000x7x128.size a := fun v1211 k0_hw174 => k0_hw174

def k0_off175 (v1218 : BitVec 32) : Fin 3 → Nat :=
  let v1219 : Index := Scalar.indexCast v1218
  let c0_982 : Index := 0#32
  let c0_983 : Index := 0#32
  ![v1219.toNat, 0, 0]

def k0_chk175 (v1218 : BitVec 32) : Prop :=
  (∀ a, (k0_off175 v1218) a + S1x7x128.size a ≤ S10000x7x128.size a)
theorem k0_off175_inb : ∀ (v1218 : BitVec 32) (k0_hw175 : k0_chk175 v1218), ∀ a, (k0_off175 v1218) a + S1x7x128.size a ≤ S10000x7x128.size a := fun v1218 k0_hw175 => k0_hw175

def k0_off176 (v1225 : BitVec 32) : Fin 3 → Nat :=
  let v1226 : Index := Scalar.indexCast v1225
  let c0_988 : Index := 0#32
  let c0_989 : Index := 0#32
  ![v1226.toNat, 0, 0]

def k0_chk176 (v1225 : BitVec 32) : Prop :=
  (∀ a, (k0_off176 v1225) a + S1x7x128.size a ≤ S10000x7x128.size a)
theorem k0_off176_inb : ∀ (v1225 : BitVec 32) (k0_hw176 : k0_chk176 v1225), ∀ a, (k0_off176 v1225) a + S1x7x128.size a ≤ S10000x7x128.size a := fun v1225 k0_hw176 => k0_hw176

def k0_off177 (v1232 : BitVec 32) : Fin 3 → Nat :=
  let v1233 : Index := Scalar.indexCast v1232
  let c0_994 : Index := 0#32
  let c0_995 : Index := 0#32
  ![v1233.toNat, 0, 0]

def k0_chk177 (v1232 : BitVec 32) : Prop :=
  (∀ a, (k0_off177 v1232) a + S1x7x128.size a ≤ S10000x7x128.size a)
theorem k0_off177_inb : ∀ (v1232 : BitVec 32) (k0_hw177 : k0_chk177 v1232), ∀ a, (k0_off177 v1232) a + S1x7x128.size a ≤ S10000x7x128.size a := fun v1232 k0_hw177 => k0_hw177

def k0_off178 (v1239 : BitVec 32) : Fin 3 → Nat :=
  let v1240 : Index := Scalar.indexCast v1239
  let c0_1000 : Index := 0#32
  let c0_1001 : Index := 0#32
  ![v1240.toNat, 0, 0]

def k0_chk178 (v1239 : BitVec 32) : Prop :=
  (∀ a, (k0_off178 v1239) a + S1x7x128.size a ≤ S10000x7x128.size a)
theorem k0_off178_inb : ∀ (v1239 : BitVec 32) (k0_hw178 : k0_chk178 v1239), ∀ a, (k0_off178 v1239) a + S1x7x128.size a ≤ S10000x7x128.size a := fun v1239 k0_hw178 => k0_hw178

def k0_off179 (v1246 : BitVec 32) : Fin 3 → Nat :=
  let v1247 : Index := Scalar.indexCast v1246
  let c0_1006 : Index := 0#32
  let c0_1007 : Index := 0#32
  ![v1247.toNat, 0, 0]

def k0_chk179 (v1246 : BitVec 32) : Prop :=
  (∀ a, (k0_off179 v1246) a + S1x7x128.size a ≤ S10000x7x128.size a)
theorem k0_off179_inb : ∀ (v1246 : BitVec 32) (k0_hw179 : k0_chk179 v1246), ∀ a, (k0_off179 v1246) a + S1x7x128.size a ≤ S10000x7x128.size a := fun v1246 k0_hw179 => k0_hw179

def k0_off180 (v1253 : BitVec 32) : Fin 3 → Nat :=
  let v1254 : Index := Scalar.indexCast v1253
  let c0_1012 : Index := 0#32
  let c0_1013 : Index := 0#32
  ![v1254.toNat, 0, 0]

def k0_chk180 (v1253 : BitVec 32) : Prop :=
  (∀ a, (k0_off180 v1253) a + S1x7x128.size a ≤ S10000x7x128.size a)
theorem k0_off180_inb : ∀ (v1253 : BitVec 32) (k0_hw180 : k0_chk180 v1253), ∀ a, (k0_off180 v1253) a + S1x7x128.size a ≤ S10000x7x128.size a := fun v1253 k0_hw180 => k0_hw180

def k0_off181 (v1260 : BitVec 32) : Fin 3 → Nat :=
  let v1261 : Index := Scalar.indexCast v1260
  let c0_1018 : Index := 0#32
  let c0_1019 : Index := 0#32
  ![v1261.toNat, 0, 0]

def k0_chk181 (v1260 : BitVec 32) : Prop :=
  (∀ a, (k0_off181 v1260) a + S1x7x128.size a ≤ S10000x7x128.size a)
theorem k0_off181_inb : ∀ (v1260 : BitVec 32) (k0_hw181 : k0_chk181 v1260), ∀ a, (k0_off181 v1260) a + S1x7x128.size a ≤ S10000x7x128.size a := fun v1260 k0_hw181 => k0_hw181

def k0_off182 (v1267 : BitVec 32) : Fin 3 → Nat :=
  let v1268 : Index := Scalar.indexCast v1267
  let c0_1024 : Index := 0#32
  let c0_1025 : Index := 0#32
  ![v1268.toNat, 0, 0]

def k0_chk182 (v1267 : BitVec 32) : Prop :=
  (∀ a, (k0_off182 v1267) a + S1x7x128.size a ≤ S10000x7x128.size a)
theorem k0_off182_inb : ∀ (v1267 : BitVec 32) (k0_hw182 : k0_chk182 v1267), ∀ a, (k0_off182 v1267) a + S1x7x128.size a ≤ S10000x7x128.size a := fun v1267 k0_hw182 => k0_hw182

def k0_off183 (v1274 : BitVec 32) : Fin 3 → Nat :=
  let v1275 : Index := Scalar.indexCast v1274
  let c0_1030 : Index := 0#32
  let c0_1031 : Index := 0#32
  ![v1275.toNat, 0, 0]

def k0_chk183 (v1274 : BitVec 32) : Prop :=
  (∀ a, (k0_off183 v1274) a + S1x7x128.size a ≤ S10000x7x128.size a)
theorem k0_off183_inb : ∀ (v1274 : BitVec 32) (k0_hw183 : k0_chk183 v1274), ∀ a, (k0_off183 v1274) a + S1x7x128.size a ≤ S10000x7x128.size a := fun v1274 k0_hw183 => k0_hw183

def k0_off184 (v1281 : BitVec 32) : Fin 3 → Nat :=
  let v1282 : Index := Scalar.indexCast v1281
  let c0_1036 : Index := 0#32
  let c0_1037 : Index := 0#32
  ![v1282.toNat, 0, 0]

def k0_chk184 (v1281 : BitVec 32) : Prop :=
  (∀ a, (k0_off184 v1281) a + S1x7x128.size a ≤ S10000x7x128.size a)
theorem k0_off184_inb : ∀ (v1281 : BitVec 32) (k0_hw184 : k0_chk184 v1281), ∀ a, (k0_off184 v1281) a + S1x7x128.size a ≤ S10000x7x128.size a := fun v1281 k0_hw184 => k0_hw184

def k0_off185 (v1288 : BitVec 32) : Fin 3 → Nat :=
  let v1289 : Index := Scalar.indexCast v1288
  let c0_1042 : Index := 0#32
  let c0_1043 : Index := 0#32
  ![v1289.toNat, 0, 0]

def k0_chk185 (v1288 : BitVec 32) : Prop :=
  (∀ a, (k0_off185 v1288) a + S1x7x128.size a ≤ S10000x7x128.size a)
theorem k0_off185_inb : ∀ (v1288 : BitVec 32) (k0_hw185 : k0_chk185 v1288), ∀ a, (k0_off185 v1288) a + S1x7x128.size a ≤ S10000x7x128.size a := fun v1288 k0_hw185 => k0_hw185

def k0_off186 (v1295 : BitVec 32) : Fin 3 → Nat :=
  let v1296 : Index := Scalar.indexCast v1295
  let c0_1048 : Index := 0#32
  let c0_1049 : Index := 0#32
  ![v1296.toNat, 0, 0]

def k0_chk186 (v1295 : BitVec 32) : Prop :=
  (∀ a, (k0_off186 v1295) a + S1x7x128.size a ≤ S10000x7x128.size a)
theorem k0_off186_inb : ∀ (v1295 : BitVec 32) (k0_hw186 : k0_chk186 v1295), ∀ a, (k0_off186 v1295) a + S1x7x128.size a ≤ S10000x7x128.size a := fun v1295 k0_hw186 => k0_hw186

def k0_off187 (v1302 : BitVec 32) : Fin 3 → Nat :=
  let v1303 : Index := Scalar.indexCast v1302
  let c0_1054 : Index := 0#32
  let c0_1055 : Index := 0#32
  ![v1303.toNat, 0, 0]

def k0_chk187 (v1302 : BitVec 32) : Prop :=
  (∀ a, (k0_off187 v1302) a + S1x7x128.size a ≤ S10000x7x128.size a)
theorem k0_off187_inb : ∀ (v1302 : BitVec 32) (k0_hw187 : k0_chk187 v1302), ∀ a, (k0_off187 v1302) a + S1x7x128.size a ≤ S10000x7x128.size a := fun v1302 k0_hw187 => k0_hw187

def k0_off188 (v1309 : BitVec 32) : Fin 3 → Nat :=
  let v1310 : Index := Scalar.indexCast v1309
  let c0_1060 : Index := 0#32
  let c0_1061 : Index := 0#32
  ![v1310.toNat, 0, 0]

def k0_chk188 (v1309 : BitVec 32) : Prop :=
  (∀ a, (k0_off188 v1309) a + S1x7x128.size a ≤ S10000x7x128.size a)
theorem k0_off188_inb : ∀ (v1309 : BitVec 32) (k0_hw188 : k0_chk188 v1309), ∀ a, (k0_off188 v1309) a + S1x7x128.size a ≤ S10000x7x128.size a := fun v1309 k0_hw188 => k0_hw188

def k0_off189 (v1316 : BitVec 32) : Fin 3 → Nat :=
  let v1317 : Index := Scalar.indexCast v1316
  let c0_1066 : Index := 0#32
  let c0_1067 : Index := 0#32
  ![v1317.toNat, 0, 0]

def k0_chk189 (v1316 : BitVec 32) : Prop :=
  (∀ a, (k0_off189 v1316) a + S1x7x128.size a ≤ S10000x7x128.size a)
theorem k0_off189_inb : ∀ (v1316 : BitVec 32) (k0_hw189 : k0_chk189 v1316), ∀ a, (k0_off189 v1316) a + S1x7x128.size a ≤ S10000x7x128.size a := fun v1316 k0_hw189 => k0_hw189

def k0_off190 (v1323 : BitVec 32) : Fin 3 → Nat :=
  let v1324 : Index := Scalar.indexCast v1323
  let c0_1072 : Index := 0#32
  let c0_1073 : Index := 0#32
  ![v1324.toNat, 0, 0]

def k0_chk190 (v1323 : BitVec 32) : Prop :=
  (∀ a, (k0_off190 v1323) a + S1x7x128.size a ≤ S10000x7x128.size a)
theorem k0_off190_inb : ∀ (v1323 : BitVec 32) (k0_hw190 : k0_chk190 v1323), ∀ a, (k0_off190 v1323) a + S1x7x128.size a ≤ S10000x7x128.size a := fun v1323 k0_hw190 => k0_hw190

def k0_off191 (v1330 : BitVec 32) : Fin 3 → Nat :=
  let v1331 : Index := Scalar.indexCast v1330
  let c0_1078 : Index := 0#32
  let c0_1079 : Index := 0#32
  ![v1331.toNat, 0, 0]

def k0_chk191 (v1330 : BitVec 32) : Prop :=
  (∀ a, (k0_off191 v1330) a + S1x7x128.size a ≤ S10000x7x128.size a)
theorem k0_off191_inb : ∀ (v1330 : BitVec 32) (k0_hw191 : k0_chk191 v1330), ∀ a, (k0_off191 v1330) a + S1x7x128.size a ≤ S10000x7x128.size a := fun v1330 k0_hw191 => k0_hw191

def k0_off192 (v1337 : BitVec 32) : Fin 3 → Nat :=
  let v1338 : Index := Scalar.indexCast v1337
  let c0_1084 : Index := 0#32
  let c0_1085 : Index := 0#32
  ![v1338.toNat, 0, 0]

def k0_chk192 (v1337 : BitVec 32) : Prop :=
  (∀ a, (k0_off192 v1337) a + S1x7x128.size a ≤ S10000x7x128.size a)
theorem k0_off192_inb : ∀ (v1337 : BitVec 32) (k0_hw192 : k0_chk192 v1337), ∀ a, (k0_off192 v1337) a + S1x7x128.size a ≤ S10000x7x128.size a := fun v1337 k0_hw192 => k0_hw192

def k0_off193 (v1344 : BitVec 32) : Fin 3 → Nat :=
  let v1345 : Index := Scalar.indexCast v1344
  let c0_1090 : Index := 0#32
  let c0_1091 : Index := 0#32
  ![v1345.toNat, 0, 0]

def k0_chk193 (v1344 : BitVec 32) : Prop :=
  (∀ a, (k0_off193 v1344) a + S1x7x128.size a ≤ S10000x7x128.size a)
theorem k0_off193_inb : ∀ (v1344 : BitVec 32) (k0_hw193 : k0_chk193 v1344), ∀ a, (k0_off193 v1344) a + S1x7x128.size a ≤ S10000x7x128.size a := fun v1344 k0_hw193 => k0_hw193

def k0_off194 (v1351 : BitVec 32) : Fin 3 → Nat :=
  let v1352 : Index := Scalar.indexCast v1351
  let c0_1095 : Index := 0#32
  let c0_1096 : Index := 0#32
  ![v1352.toNat, 0, 0]

def k0_chk194 (v1351 : BitVec 32) : Prop :=
  (∀ a, (k0_off194 v1351) a + S1x7x128.size a ≤ S10000x7x128.size a)
theorem k0_off194_inb : ∀ (v1351 : BitVec 32) (k0_hw194 : k0_chk194 v1351), ∀ a, (k0_off194 v1351) a + S1x7x128.size a ≤ S10000x7x128.size a := fun v1351 k0_hw194 => k0_hw194

def k0_off195 (v1358 : BitVec 32) : Fin 3 → Nat :=
  let v1359 : Index := Scalar.indexCast v1358
  let c0_1101 : Index := 0#32
  let c0_1102 : Index := 0#32
  ![v1359.toNat, 0, 0]

def k0_chk195 (v1358 : BitVec 32) : Prop :=
  (∀ a, (k0_off195 v1358) a + S1x7x128.size a ≤ S10000x7x128.size a)
theorem k0_off195_inb : ∀ (v1358 : BitVec 32) (k0_hw195 : k0_chk195 v1358), ∀ a, (k0_off195 v1358) a + S1x7x128.size a ≤ S10000x7x128.size a := fun v1358 k0_hw195 => k0_hw195

def k0_off196 (v1365 : BitVec 32) : Fin 3 → Nat :=
  let v1366 : Index := Scalar.indexCast v1365
  let c0_1107 : Index := 0#32
  let c0_1108 : Index := 0#32
  ![v1366.toNat, 0, 0]

def k0_chk196 (v1365 : BitVec 32) : Prop :=
  (∀ a, (k0_off196 v1365) a + S1x7x128.size a ≤ S10000x7x128.size a)
theorem k0_off196_inb : ∀ (v1365 : BitVec 32) (k0_hw196 : k0_chk196 v1365), ∀ a, (k0_off196 v1365) a + S1x7x128.size a ≤ S10000x7x128.size a := fun v1365 k0_hw196 => k0_hw196

def k0_off197 (v1372 : BitVec 32) : Fin 3 → Nat :=
  let v1373 : Index := Scalar.indexCast v1372
  let c0_1113 : Index := 0#32
  let c0_1114 : Index := 0#32
  ![v1373.toNat, 0, 0]

def k0_chk197 (v1372 : BitVec 32) : Prop :=
  (∀ a, (k0_off197 v1372) a + S1x7x128.size a ≤ S10000x7x128.size a)
theorem k0_off197_inb : ∀ (v1372 : BitVec 32) (k0_hw197 : k0_chk197 v1372), ∀ a, (k0_off197 v1372) a + S1x7x128.size a ≤ S10000x7x128.size a := fun v1372 k0_hw197 => k0_hw197

def k0_off198 (v1379 : BitVec 32) : Fin 3 → Nat :=
  let v1380 : Index := Scalar.indexCast v1379
  let c0_1119 : Index := 0#32
  let c0_1120 : Index := 0#32
  ![v1380.toNat, 0, 0]

def k0_chk198 (v1379 : BitVec 32) : Prop :=
  (∀ a, (k0_off198 v1379) a + S1x7x128.size a ≤ S10000x7x128.size a)
theorem k0_off198_inb : ∀ (v1379 : BitVec 32) (k0_hw198 : k0_chk198 v1379), ∀ a, (k0_off198 v1379) a + S1x7x128.size a ≤ S10000x7x128.size a := fun v1379 k0_hw198 => k0_hw198

def k0_off199 (v1386 : BitVec 32) : Fin 3 → Nat :=
  let v1387 : Index := Scalar.indexCast v1386
  let c0_1125 : Index := 0#32
  let c0_1126 : Index := 0#32
  ![v1387.toNat, 0, 0]

def k0_chk199 (v1386 : BitVec 32) : Prop :=
  (∀ a, (k0_off199 v1386) a + S1x7x128.size a ≤ S10000x7x128.size a)
theorem k0_off199_inb : ∀ (v1386 : BitVec 32) (k0_hw199 : k0_chk199 v1386), ∀ a, (k0_off199 v1386) a + S1x7x128.size a ≤ S10000x7x128.size a := fun v1386 k0_hw199 => k0_hw199

def k0_off200 (v1393 : BitVec 32) : Fin 3 → Nat :=
  let v1394 : Index := Scalar.indexCast v1393
  let c0_1131 : Index := 0#32
  let c0_1132 : Index := 0#32
  ![v1394.toNat, 0, 0]

def k0_chk200 (v1393 : BitVec 32) : Prop :=
  (∀ a, (k0_off200 v1393) a + S1x7x128.size a ≤ S10000x7x128.size a)
theorem k0_off200_inb : ∀ (v1393 : BitVec 32) (k0_hw200 : k0_chk200 v1393), ∀ a, (k0_off200 v1393) a + S1x7x128.size a ≤ S10000x7x128.size a := fun v1393 k0_hw200 => k0_hw200

def k0_off201 (v1400 : BitVec 32) : Fin 3 → Nat :=
  let v1401 : Index := Scalar.indexCast v1400
  let c0_1137 : Index := 0#32
  let c0_1138 : Index := 0#32
  ![v1401.toNat, 0, 0]

def k0_chk201 (v1400 : BitVec 32) : Prop :=
  (∀ a, (k0_off201 v1400) a + S1x7x128.size a ≤ S10000x7x128.size a)
theorem k0_off201_inb : ∀ (v1400 : BitVec 32) (k0_hw201 : k0_chk201 v1400), ∀ a, (k0_off201 v1400) a + S1x7x128.size a ≤ S10000x7x128.size a := fun v1400 k0_hw201 => k0_hw201

def k0_off202 (v1407 : BitVec 32) : Fin 3 → Nat :=
  let v1408 : Index := Scalar.indexCast v1407
  let c0_1143 : Index := 0#32
  let c0_1144 : Index := 0#32
  ![v1408.toNat, 0, 0]

def k0_chk202 (v1407 : BitVec 32) : Prop :=
  (∀ a, (k0_off202 v1407) a + S1x7x128.size a ≤ S10000x7x128.size a)
theorem k0_off202_inb : ∀ (v1407 : BitVec 32) (k0_hw202 : k0_chk202 v1407), ∀ a, (k0_off202 v1407) a + S1x7x128.size a ≤ S10000x7x128.size a := fun v1407 k0_hw202 => k0_hw202

def k0_off203 (v1414 : BitVec 32) : Fin 3 → Nat :=
  let v1415 : Index := Scalar.indexCast v1414
  let c0_1149 : Index := 0#32
  let c0_1150 : Index := 0#32
  ![v1415.toNat, 0, 0]

def k0_chk203 (v1414 : BitVec 32) : Prop :=
  (∀ a, (k0_off203 v1414) a + S1x7x128.size a ≤ S10000x7x128.size a)
theorem k0_off203_inb : ∀ (v1414 : BitVec 32) (k0_hw203 : k0_chk203 v1414), ∀ a, (k0_off203 v1414) a + S1x7x128.size a ≤ S10000x7x128.size a := fun v1414 k0_hw203 => k0_hw203

def k0_off204 (v1421 : BitVec 32) : Fin 3 → Nat :=
  let v1422 : Index := Scalar.indexCast v1421
  let c0_1155 : Index := 0#32
  let c0_1156 : Index := 0#32
  ![v1422.toNat, 0, 0]

def k0_chk204 (v1421 : BitVec 32) : Prop :=
  (∀ a, (k0_off204 v1421) a + S1x7x128.size a ≤ S10000x7x128.size a)
theorem k0_off204_inb : ∀ (v1421 : BitVec 32) (k0_hw204 : k0_chk204 v1421), ∀ a, (k0_off204 v1421) a + S1x7x128.size a ≤ S10000x7x128.size a := fun v1421 k0_hw204 => k0_hw204

def k0_off205 (v1428 : BitVec 32) : Fin 3 → Nat :=
  let v1429 : Index := Scalar.indexCast v1428
  let c0_1161 : Index := 0#32
  let c0_1162 : Index := 0#32
  ![v1429.toNat, 0, 0]

def k0_chk205 (v1428 : BitVec 32) : Prop :=
  (∀ a, (k0_off205 v1428) a + S1x7x128.size a ≤ S10000x7x128.size a)
theorem k0_off205_inb : ∀ (v1428 : BitVec 32) (k0_hw205 : k0_chk205 v1428), ∀ a, (k0_off205 v1428) a + S1x7x128.size a ≤ S10000x7x128.size a := fun v1428 k0_hw205 => k0_hw205

def k0_off206 (v1435 : BitVec 32) : Fin 3 → Nat :=
  let v1436 : Index := Scalar.indexCast v1435
  let c0_1167 : Index := 0#32
  let c0_1168 : Index := 0#32
  ![v1436.toNat, 0, 0]

def k0_chk206 (v1435 : BitVec 32) : Prop :=
  (∀ a, (k0_off206 v1435) a + S1x7x128.size a ≤ S10000x7x128.size a)
theorem k0_off206_inb : ∀ (v1435 : BitVec 32) (k0_hw206 : k0_chk206 v1435), ∀ a, (k0_off206 v1435) a + S1x7x128.size a ≤ S10000x7x128.size a := fun v1435 k0_hw206 => k0_hw206

def k0_off207 (v1442 : BitVec 32) : Fin 3 → Nat :=
  let v1443 : Index := Scalar.indexCast v1442
  let c0_1173 : Index := 0#32
  let c0_1174 : Index := 0#32
  ![v1443.toNat, 0, 0]

def k0_chk207 (v1442 : BitVec 32) : Prop :=
  (∀ a, (k0_off207 v1442) a + S1x7x128.size a ≤ S10000x7x128.size a)
theorem k0_off207_inb : ∀ (v1442 : BitVec 32) (k0_hw207 : k0_chk207 v1442), ∀ a, (k0_off207 v1442) a + S1x7x128.size a ≤ S10000x7x128.size a := fun v1442 k0_hw207 => k0_hw207

def k0_off208 (v1449 : BitVec 32) : Fin 3 → Nat :=
  let v1450 : Index := Scalar.indexCast v1449
  let c0_1179 : Index := 0#32
  let c0_1180 : Index := 0#32
  ![v1450.toNat, 0, 0]

def k0_chk208 (v1449 : BitVec 32) : Prop :=
  (∀ a, (k0_off208 v1449) a + S1x7x128.size a ≤ S10000x7x128.size a)
theorem k0_off208_inb : ∀ (v1449 : BitVec 32) (k0_hw208 : k0_chk208 v1449), ∀ a, (k0_off208 v1449) a + S1x7x128.size a ≤ S10000x7x128.size a := fun v1449 k0_hw208 => k0_hw208

def k0_off209 (v1456 : BitVec 32) : Fin 3 → Nat :=
  let v1457 : Index := Scalar.indexCast v1456
  let c0_1185 : Index := 0#32
  let c0_1186 : Index := 0#32
  ![v1457.toNat, 0, 0]

def k0_chk209 (v1456 : BitVec 32) : Prop :=
  (∀ a, (k0_off209 v1456) a + S1x7x128.size a ≤ S10000x7x128.size a)
theorem k0_off209_inb : ∀ (v1456 : BitVec 32) (k0_hw209 : k0_chk209 v1456), ∀ a, (k0_off209 v1456) a + S1x7x128.size a ≤ S10000x7x128.size a := fun v1456 k0_hw209 => k0_hw209

def k0_off210 (v1463 : BitVec 32) : Fin 3 → Nat :=
  let v1464 : Index := Scalar.indexCast v1463
  let c0_1191 : Index := 0#32
  let c0_1192 : Index := 0#32
  ![v1464.toNat, 0, 0]

def k0_chk210 (v1463 : BitVec 32) : Prop :=
  (∀ a, (k0_off210 v1463) a + S1x7x128.size a ≤ S10000x7x128.size a)
theorem k0_off210_inb : ∀ (v1463 : BitVec 32) (k0_hw210 : k0_chk210 v1463), ∀ a, (k0_off210 v1463) a + S1x7x128.size a ≤ S10000x7x128.size a := fun v1463 k0_hw210 => k0_hw210

def k0_off211 (v1470 : BitVec 32) : Fin 3 → Nat :=
  let v1471 : Index := Scalar.indexCast v1470
  let c0_1197 : Index := 0#32
  let c0_1198 : Index := 0#32
  ![v1471.toNat, 0, 0]

def k0_chk211 (v1470 : BitVec 32) : Prop :=
  (∀ a, (k0_off211 v1470) a + S1x7x128.size a ≤ S10000x7x128.size a)
theorem k0_off211_inb : ∀ (v1470 : BitVec 32) (k0_hw211 : k0_chk211 v1470), ∀ a, (k0_off211 v1470) a + S1x7x128.size a ≤ S10000x7x128.size a := fun v1470 k0_hw211 => k0_hw211

def k0_off212 (v1477 : BitVec 32) : Fin 3 → Nat :=
  let v1478 : Index := Scalar.indexCast v1477
  let c0_1203 : Index := 0#32
  let c0_1204 : Index := 0#32
  ![v1478.toNat, 0, 0]

def k0_chk212 (v1477 : BitVec 32) : Prop :=
  (∀ a, (k0_off212 v1477) a + S1x7x128.size a ≤ S10000x7x128.size a)
theorem k0_off212_inb : ∀ (v1477 : BitVec 32) (k0_hw212 : k0_chk212 v1477), ∀ a, (k0_off212 v1477) a + S1x7x128.size a ≤ S10000x7x128.size a := fun v1477 k0_hw212 => k0_hw212

def k0_off213 (v1484 : BitVec 32) : Fin 3 → Nat :=
  let v1485 : Index := Scalar.indexCast v1484
  let c0_1209 : Index := 0#32
  let c0_1210 : Index := 0#32
  ![v1485.toNat, 0, 0]

def k0_chk213 (v1484 : BitVec 32) : Prop :=
  (∀ a, (k0_off213 v1484) a + S1x7x128.size a ≤ S10000x7x128.size a)
theorem k0_off213_inb : ∀ (v1484 : BitVec 32) (k0_hw213 : k0_chk213 v1484), ∀ a, (k0_off213 v1484) a + S1x7x128.size a ≤ S10000x7x128.size a := fun v1484 k0_hw213 => k0_hw213

def k0_off214 (v1491 : BitVec 32) : Fin 3 → Nat :=
  let v1492 : Index := Scalar.indexCast v1491
  let c0_1215 : Index := 0#32
  let c0_1216 : Index := 0#32
  ![v1492.toNat, 0, 0]

def k0_chk214 (v1491 : BitVec 32) : Prop :=
  (∀ a, (k0_off214 v1491) a + S1x7x128.size a ≤ S10000x7x128.size a)
theorem k0_off214_inb : ∀ (v1491 : BitVec 32) (k0_hw214 : k0_chk214 v1491), ∀ a, (k0_off214 v1491) a + S1x7x128.size a ≤ S10000x7x128.size a := fun v1491 k0_hw214 => k0_hw214

def k0_off215 (v1498 : BitVec 32) : Fin 3 → Nat :=
  let v1499 : Index := Scalar.indexCast v1498
  let c0_1221 : Index := 0#32
  let c0_1222 : Index := 0#32
  ![v1499.toNat, 0, 0]

def k0_chk215 (v1498 : BitVec 32) : Prop :=
  (∀ a, (k0_off215 v1498) a + S1x7x128.size a ≤ S10000x7x128.size a)
theorem k0_off215_inb : ∀ (v1498 : BitVec 32) (k0_hw215 : k0_chk215 v1498), ∀ a, (k0_off215 v1498) a + S1x7x128.size a ≤ S10000x7x128.size a := fun v1498 k0_hw215 => k0_hw215

def k0_off216 (v1505 : BitVec 32) : Fin 3 → Nat :=
  let v1506 : Index := Scalar.indexCast v1505
  let c0_1227 : Index := 0#32
  let c0_1228 : Index := 0#32
  ![v1506.toNat, 0, 0]

def k0_chk216 (v1505 : BitVec 32) : Prop :=
  (∀ a, (k0_off216 v1505) a + S1x7x128.size a ≤ S10000x7x128.size a)
theorem k0_off216_inb : ∀ (v1505 : BitVec 32) (k0_hw216 : k0_chk216 v1505), ∀ a, (k0_off216 v1505) a + S1x7x128.size a ≤ S10000x7x128.size a := fun v1505 k0_hw216 => k0_hw216

def k0_off217 (v1512 : BitVec 32) : Fin 3 → Nat :=
  let v1513 : Index := Scalar.indexCast v1512
  let c0_1233 : Index := 0#32
  let c0_1234 : Index := 0#32
  ![v1513.toNat, 0, 0]

def k0_chk217 (v1512 : BitVec 32) : Prop :=
  (∀ a, (k0_off217 v1512) a + S1x7x128.size a ≤ S10000x7x128.size a)
theorem k0_off217_inb : ∀ (v1512 : BitVec 32) (k0_hw217 : k0_chk217 v1512), ∀ a, (k0_off217 v1512) a + S1x7x128.size a ≤ S10000x7x128.size a := fun v1512 k0_hw217 => k0_hw217

def k0_off218 (v1519 : BitVec 32) : Fin 3 → Nat :=
  let v1520 : Index := Scalar.indexCast v1519
  let c0_1239 : Index := 0#32
  let c0_1240 : Index := 0#32
  ![v1520.toNat, 0, 0]

def k0_chk218 (v1519 : BitVec 32) : Prop :=
  (∀ a, (k0_off218 v1519) a + S1x7x128.size a ≤ S10000x7x128.size a)
theorem k0_off218_inb : ∀ (v1519 : BitVec 32) (k0_hw218 : k0_chk218 v1519), ∀ a, (k0_off218 v1519) a + S1x7x128.size a ≤ S10000x7x128.size a := fun v1519 k0_hw218 => k0_hw218

def k0_off219 (v1526 : BitVec 32) : Fin 3 → Nat :=
  let v1527 : Index := Scalar.indexCast v1526
  let c0_1245 : Index := 0#32
  let c0_1246 : Index := 0#32
  ![v1527.toNat, 0, 0]

def k0_chk219 (v1526 : BitVec 32) : Prop :=
  (∀ a, (k0_off219 v1526) a + S1x7x128.size a ≤ S10000x7x128.size a)
theorem k0_off219_inb : ∀ (v1526 : BitVec 32) (k0_hw219 : k0_chk219 v1526), ∀ a, (k0_off219 v1526) a + S1x7x128.size a ≤ S10000x7x128.size a := fun v1526 k0_hw219 => k0_hw219

def k0_off220 (v1533 : BitVec 32) : Fin 3 → Nat :=
  let v1534 : Index := Scalar.indexCast v1533
  let c0_1251 : Index := 0#32
  let c0_1252 : Index := 0#32
  ![v1534.toNat, 0, 0]

def k0_chk220 (v1533 : BitVec 32) : Prop :=
  (∀ a, (k0_off220 v1533) a + S1x7x128.size a ≤ S10000x7x128.size a)
theorem k0_off220_inb : ∀ (v1533 : BitVec 32) (k0_hw220 : k0_chk220 v1533), ∀ a, (k0_off220 v1533) a + S1x7x128.size a ≤ S10000x7x128.size a := fun v1533 k0_hw220 => k0_hw220

def k0_off221 (v1540 : BitVec 32) : Fin 3 → Nat :=
  let v1541 : Index := Scalar.indexCast v1540
  let c0_1257 : Index := 0#32
  let c0_1258 : Index := 0#32
  ![v1541.toNat, 0, 0]

def k0_chk221 (v1540 : BitVec 32) : Prop :=
  (∀ a, (k0_off221 v1540) a + S1x7x128.size a ≤ S10000x7x128.size a)
theorem k0_off221_inb : ∀ (v1540 : BitVec 32) (k0_hw221 : k0_chk221 v1540), ∀ a, (k0_off221 v1540) a + S1x7x128.size a ≤ S10000x7x128.size a := fun v1540 k0_hw221 => k0_hw221

def k0_off222 (v1547 : BitVec 32) : Fin 3 → Nat :=
  let v1548 : Index := Scalar.indexCast v1547
  let c0_1263 : Index := 0#32
  let c0_1264 : Index := 0#32
  ![v1548.toNat, 0, 0]

def k0_chk222 (v1547 : BitVec 32) : Prop :=
  (∀ a, (k0_off222 v1547) a + S1x7x128.size a ≤ S10000x7x128.size a)
theorem k0_off222_inb : ∀ (v1547 : BitVec 32) (k0_hw222 : k0_chk222 v1547), ∀ a, (k0_off222 v1547) a + S1x7x128.size a ≤ S10000x7x128.size a := fun v1547 k0_hw222 => k0_hw222

def k0_off223 (v1554 : BitVec 32) : Fin 3 → Nat :=
  let v1555 : Index := Scalar.indexCast v1554
  let c0_1269 : Index := 0#32
  let c0_1270 : Index := 0#32
  ![v1555.toNat, 0, 0]

def k0_chk223 (v1554 : BitVec 32) : Prop :=
  (∀ a, (k0_off223 v1554) a + S1x7x128.size a ≤ S10000x7x128.size a)
theorem k0_off223_inb : ∀ (v1554 : BitVec 32) (k0_hw223 : k0_chk223 v1554), ∀ a, (k0_off223 v1554) a + S1x7x128.size a ≤ S10000x7x128.size a := fun v1554 k0_hw223 => k0_hw223

def k0_off224 (v1561 : BitVec 32) : Fin 3 → Nat :=
  let v1562 : Index := Scalar.indexCast v1561
  let c0_1275 : Index := 0#32
  let c0_1276 : Index := 0#32
  ![v1562.toNat, 0, 0]

def k0_chk224 (v1561 : BitVec 32) : Prop :=
  (∀ a, (k0_off224 v1561) a + S1x7x128.size a ≤ S10000x7x128.size a)
theorem k0_off224_inb : ∀ (v1561 : BitVec 32) (k0_hw224 : k0_chk224 v1561), ∀ a, (k0_off224 v1561) a + S1x7x128.size a ≤ S10000x7x128.size a := fun v1561 k0_hw224 => k0_hw224

def k0_off225 (v1568 : BitVec 32) : Fin 3 → Nat :=
  let v1569 : Index := Scalar.indexCast v1568
  let c0_1281 : Index := 0#32
  let c0_1282 : Index := 0#32
  ![v1569.toNat, 0, 0]

def k0_chk225 (v1568 : BitVec 32) : Prop :=
  (∀ a, (k0_off225 v1568) a + S1x7x128.size a ≤ S10000x7x128.size a)
theorem k0_off225_inb : ∀ (v1568 : BitVec 32) (k0_hw225 : k0_chk225 v1568), ∀ a, (k0_off225 v1568) a + S1x7x128.size a ≤ S10000x7x128.size a := fun v1568 k0_hw225 => k0_hw225

def k0_off226 (v1575 : BitVec 32) : Fin 3 → Nat :=
  let v1576 : Index := Scalar.indexCast v1575
  let c0_1286 : Index := 0#32
  let c0_1287 : Index := 0#32
  ![v1576.toNat, 0, 0]

def k0_chk226 (v1575 : BitVec 32) : Prop :=
  (∀ a, (k0_off226 v1575) a + S1x7x128.size a ≤ S10000x7x128.size a)
theorem k0_off226_inb : ∀ (v1575 : BitVec 32) (k0_hw226 : k0_chk226 v1575), ∀ a, (k0_off226 v1575) a + S1x7x128.size a ≤ S10000x7x128.size a := fun v1575 k0_hw226 => k0_hw226

def k0_off227 (v1582 : BitVec 32) : Fin 3 → Nat :=
  let v1583 : Index := Scalar.indexCast v1582
  let c0_1292 : Index := 0#32
  let c0_1293 : Index := 0#32
  ![v1583.toNat, 0, 0]

def k0_chk227 (v1582 : BitVec 32) : Prop :=
  (∀ a, (k0_off227 v1582) a + S1x7x128.size a ≤ S10000x7x128.size a)
theorem k0_off227_inb : ∀ (v1582 : BitVec 32) (k0_hw227 : k0_chk227 v1582), ∀ a, (k0_off227 v1582) a + S1x7x128.size a ≤ S10000x7x128.size a := fun v1582 k0_hw227 => k0_hw227

def k0_off228 (v1589 : BitVec 32) : Fin 3 → Nat :=
  let v1590 : Index := Scalar.indexCast v1589
  let c0_1298 : Index := 0#32
  let c0_1299 : Index := 0#32
  ![v1590.toNat, 0, 0]

def k0_chk228 (v1589 : BitVec 32) : Prop :=
  (∀ a, (k0_off228 v1589) a + S1x7x128.size a ≤ S10000x7x128.size a)
theorem k0_off228_inb : ∀ (v1589 : BitVec 32) (k0_hw228 : k0_chk228 v1589), ∀ a, (k0_off228 v1589) a + S1x7x128.size a ≤ S10000x7x128.size a := fun v1589 k0_hw228 => k0_hw228

def k0_off229 (v1596 : BitVec 32) : Fin 3 → Nat :=
  let v1597 : Index := Scalar.indexCast v1596
  let c0_1304 : Index := 0#32
  let c0_1305 : Index := 0#32
  ![v1597.toNat, 0, 0]

def k0_chk229 (v1596 : BitVec 32) : Prop :=
  (∀ a, (k0_off229 v1596) a + S1x7x128.size a ≤ S10000x7x128.size a)
theorem k0_off229_inb : ∀ (v1596 : BitVec 32) (k0_hw229 : k0_chk229 v1596), ∀ a, (k0_off229 v1596) a + S1x7x128.size a ≤ S10000x7x128.size a := fun v1596 k0_hw229 => k0_hw229

def k0_off230 (v1603 : BitVec 32) : Fin 3 → Nat :=
  let v1604 : Index := Scalar.indexCast v1603
  let c0_1310 : Index := 0#32
  let c0_1311 : Index := 0#32
  ![v1604.toNat, 0, 0]

def k0_chk230 (v1603 : BitVec 32) : Prop :=
  (∀ a, (k0_off230 v1603) a + S1x7x128.size a ≤ S10000x7x128.size a)
theorem k0_off230_inb : ∀ (v1603 : BitVec 32) (k0_hw230 : k0_chk230 v1603), ∀ a, (k0_off230 v1603) a + S1x7x128.size a ≤ S10000x7x128.size a := fun v1603 k0_hw230 => k0_hw230

def k0_off231 (v1610 : BitVec 32) : Fin 3 → Nat :=
  let v1611 : Index := Scalar.indexCast v1610
  let c0_1316 : Index := 0#32
  let c0_1317 : Index := 0#32
  ![v1611.toNat, 0, 0]

def k0_chk231 (v1610 : BitVec 32) : Prop :=
  (∀ a, (k0_off231 v1610) a + S1x7x128.size a ≤ S10000x7x128.size a)
theorem k0_off231_inb : ∀ (v1610 : BitVec 32) (k0_hw231 : k0_chk231 v1610), ∀ a, (k0_off231 v1610) a + S1x7x128.size a ≤ S10000x7x128.size a := fun v1610 k0_hw231 => k0_hw231

def k0_off232 (v1617 : BitVec 32) : Fin 3 → Nat :=
  let v1618 : Index := Scalar.indexCast v1617
  let c0_1322 : Index := 0#32
  let c0_1323 : Index := 0#32
  ![v1618.toNat, 0, 0]

def k0_chk232 (v1617 : BitVec 32) : Prop :=
  (∀ a, (k0_off232 v1617) a + S1x7x128.size a ≤ S10000x7x128.size a)
theorem k0_off232_inb : ∀ (v1617 : BitVec 32) (k0_hw232 : k0_chk232 v1617), ∀ a, (k0_off232 v1617) a + S1x7x128.size a ≤ S10000x7x128.size a := fun v1617 k0_hw232 => k0_hw232

def k0_off233 (v1624 : BitVec 32) : Fin 3 → Nat :=
  let v1625 : Index := Scalar.indexCast v1624
  let c0_1328 : Index := 0#32
  let c0_1329 : Index := 0#32
  ![v1625.toNat, 0, 0]

def k0_chk233 (v1624 : BitVec 32) : Prop :=
  (∀ a, (k0_off233 v1624) a + S1x7x128.size a ≤ S10000x7x128.size a)
theorem k0_off233_inb : ∀ (v1624 : BitVec 32) (k0_hw233 : k0_chk233 v1624), ∀ a, (k0_off233 v1624) a + S1x7x128.size a ≤ S10000x7x128.size a := fun v1624 k0_hw233 => k0_hw233

def k0_off234 (v1631 : BitVec 32) : Fin 3 → Nat :=
  let v1632 : Index := Scalar.indexCast v1631
  let c0_1334 : Index := 0#32
  let c0_1335 : Index := 0#32
  ![v1632.toNat, 0, 0]

def k0_chk234 (v1631 : BitVec 32) : Prop :=
  (∀ a, (k0_off234 v1631) a + S1x7x128.size a ≤ S10000x7x128.size a)
theorem k0_off234_inb : ∀ (v1631 : BitVec 32) (k0_hw234 : k0_chk234 v1631), ∀ a, (k0_off234 v1631) a + S1x7x128.size a ≤ S10000x7x128.size a := fun v1631 k0_hw234 => k0_hw234

def k0_off235 (v1638 : BitVec 32) : Fin 3 → Nat :=
  let v1639 : Index := Scalar.indexCast v1638
  let c0_1340 : Index := 0#32
  let c0_1341 : Index := 0#32
  ![v1639.toNat, 0, 0]

def k0_chk235 (v1638 : BitVec 32) : Prop :=
  (∀ a, (k0_off235 v1638) a + S1x7x128.size a ≤ S10000x7x128.size a)
theorem k0_off235_inb : ∀ (v1638 : BitVec 32) (k0_hw235 : k0_chk235 v1638), ∀ a, (k0_off235 v1638) a + S1x7x128.size a ≤ S10000x7x128.size a := fun v1638 k0_hw235 => k0_hw235

def k0_off236 (v1645 : BitVec 32) : Fin 3 → Nat :=
  let v1646 : Index := Scalar.indexCast v1645
  let c0_1346 : Index := 0#32
  let c0_1347 : Index := 0#32
  ![v1646.toNat, 0, 0]

def k0_chk236 (v1645 : BitVec 32) : Prop :=
  (∀ a, (k0_off236 v1645) a + S1x7x128.size a ≤ S10000x7x128.size a)
theorem k0_off236_inb : ∀ (v1645 : BitVec 32) (k0_hw236 : k0_chk236 v1645), ∀ a, (k0_off236 v1645) a + S1x7x128.size a ≤ S10000x7x128.size a := fun v1645 k0_hw236 => k0_hw236

def k0_off237 (v1652 : BitVec 32) : Fin 3 → Nat :=
  let v1653 : Index := Scalar.indexCast v1652
  let c0_1352 : Index := 0#32
  let c0_1353 : Index := 0#32
  ![v1653.toNat, 0, 0]

def k0_chk237 (v1652 : BitVec 32) : Prop :=
  (∀ a, (k0_off237 v1652) a + S1x7x128.size a ≤ S10000x7x128.size a)
theorem k0_off237_inb : ∀ (v1652 : BitVec 32) (k0_hw237 : k0_chk237 v1652), ∀ a, (k0_off237 v1652) a + S1x7x128.size a ≤ S10000x7x128.size a := fun v1652 k0_hw237 => k0_hw237

def k0_off238 (v1659 : BitVec 32) : Fin 3 → Nat :=
  let v1660 : Index := Scalar.indexCast v1659
  let c0_1358 : Index := 0#32
  let c0_1359 : Index := 0#32
  ![v1660.toNat, 0, 0]

def k0_chk238 (v1659 : BitVec 32) : Prop :=
  (∀ a, (k0_off238 v1659) a + S1x7x128.size a ≤ S10000x7x128.size a)
theorem k0_off238_inb : ∀ (v1659 : BitVec 32) (k0_hw238 : k0_chk238 v1659), ∀ a, (k0_off238 v1659) a + S1x7x128.size a ≤ S10000x7x128.size a := fun v1659 k0_hw238 => k0_hw238

def k0_off239 (v1666 : BitVec 32) : Fin 3 → Nat :=
  let v1667 : Index := Scalar.indexCast v1666
  let c0_1364 : Index := 0#32
  let c0_1365 : Index := 0#32
  ![v1667.toNat, 0, 0]

def k0_chk239 (v1666 : BitVec 32) : Prop :=
  (∀ a, (k0_off239 v1666) a + S1x7x128.size a ≤ S10000x7x128.size a)
theorem k0_off239_inb : ∀ (v1666 : BitVec 32) (k0_hw239 : k0_chk239 v1666), ∀ a, (k0_off239 v1666) a + S1x7x128.size a ≤ S10000x7x128.size a := fun v1666 k0_hw239 => k0_hw239

def k0_off240 (v1673 : BitVec 32) : Fin 3 → Nat :=
  let v1674 : Index := Scalar.indexCast v1673
  let c0_1370 : Index := 0#32
  let c0_1371 : Index := 0#32
  ![v1674.toNat, 0, 0]

def k0_chk240 (v1673 : BitVec 32) : Prop :=
  (∀ a, (k0_off240 v1673) a + S1x7x128.size a ≤ S10000x7x128.size a)
theorem k0_off240_inb : ∀ (v1673 : BitVec 32) (k0_hw240 : k0_chk240 v1673), ∀ a, (k0_off240 v1673) a + S1x7x128.size a ≤ S10000x7x128.size a := fun v1673 k0_hw240 => k0_hw240

def k0_off241 (v1680 : BitVec 32) : Fin 3 → Nat :=
  let v1681 : Index := Scalar.indexCast v1680
  let c0_1376 : Index := 0#32
  let c0_1377 : Index := 0#32
  ![v1681.toNat, 0, 0]

def k0_chk241 (v1680 : BitVec 32) : Prop :=
  (∀ a, (k0_off241 v1680) a + S1x7x128.size a ≤ S10000x7x128.size a)
theorem k0_off241_inb : ∀ (v1680 : BitVec 32) (k0_hw241 : k0_chk241 v1680), ∀ a, (k0_off241 v1680) a + S1x7x128.size a ≤ S10000x7x128.size a := fun v1680 k0_hw241 => k0_hw241

def k0_off242 (v1687 : BitVec 32) : Fin 3 → Nat :=
  let v1688 : Index := Scalar.indexCast v1687
  let c0_1382 : Index := 0#32
  let c0_1383 : Index := 0#32
  ![v1688.toNat, 0, 0]

def k0_chk242 (v1687 : BitVec 32) : Prop :=
  (∀ a, (k0_off242 v1687) a + S1x7x128.size a ≤ S10000x7x128.size a)
theorem k0_off242_inb : ∀ (v1687 : BitVec 32) (k0_hw242 : k0_chk242 v1687), ∀ a, (k0_off242 v1687) a + S1x7x128.size a ≤ S10000x7x128.size a := fun v1687 k0_hw242 => k0_hw242

def k0_off243 (v1694 : BitVec 32) : Fin 3 → Nat :=
  let v1695 : Index := Scalar.indexCast v1694
  let c0_1388 : Index := 0#32
  let c0_1389 : Index := 0#32
  ![v1695.toNat, 0, 0]

def k0_chk243 (v1694 : BitVec 32) : Prop :=
  (∀ a, (k0_off243 v1694) a + S1x7x128.size a ≤ S10000x7x128.size a)
theorem k0_off243_inb : ∀ (v1694 : BitVec 32) (k0_hw243 : k0_chk243 v1694), ∀ a, (k0_off243 v1694) a + S1x7x128.size a ≤ S10000x7x128.size a := fun v1694 k0_hw243 => k0_hw243

def k0_off244 (v1701 : BitVec 32) : Fin 3 → Nat :=
  let v1702 : Index := Scalar.indexCast v1701
  let c0_1394 : Index := 0#32
  let c0_1395 : Index := 0#32
  ![v1702.toNat, 0, 0]

def k0_chk244 (v1701 : BitVec 32) : Prop :=
  (∀ a, (k0_off244 v1701) a + S1x7x128.size a ≤ S10000x7x128.size a)
theorem k0_off244_inb : ∀ (v1701 : BitVec 32) (k0_hw244 : k0_chk244 v1701), ∀ a, (k0_off244 v1701) a + S1x7x128.size a ≤ S10000x7x128.size a := fun v1701 k0_hw244 => k0_hw244

def k0_off245 (v1708 : BitVec 32) : Fin 3 → Nat :=
  let v1709 : Index := Scalar.indexCast v1708
  let c0_1400 : Index := 0#32
  let c0_1401 : Index := 0#32
  ![v1709.toNat, 0, 0]

def k0_chk245 (v1708 : BitVec 32) : Prop :=
  (∀ a, (k0_off245 v1708) a + S1x7x128.size a ≤ S10000x7x128.size a)
theorem k0_off245_inb : ∀ (v1708 : BitVec 32) (k0_hw245 : k0_chk245 v1708), ∀ a, (k0_off245 v1708) a + S1x7x128.size a ≤ S10000x7x128.size a := fun v1708 k0_hw245 => k0_hw245

def k0_off246 (v1715 : BitVec 32) : Fin 3 → Nat :=
  let v1716 : Index := Scalar.indexCast v1715
  let c0_1406 : Index := 0#32
  let c0_1407 : Index := 0#32
  ![v1716.toNat, 0, 0]

def k0_chk246 (v1715 : BitVec 32) : Prop :=
  (∀ a, (k0_off246 v1715) a + S1x7x128.size a ≤ S10000x7x128.size a)
theorem k0_off246_inb : ∀ (v1715 : BitVec 32) (k0_hw246 : k0_chk246 v1715), ∀ a, (k0_off246 v1715) a + S1x7x128.size a ≤ S10000x7x128.size a := fun v1715 k0_hw246 => k0_hw246

def k0_off247 (v1722 : BitVec 32) : Fin 3 → Nat :=
  let v1723 : Index := Scalar.indexCast v1722
  let c0_1412 : Index := 0#32
  let c0_1413 : Index := 0#32
  ![v1723.toNat, 0, 0]

def k0_chk247 (v1722 : BitVec 32) : Prop :=
  (∀ a, (k0_off247 v1722) a + S1x7x128.size a ≤ S10000x7x128.size a)
theorem k0_off247_inb : ∀ (v1722 : BitVec 32) (k0_hw247 : k0_chk247 v1722), ∀ a, (k0_off247 v1722) a + S1x7x128.size a ≤ S10000x7x128.size a := fun v1722 k0_hw247 => k0_hw247

def k0_off248 (v1729 : BitVec 32) : Fin 3 → Nat :=
  let v1730 : Index := Scalar.indexCast v1729
  let c0_1418 : Index := 0#32
  let c0_1419 : Index := 0#32
  ![v1730.toNat, 0, 0]

def k0_chk248 (v1729 : BitVec 32) : Prop :=
  (∀ a, (k0_off248 v1729) a + S1x7x128.size a ≤ S10000x7x128.size a)
theorem k0_off248_inb : ∀ (v1729 : BitVec 32) (k0_hw248 : k0_chk248 v1729), ∀ a, (k0_off248 v1729) a + S1x7x128.size a ≤ S10000x7x128.size a := fun v1729 k0_hw248 => k0_hw248

def k0_off249 (v1736 : BitVec 32) : Fin 3 → Nat :=
  let v1737 : Index := Scalar.indexCast v1736
  let c0_1424 : Index := 0#32
  let c0_1425 : Index := 0#32
  ![v1737.toNat, 0, 0]

def k0_chk249 (v1736 : BitVec 32) : Prop :=
  (∀ a, (k0_off249 v1736) a + S1x7x128.size a ≤ S10000x7x128.size a)
theorem k0_off249_inb : ∀ (v1736 : BitVec 32) (k0_hw249 : k0_chk249 v1736), ∀ a, (k0_off249 v1736) a + S1x7x128.size a ≤ S10000x7x128.size a := fun v1736 k0_hw249 => k0_hw249

def k0_off250 (v1743 : BitVec 32) : Fin 3 → Nat :=
  let v1744 : Index := Scalar.indexCast v1743
  let c0_1430 : Index := 0#32
  let c0_1431 : Index := 0#32
  ![v1744.toNat, 0, 0]

def k0_chk250 (v1743 : BitVec 32) : Prop :=
  (∀ a, (k0_off250 v1743) a + S1x7x128.size a ≤ S10000x7x128.size a)
theorem k0_off250_inb : ∀ (v1743 : BitVec 32) (k0_hw250 : k0_chk250 v1743), ∀ a, (k0_off250 v1743) a + S1x7x128.size a ≤ S10000x7x128.size a := fun v1743 k0_hw250 => k0_hw250

def k0_off251 (v1750 : BitVec 32) : Fin 3 → Nat :=
  let v1751 : Index := Scalar.indexCast v1750
  let c0_1436 : Index := 0#32
  let c0_1437 : Index := 0#32
  ![v1751.toNat, 0, 0]

def k0_chk251 (v1750 : BitVec 32) : Prop :=
  (∀ a, (k0_off251 v1750) a + S1x7x128.size a ≤ S10000x7x128.size a)
theorem k0_off251_inb : ∀ (v1750 : BitVec 32) (k0_hw251 : k0_chk251 v1750), ∀ a, (k0_off251 v1750) a + S1x7x128.size a ≤ S10000x7x128.size a := fun v1750 k0_hw251 => k0_hw251

def k0_off252 (v1757 : BitVec 32) : Fin 3 → Nat :=
  let v1758 : Index := Scalar.indexCast v1757
  let c0_1442 : Index := 0#32
  let c0_1443 : Index := 0#32
  ![v1758.toNat, 0, 0]

def k0_chk252 (v1757 : BitVec 32) : Prop :=
  (∀ a, (k0_off252 v1757) a + S1x7x128.size a ≤ S10000x7x128.size a)
theorem k0_off252_inb : ∀ (v1757 : BitVec 32) (k0_hw252 : k0_chk252 v1757), ∀ a, (k0_off252 v1757) a + S1x7x128.size a ≤ S10000x7x128.size a := fun v1757 k0_hw252 => k0_hw252

def k0_off253 (v1764 : BitVec 32) : Fin 3 → Nat :=
  let v1765 : Index := Scalar.indexCast v1764
  let c0_1448 : Index := 0#32
  let c0_1449 : Index := 0#32
  ![v1765.toNat, 0, 0]

def k0_chk253 (v1764 : BitVec 32) : Prop :=
  (∀ a, (k0_off253 v1764) a + S1x7x128.size a ≤ S10000x7x128.size a)
theorem k0_off253_inb : ∀ (v1764 : BitVec 32) (k0_hw253 : k0_chk253 v1764), ∀ a, (k0_off253 v1764) a + S1x7x128.size a ≤ S10000x7x128.size a := fun v1764 k0_hw253 => k0_hw253

def k0_off254 (v1771 : BitVec 32) : Fin 3 → Nat :=
  let v1772 : Index := Scalar.indexCast v1771
  let c0_1454 : Index := 0#32
  let c0_1455 : Index := 0#32
  ![v1772.toNat, 0, 0]

def k0_chk254 (v1771 : BitVec 32) : Prop :=
  (∀ a, (k0_off254 v1771) a + S1x7x128.size a ≤ S10000x7x128.size a)
theorem k0_off254_inb : ∀ (v1771 : BitVec 32) (k0_hw254 : k0_chk254 v1771), ∀ a, (k0_off254 v1771) a + S1x7x128.size a ≤ S10000x7x128.size a := fun v1771 k0_hw254 => k0_hw254

def k0_off255 (v1778 : BitVec 32) : Fin 3 → Nat :=
  let v1779 : Index := Scalar.indexCast v1778
  let c0_1460 : Index := 0#32
  let c0_1461 : Index := 0#32
  ![v1779.toNat, 0, 0]

def k0_chk255 (v1778 : BitVec 32) : Prop :=
  (∀ a, (k0_off255 v1778) a + S1x7x128.size a ≤ S10000x7x128.size a)
theorem k0_off255_inb : ∀ (v1778 : BitVec 32) (k0_hw255 : k0_chk255 v1778), ∀ a, (k0_off255 v1778) a + S1x7x128.size a ≤ S10000x7x128.size a := fun v1778 k0_hw255 => k0_hw255

def k0_off256 (v1785 : BitVec 32) : Fin 3 → Nat :=
  let v1786 : Index := Scalar.indexCast v1785
  let c0_1466 : Index := 0#32
  let c0_1467 : Index := 0#32
  ![v1786.toNat, 0, 0]

def k0_chk256 (v1785 : BitVec 32) : Prop :=
  (∀ a, (k0_off256 v1785) a + S1x7x128.size a ≤ S10000x7x128.size a)
theorem k0_off256_inb : ∀ (v1785 : BitVec 32) (k0_hw256 : k0_chk256 v1785), ∀ a, (k0_off256 v1785) a + S1x7x128.size a ≤ S10000x7x128.size a := fun v1785 k0_hw256 => k0_hw256

def k0_off257 (v1792 : BitVec 32) : Fin 3 → Nat :=
  let v1793 : Index := Scalar.indexCast v1792
  let c0_1472 : Index := 0#32
  let c0_1473 : Index := 0#32
  ![v1793.toNat, 0, 0]

def k0_chk257 (v1792 : BitVec 32) : Prop :=
  (∀ a, (k0_off257 v1792) a + S1x7x128.size a ≤ S10000x7x128.size a)
theorem k0_off257_inb : ∀ (v1792 : BitVec 32) (k0_hw257 : k0_chk257 v1792), ∀ a, (k0_off257 v1792) a + S1x7x128.size a ≤ S10000x7x128.size a := fun v1792 k0_hw257 => k0_hw257

def k0_off258 (v1799 : BitVec 32) : Fin 3 → Nat :=
  let v1800 : Index := Scalar.indexCast v1799
  let c0_1477 : Index := 0#32
  let c0_1478 : Index := 0#32
  ![v1800.toNat, 0, 0]

def k0_chk258 (v1799 : BitVec 32) : Prop :=
  (∀ a, (k0_off258 v1799) a + S1x7x128.size a ≤ S10000x7x128.size a)
theorem k0_off258_inb : ∀ (v1799 : BitVec 32) (k0_hw258 : k0_chk258 v1799), ∀ a, (k0_off258 v1799) a + S1x7x128.size a ≤ S10000x7x128.size a := fun v1799 k0_hw258 => k0_hw258

def k0_off259 (v1806 : BitVec 32) : Fin 3 → Nat :=
  let v1807 : Index := Scalar.indexCast v1806
  let c0_1483 : Index := 0#32
  let c0_1484 : Index := 0#32
  ![v1807.toNat, 0, 0]

def k0_chk259 (v1806 : BitVec 32) : Prop :=
  (∀ a, (k0_off259 v1806) a + S1x7x128.size a ≤ S10000x7x128.size a)
theorem k0_off259_inb : ∀ (v1806 : BitVec 32) (k0_hw259 : k0_chk259 v1806), ∀ a, (k0_off259 v1806) a + S1x7x128.size a ≤ S10000x7x128.size a := fun v1806 k0_hw259 => k0_hw259

def k0_off260 (v1813 : BitVec 32) : Fin 3 → Nat :=
  let v1814 : Index := Scalar.indexCast v1813
  let c0_1489 : Index := 0#32
  let c0_1490 : Index := 0#32
  ![v1814.toNat, 0, 0]

def k0_chk260 (v1813 : BitVec 32) : Prop :=
  (∀ a, (k0_off260 v1813) a + S1x7x128.size a ≤ S10000x7x128.size a)
theorem k0_off260_inb : ∀ (v1813 : BitVec 32) (k0_hw260 : k0_chk260 v1813), ∀ a, (k0_off260 v1813) a + S1x7x128.size a ≤ S10000x7x128.size a := fun v1813 k0_hw260 => k0_hw260

def k0_off261 (v1820 : BitVec 32) : Fin 3 → Nat :=
  let v1821 : Index := Scalar.indexCast v1820
  let c0_1495 : Index := 0#32
  let c0_1496 : Index := 0#32
  ![v1821.toNat, 0, 0]

def k0_chk261 (v1820 : BitVec 32) : Prop :=
  (∀ a, (k0_off261 v1820) a + S1x7x128.size a ≤ S10000x7x128.size a)
theorem k0_off261_inb : ∀ (v1820 : BitVec 32) (k0_hw261 : k0_chk261 v1820), ∀ a, (k0_off261 v1820) a + S1x7x128.size a ≤ S10000x7x128.size a := fun v1820 k0_hw261 => k0_hw261

def k0_off262 (v1827 : BitVec 32) : Fin 3 → Nat :=
  let v1828 : Index := Scalar.indexCast v1827
  let c0_1501 : Index := 0#32
  let c0_1502 : Index := 0#32
  ![v1828.toNat, 0, 0]

def k0_chk262 (v1827 : BitVec 32) : Prop :=
  (∀ a, (k0_off262 v1827) a + S1x7x128.size a ≤ S10000x7x128.size a)
theorem k0_off262_inb : ∀ (v1827 : BitVec 32) (k0_hw262 : k0_chk262 v1827), ∀ a, (k0_off262 v1827) a + S1x7x128.size a ≤ S10000x7x128.size a := fun v1827 k0_hw262 => k0_hw262

def k0_off263 (v1834 : BitVec 32) : Fin 3 → Nat :=
  let v1835 : Index := Scalar.indexCast v1834
  let c0_1507 : Index := 0#32
  let c0_1508 : Index := 0#32
  ![v1835.toNat, 0, 0]

def k0_chk263 (v1834 : BitVec 32) : Prop :=
  (∀ a, (k0_off263 v1834) a + S1x7x128.size a ≤ S10000x7x128.size a)
theorem k0_off263_inb : ∀ (v1834 : BitVec 32) (k0_hw263 : k0_chk263 v1834), ∀ a, (k0_off263 v1834) a + S1x7x128.size a ≤ S10000x7x128.size a := fun v1834 k0_hw263 => k0_hw263

def k0_off264 (v1841 : BitVec 32) : Fin 3 → Nat :=
  let v1842 : Index := Scalar.indexCast v1841
  let c0_1513 : Index := 0#32
  let c0_1514 : Index := 0#32
  ![v1842.toNat, 0, 0]

def k0_chk264 (v1841 : BitVec 32) : Prop :=
  (∀ a, (k0_off264 v1841) a + S1x7x128.size a ≤ S10000x7x128.size a)
theorem k0_off264_inb : ∀ (v1841 : BitVec 32) (k0_hw264 : k0_chk264 v1841), ∀ a, (k0_off264 v1841) a + S1x7x128.size a ≤ S10000x7x128.size a := fun v1841 k0_hw264 => k0_hw264

def k0_off265 (v1848 : BitVec 32) : Fin 3 → Nat :=
  let v1849 : Index := Scalar.indexCast v1848
  let c0_1519 : Index := 0#32
  let c0_1520 : Index := 0#32
  ![v1849.toNat, 0, 0]

def k0_chk265 (v1848 : BitVec 32) : Prop :=
  (∀ a, (k0_off265 v1848) a + S1x7x128.size a ≤ S10000x7x128.size a)
theorem k0_off265_inb : ∀ (v1848 : BitVec 32) (k0_hw265 : k0_chk265 v1848), ∀ a, (k0_off265 v1848) a + S1x7x128.size a ≤ S10000x7x128.size a := fun v1848 k0_hw265 => k0_hw265

def k0_off266 (v1855 : BitVec 32) : Fin 3 → Nat :=
  let v1856 : Index := Scalar.indexCast v1855
  let c0_1525 : Index := 0#32
  let c0_1526 : Index := 0#32
  ![v1856.toNat, 0, 0]

def k0_chk266 (v1855 : BitVec 32) : Prop :=
  (∀ a, (k0_off266 v1855) a + S1x7x128.size a ≤ S10000x7x128.size a)
theorem k0_off266_inb : ∀ (v1855 : BitVec 32) (k0_hw266 : k0_chk266 v1855), ∀ a, (k0_off266 v1855) a + S1x7x128.size a ≤ S10000x7x128.size a := fun v1855 k0_hw266 => k0_hw266

def k0_off267 (v1862 : BitVec 32) : Fin 3 → Nat :=
  let v1863 : Index := Scalar.indexCast v1862
  let c0_1531 : Index := 0#32
  let c0_1532 : Index := 0#32
  ![v1863.toNat, 0, 0]

def k0_chk267 (v1862 : BitVec 32) : Prop :=
  (∀ a, (k0_off267 v1862) a + S1x7x128.size a ≤ S10000x7x128.size a)
theorem k0_off267_inb : ∀ (v1862 : BitVec 32) (k0_hw267 : k0_chk267 v1862), ∀ a, (k0_off267 v1862) a + S1x7x128.size a ≤ S10000x7x128.size a := fun v1862 k0_hw267 => k0_hw267

def k0_off268 (v1869 : BitVec 32) : Fin 3 → Nat :=
  let v1870 : Index := Scalar.indexCast v1869
  let c0_1537 : Index := 0#32
  let c0_1538 : Index := 0#32
  ![v1870.toNat, 0, 0]

def k0_chk268 (v1869 : BitVec 32) : Prop :=
  (∀ a, (k0_off268 v1869) a + S1x7x128.size a ≤ S10000x7x128.size a)
theorem k0_off268_inb : ∀ (v1869 : BitVec 32) (k0_hw268 : k0_chk268 v1869), ∀ a, (k0_off268 v1869) a + S1x7x128.size a ≤ S10000x7x128.size a := fun v1869 k0_hw268 => k0_hw268

def k0_off269 (v1876 : BitVec 32) : Fin 3 → Nat :=
  let v1877 : Index := Scalar.indexCast v1876
  let c0_1543 : Index := 0#32
  let c0_1544 : Index := 0#32
  ![v1877.toNat, 0, 0]

def k0_chk269 (v1876 : BitVec 32) : Prop :=
  (∀ a, (k0_off269 v1876) a + S1x7x128.size a ≤ S10000x7x128.size a)
theorem k0_off269_inb : ∀ (v1876 : BitVec 32) (k0_hw269 : k0_chk269 v1876), ∀ a, (k0_off269 v1876) a + S1x7x128.size a ≤ S10000x7x128.size a := fun v1876 k0_hw269 => k0_hw269

def k0_off270 (v1883 : BitVec 32) : Fin 3 → Nat :=
  let v1884 : Index := Scalar.indexCast v1883
  let c0_1549 : Index := 0#32
  let c0_1550 : Index := 0#32
  ![v1884.toNat, 0, 0]

def k0_chk270 (v1883 : BitVec 32) : Prop :=
  (∀ a, (k0_off270 v1883) a + S1x7x128.size a ≤ S10000x7x128.size a)
theorem k0_off270_inb : ∀ (v1883 : BitVec 32) (k0_hw270 : k0_chk270 v1883), ∀ a, (k0_off270 v1883) a + S1x7x128.size a ≤ S10000x7x128.size a := fun v1883 k0_hw270 => k0_hw270

def k0_off271 (v1890 : BitVec 32) : Fin 3 → Nat :=
  let v1891 : Index := Scalar.indexCast v1890
  let c0_1555 : Index := 0#32
  let c0_1556 : Index := 0#32
  ![v1891.toNat, 0, 0]

def k0_chk271 (v1890 : BitVec 32) : Prop :=
  (∀ a, (k0_off271 v1890) a + S1x7x128.size a ≤ S10000x7x128.size a)
theorem k0_off271_inb : ∀ (v1890 : BitVec 32) (k0_hw271 : k0_chk271 v1890), ∀ a, (k0_off271 v1890) a + S1x7x128.size a ≤ S10000x7x128.size a := fun v1890 k0_hw271 => k0_hw271

def k0_off272 (v1897 : BitVec 32) : Fin 3 → Nat :=
  let v1898 : Index := Scalar.indexCast v1897
  let c0_1561 : Index := 0#32
  let c0_1562 : Index := 0#32
  ![v1898.toNat, 0, 0]

def k0_chk272 (v1897 : BitVec 32) : Prop :=
  (∀ a, (k0_off272 v1897) a + S1x7x128.size a ≤ S10000x7x128.size a)
theorem k0_off272_inb : ∀ (v1897 : BitVec 32) (k0_hw272 : k0_chk272 v1897), ∀ a, (k0_off272 v1897) a + S1x7x128.size a ≤ S10000x7x128.size a := fun v1897 k0_hw272 => k0_hw272

def k0_off273 (v1904 : BitVec 32) : Fin 3 → Nat :=
  let v1905 : Index := Scalar.indexCast v1904
  let c0_1567 : Index := 0#32
  let c0_1568 : Index := 0#32
  ![v1905.toNat, 0, 0]

def k0_chk273 (v1904 : BitVec 32) : Prop :=
  (∀ a, (k0_off273 v1904) a + S1x7x128.size a ≤ S10000x7x128.size a)
theorem k0_off273_inb : ∀ (v1904 : BitVec 32) (k0_hw273 : k0_chk273 v1904), ∀ a, (k0_off273 v1904) a + S1x7x128.size a ≤ S10000x7x128.size a := fun v1904 k0_hw273 => k0_hw273

def k0_off274 (v1911 : BitVec 32) : Fin 3 → Nat :=
  let v1912 : Index := Scalar.indexCast v1911
  let c0_1573 : Index := 0#32
  let c0_1574 : Index := 0#32
  ![v1912.toNat, 0, 0]

def k0_chk274 (v1911 : BitVec 32) : Prop :=
  (∀ a, (k0_off274 v1911) a + S1x7x128.size a ≤ S10000x7x128.size a)
theorem k0_off274_inb : ∀ (v1911 : BitVec 32) (k0_hw274 : k0_chk274 v1911), ∀ a, (k0_off274 v1911) a + S1x7x128.size a ≤ S10000x7x128.size a := fun v1911 k0_hw274 => k0_hw274

def k0_off275 (v1918 : BitVec 32) : Fin 3 → Nat :=
  let v1919 : Index := Scalar.indexCast v1918
  let c0_1579 : Index := 0#32
  let c0_1580 : Index := 0#32
  ![v1919.toNat, 0, 0]

def k0_chk275 (v1918 : BitVec 32) : Prop :=
  (∀ a, (k0_off275 v1918) a + S1x7x128.size a ≤ S10000x7x128.size a)
theorem k0_off275_inb : ∀ (v1918 : BitVec 32) (k0_hw275 : k0_chk275 v1918), ∀ a, (k0_off275 v1918) a + S1x7x128.size a ≤ S10000x7x128.size a := fun v1918 k0_hw275 => k0_hw275

def k0_off276 (v1925 : BitVec 32) : Fin 3 → Nat :=
  let v1926 : Index := Scalar.indexCast v1925
  let c0_1585 : Index := 0#32
  let c0_1586 : Index := 0#32
  ![v1926.toNat, 0, 0]

def k0_chk276 (v1925 : BitVec 32) : Prop :=
  (∀ a, (k0_off276 v1925) a + S1x7x128.size a ≤ S10000x7x128.size a)
theorem k0_off276_inb : ∀ (v1925 : BitVec 32) (k0_hw276 : k0_chk276 v1925), ∀ a, (k0_off276 v1925) a + S1x7x128.size a ≤ S10000x7x128.size a := fun v1925 k0_hw276 => k0_hw276

def k0_off277 (v1932 : BitVec 32) : Fin 3 → Nat :=
  let v1933 : Index := Scalar.indexCast v1932
  let c0_1591 : Index := 0#32
  let c0_1592 : Index := 0#32
  ![v1933.toNat, 0, 0]

def k0_chk277 (v1932 : BitVec 32) : Prop :=
  (∀ a, (k0_off277 v1932) a + S1x7x128.size a ≤ S10000x7x128.size a)
theorem k0_off277_inb : ∀ (v1932 : BitVec 32) (k0_hw277 : k0_chk277 v1932), ∀ a, (k0_off277 v1932) a + S1x7x128.size a ≤ S10000x7x128.size a := fun v1932 k0_hw277 => k0_hw277

def k0_off278 (v1939 : BitVec 32) : Fin 3 → Nat :=
  let v1940 : Index := Scalar.indexCast v1939
  let c0_1597 : Index := 0#32
  let c0_1598 : Index := 0#32
  ![v1940.toNat, 0, 0]

def k0_chk278 (v1939 : BitVec 32) : Prop :=
  (∀ a, (k0_off278 v1939) a + S1x7x128.size a ≤ S10000x7x128.size a)
theorem k0_off278_inb : ∀ (v1939 : BitVec 32) (k0_hw278 : k0_chk278 v1939), ∀ a, (k0_off278 v1939) a + S1x7x128.size a ≤ S10000x7x128.size a := fun v1939 k0_hw278 => k0_hw278

def k0_off279 (v1946 : BitVec 32) : Fin 3 → Nat :=
  let v1947 : Index := Scalar.indexCast v1946
  let c0_1603 : Index := 0#32
  let c0_1604 : Index := 0#32
  ![v1947.toNat, 0, 0]

def k0_chk279 (v1946 : BitVec 32) : Prop :=
  (∀ a, (k0_off279 v1946) a + S1x7x128.size a ≤ S10000x7x128.size a)
theorem k0_off279_inb : ∀ (v1946 : BitVec 32) (k0_hw279 : k0_chk279 v1946), ∀ a, (k0_off279 v1946) a + S1x7x128.size a ≤ S10000x7x128.size a := fun v1946 k0_hw279 => k0_hw279

def k0_off280 (v1953 : BitVec 32) : Fin 3 → Nat :=
  let v1954 : Index := Scalar.indexCast v1953
  let c0_1609 : Index := 0#32
  let c0_1610 : Index := 0#32
  ![v1954.toNat, 0, 0]

def k0_chk280 (v1953 : BitVec 32) : Prop :=
  (∀ a, (k0_off280 v1953) a + S1x7x128.size a ≤ S10000x7x128.size a)
theorem k0_off280_inb : ∀ (v1953 : BitVec 32) (k0_hw280 : k0_chk280 v1953), ∀ a, (k0_off280 v1953) a + S1x7x128.size a ≤ S10000x7x128.size a := fun v1953 k0_hw280 => k0_hw280

def k0_off281 (v1960 : BitVec 32) : Fin 3 → Nat :=
  let v1961 : Index := Scalar.indexCast v1960
  let c0_1615 : Index := 0#32
  let c0_1616 : Index := 0#32
  ![v1961.toNat, 0, 0]

def k0_chk281 (v1960 : BitVec 32) : Prop :=
  (∀ a, (k0_off281 v1960) a + S1x7x128.size a ≤ S10000x7x128.size a)
theorem k0_off281_inb : ∀ (v1960 : BitVec 32) (k0_hw281 : k0_chk281 v1960), ∀ a, (k0_off281 v1960) a + S1x7x128.size a ≤ S10000x7x128.size a := fun v1960 k0_hw281 => k0_hw281

def k0_off282 (v1967 : BitVec 32) : Fin 3 → Nat :=
  let v1968 : Index := Scalar.indexCast v1967
  let c0_1621 : Index := 0#32
  let c0_1622 : Index := 0#32
  ![v1968.toNat, 0, 0]

def k0_chk282 (v1967 : BitVec 32) : Prop :=
  (∀ a, (k0_off282 v1967) a + S1x7x128.size a ≤ S10000x7x128.size a)
theorem k0_off282_inb : ∀ (v1967 : BitVec 32) (k0_hw282 : k0_chk282 v1967), ∀ a, (k0_off282 v1967) a + S1x7x128.size a ≤ S10000x7x128.size a := fun v1967 k0_hw282 => k0_hw282

def k0_off283 (v1974 : BitVec 32) : Fin 3 → Nat :=
  let v1975 : Index := Scalar.indexCast v1974
  let c0_1627 : Index := 0#32
  let c0_1628 : Index := 0#32
  ![v1975.toNat, 0, 0]

def k0_chk283 (v1974 : BitVec 32) : Prop :=
  (∀ a, (k0_off283 v1974) a + S1x7x128.size a ≤ S10000x7x128.size a)
theorem k0_off283_inb : ∀ (v1974 : BitVec 32) (k0_hw283 : k0_chk283 v1974), ∀ a, (k0_off283 v1974) a + S1x7x128.size a ≤ S10000x7x128.size a := fun v1974 k0_hw283 => k0_hw283

def k0_off284 (v1981 : BitVec 32) : Fin 3 → Nat :=
  let v1982 : Index := Scalar.indexCast v1981
  let c0_1633 : Index := 0#32
  let c0_1634 : Index := 0#32
  ![v1982.toNat, 0, 0]

def k0_chk284 (v1981 : BitVec 32) : Prop :=
  (∀ a, (k0_off284 v1981) a + S1x7x128.size a ≤ S10000x7x128.size a)
theorem k0_off284_inb : ∀ (v1981 : BitVec 32) (k0_hw284 : k0_chk284 v1981), ∀ a, (k0_off284 v1981) a + S1x7x128.size a ≤ S10000x7x128.size a := fun v1981 k0_hw284 => k0_hw284

def k0_off285 (v1988 : BitVec 32) : Fin 3 → Nat :=
  let v1989 : Index := Scalar.indexCast v1988
  let c0_1639 : Index := 0#32
  let c0_1640 : Index := 0#32
  ![v1989.toNat, 0, 0]

def k0_chk285 (v1988 : BitVec 32) : Prop :=
  (∀ a, (k0_off285 v1988) a + S1x7x128.size a ≤ S10000x7x128.size a)
theorem k0_off285_inb : ∀ (v1988 : BitVec 32) (k0_hw285 : k0_chk285 v1988), ∀ a, (k0_off285 v1988) a + S1x7x128.size a ≤ S10000x7x128.size a := fun v1988 k0_hw285 => k0_hw285

def k0_off286 (v1995 : BitVec 32) : Fin 3 → Nat :=
  let v1996 : Index := Scalar.indexCast v1995
  let c0_1645 : Index := 0#32
  let c0_1646 : Index := 0#32
  ![v1996.toNat, 0, 0]

def k0_chk286 (v1995 : BitVec 32) : Prop :=
  (∀ a, (k0_off286 v1995) a + S1x7x128.size a ≤ S10000x7x128.size a)
theorem k0_off286_inb : ∀ (v1995 : BitVec 32) (k0_hw286 : k0_chk286 v1995), ∀ a, (k0_off286 v1995) a + S1x7x128.size a ≤ S10000x7x128.size a := fun v1995 k0_hw286 => k0_hw286

def k0_off287 (v2002 : BitVec 32) : Fin 3 → Nat :=
  let v2003 : Index := Scalar.indexCast v2002
  let c0_1651 : Index := 0#32
  let c0_1652 : Index := 0#32
  ![v2003.toNat, 0, 0]

def k0_chk287 (v2002 : BitVec 32) : Prop :=
  (∀ a, (k0_off287 v2002) a + S1x7x128.size a ≤ S10000x7x128.size a)
theorem k0_off287_inb : ∀ (v2002 : BitVec 32) (k0_hw287 : k0_chk287 v2002), ∀ a, (k0_off287 v2002) a + S1x7x128.size a ≤ S10000x7x128.size a := fun v2002 k0_hw287 => k0_hw287

def k0_off288 (v2009 : BitVec 32) : Fin 3 → Nat :=
  let v2010 : Index := Scalar.indexCast v2009
  let c0_1657 : Index := 0#32
  let c0_1658 : Index := 0#32
  ![v2010.toNat, 0, 0]

def k0_chk288 (v2009 : BitVec 32) : Prop :=
  (∀ a, (k0_off288 v2009) a + S1x7x128.size a ≤ S10000x7x128.size a)
theorem k0_off288_inb : ∀ (v2009 : BitVec 32) (k0_hw288 : k0_chk288 v2009), ∀ a, (k0_off288 v2009) a + S1x7x128.size a ≤ S10000x7x128.size a := fun v2009 k0_hw288 => k0_hw288

def k0_off289 (v2016 : BitVec 32) : Fin 3 → Nat :=
  let v2017 : Index := Scalar.indexCast v2016
  let c0_1663 : Index := 0#32
  let c0_1664 : Index := 0#32
  ![v2017.toNat, 0, 0]

def k0_chk289 (v2016 : BitVec 32) : Prop :=
  (∀ a, (k0_off289 v2016) a + S1x7x128.size a ≤ S10000x7x128.size a)
theorem k0_off289_inb : ∀ (v2016 : BitVec 32) (k0_hw289 : k0_chk289 v2016), ∀ a, (k0_off289 v2016) a + S1x7x128.size a ≤ S10000x7x128.size a := fun v2016 k0_hw289 => k0_hw289

def k0_off290 (v2023 : BitVec 32) : Fin 3 → Nat :=
  let v2024 : Index := Scalar.indexCast v2023
  let c0_1668 : Index := 0#32
  let c0_1669 : Index := 0#32
  ![v2024.toNat, 0, 0]

def k0_chk290 (v2023 : BitVec 32) : Prop :=
  (∀ a, (k0_off290 v2023) a + S1x7x128.size a ≤ S10000x7x128.size a)
theorem k0_off290_inb : ∀ (v2023 : BitVec 32) (k0_hw290 : k0_chk290 v2023), ∀ a, (k0_off290 v2023) a + S1x7x128.size a ≤ S10000x7x128.size a := fun v2023 k0_hw290 => k0_hw290

def k0_off291 (v2030 : BitVec 32) : Fin 3 → Nat :=
  let v2031 : Index := Scalar.indexCast v2030
  let c0_1674 : Index := 0#32
  let c0_1675 : Index := 0#32
  ![v2031.toNat, 0, 0]

def k0_chk291 (v2030 : BitVec 32) : Prop :=
  (∀ a, (k0_off291 v2030) a + S1x7x128.size a ≤ S10000x7x128.size a)
theorem k0_off291_inb : ∀ (v2030 : BitVec 32) (k0_hw291 : k0_chk291 v2030), ∀ a, (k0_off291 v2030) a + S1x7x128.size a ≤ S10000x7x128.size a := fun v2030 k0_hw291 => k0_hw291

def k0_off292 (v2037 : BitVec 32) : Fin 3 → Nat :=
  let v2038 : Index := Scalar.indexCast v2037
  let c0_1680 : Index := 0#32
  let c0_1681 : Index := 0#32
  ![v2038.toNat, 0, 0]

def k0_chk292 (v2037 : BitVec 32) : Prop :=
  (∀ a, (k0_off292 v2037) a + S1x7x128.size a ≤ S10000x7x128.size a)
theorem k0_off292_inb : ∀ (v2037 : BitVec 32) (k0_hw292 : k0_chk292 v2037), ∀ a, (k0_off292 v2037) a + S1x7x128.size a ≤ S10000x7x128.size a := fun v2037 k0_hw292 => k0_hw292

def k0_off293 (v2044 : BitVec 32) : Fin 3 → Nat :=
  let v2045 : Index := Scalar.indexCast v2044
  let c0_1686 : Index := 0#32
  let c0_1687 : Index := 0#32
  ![v2045.toNat, 0, 0]

def k0_chk293 (v2044 : BitVec 32) : Prop :=
  (∀ a, (k0_off293 v2044) a + S1x7x128.size a ≤ S10000x7x128.size a)
theorem k0_off293_inb : ∀ (v2044 : BitVec 32) (k0_hw293 : k0_chk293 v2044), ∀ a, (k0_off293 v2044) a + S1x7x128.size a ≤ S10000x7x128.size a := fun v2044 k0_hw293 => k0_hw293

def k0_off294 (v2051 : BitVec 32) : Fin 3 → Nat :=
  let v2052 : Index := Scalar.indexCast v2051
  let c0_1692 : Index := 0#32
  let c0_1693 : Index := 0#32
  ![v2052.toNat, 0, 0]

def k0_chk294 (v2051 : BitVec 32) : Prop :=
  (∀ a, (k0_off294 v2051) a + S1x7x128.size a ≤ S10000x7x128.size a)
theorem k0_off294_inb : ∀ (v2051 : BitVec 32) (k0_hw294 : k0_chk294 v2051), ∀ a, (k0_off294 v2051) a + S1x7x128.size a ≤ S10000x7x128.size a := fun v2051 k0_hw294 => k0_hw294

def k0_off295 (v2058 : BitVec 32) : Fin 3 → Nat :=
  let v2059 : Index := Scalar.indexCast v2058
  let c0_1698 : Index := 0#32
  let c0_1699 : Index := 0#32
  ![v2059.toNat, 0, 0]

def k0_chk295 (v2058 : BitVec 32) : Prop :=
  (∀ a, (k0_off295 v2058) a + S1x7x128.size a ≤ S10000x7x128.size a)
theorem k0_off295_inb : ∀ (v2058 : BitVec 32) (k0_hw295 : k0_chk295 v2058), ∀ a, (k0_off295 v2058) a + S1x7x128.size a ≤ S10000x7x128.size a := fun v2058 k0_hw295 => k0_hw295

def k0_off296 (v2065 : BitVec 32) : Fin 3 → Nat :=
  let v2066 : Index := Scalar.indexCast v2065
  let c0_1704 : Index := 0#32
  let c0_1705 : Index := 0#32
  ![v2066.toNat, 0, 0]

def k0_chk296 (v2065 : BitVec 32) : Prop :=
  (∀ a, (k0_off296 v2065) a + S1x7x128.size a ≤ S10000x7x128.size a)
theorem k0_off296_inb : ∀ (v2065 : BitVec 32) (k0_hw296 : k0_chk296 v2065), ∀ a, (k0_off296 v2065) a + S1x7x128.size a ≤ S10000x7x128.size a := fun v2065 k0_hw296 => k0_hw296

def k0_off297 (v2072 : BitVec 32) : Fin 3 → Nat :=
  let v2073 : Index := Scalar.indexCast v2072
  let c0_1710 : Index := 0#32
  let c0_1711 : Index := 0#32
  ![v2073.toNat, 0, 0]

def k0_chk297 (v2072 : BitVec 32) : Prop :=
  (∀ a, (k0_off297 v2072) a + S1x7x128.size a ≤ S10000x7x128.size a)
theorem k0_off297_inb : ∀ (v2072 : BitVec 32) (k0_hw297 : k0_chk297 v2072), ∀ a, (k0_off297 v2072) a + S1x7x128.size a ≤ S10000x7x128.size a := fun v2072 k0_hw297 => k0_hw297

def k0_off298 (v2079 : BitVec 32) : Fin 3 → Nat :=
  let v2080 : Index := Scalar.indexCast v2079
  let c0_1716 : Index := 0#32
  let c0_1717 : Index := 0#32
  ![v2080.toNat, 0, 0]

def k0_chk298 (v2079 : BitVec 32) : Prop :=
  (∀ a, (k0_off298 v2079) a + S1x7x128.size a ≤ S10000x7x128.size a)
theorem k0_off298_inb : ∀ (v2079 : BitVec 32) (k0_hw298 : k0_chk298 v2079), ∀ a, (k0_off298 v2079) a + S1x7x128.size a ≤ S10000x7x128.size a := fun v2079 k0_hw298 => k0_hw298

def k0_off299 (v2086 : BitVec 32) : Fin 3 → Nat :=
  let v2087 : Index := Scalar.indexCast v2086
  let c0_1722 : Index := 0#32
  let c0_1723 : Index := 0#32
  ![v2087.toNat, 0, 0]

def k0_chk299 (v2086 : BitVec 32) : Prop :=
  (∀ a, (k0_off299 v2086) a + S1x7x128.size a ≤ S10000x7x128.size a)
theorem k0_off299_inb : ∀ (v2086 : BitVec 32) (k0_hw299 : k0_chk299 v2086), ∀ a, (k0_off299 v2086) a + S1x7x128.size a ≤ S10000x7x128.size a := fun v2086 k0_hw299 => k0_hw299

def k0_off300 (v2093 : BitVec 32) : Fin 3 → Nat :=
  let v2094 : Index := Scalar.indexCast v2093
  let c0_1728 : Index := 0#32
  let c0_1729 : Index := 0#32
  ![v2094.toNat, 0, 0]

def k0_chk300 (v2093 : BitVec 32) : Prop :=
  (∀ a, (k0_off300 v2093) a + S1x7x128.size a ≤ S10000x7x128.size a)
theorem k0_off300_inb : ∀ (v2093 : BitVec 32) (k0_hw300 : k0_chk300 v2093), ∀ a, (k0_off300 v2093) a + S1x7x128.size a ≤ S10000x7x128.size a := fun v2093 k0_hw300 => k0_hw300

def k0_off301 (v2100 : BitVec 32) : Fin 3 → Nat :=
  let v2101 : Index := Scalar.indexCast v2100
  let c0_1734 : Index := 0#32
  let c0_1735 : Index := 0#32
  ![v2101.toNat, 0, 0]

def k0_chk301 (v2100 : BitVec 32) : Prop :=
  (∀ a, (k0_off301 v2100) a + S1x7x128.size a ≤ S10000x7x128.size a)
theorem k0_off301_inb : ∀ (v2100 : BitVec 32) (k0_hw301 : k0_chk301 v2100), ∀ a, (k0_off301 v2100) a + S1x7x128.size a ≤ S10000x7x128.size a := fun v2100 k0_hw301 => k0_hw301

def k0_off302 (v2107 : BitVec 32) : Fin 3 → Nat :=
  let v2108 : Index := Scalar.indexCast v2107
  let c0_1740 : Index := 0#32
  let c0_1741 : Index := 0#32
  ![v2108.toNat, 0, 0]

def k0_chk302 (v2107 : BitVec 32) : Prop :=
  (∀ a, (k0_off302 v2107) a + S1x7x128.size a ≤ S10000x7x128.size a)
theorem k0_off302_inb : ∀ (v2107 : BitVec 32) (k0_hw302 : k0_chk302 v2107), ∀ a, (k0_off302 v2107) a + S1x7x128.size a ≤ S10000x7x128.size a := fun v2107 k0_hw302 => k0_hw302

def k0_off303 (v2114 : BitVec 32) : Fin 3 → Nat :=
  let v2115 : Index := Scalar.indexCast v2114
  let c0_1746 : Index := 0#32
  let c0_1747 : Index := 0#32
  ![v2115.toNat, 0, 0]

def k0_chk303 (v2114 : BitVec 32) : Prop :=
  (∀ a, (k0_off303 v2114) a + S1x7x128.size a ≤ S10000x7x128.size a)
theorem k0_off303_inb : ∀ (v2114 : BitVec 32) (k0_hw303 : k0_chk303 v2114), ∀ a, (k0_off303 v2114) a + S1x7x128.size a ≤ S10000x7x128.size a := fun v2114 k0_hw303 => k0_hw303

def k0_off304 (v2121 : BitVec 32) : Fin 3 → Nat :=
  let v2122 : Index := Scalar.indexCast v2121
  let c0_1752 : Index := 0#32
  let c0_1753 : Index := 0#32
  ![v2122.toNat, 0, 0]

def k0_chk304 (v2121 : BitVec 32) : Prop :=
  (∀ a, (k0_off304 v2121) a + S1x7x128.size a ≤ S10000x7x128.size a)
theorem k0_off304_inb : ∀ (v2121 : BitVec 32) (k0_hw304 : k0_chk304 v2121), ∀ a, (k0_off304 v2121) a + S1x7x128.size a ≤ S10000x7x128.size a := fun v2121 k0_hw304 => k0_hw304

def k0_off305 (v2128 : BitVec 32) : Fin 3 → Nat :=
  let v2129 : Index := Scalar.indexCast v2128
  let c0_1758 : Index := 0#32
  let c0_1759 : Index := 0#32
  ![v2129.toNat, 0, 0]

def k0_chk305 (v2128 : BitVec 32) : Prop :=
  (∀ a, (k0_off305 v2128) a + S1x7x128.size a ≤ S10000x7x128.size a)
theorem k0_off305_inb : ∀ (v2128 : BitVec 32) (k0_hw305 : k0_chk305 v2128), ∀ a, (k0_off305 v2128) a + S1x7x128.size a ≤ S10000x7x128.size a := fun v2128 k0_hw305 => k0_hw305

def k0_off306 (v2135 : BitVec 32) : Fin 3 → Nat :=
  let v2136 : Index := Scalar.indexCast v2135
  let c0_1764 : Index := 0#32
  let c0_1765 : Index := 0#32
  ![v2136.toNat, 0, 0]

def k0_chk306 (v2135 : BitVec 32) : Prop :=
  (∀ a, (k0_off306 v2135) a + S1x7x128.size a ≤ S10000x7x128.size a)
theorem k0_off306_inb : ∀ (v2135 : BitVec 32) (k0_hw306 : k0_chk306 v2135), ∀ a, (k0_off306 v2135) a + S1x7x128.size a ≤ S10000x7x128.size a := fun v2135 k0_hw306 => k0_hw306

def k0_off307 (v2142 : BitVec 32) : Fin 3 → Nat :=
  let v2143 : Index := Scalar.indexCast v2142
  let c0_1770 : Index := 0#32
  let c0_1771 : Index := 0#32
  ![v2143.toNat, 0, 0]

def k0_chk307 (v2142 : BitVec 32) : Prop :=
  (∀ a, (k0_off307 v2142) a + S1x7x128.size a ≤ S10000x7x128.size a)
theorem k0_off307_inb : ∀ (v2142 : BitVec 32) (k0_hw307 : k0_chk307 v2142), ∀ a, (k0_off307 v2142) a + S1x7x128.size a ≤ S10000x7x128.size a := fun v2142 k0_hw307 => k0_hw307

def k0_off308 (v2149 : BitVec 32) : Fin 3 → Nat :=
  let v2150 : Index := Scalar.indexCast v2149
  let c0_1776 : Index := 0#32
  let c0_1777 : Index := 0#32
  ![v2150.toNat, 0, 0]

def k0_chk308 (v2149 : BitVec 32) : Prop :=
  (∀ a, (k0_off308 v2149) a + S1x7x128.size a ≤ S10000x7x128.size a)
theorem k0_off308_inb : ∀ (v2149 : BitVec 32) (k0_hw308 : k0_chk308 v2149), ∀ a, (k0_off308 v2149) a + S1x7x128.size a ≤ S10000x7x128.size a := fun v2149 k0_hw308 => k0_hw308

def k0_off309 (v2156 : BitVec 32) : Fin 3 → Nat :=
  let v2157 : Index := Scalar.indexCast v2156
  let c0_1782 : Index := 0#32
  let c0_1783 : Index := 0#32
  ![v2157.toNat, 0, 0]

def k0_chk309 (v2156 : BitVec 32) : Prop :=
  (∀ a, (k0_off309 v2156) a + S1x7x128.size a ≤ S10000x7x128.size a)
theorem k0_off309_inb : ∀ (v2156 : BitVec 32) (k0_hw309 : k0_chk309 v2156), ∀ a, (k0_off309 v2156) a + S1x7x128.size a ≤ S10000x7x128.size a := fun v2156 k0_hw309 => k0_hw309

def k0_off310 (v2163 : BitVec 32) : Fin 3 → Nat :=
  let v2164 : Index := Scalar.indexCast v2163
  let c0_1788 : Index := 0#32
  let c0_1789 : Index := 0#32
  ![v2164.toNat, 0, 0]

def k0_chk310 (v2163 : BitVec 32) : Prop :=
  (∀ a, (k0_off310 v2163) a + S1x7x128.size a ≤ S10000x7x128.size a)
theorem k0_off310_inb : ∀ (v2163 : BitVec 32) (k0_hw310 : k0_chk310 v2163), ∀ a, (k0_off310 v2163) a + S1x7x128.size a ≤ S10000x7x128.size a := fun v2163 k0_hw310 => k0_hw310

def k0_off311 (v2170 : BitVec 32) : Fin 3 → Nat :=
  let v2171 : Index := Scalar.indexCast v2170
  let c0_1794 : Index := 0#32
  let c0_1795 : Index := 0#32
  ![v2171.toNat, 0, 0]

def k0_chk311 (v2170 : BitVec 32) : Prop :=
  (∀ a, (k0_off311 v2170) a + S1x7x128.size a ≤ S10000x7x128.size a)
theorem k0_off311_inb : ∀ (v2170 : BitVec 32) (k0_hw311 : k0_chk311 v2170), ∀ a, (k0_off311 v2170) a + S1x7x128.size a ≤ S10000x7x128.size a := fun v2170 k0_hw311 => k0_hw311

def k0_off312 (v2177 : BitVec 32) : Fin 3 → Nat :=
  let v2178 : Index := Scalar.indexCast v2177
  let c0_1800 : Index := 0#32
  let c0_1801 : Index := 0#32
  ![v2178.toNat, 0, 0]

def k0_chk312 (v2177 : BitVec 32) : Prop :=
  (∀ a, (k0_off312 v2177) a + S1x7x128.size a ≤ S10000x7x128.size a)
theorem k0_off312_inb : ∀ (v2177 : BitVec 32) (k0_hw312 : k0_chk312 v2177), ∀ a, (k0_off312 v2177) a + S1x7x128.size a ≤ S10000x7x128.size a := fun v2177 k0_hw312 => k0_hw312

def k0_off313 (v2184 : BitVec 32) : Fin 3 → Nat :=
  let v2185 : Index := Scalar.indexCast v2184
  let c0_1806 : Index := 0#32
  let c0_1807 : Index := 0#32
  ![v2185.toNat, 0, 0]

def k0_chk313 (v2184 : BitVec 32) : Prop :=
  (∀ a, (k0_off313 v2184) a + S1x7x128.size a ≤ S10000x7x128.size a)
theorem k0_off313_inb : ∀ (v2184 : BitVec 32) (k0_hw313 : k0_chk313 v2184), ∀ a, (k0_off313 v2184) a + S1x7x128.size a ≤ S10000x7x128.size a := fun v2184 k0_hw313 => k0_hw313

def k0_off314 (v2191 : BitVec 32) : Fin 3 → Nat :=
  let v2192 : Index := Scalar.indexCast v2191
  let c0_1812 : Index := 0#32
  let c0_1813 : Index := 0#32
  ![v2192.toNat, 0, 0]

def k0_chk314 (v2191 : BitVec 32) : Prop :=
  (∀ a, (k0_off314 v2191) a + S1x7x128.size a ≤ S10000x7x128.size a)
theorem k0_off314_inb : ∀ (v2191 : BitVec 32) (k0_hw314 : k0_chk314 v2191), ∀ a, (k0_off314 v2191) a + S1x7x128.size a ≤ S10000x7x128.size a := fun v2191 k0_hw314 => k0_hw314

def k0_off315 (v2198 : BitVec 32) : Fin 3 → Nat :=
  let v2199 : Index := Scalar.indexCast v2198
  let c0_1818 : Index := 0#32
  let c0_1819 : Index := 0#32
  ![v2199.toNat, 0, 0]

def k0_chk315 (v2198 : BitVec 32) : Prop :=
  (∀ a, (k0_off315 v2198) a + S1x7x128.size a ≤ S10000x7x128.size a)
theorem k0_off315_inb : ∀ (v2198 : BitVec 32) (k0_hw315 : k0_chk315 v2198), ∀ a, (k0_off315 v2198) a + S1x7x128.size a ≤ S10000x7x128.size a := fun v2198 k0_hw315 => k0_hw315

def k0_off316 (v2205 : BitVec 32) : Fin 3 → Nat :=
  let v2206 : Index := Scalar.indexCast v2205
  let c0_1824 : Index := 0#32
  let c0_1825 : Index := 0#32
  ![v2206.toNat, 0, 0]

def k0_chk316 (v2205 : BitVec 32) : Prop :=
  (∀ a, (k0_off316 v2205) a + S1x7x128.size a ≤ S10000x7x128.size a)
theorem k0_off316_inb : ∀ (v2205 : BitVec 32) (k0_hw316 : k0_chk316 v2205), ∀ a, (k0_off316 v2205) a + S1x7x128.size a ≤ S10000x7x128.size a := fun v2205 k0_hw316 => k0_hw316

def k0_off317 (v2212 : BitVec 32) : Fin 3 → Nat :=
  let v2213 : Index := Scalar.indexCast v2212
  let c0_1830 : Index := 0#32
  let c0_1831 : Index := 0#32
  ![v2213.toNat, 0, 0]

def k0_chk317 (v2212 : BitVec 32) : Prop :=
  (∀ a, (k0_off317 v2212) a + S1x7x128.size a ≤ S10000x7x128.size a)
theorem k0_off317_inb : ∀ (v2212 : BitVec 32) (k0_hw317 : k0_chk317 v2212), ∀ a, (k0_off317 v2212) a + S1x7x128.size a ≤ S10000x7x128.size a := fun v2212 k0_hw317 => k0_hw317

def k0_off318 (v2219 : BitVec 32) : Fin 3 → Nat :=
  let v2220 : Index := Scalar.indexCast v2219
  let c0_1836 : Index := 0#32
  let c0_1837 : Index := 0#32
  ![v2220.toNat, 0, 0]

def k0_chk318 (v2219 : BitVec 32) : Prop :=
  (∀ a, (k0_off318 v2219) a + S1x7x128.size a ≤ S10000x7x128.size a)
theorem k0_off318_inb : ∀ (v2219 : BitVec 32) (k0_hw318 : k0_chk318 v2219), ∀ a, (k0_off318 v2219) a + S1x7x128.size a ≤ S10000x7x128.size a := fun v2219 k0_hw318 => k0_hw318

def k0_off319 (v2226 : BitVec 32) : Fin 3 → Nat :=
  let v2227 : Index := Scalar.indexCast v2226
  let c0_1842 : Index := 0#32
  let c0_1843 : Index := 0#32
  ![v2227.toNat, 0, 0]

def k0_chk319 (v2226 : BitVec 32) : Prop :=
  (∀ a, (k0_off319 v2226) a + S1x7x128.size a ≤ S10000x7x128.size a)
theorem k0_off319_inb : ∀ (v2226 : BitVec 32) (k0_hw319 : k0_chk319 v2226), ∀ a, (k0_off319 v2226) a + S1x7x128.size a ≤ S10000x7x128.size a := fun v2226 k0_hw319 => k0_hw319

def k0_off320 (v2233 : BitVec 32) : Fin 3 → Nat :=
  let v2234 : Index := Scalar.indexCast v2233
  let c0_1848 : Index := 0#32
  let c0_1849 : Index := 0#32
  ![v2234.toNat, 0, 0]

def k0_chk320 (v2233 : BitVec 32) : Prop :=
  (∀ a, (k0_off320 v2233) a + S1x7x128.size a ≤ S10000x7x128.size a)
theorem k0_off320_inb : ∀ (v2233 : BitVec 32) (k0_hw320 : k0_chk320 v2233), ∀ a, (k0_off320 v2233) a + S1x7x128.size a ≤ S10000x7x128.size a := fun v2233 k0_hw320 => k0_hw320

def k0_off321 (v2240 : BitVec 32) : Fin 3 → Nat :=
  let v2241 : Index := Scalar.indexCast v2240
  let c0_1854 : Index := 0#32
  let c0_1855 : Index := 0#32
  ![v2241.toNat, 0, 0]

def k0_chk321 (v2240 : BitVec 32) : Prop :=
  (∀ a, (k0_off321 v2240) a + S1x7x128.size a ≤ S10000x7x128.size a)
theorem k0_off321_inb : ∀ (v2240 : BitVec 32) (k0_hw321 : k0_chk321 v2240), ∀ a, (k0_off321 v2240) a + S1x7x128.size a ≤ S10000x7x128.size a := fun v2240 k0_hw321 => k0_hw321

def k0_off322 (v2247 : BitVec 32) : Fin 3 → Nat :=
  let v2248 : Index := Scalar.indexCast v2247
  let c0_1859 : Index := 0#32
  let c0_1860 : Index := 0#32
  ![v2248.toNat, 0, 0]

def k0_chk322 (v2247 : BitVec 32) : Prop :=
  (∀ a, (k0_off322 v2247) a + S1x7x128.size a ≤ S10000x7x128.size a)
theorem k0_off322_inb : ∀ (v2247 : BitVec 32) (k0_hw322 : k0_chk322 v2247), ∀ a, (k0_off322 v2247) a + S1x7x128.size a ≤ S10000x7x128.size a := fun v2247 k0_hw322 => k0_hw322

def k0_off323 (v2254 : BitVec 32) : Fin 3 → Nat :=
  let v2255 : Index := Scalar.indexCast v2254
  let c0_1865 : Index := 0#32
  let c0_1866 : Index := 0#32
  ![v2255.toNat, 0, 0]

def k0_chk323 (v2254 : BitVec 32) : Prop :=
  (∀ a, (k0_off323 v2254) a + S1x7x128.size a ≤ S10000x7x128.size a)
theorem k0_off323_inb : ∀ (v2254 : BitVec 32) (k0_hw323 : k0_chk323 v2254), ∀ a, (k0_off323 v2254) a + S1x7x128.size a ≤ S10000x7x128.size a := fun v2254 k0_hw323 => k0_hw323

def k0_off324 (v2261 : BitVec 32) : Fin 3 → Nat :=
  let v2262 : Index := Scalar.indexCast v2261
  let c0_1871 : Index := 0#32
  let c0_1872 : Index := 0#32
  ![v2262.toNat, 0, 0]

def k0_chk324 (v2261 : BitVec 32) : Prop :=
  (∀ a, (k0_off324 v2261) a + S1x7x128.size a ≤ S10000x7x128.size a)
theorem k0_off324_inb : ∀ (v2261 : BitVec 32) (k0_hw324 : k0_chk324 v2261), ∀ a, (k0_off324 v2261) a + S1x7x128.size a ≤ S10000x7x128.size a := fun v2261 k0_hw324 => k0_hw324

def k0_off325 (v2268 : BitVec 32) : Fin 3 → Nat :=
  let v2269 : Index := Scalar.indexCast v2268
  let c0_1877 : Index := 0#32
  let c0_1878 : Index := 0#32
  ![v2269.toNat, 0, 0]

def k0_chk325 (v2268 : BitVec 32) : Prop :=
  (∀ a, (k0_off325 v2268) a + S1x7x128.size a ≤ S10000x7x128.size a)
theorem k0_off325_inb : ∀ (v2268 : BitVec 32) (k0_hw325 : k0_chk325 v2268), ∀ a, (k0_off325 v2268) a + S1x7x128.size a ≤ S10000x7x128.size a := fun v2268 k0_hw325 => k0_hw325

def k0_off326 (v2275 : BitVec 32) : Fin 3 → Nat :=
  let v2276 : Index := Scalar.indexCast v2275
  let c0_1883 : Index := 0#32
  let c0_1884 : Index := 0#32
  ![v2276.toNat, 0, 0]

def k0_chk326 (v2275 : BitVec 32) : Prop :=
  (∀ a, (k0_off326 v2275) a + S1x7x128.size a ≤ S10000x7x128.size a)
theorem k0_off326_inb : ∀ (v2275 : BitVec 32) (k0_hw326 : k0_chk326 v2275), ∀ a, (k0_off326 v2275) a + S1x7x128.size a ≤ S10000x7x128.size a := fun v2275 k0_hw326 => k0_hw326

def k0_off327 (v2282 : BitVec 32) : Fin 3 → Nat :=
  let v2283 : Index := Scalar.indexCast v2282
  let c0_1889 : Index := 0#32
  let c0_1890 : Index := 0#32
  ![v2283.toNat, 0, 0]

def k0_chk327 (v2282 : BitVec 32) : Prop :=
  (∀ a, (k0_off327 v2282) a + S1x7x128.size a ≤ S10000x7x128.size a)
theorem k0_off327_inb : ∀ (v2282 : BitVec 32) (k0_hw327 : k0_chk327 v2282), ∀ a, (k0_off327 v2282) a + S1x7x128.size a ≤ S10000x7x128.size a := fun v2282 k0_hw327 => k0_hw327

def k0_off328 (v2289 : BitVec 32) : Fin 3 → Nat :=
  let v2290 : Index := Scalar.indexCast v2289
  let c0_1895 : Index := 0#32
  let c0_1896 : Index := 0#32
  ![v2290.toNat, 0, 0]

def k0_chk328 (v2289 : BitVec 32) : Prop :=
  (∀ a, (k0_off328 v2289) a + S1x7x128.size a ≤ S10000x7x128.size a)
theorem k0_off328_inb : ∀ (v2289 : BitVec 32) (k0_hw328 : k0_chk328 v2289), ∀ a, (k0_off328 v2289) a + S1x7x128.size a ≤ S10000x7x128.size a := fun v2289 k0_hw328 => k0_hw328

def k0_off329 (v2296 : BitVec 32) : Fin 3 → Nat :=
  let v2297 : Index := Scalar.indexCast v2296
  let c0_1901 : Index := 0#32
  let c0_1902 : Index := 0#32
  ![v2297.toNat, 0, 0]

def k0_chk329 (v2296 : BitVec 32) : Prop :=
  (∀ a, (k0_off329 v2296) a + S1x7x128.size a ≤ S10000x7x128.size a)
theorem k0_off329_inb : ∀ (v2296 : BitVec 32) (k0_hw329 : k0_chk329 v2296), ∀ a, (k0_off329 v2296) a + S1x7x128.size a ≤ S10000x7x128.size a := fun v2296 k0_hw329 => k0_hw329

def k0_off330 (v2303 : BitVec 32) : Fin 3 → Nat :=
  let v2304 : Index := Scalar.indexCast v2303
  let c0_1907 : Index := 0#32
  let c0_1908 : Index := 0#32
  ![v2304.toNat, 0, 0]

def k0_chk330 (v2303 : BitVec 32) : Prop :=
  (∀ a, (k0_off330 v2303) a + S1x7x128.size a ≤ S10000x7x128.size a)
theorem k0_off330_inb : ∀ (v2303 : BitVec 32) (k0_hw330 : k0_chk330 v2303), ∀ a, (k0_off330 v2303) a + S1x7x128.size a ≤ S10000x7x128.size a := fun v2303 k0_hw330 => k0_hw330

def k0_off331 (v2310 : BitVec 32) : Fin 3 → Nat :=
  let v2311 : Index := Scalar.indexCast v2310
  let c0_1913 : Index := 0#32
  let c0_1914 : Index := 0#32
  ![v2311.toNat, 0, 0]

def k0_chk331 (v2310 : BitVec 32) : Prop :=
  (∀ a, (k0_off331 v2310) a + S1x7x128.size a ≤ S10000x7x128.size a)
theorem k0_off331_inb : ∀ (v2310 : BitVec 32) (k0_hw331 : k0_chk331 v2310), ∀ a, (k0_off331 v2310) a + S1x7x128.size a ≤ S10000x7x128.size a := fun v2310 k0_hw331 => k0_hw331

def k0_off332 (v2317 : BitVec 32) : Fin 3 → Nat :=
  let v2318 : Index := Scalar.indexCast v2317
  let c0_1919 : Index := 0#32
  let c0_1920 : Index := 0#32
  ![v2318.toNat, 0, 0]

def k0_chk332 (v2317 : BitVec 32) : Prop :=
  (∀ a, (k0_off332 v2317) a + S1x7x128.size a ≤ S10000x7x128.size a)
theorem k0_off332_inb : ∀ (v2317 : BitVec 32) (k0_hw332 : k0_chk332 v2317), ∀ a, (k0_off332 v2317) a + S1x7x128.size a ≤ S10000x7x128.size a := fun v2317 k0_hw332 => k0_hw332

def k0_off333 (v2324 : BitVec 32) : Fin 3 → Nat :=
  let v2325 : Index := Scalar.indexCast v2324
  let c0_1925 : Index := 0#32
  let c0_1926 : Index := 0#32
  ![v2325.toNat, 0, 0]

def k0_chk333 (v2324 : BitVec 32) : Prop :=
  (∀ a, (k0_off333 v2324) a + S1x7x128.size a ≤ S10000x7x128.size a)
theorem k0_off333_inb : ∀ (v2324 : BitVec 32) (k0_hw333 : k0_chk333 v2324), ∀ a, (k0_off333 v2324) a + S1x7x128.size a ≤ S10000x7x128.size a := fun v2324 k0_hw333 => k0_hw333

def k0_off334 (v2331 : BitVec 32) : Fin 3 → Nat :=
  let v2332 : Index := Scalar.indexCast v2331
  let c0_1931 : Index := 0#32
  let c0_1932 : Index := 0#32
  ![v2332.toNat, 0, 0]

def k0_chk334 (v2331 : BitVec 32) : Prop :=
  (∀ a, (k0_off334 v2331) a + S1x7x128.size a ≤ S10000x7x128.size a)
theorem k0_off334_inb : ∀ (v2331 : BitVec 32) (k0_hw334 : k0_chk334 v2331), ∀ a, (k0_off334 v2331) a + S1x7x128.size a ≤ S10000x7x128.size a := fun v2331 k0_hw334 => k0_hw334

def k0_off335 (v2338 : BitVec 32) : Fin 3 → Nat :=
  let v2339 : Index := Scalar.indexCast v2338
  let c0_1937 : Index := 0#32
  let c0_1938 : Index := 0#32
  ![v2339.toNat, 0, 0]

def k0_chk335 (v2338 : BitVec 32) : Prop :=
  (∀ a, (k0_off335 v2338) a + S1x7x128.size a ≤ S10000x7x128.size a)
theorem k0_off335_inb : ∀ (v2338 : BitVec 32) (k0_hw335 : k0_chk335 v2338), ∀ a, (k0_off335 v2338) a + S1x7x128.size a ≤ S10000x7x128.size a := fun v2338 k0_hw335 => k0_hw335

def k0_off336 (v2345 : BitVec 32) : Fin 3 → Nat :=
  let v2346 : Index := Scalar.indexCast v2345
  let c0_1943 : Index := 0#32
  let c0_1944 : Index := 0#32
  ![v2346.toNat, 0, 0]

def k0_chk336 (v2345 : BitVec 32) : Prop :=
  (∀ a, (k0_off336 v2345) a + S1x7x128.size a ≤ S10000x7x128.size a)
theorem k0_off336_inb : ∀ (v2345 : BitVec 32) (k0_hw336 : k0_chk336 v2345), ∀ a, (k0_off336 v2345) a + S1x7x128.size a ≤ S10000x7x128.size a := fun v2345 k0_hw336 => k0_hw336

def k0_off337 (v2352 : BitVec 32) : Fin 3 → Nat :=
  let v2353 : Index := Scalar.indexCast v2352
  let c0_1949 : Index := 0#32
  let c0_1950 : Index := 0#32
  ![v2353.toNat, 0, 0]

def k0_chk337 (v2352 : BitVec 32) : Prop :=
  (∀ a, (k0_off337 v2352) a + S1x7x128.size a ≤ S10000x7x128.size a)
theorem k0_off337_inb : ∀ (v2352 : BitVec 32) (k0_hw337 : k0_chk337 v2352), ∀ a, (k0_off337 v2352) a + S1x7x128.size a ≤ S10000x7x128.size a := fun v2352 k0_hw337 => k0_hw337

def k0_off338 (v2359 : BitVec 32) : Fin 3 → Nat :=
  let v2360 : Index := Scalar.indexCast v2359
  let c0_1955 : Index := 0#32
  let c0_1956 : Index := 0#32
  ![v2360.toNat, 0, 0]

def k0_chk338 (v2359 : BitVec 32) : Prop :=
  (∀ a, (k0_off338 v2359) a + S1x7x128.size a ≤ S10000x7x128.size a)
theorem k0_off338_inb : ∀ (v2359 : BitVec 32) (k0_hw338 : k0_chk338 v2359), ∀ a, (k0_off338 v2359) a + S1x7x128.size a ≤ S10000x7x128.size a := fun v2359 k0_hw338 => k0_hw338

def k0_off339 (v2366 : BitVec 32) : Fin 3 → Nat :=
  let v2367 : Index := Scalar.indexCast v2366
  let c0_1961 : Index := 0#32
  let c0_1962 : Index := 0#32
  ![v2367.toNat, 0, 0]

def k0_chk339 (v2366 : BitVec 32) : Prop :=
  (∀ a, (k0_off339 v2366) a + S1x7x128.size a ≤ S10000x7x128.size a)
theorem k0_off339_inb : ∀ (v2366 : BitVec 32) (k0_hw339 : k0_chk339 v2366), ∀ a, (k0_off339 v2366) a + S1x7x128.size a ≤ S10000x7x128.size a := fun v2366 k0_hw339 => k0_hw339

def k0_off340 (v2373 : BitVec 32) : Fin 3 → Nat :=
  let v2374 : Index := Scalar.indexCast v2373
  let c0_1967 : Index := 0#32
  let c0_1968 : Index := 0#32
  ![v2374.toNat, 0, 0]

def k0_chk340 (v2373 : BitVec 32) : Prop :=
  (∀ a, (k0_off340 v2373) a + S1x7x128.size a ≤ S10000x7x128.size a)
theorem k0_off340_inb : ∀ (v2373 : BitVec 32) (k0_hw340 : k0_chk340 v2373), ∀ a, (k0_off340 v2373) a + S1x7x128.size a ≤ S10000x7x128.size a := fun v2373 k0_hw340 => k0_hw340

def k0_off341 (v2380 : BitVec 32) : Fin 3 → Nat :=
  let v2381 : Index := Scalar.indexCast v2380
  let c0_1973 : Index := 0#32
  let c0_1974 : Index := 0#32
  ![v2381.toNat, 0, 0]

def k0_chk341 (v2380 : BitVec 32) : Prop :=
  (∀ a, (k0_off341 v2380) a + S1x7x128.size a ≤ S10000x7x128.size a)
theorem k0_off341_inb : ∀ (v2380 : BitVec 32) (k0_hw341 : k0_chk341 v2380), ∀ a, (k0_off341 v2380) a + S1x7x128.size a ≤ S10000x7x128.size a := fun v2380 k0_hw341 => k0_hw341

def k0_off342 (v2387 : BitVec 32) : Fin 3 → Nat :=
  let v2388 : Index := Scalar.indexCast v2387
  let c0_1979 : Index := 0#32
  let c0_1980 : Index := 0#32
  ![v2388.toNat, 0, 0]

def k0_chk342 (v2387 : BitVec 32) : Prop :=
  (∀ a, (k0_off342 v2387) a + S1x7x128.size a ≤ S10000x7x128.size a)
theorem k0_off342_inb : ∀ (v2387 : BitVec 32) (k0_hw342 : k0_chk342 v2387), ∀ a, (k0_off342 v2387) a + S1x7x128.size a ≤ S10000x7x128.size a := fun v2387 k0_hw342 => k0_hw342

def k0_off343 (v2394 : BitVec 32) : Fin 3 → Nat :=
  let v2395 : Index := Scalar.indexCast v2394
  let c0_1985 : Index := 0#32
  let c0_1986 : Index := 0#32
  ![v2395.toNat, 0, 0]

def k0_chk343 (v2394 : BitVec 32) : Prop :=
  (∀ a, (k0_off343 v2394) a + S1x7x128.size a ≤ S10000x7x128.size a)
theorem k0_off343_inb : ∀ (v2394 : BitVec 32) (k0_hw343 : k0_chk343 v2394), ∀ a, (k0_off343 v2394) a + S1x7x128.size a ≤ S10000x7x128.size a := fun v2394 k0_hw343 => k0_hw343

def k0_off344 (v2401 : BitVec 32) : Fin 3 → Nat :=
  let v2402 : Index := Scalar.indexCast v2401
  let c0_1991 : Index := 0#32
  let c0_1992 : Index := 0#32
  ![v2402.toNat, 0, 0]

def k0_chk344 (v2401 : BitVec 32) : Prop :=
  (∀ a, (k0_off344 v2401) a + S1x7x128.size a ≤ S10000x7x128.size a)
theorem k0_off344_inb : ∀ (v2401 : BitVec 32) (k0_hw344 : k0_chk344 v2401), ∀ a, (k0_off344 v2401) a + S1x7x128.size a ≤ S10000x7x128.size a := fun v2401 k0_hw344 => k0_hw344

def k0_off345 (v2408 : BitVec 32) : Fin 3 → Nat :=
  let v2409 : Index := Scalar.indexCast v2408
  let c0_1997 : Index := 0#32
  let c0_1998 : Index := 0#32
  ![v2409.toNat, 0, 0]

def k0_chk345 (v2408 : BitVec 32) : Prop :=
  (∀ a, (k0_off345 v2408) a + S1x7x128.size a ≤ S10000x7x128.size a)
theorem k0_off345_inb : ∀ (v2408 : BitVec 32) (k0_hw345 : k0_chk345 v2408), ∀ a, (k0_off345 v2408) a + S1x7x128.size a ≤ S10000x7x128.size a := fun v2408 k0_hw345 => k0_hw345

def k0_off346 (v2415 : BitVec 32) : Fin 3 → Nat :=
  let v2416 : Index := Scalar.indexCast v2415
  let c0_2003 : Index := 0#32
  let c0_2004 : Index := 0#32
  ![v2416.toNat, 0, 0]

def k0_chk346 (v2415 : BitVec 32) : Prop :=
  (∀ a, (k0_off346 v2415) a + S1x7x128.size a ≤ S10000x7x128.size a)
theorem k0_off346_inb : ∀ (v2415 : BitVec 32) (k0_hw346 : k0_chk346 v2415), ∀ a, (k0_off346 v2415) a + S1x7x128.size a ≤ S10000x7x128.size a := fun v2415 k0_hw346 => k0_hw346

def k0_off347 (v2422 : BitVec 32) : Fin 3 → Nat :=
  let v2423 : Index := Scalar.indexCast v2422
  let c0_2009 : Index := 0#32
  let c0_2010 : Index := 0#32
  ![v2423.toNat, 0, 0]

def k0_chk347 (v2422 : BitVec 32) : Prop :=
  (∀ a, (k0_off347 v2422) a + S1x7x128.size a ≤ S10000x7x128.size a)
theorem k0_off347_inb : ∀ (v2422 : BitVec 32) (k0_hw347 : k0_chk347 v2422), ∀ a, (k0_off347 v2422) a + S1x7x128.size a ≤ S10000x7x128.size a := fun v2422 k0_hw347 => k0_hw347

def k0_off348 (v2429 : BitVec 32) : Fin 3 → Nat :=
  let v2430 : Index := Scalar.indexCast v2429
  let c0_2015 : Index := 0#32
  let c0_2016 : Index := 0#32
  ![v2430.toNat, 0, 0]

def k0_chk348 (v2429 : BitVec 32) : Prop :=
  (∀ a, (k0_off348 v2429) a + S1x7x128.size a ≤ S10000x7x128.size a)
theorem k0_off348_inb : ∀ (v2429 : BitVec 32) (k0_hw348 : k0_chk348 v2429), ∀ a, (k0_off348 v2429) a + S1x7x128.size a ≤ S10000x7x128.size a := fun v2429 k0_hw348 => k0_hw348

def k0_off349 (v2436 : BitVec 32) : Fin 3 → Nat :=
  let v2437 : Index := Scalar.indexCast v2436
  let c0_2021 : Index := 0#32
  let c0_2022 : Index := 0#32
  ![v2437.toNat, 0, 0]

def k0_chk349 (v2436 : BitVec 32) : Prop :=
  (∀ a, (k0_off349 v2436) a + S1x7x128.size a ≤ S10000x7x128.size a)
theorem k0_off349_inb : ∀ (v2436 : BitVec 32) (k0_hw349 : k0_chk349 v2436), ∀ a, (k0_off349 v2436) a + S1x7x128.size a ≤ S10000x7x128.size a := fun v2436 k0_hw349 => k0_hw349

def k0_off350 (v2443 : BitVec 32) : Fin 3 → Nat :=
  let v2444 : Index := Scalar.indexCast v2443
  let c0_2027 : Index := 0#32
  let c0_2028 : Index := 0#32
  ![v2444.toNat, 0, 0]

def k0_chk350 (v2443 : BitVec 32) : Prop :=
  (∀ a, (k0_off350 v2443) a + S1x7x128.size a ≤ S10000x7x128.size a)
theorem k0_off350_inb : ∀ (v2443 : BitVec 32) (k0_hw350 : k0_chk350 v2443), ∀ a, (k0_off350 v2443) a + S1x7x128.size a ≤ S10000x7x128.size a := fun v2443 k0_hw350 => k0_hw350

def k0_off351 (v2450 : BitVec 32) : Fin 3 → Nat :=
  let v2451 : Index := Scalar.indexCast v2450
  let c0_2033 : Index := 0#32
  let c0_2034 : Index := 0#32
  ![v2451.toNat, 0, 0]

def k0_chk351 (v2450 : BitVec 32) : Prop :=
  (∀ a, (k0_off351 v2450) a + S1x7x128.size a ≤ S10000x7x128.size a)
theorem k0_off351_inb : ∀ (v2450 : BitVec 32) (k0_hw351 : k0_chk351 v2450), ∀ a, (k0_off351 v2450) a + S1x7x128.size a ≤ S10000x7x128.size a := fun v2450 k0_hw351 => k0_hw351

def k0_off352 (v2457 : BitVec 32) : Fin 3 → Nat :=
  let v2458 : Index := Scalar.indexCast v2457
  let c0_2039 : Index := 0#32
  let c0_2040 : Index := 0#32
  ![v2458.toNat, 0, 0]

def k0_chk352 (v2457 : BitVec 32) : Prop :=
  (∀ a, (k0_off352 v2457) a + S1x7x128.size a ≤ S10000x7x128.size a)
theorem k0_off352_inb : ∀ (v2457 : BitVec 32) (k0_hw352 : k0_chk352 v2457), ∀ a, (k0_off352 v2457) a + S1x7x128.size a ≤ S10000x7x128.size a := fun v2457 k0_hw352 => k0_hw352

def k0_off353 (v2464 : BitVec 32) : Fin 3 → Nat :=
  let v2465 : Index := Scalar.indexCast v2464
  let c0_2045 : Index := 0#32
  let c0_2046 : Index := 0#32
  ![v2465.toNat, 0, 0]

def k0_chk353 (v2464 : BitVec 32) : Prop :=
  (∀ a, (k0_off353 v2464) a + S1x7x128.size a ≤ S10000x7x128.size a)
theorem k0_off353_inb : ∀ (v2464 : BitVec 32) (k0_hw353 : k0_chk353 v2464), ∀ a, (k0_off353 v2464) a + S1x7x128.size a ≤ S10000x7x128.size a := fun v2464 k0_hw353 => k0_hw353

def k0_off354 (v2471 : BitVec 32) : Fin 3 → Nat :=
  let v2472 : Index := Scalar.indexCast v2471
  let c0_2050 : Index := 0#32
  let c0_2051 : Index := 0#32
  ![v2472.toNat, 0, 0]

def k0_chk354 (v2471 : BitVec 32) : Prop :=
  (∀ a, (k0_off354 v2471) a + S1x7x128.size a ≤ S10000x7x128.size a)
theorem k0_off354_inb : ∀ (v2471 : BitVec 32) (k0_hw354 : k0_chk354 v2471), ∀ a, (k0_off354 v2471) a + S1x7x128.size a ≤ S10000x7x128.size a := fun v2471 k0_hw354 => k0_hw354

def k0_off355 (v2478 : BitVec 32) : Fin 3 → Nat :=
  let v2479 : Index := Scalar.indexCast v2478
  let c0_2056 : Index := 0#32
  let c0_2057 : Index := 0#32
  ![v2479.toNat, 0, 0]

def k0_chk355 (v2478 : BitVec 32) : Prop :=
  (∀ a, (k0_off355 v2478) a + S1x7x128.size a ≤ S10000x7x128.size a)
theorem k0_off355_inb : ∀ (v2478 : BitVec 32) (k0_hw355 : k0_chk355 v2478), ∀ a, (k0_off355 v2478) a + S1x7x128.size a ≤ S10000x7x128.size a := fun v2478 k0_hw355 => k0_hw355

def k0_off356 (v2485 : BitVec 32) : Fin 3 → Nat :=
  let v2486 : Index := Scalar.indexCast v2485
  let c0_2062 : Index := 0#32
  let c0_2063 : Index := 0#32
  ![v2486.toNat, 0, 0]

def k0_chk356 (v2485 : BitVec 32) : Prop :=
  (∀ a, (k0_off356 v2485) a + S1x7x128.size a ≤ S10000x7x128.size a)
theorem k0_off356_inb : ∀ (v2485 : BitVec 32) (k0_hw356 : k0_chk356 v2485), ∀ a, (k0_off356 v2485) a + S1x7x128.size a ≤ S10000x7x128.size a := fun v2485 k0_hw356 => k0_hw356

def k0_off357 (v2492 : BitVec 32) : Fin 3 → Nat :=
  let v2493 : Index := Scalar.indexCast v2492
  let c0_2068 : Index := 0#32
  let c0_2069 : Index := 0#32
  ![v2493.toNat, 0, 0]

def k0_chk357 (v2492 : BitVec 32) : Prop :=
  (∀ a, (k0_off357 v2492) a + S1x7x128.size a ≤ S10000x7x128.size a)
theorem k0_off357_inb : ∀ (v2492 : BitVec 32) (k0_hw357 : k0_chk357 v2492), ∀ a, (k0_off357 v2492) a + S1x7x128.size a ≤ S10000x7x128.size a := fun v2492 k0_hw357 => k0_hw357

def k0_off358 (v2499 : BitVec 32) : Fin 3 → Nat :=
  let v2500 : Index := Scalar.indexCast v2499
  let c0_2074 : Index := 0#32
  let c0_2075 : Index := 0#32
  ![v2500.toNat, 0, 0]

def k0_chk358 (v2499 : BitVec 32) : Prop :=
  (∀ a, (k0_off358 v2499) a + S1x7x128.size a ≤ S10000x7x128.size a)
theorem k0_off358_inb : ∀ (v2499 : BitVec 32) (k0_hw358 : k0_chk358 v2499), ∀ a, (k0_off358 v2499) a + S1x7x128.size a ≤ S10000x7x128.size a := fun v2499 k0_hw358 => k0_hw358

def k0_off359 (v2506 : BitVec 32) : Fin 3 → Nat :=
  let v2507 : Index := Scalar.indexCast v2506
  let c0_2080 : Index := 0#32
  let c0_2081 : Index := 0#32
  ![v2507.toNat, 0, 0]

def k0_chk359 (v2506 : BitVec 32) : Prop :=
  (∀ a, (k0_off359 v2506) a + S1x7x128.size a ≤ S10000x7x128.size a)
theorem k0_off359_inb : ∀ (v2506 : BitVec 32) (k0_hw359 : k0_chk359 v2506), ∀ a, (k0_off359 v2506) a + S1x7x128.size a ≤ S10000x7x128.size a := fun v2506 k0_hw359 => k0_hw359

def k0_off360 (v2513 : BitVec 32) : Fin 3 → Nat :=
  let v2514 : Index := Scalar.indexCast v2513
  let c0_2086 : Index := 0#32
  let c0_2087 : Index := 0#32
  ![v2514.toNat, 0, 0]

def k0_chk360 (v2513 : BitVec 32) : Prop :=
  (∀ a, (k0_off360 v2513) a + S1x7x128.size a ≤ S10000x7x128.size a)
theorem k0_off360_inb : ∀ (v2513 : BitVec 32) (k0_hw360 : k0_chk360 v2513), ∀ a, (k0_off360 v2513) a + S1x7x128.size a ≤ S10000x7x128.size a := fun v2513 k0_hw360 => k0_hw360

def k0_off361 (v2520 : BitVec 32) : Fin 3 → Nat :=
  let v2521 : Index := Scalar.indexCast v2520
  let c0_2092 : Index := 0#32
  let c0_2093 : Index := 0#32
  ![v2521.toNat, 0, 0]

def k0_chk361 (v2520 : BitVec 32) : Prop :=
  (∀ a, (k0_off361 v2520) a + S1x7x128.size a ≤ S10000x7x128.size a)
theorem k0_off361_inb : ∀ (v2520 : BitVec 32) (k0_hw361 : k0_chk361 v2520), ∀ a, (k0_off361 v2520) a + S1x7x128.size a ≤ S10000x7x128.size a := fun v2520 k0_hw361 => k0_hw361

def k0_off362 (v2527 : BitVec 32) : Fin 3 → Nat :=
  let v2528 : Index := Scalar.indexCast v2527
  let c0_2098 : Index := 0#32
  let c0_2099 : Index := 0#32
  ![v2528.toNat, 0, 0]

def k0_chk362 (v2527 : BitVec 32) : Prop :=
  (∀ a, (k0_off362 v2527) a + S1x7x128.size a ≤ S10000x7x128.size a)
theorem k0_off362_inb : ∀ (v2527 : BitVec 32) (k0_hw362 : k0_chk362 v2527), ∀ a, (k0_off362 v2527) a + S1x7x128.size a ≤ S10000x7x128.size a := fun v2527 k0_hw362 => k0_hw362

def k0_off363 (v2534 : BitVec 32) : Fin 3 → Nat :=
  let v2535 : Index := Scalar.indexCast v2534
  let c0_2104 : Index := 0#32
  let c0_2105 : Index := 0#32
  ![v2535.toNat, 0, 0]

def k0_chk363 (v2534 : BitVec 32) : Prop :=
  (∀ a, (k0_off363 v2534) a + S1x7x128.size a ≤ S10000x7x128.size a)
theorem k0_off363_inb : ∀ (v2534 : BitVec 32) (k0_hw363 : k0_chk363 v2534), ∀ a, (k0_off363 v2534) a + S1x7x128.size a ≤ S10000x7x128.size a := fun v2534 k0_hw363 => k0_hw363

def k0_off364 (v2541 : BitVec 32) : Fin 3 → Nat :=
  let v2542 : Index := Scalar.indexCast v2541
  let c0_2110 : Index := 0#32
  let c0_2111 : Index := 0#32
  ![v2542.toNat, 0, 0]

def k0_chk364 (v2541 : BitVec 32) : Prop :=
  (∀ a, (k0_off364 v2541) a + S1x7x128.size a ≤ S10000x7x128.size a)
theorem k0_off364_inb : ∀ (v2541 : BitVec 32) (k0_hw364 : k0_chk364 v2541), ∀ a, (k0_off364 v2541) a + S1x7x128.size a ≤ S10000x7x128.size a := fun v2541 k0_hw364 => k0_hw364

def k0_off365 (v2548 : BitVec 32) : Fin 3 → Nat :=
  let v2549 : Index := Scalar.indexCast v2548
  let c0_2116 : Index := 0#32
  let c0_2117 : Index := 0#32
  ![v2549.toNat, 0, 0]

def k0_chk365 (v2548 : BitVec 32) : Prop :=
  (∀ a, (k0_off365 v2548) a + S1x7x128.size a ≤ S10000x7x128.size a)
theorem k0_off365_inb : ∀ (v2548 : BitVec 32) (k0_hw365 : k0_chk365 v2548), ∀ a, (k0_off365 v2548) a + S1x7x128.size a ≤ S10000x7x128.size a := fun v2548 k0_hw365 => k0_hw365

def k0_off366 (v2555 : BitVec 32) : Fin 3 → Nat :=
  let v2556 : Index := Scalar.indexCast v2555
  let c0_2122 : Index := 0#32
  let c0_2123 : Index := 0#32
  ![v2556.toNat, 0, 0]

def k0_chk366 (v2555 : BitVec 32) : Prop :=
  (∀ a, (k0_off366 v2555) a + S1x7x128.size a ≤ S10000x7x128.size a)
theorem k0_off366_inb : ∀ (v2555 : BitVec 32) (k0_hw366 : k0_chk366 v2555), ∀ a, (k0_off366 v2555) a + S1x7x128.size a ≤ S10000x7x128.size a := fun v2555 k0_hw366 => k0_hw366

def k0_off367 (v2562 : BitVec 32) : Fin 3 → Nat :=
  let v2563 : Index := Scalar.indexCast v2562
  let c0_2128 : Index := 0#32
  let c0_2129 : Index := 0#32
  ![v2563.toNat, 0, 0]

def k0_chk367 (v2562 : BitVec 32) : Prop :=
  (∀ a, (k0_off367 v2562) a + S1x7x128.size a ≤ S10000x7x128.size a)
theorem k0_off367_inb : ∀ (v2562 : BitVec 32) (k0_hw367 : k0_chk367 v2562), ∀ a, (k0_off367 v2562) a + S1x7x128.size a ≤ S10000x7x128.size a := fun v2562 k0_hw367 => k0_hw367

def k0_off368 (v2569 : BitVec 32) : Fin 3 → Nat :=
  let v2570 : Index := Scalar.indexCast v2569
  let c0_2134 : Index := 0#32
  let c0_2135 : Index := 0#32
  ![v2570.toNat, 0, 0]

def k0_chk368 (v2569 : BitVec 32) : Prop :=
  (∀ a, (k0_off368 v2569) a + S1x7x128.size a ≤ S10000x7x128.size a)
theorem k0_off368_inb : ∀ (v2569 : BitVec 32) (k0_hw368 : k0_chk368 v2569), ∀ a, (k0_off368 v2569) a + S1x7x128.size a ≤ S10000x7x128.size a := fun v2569 k0_hw368 => k0_hw368

def k0_off369 (v2576 : BitVec 32) : Fin 3 → Nat :=
  let v2577 : Index := Scalar.indexCast v2576
  let c0_2140 : Index := 0#32
  let c0_2141 : Index := 0#32
  ![v2577.toNat, 0, 0]

def k0_chk369 (v2576 : BitVec 32) : Prop :=
  (∀ a, (k0_off369 v2576) a + S1x7x128.size a ≤ S10000x7x128.size a)
theorem k0_off369_inb : ∀ (v2576 : BitVec 32) (k0_hw369 : k0_chk369 v2576), ∀ a, (k0_off369 v2576) a + S1x7x128.size a ≤ S10000x7x128.size a := fun v2576 k0_hw369 => k0_hw369

def k0_off370 (v2583 : BitVec 32) : Fin 3 → Nat :=
  let v2584 : Index := Scalar.indexCast v2583
  let c0_2146 : Index := 0#32
  let c0_2147 : Index := 0#32
  ![v2584.toNat, 0, 0]

def k0_chk370 (v2583 : BitVec 32) : Prop :=
  (∀ a, (k0_off370 v2583) a + S1x7x128.size a ≤ S10000x7x128.size a)
theorem k0_off370_inb : ∀ (v2583 : BitVec 32) (k0_hw370 : k0_chk370 v2583), ∀ a, (k0_off370 v2583) a + S1x7x128.size a ≤ S10000x7x128.size a := fun v2583 k0_hw370 => k0_hw370

def k0_off371 (v2590 : BitVec 32) : Fin 3 → Nat :=
  let v2591 : Index := Scalar.indexCast v2590
  let c0_2152 : Index := 0#32
  let c0_2153 : Index := 0#32
  ![v2591.toNat, 0, 0]

def k0_chk371 (v2590 : BitVec 32) : Prop :=
  (∀ a, (k0_off371 v2590) a + S1x7x128.size a ≤ S10000x7x128.size a)
theorem k0_off371_inb : ∀ (v2590 : BitVec 32) (k0_hw371 : k0_chk371 v2590), ∀ a, (k0_off371 v2590) a + S1x7x128.size a ≤ S10000x7x128.size a := fun v2590 k0_hw371 => k0_hw371

def k0_off372 (v2597 : BitVec 32) : Fin 3 → Nat :=
  let v2598 : Index := Scalar.indexCast v2597
  let c0_2158 : Index := 0#32
  let c0_2159 : Index := 0#32
  ![v2598.toNat, 0, 0]

def k0_chk372 (v2597 : BitVec 32) : Prop :=
  (∀ a, (k0_off372 v2597) a + S1x7x128.size a ≤ S10000x7x128.size a)
theorem k0_off372_inb : ∀ (v2597 : BitVec 32) (k0_hw372 : k0_chk372 v2597), ∀ a, (k0_off372 v2597) a + S1x7x128.size a ≤ S10000x7x128.size a := fun v2597 k0_hw372 => k0_hw372

def k0_off373 (v2604 : BitVec 32) : Fin 3 → Nat :=
  let v2605 : Index := Scalar.indexCast v2604
  let c0_2164 : Index := 0#32
  let c0_2165 : Index := 0#32
  ![v2605.toNat, 0, 0]

def k0_chk373 (v2604 : BitVec 32) : Prop :=
  (∀ a, (k0_off373 v2604) a + S1x7x128.size a ≤ S10000x7x128.size a)
theorem k0_off373_inb : ∀ (v2604 : BitVec 32) (k0_hw373 : k0_chk373 v2604), ∀ a, (k0_off373 v2604) a + S1x7x128.size a ≤ S10000x7x128.size a := fun v2604 k0_hw373 => k0_hw373

def k0_off374 (v2611 : BitVec 32) : Fin 3 → Nat :=
  let v2612 : Index := Scalar.indexCast v2611
  let c0_2170 : Index := 0#32
  let c0_2171 : Index := 0#32
  ![v2612.toNat, 0, 0]

def k0_chk374 (v2611 : BitVec 32) : Prop :=
  (∀ a, (k0_off374 v2611) a + S1x7x128.size a ≤ S10000x7x128.size a)
theorem k0_off374_inb : ∀ (v2611 : BitVec 32) (k0_hw374 : k0_chk374 v2611), ∀ a, (k0_off374 v2611) a + S1x7x128.size a ≤ S10000x7x128.size a := fun v2611 k0_hw374 => k0_hw374

def k0_off375 (v2618 : BitVec 32) : Fin 3 → Nat :=
  let v2619 : Index := Scalar.indexCast v2618
  let c0_2176 : Index := 0#32
  let c0_2177 : Index := 0#32
  ![v2619.toNat, 0, 0]

def k0_chk375 (v2618 : BitVec 32) : Prop :=
  (∀ a, (k0_off375 v2618) a + S1x7x128.size a ≤ S10000x7x128.size a)
theorem k0_off375_inb : ∀ (v2618 : BitVec 32) (k0_hw375 : k0_chk375 v2618), ∀ a, (k0_off375 v2618) a + S1x7x128.size a ≤ S10000x7x128.size a := fun v2618 k0_hw375 => k0_hw375

def k0_off376 (v2625 : BitVec 32) : Fin 3 → Nat :=
  let v2626 : Index := Scalar.indexCast v2625
  let c0_2182 : Index := 0#32
  let c0_2183 : Index := 0#32
  ![v2626.toNat, 0, 0]

def k0_chk376 (v2625 : BitVec 32) : Prop :=
  (∀ a, (k0_off376 v2625) a + S1x7x128.size a ≤ S10000x7x128.size a)
theorem k0_off376_inb : ∀ (v2625 : BitVec 32) (k0_hw376 : k0_chk376 v2625), ∀ a, (k0_off376 v2625) a + S1x7x128.size a ≤ S10000x7x128.size a := fun v2625 k0_hw376 => k0_hw376

def k0_off377 (v2632 : BitVec 32) : Fin 3 → Nat :=
  let v2633 : Index := Scalar.indexCast v2632
  let c0_2188 : Index := 0#32
  let c0_2189 : Index := 0#32
  ![v2633.toNat, 0, 0]

def k0_chk377 (v2632 : BitVec 32) : Prop :=
  (∀ a, (k0_off377 v2632) a + S1x7x128.size a ≤ S10000x7x128.size a)
theorem k0_off377_inb : ∀ (v2632 : BitVec 32) (k0_hw377 : k0_chk377 v2632), ∀ a, (k0_off377 v2632) a + S1x7x128.size a ≤ S10000x7x128.size a := fun v2632 k0_hw377 => k0_hw377

def k0_off378 (v2639 : BitVec 32) : Fin 3 → Nat :=
  let v2640 : Index := Scalar.indexCast v2639
  let c0_2194 : Index := 0#32
  let c0_2195 : Index := 0#32
  ![v2640.toNat, 0, 0]

def k0_chk378 (v2639 : BitVec 32) : Prop :=
  (∀ a, (k0_off378 v2639) a + S1x7x128.size a ≤ S10000x7x128.size a)
theorem k0_off378_inb : ∀ (v2639 : BitVec 32) (k0_hw378 : k0_chk378 v2639), ∀ a, (k0_off378 v2639) a + S1x7x128.size a ≤ S10000x7x128.size a := fun v2639 k0_hw378 => k0_hw378

def k0_off379 (v2646 : BitVec 32) : Fin 3 → Nat :=
  let v2647 : Index := Scalar.indexCast v2646
  let c0_2200 : Index := 0#32
  let c0_2201 : Index := 0#32
  ![v2647.toNat, 0, 0]

def k0_chk379 (v2646 : BitVec 32) : Prop :=
  (∀ a, (k0_off379 v2646) a + S1x7x128.size a ≤ S10000x7x128.size a)
theorem k0_off379_inb : ∀ (v2646 : BitVec 32) (k0_hw379 : k0_chk379 v2646), ∀ a, (k0_off379 v2646) a + S1x7x128.size a ≤ S10000x7x128.size a := fun v2646 k0_hw379 => k0_hw379

def k0_off380 (v2653 : BitVec 32) : Fin 3 → Nat :=
  let v2654 : Index := Scalar.indexCast v2653
  let c0_2206 : Index := 0#32
  let c0_2207 : Index := 0#32
  ![v2654.toNat, 0, 0]

def k0_chk380 (v2653 : BitVec 32) : Prop :=
  (∀ a, (k0_off380 v2653) a + S1x7x128.size a ≤ S10000x7x128.size a)
theorem k0_off380_inb : ∀ (v2653 : BitVec 32) (k0_hw380 : k0_chk380 v2653), ∀ a, (k0_off380 v2653) a + S1x7x128.size a ≤ S10000x7x128.size a := fun v2653 k0_hw380 => k0_hw380

def k0_off381 (v2660 : BitVec 32) : Fin 3 → Nat :=
  let v2661 : Index := Scalar.indexCast v2660
  let c0_2212 : Index := 0#32
  let c0_2213 : Index := 0#32
  ![v2661.toNat, 0, 0]

def k0_chk381 (v2660 : BitVec 32) : Prop :=
  (∀ a, (k0_off381 v2660) a + S1x7x128.size a ≤ S10000x7x128.size a)
theorem k0_off381_inb : ∀ (v2660 : BitVec 32) (k0_hw381 : k0_chk381 v2660), ∀ a, (k0_off381 v2660) a + S1x7x128.size a ≤ S10000x7x128.size a := fun v2660 k0_hw381 => k0_hw381

def k0_off382 (v2667 : BitVec 32) : Fin 3 → Nat :=
  let v2668 : Index := Scalar.indexCast v2667
  let c0_2218 : Index := 0#32
  let c0_2219 : Index := 0#32
  ![v2668.toNat, 0, 0]

def k0_chk382 (v2667 : BitVec 32) : Prop :=
  (∀ a, (k0_off382 v2667) a + S1x7x128.size a ≤ S10000x7x128.size a)
theorem k0_off382_inb : ∀ (v2667 : BitVec 32) (k0_hw382 : k0_chk382 v2667), ∀ a, (k0_off382 v2667) a + S1x7x128.size a ≤ S10000x7x128.size a := fun v2667 k0_hw382 => k0_hw382

def k0_off383 (v2674 : BitVec 32) : Fin 3 → Nat :=
  let v2675 : Index := Scalar.indexCast v2674
  let c0_2224 : Index := 0#32
  let c0_2225 : Index := 0#32
  ![v2675.toNat, 0, 0]

def k0_chk383 (v2674 : BitVec 32) : Prop :=
  (∀ a, (k0_off383 v2674) a + S1x7x128.size a ≤ S10000x7x128.size a)
theorem k0_off383_inb : ∀ (v2674 : BitVec 32) (k0_hw383 : k0_chk383 v2674), ∀ a, (k0_off383 v2674) a + S1x7x128.size a ≤ S10000x7x128.size a := fun v2674 k0_hw383 => k0_hw383

def k0_off384 (v2681 : BitVec 32) : Fin 3 → Nat :=
  let v2682 : Index := Scalar.indexCast v2681
  let c0_2230 : Index := 0#32
  let c0_2231 : Index := 0#32
  ![v2682.toNat, 0, 0]

def k0_chk384 (v2681 : BitVec 32) : Prop :=
  (∀ a, (k0_off384 v2681) a + S1x7x128.size a ≤ S10000x7x128.size a)
theorem k0_off384_inb : ∀ (v2681 : BitVec 32) (k0_hw384 : k0_chk384 v2681), ∀ a, (k0_off384 v2681) a + S1x7x128.size a ≤ S10000x7x128.size a := fun v2681 k0_hw384 => k0_hw384

def k0_off385 (v2688 : BitVec 32) : Fin 3 → Nat :=
  let v2689 : Index := Scalar.indexCast v2688
  let c0_2236 : Index := 0#32
  let c0_2237 : Index := 0#32
  ![v2689.toNat, 0, 0]

def k0_chk385 (v2688 : BitVec 32) : Prop :=
  (∀ a, (k0_off385 v2688) a + S1x7x128.size a ≤ S10000x7x128.size a)
theorem k0_off385_inb : ∀ (v2688 : BitVec 32) (k0_hw385 : k0_chk385 v2688), ∀ a, (k0_off385 v2688) a + S1x7x128.size a ≤ S10000x7x128.size a := fun v2688 k0_hw385 => k0_hw385

def k0_off386 (v2695 : BitVec 32) : Fin 3 → Nat :=
  let v2696 : Index := Scalar.indexCast v2695
  let c0_2241 : Index := 0#32
  let c0_2242 : Index := 0#32
  ![v2696.toNat, 0, 0]

def k0_chk386 (v2695 : BitVec 32) : Prop :=
  (∀ a, (k0_off386 v2695) a + S1x7x128.size a ≤ S10000x7x128.size a)
theorem k0_off386_inb : ∀ (v2695 : BitVec 32) (k0_hw386 : k0_chk386 v2695), ∀ a, (k0_off386 v2695) a + S1x7x128.size a ≤ S10000x7x128.size a := fun v2695 k0_hw386 => k0_hw386

def k0_off387 (v2702 : BitVec 32) : Fin 3 → Nat :=
  let v2703 : Index := Scalar.indexCast v2702
  let c0_2247 : Index := 0#32
  let c0_2248 : Index := 0#32
  ![v2703.toNat, 0, 0]

def k0_chk387 (v2702 : BitVec 32) : Prop :=
  (∀ a, (k0_off387 v2702) a + S1x7x128.size a ≤ S10000x7x128.size a)
theorem k0_off387_inb : ∀ (v2702 : BitVec 32) (k0_hw387 : k0_chk387 v2702), ∀ a, (k0_off387 v2702) a + S1x7x128.size a ≤ S10000x7x128.size a := fun v2702 k0_hw387 => k0_hw387

def k0_off388 (v2709 : BitVec 32) : Fin 3 → Nat :=
  let v2710 : Index := Scalar.indexCast v2709
  let c0_2253 : Index := 0#32
  let c0_2254 : Index := 0#32
  ![v2710.toNat, 0, 0]

def k0_chk388 (v2709 : BitVec 32) : Prop :=
  (∀ a, (k0_off388 v2709) a + S1x7x128.size a ≤ S10000x7x128.size a)
theorem k0_off388_inb : ∀ (v2709 : BitVec 32) (k0_hw388 : k0_chk388 v2709), ∀ a, (k0_off388 v2709) a + S1x7x128.size a ≤ S10000x7x128.size a := fun v2709 k0_hw388 => k0_hw388

def k0_off389 (v2716 : BitVec 32) : Fin 3 → Nat :=
  let v2717 : Index := Scalar.indexCast v2716
  let c0_2259 : Index := 0#32
  let c0_2260 : Index := 0#32
  ![v2717.toNat, 0, 0]

def k0_chk389 (v2716 : BitVec 32) : Prop :=
  (∀ a, (k0_off389 v2716) a + S1x7x128.size a ≤ S10000x7x128.size a)
theorem k0_off389_inb : ∀ (v2716 : BitVec 32) (k0_hw389 : k0_chk389 v2716), ∀ a, (k0_off389 v2716) a + S1x7x128.size a ≤ S10000x7x128.size a := fun v2716 k0_hw389 => k0_hw389

def k0_off390 (v2723 : BitVec 32) : Fin 3 → Nat :=
  let v2724 : Index := Scalar.indexCast v2723
  let c0_2265 : Index := 0#32
  let c0_2266 : Index := 0#32
  ![v2724.toNat, 0, 0]

def k0_chk390 (v2723 : BitVec 32) : Prop :=
  (∀ a, (k0_off390 v2723) a + S1x7x128.size a ≤ S10000x7x128.size a)
theorem k0_off390_inb : ∀ (v2723 : BitVec 32) (k0_hw390 : k0_chk390 v2723), ∀ a, (k0_off390 v2723) a + S1x7x128.size a ≤ S10000x7x128.size a := fun v2723 k0_hw390 => k0_hw390

def k0_off391 (v2730 : BitVec 32) : Fin 3 → Nat :=
  let v2731 : Index := Scalar.indexCast v2730
  let c0_2271 : Index := 0#32
  let c0_2272 : Index := 0#32
  ![v2731.toNat, 0, 0]

def k0_chk391 (v2730 : BitVec 32) : Prop :=
  (∀ a, (k0_off391 v2730) a + S1x7x128.size a ≤ S10000x7x128.size a)
theorem k0_off391_inb : ∀ (v2730 : BitVec 32) (k0_hw391 : k0_chk391 v2730), ∀ a, (k0_off391 v2730) a + S1x7x128.size a ≤ S10000x7x128.size a := fun v2730 k0_hw391 => k0_hw391

def k0_off392 (v2737 : BitVec 32) : Fin 3 → Nat :=
  let v2738 : Index := Scalar.indexCast v2737
  let c0_2277 : Index := 0#32
  let c0_2278 : Index := 0#32
  ![v2738.toNat, 0, 0]

def k0_chk392 (v2737 : BitVec 32) : Prop :=
  (∀ a, (k0_off392 v2737) a + S1x7x128.size a ≤ S10000x7x128.size a)
theorem k0_off392_inb : ∀ (v2737 : BitVec 32) (k0_hw392 : k0_chk392 v2737), ∀ a, (k0_off392 v2737) a + S1x7x128.size a ≤ S10000x7x128.size a := fun v2737 k0_hw392 => k0_hw392

def k0_off393 (v2744 : BitVec 32) : Fin 3 → Nat :=
  let v2745 : Index := Scalar.indexCast v2744
  let c0_2283 : Index := 0#32
  let c0_2284 : Index := 0#32
  ![v2745.toNat, 0, 0]

def k0_chk393 (v2744 : BitVec 32) : Prop :=
  (∀ a, (k0_off393 v2744) a + S1x7x128.size a ≤ S10000x7x128.size a)
theorem k0_off393_inb : ∀ (v2744 : BitVec 32) (k0_hw393 : k0_chk393 v2744), ∀ a, (k0_off393 v2744) a + S1x7x128.size a ≤ S10000x7x128.size a := fun v2744 k0_hw393 => k0_hw393

def k0_off394 (v2751 : BitVec 32) : Fin 3 → Nat :=
  let v2752 : Index := Scalar.indexCast v2751
  let c0_2289 : Index := 0#32
  let c0_2290 : Index := 0#32
  ![v2752.toNat, 0, 0]

def k0_chk394 (v2751 : BitVec 32) : Prop :=
  (∀ a, (k0_off394 v2751) a + S1x7x128.size a ≤ S10000x7x128.size a)
theorem k0_off394_inb : ∀ (v2751 : BitVec 32) (k0_hw394 : k0_chk394 v2751), ∀ a, (k0_off394 v2751) a + S1x7x128.size a ≤ S10000x7x128.size a := fun v2751 k0_hw394 => k0_hw394

def k0_off395 (v2758 : BitVec 32) : Fin 3 → Nat :=
  let v2759 : Index := Scalar.indexCast v2758
  let c0_2295 : Index := 0#32
  let c0_2296 : Index := 0#32
  ![v2759.toNat, 0, 0]

def k0_chk395 (v2758 : BitVec 32) : Prop :=
  (∀ a, (k0_off395 v2758) a + S1x7x128.size a ≤ S10000x7x128.size a)
theorem k0_off395_inb : ∀ (v2758 : BitVec 32) (k0_hw395 : k0_chk395 v2758), ∀ a, (k0_off395 v2758) a + S1x7x128.size a ≤ S10000x7x128.size a := fun v2758 k0_hw395 => k0_hw395

def k0_off396 (v2765 : BitVec 32) : Fin 3 → Nat :=
  let v2766 : Index := Scalar.indexCast v2765
  let c0_2301 : Index := 0#32
  let c0_2302 : Index := 0#32
  ![v2766.toNat, 0, 0]

def k0_chk396 (v2765 : BitVec 32) : Prop :=
  (∀ a, (k0_off396 v2765) a + S1x7x128.size a ≤ S10000x7x128.size a)
theorem k0_off396_inb : ∀ (v2765 : BitVec 32) (k0_hw396 : k0_chk396 v2765), ∀ a, (k0_off396 v2765) a + S1x7x128.size a ≤ S10000x7x128.size a := fun v2765 k0_hw396 => k0_hw396

def k0_off397 (v2772 : BitVec 32) : Fin 3 → Nat :=
  let v2773 : Index := Scalar.indexCast v2772
  let c0_2307 : Index := 0#32
  let c0_2308 : Index := 0#32
  ![v2773.toNat, 0, 0]

def k0_chk397 (v2772 : BitVec 32) : Prop :=
  (∀ a, (k0_off397 v2772) a + S1x7x128.size a ≤ S10000x7x128.size a)
theorem k0_off397_inb : ∀ (v2772 : BitVec 32) (k0_hw397 : k0_chk397 v2772), ∀ a, (k0_off397 v2772) a + S1x7x128.size a ≤ S10000x7x128.size a := fun v2772 k0_hw397 => k0_hw397

def k0_off398 (v2779 : BitVec 32) : Fin 3 → Nat :=
  let v2780 : Index := Scalar.indexCast v2779
  let c0_2313 : Index := 0#32
  let c0_2314 : Index := 0#32
  ![v2780.toNat, 0, 0]

def k0_chk398 (v2779 : BitVec 32) : Prop :=
  (∀ a, (k0_off398 v2779) a + S1x7x128.size a ≤ S10000x7x128.size a)
theorem k0_off398_inb : ∀ (v2779 : BitVec 32) (k0_hw398 : k0_chk398 v2779), ∀ a, (k0_off398 v2779) a + S1x7x128.size a ≤ S10000x7x128.size a := fun v2779 k0_hw398 => k0_hw398

def k0_off399 (v2786 : BitVec 32) : Fin 3 → Nat :=
  let v2787 : Index := Scalar.indexCast v2786
  let c0_2319 : Index := 0#32
  let c0_2320 : Index := 0#32
  ![v2787.toNat, 0, 0]

def k0_chk399 (v2786 : BitVec 32) : Prop :=
  (∀ a, (k0_off399 v2786) a + S1x7x128.size a ≤ S10000x7x128.size a)
theorem k0_off399_inb : ∀ (v2786 : BitVec 32) (k0_hw399 : k0_chk399 v2786), ∀ a, (k0_off399 v2786) a + S1x7x128.size a ≤ S10000x7x128.size a := fun v2786 k0_hw399 => k0_hw399

def k0_off400 (v2793 : BitVec 32) : Fin 3 → Nat :=
  let v2794 : Index := Scalar.indexCast v2793
  let c0_2325 : Index := 0#32
  let c0_2326 : Index := 0#32
  ![v2794.toNat, 0, 0]

def k0_chk400 (v2793 : BitVec 32) : Prop :=
  (∀ a, (k0_off400 v2793) a + S1x7x128.size a ≤ S10000x7x128.size a)
theorem k0_off400_inb : ∀ (v2793 : BitVec 32) (k0_hw400 : k0_chk400 v2793), ∀ a, (k0_off400 v2793) a + S1x7x128.size a ≤ S10000x7x128.size a := fun v2793 k0_hw400 => k0_hw400

def k0_off401 (v2800 : BitVec 32) : Fin 3 → Nat :=
  let v2801 : Index := Scalar.indexCast v2800
  let c0_2331 : Index := 0#32
  let c0_2332 : Index := 0#32
  ![v2801.toNat, 0, 0]

def k0_chk401 (v2800 : BitVec 32) : Prop :=
  (∀ a, (k0_off401 v2800) a + S1x7x128.size a ≤ S10000x7x128.size a)
theorem k0_off401_inb : ∀ (v2800 : BitVec 32) (k0_hw401 : k0_chk401 v2800), ∀ a, (k0_off401 v2800) a + S1x7x128.size a ≤ S10000x7x128.size a := fun v2800 k0_hw401 => k0_hw401

def k0_off402 (v2807 : BitVec 32) : Fin 3 → Nat :=
  let v2808 : Index := Scalar.indexCast v2807
  let c0_2337 : Index := 0#32
  let c0_2338 : Index := 0#32
  ![v2808.toNat, 0, 0]

def k0_chk402 (v2807 : BitVec 32) : Prop :=
  (∀ a, (k0_off402 v2807) a + S1x7x128.size a ≤ S10000x7x128.size a)
theorem k0_off402_inb : ∀ (v2807 : BitVec 32) (k0_hw402 : k0_chk402 v2807), ∀ a, (k0_off402 v2807) a + S1x7x128.size a ≤ S10000x7x128.size a := fun v2807 k0_hw402 => k0_hw402

def k0_off403 (v2814 : BitVec 32) : Fin 3 → Nat :=
  let v2815 : Index := Scalar.indexCast v2814
  let c0_2343 : Index := 0#32
  let c0_2344 : Index := 0#32
  ![v2815.toNat, 0, 0]

def k0_chk403 (v2814 : BitVec 32) : Prop :=
  (∀ a, (k0_off403 v2814) a + S1x7x128.size a ≤ S10000x7x128.size a)
theorem k0_off403_inb : ∀ (v2814 : BitVec 32) (k0_hw403 : k0_chk403 v2814), ∀ a, (k0_off403 v2814) a + S1x7x128.size a ≤ S10000x7x128.size a := fun v2814 k0_hw403 => k0_hw403

def k0_off404 (v2821 : BitVec 32) : Fin 3 → Nat :=
  let v2822 : Index := Scalar.indexCast v2821
  let c0_2349 : Index := 0#32
  let c0_2350 : Index := 0#32
  ![v2822.toNat, 0, 0]

def k0_chk404 (v2821 : BitVec 32) : Prop :=
  (∀ a, (k0_off404 v2821) a + S1x7x128.size a ≤ S10000x7x128.size a)
theorem k0_off404_inb : ∀ (v2821 : BitVec 32) (k0_hw404 : k0_chk404 v2821), ∀ a, (k0_off404 v2821) a + S1x7x128.size a ≤ S10000x7x128.size a := fun v2821 k0_hw404 => k0_hw404

def k0_off405 (v2828 : BitVec 32) : Fin 3 → Nat :=
  let v2829 : Index := Scalar.indexCast v2828
  let c0_2355 : Index := 0#32
  let c0_2356 : Index := 0#32
  ![v2829.toNat, 0, 0]

def k0_chk405 (v2828 : BitVec 32) : Prop :=
  (∀ a, (k0_off405 v2828) a + S1x7x128.size a ≤ S10000x7x128.size a)
theorem k0_off405_inb : ∀ (v2828 : BitVec 32) (k0_hw405 : k0_chk405 v2828), ∀ a, (k0_off405 v2828) a + S1x7x128.size a ≤ S10000x7x128.size a := fun v2828 k0_hw405 => k0_hw405

def k0_off406 (v2835 : BitVec 32) : Fin 3 → Nat :=
  let v2836 : Index := Scalar.indexCast v2835
  let c0_2361 : Index := 0#32
  let c0_2362 : Index := 0#32
  ![v2836.toNat, 0, 0]

def k0_chk406 (v2835 : BitVec 32) : Prop :=
  (∀ a, (k0_off406 v2835) a + S1x7x128.size a ≤ S10000x7x128.size a)
theorem k0_off406_inb : ∀ (v2835 : BitVec 32) (k0_hw406 : k0_chk406 v2835), ∀ a, (k0_off406 v2835) a + S1x7x128.size a ≤ S10000x7x128.size a := fun v2835 k0_hw406 => k0_hw406

def k0_off407 (v2842 : BitVec 32) : Fin 3 → Nat :=
  let v2843 : Index := Scalar.indexCast v2842
  let c0_2367 : Index := 0#32
  let c0_2368 : Index := 0#32
  ![v2843.toNat, 0, 0]

def k0_chk407 (v2842 : BitVec 32) : Prop :=
  (∀ a, (k0_off407 v2842) a + S1x7x128.size a ≤ S10000x7x128.size a)
theorem k0_off407_inb : ∀ (v2842 : BitVec 32) (k0_hw407 : k0_chk407 v2842), ∀ a, (k0_off407 v2842) a + S1x7x128.size a ≤ S10000x7x128.size a := fun v2842 k0_hw407 => k0_hw407

def k0_off408 (v2849 : BitVec 32) : Fin 3 → Nat :=
  let v2850 : Index := Scalar.indexCast v2849
  let c0_2373 : Index := 0#32
  let c0_2374 : Index := 0#32
  ![v2850.toNat, 0, 0]

def k0_chk408 (v2849 : BitVec 32) : Prop :=
  (∀ a, (k0_off408 v2849) a + S1x7x128.size a ≤ S10000x7x128.size a)
theorem k0_off408_inb : ∀ (v2849 : BitVec 32) (k0_hw408 : k0_chk408 v2849), ∀ a, (k0_off408 v2849) a + S1x7x128.size a ≤ S10000x7x128.size a := fun v2849 k0_hw408 => k0_hw408

def k0_off409 (v2856 : BitVec 32) : Fin 3 → Nat :=
  let v2857 : Index := Scalar.indexCast v2856
  let c0_2379 : Index := 0#32
  let c0_2380 : Index := 0#32
  ![v2857.toNat, 0, 0]

def k0_chk409 (v2856 : BitVec 32) : Prop :=
  (∀ a, (k0_off409 v2856) a + S1x7x128.size a ≤ S10000x7x128.size a)
theorem k0_off409_inb : ∀ (v2856 : BitVec 32) (k0_hw409 : k0_chk409 v2856), ∀ a, (k0_off409 v2856) a + S1x7x128.size a ≤ S10000x7x128.size a := fun v2856 k0_hw409 => k0_hw409

def k0_off410 (v2863 : BitVec 32) : Fin 3 → Nat :=
  let v2864 : Index := Scalar.indexCast v2863
  let c0_2385 : Index := 0#32
  let c0_2386 : Index := 0#32
  ![v2864.toNat, 0, 0]

def k0_chk410 (v2863 : BitVec 32) : Prop :=
  (∀ a, (k0_off410 v2863) a + S1x7x128.size a ≤ S10000x7x128.size a)
theorem k0_off410_inb : ∀ (v2863 : BitVec 32) (k0_hw410 : k0_chk410 v2863), ∀ a, (k0_off410 v2863) a + S1x7x128.size a ≤ S10000x7x128.size a := fun v2863 k0_hw410 => k0_hw410

def k0_off411 (v2870 : BitVec 32) : Fin 3 → Nat :=
  let v2871 : Index := Scalar.indexCast v2870
  let c0_2391 : Index := 0#32
  let c0_2392 : Index := 0#32
  ![v2871.toNat, 0, 0]

def k0_chk411 (v2870 : BitVec 32) : Prop :=
  (∀ a, (k0_off411 v2870) a + S1x7x128.size a ≤ S10000x7x128.size a)
theorem k0_off411_inb : ∀ (v2870 : BitVec 32) (k0_hw411 : k0_chk411 v2870), ∀ a, (k0_off411 v2870) a + S1x7x128.size a ≤ S10000x7x128.size a := fun v2870 k0_hw411 => k0_hw411

def k0_off412 (v2877 : BitVec 32) : Fin 3 → Nat :=
  let v2878 : Index := Scalar.indexCast v2877
  let c0_2397 : Index := 0#32
  let c0_2398 : Index := 0#32
  ![v2878.toNat, 0, 0]

def k0_chk412 (v2877 : BitVec 32) : Prop :=
  (∀ a, (k0_off412 v2877) a + S1x7x128.size a ≤ S10000x7x128.size a)
theorem k0_off412_inb : ∀ (v2877 : BitVec 32) (k0_hw412 : k0_chk412 v2877), ∀ a, (k0_off412 v2877) a + S1x7x128.size a ≤ S10000x7x128.size a := fun v2877 k0_hw412 => k0_hw412

def k0_off413 (v2884 : BitVec 32) : Fin 3 → Nat :=
  let v2885 : Index := Scalar.indexCast v2884
  let c0_2403 : Index := 0#32
  let c0_2404 : Index := 0#32
  ![v2885.toNat, 0, 0]

def k0_chk413 (v2884 : BitVec 32) : Prop :=
  (∀ a, (k0_off413 v2884) a + S1x7x128.size a ≤ S10000x7x128.size a)
theorem k0_off413_inb : ∀ (v2884 : BitVec 32) (k0_hw413 : k0_chk413 v2884), ∀ a, (k0_off413 v2884) a + S1x7x128.size a ≤ S10000x7x128.size a := fun v2884 k0_hw413 => k0_hw413

def k0_off414 (v2891 : BitVec 32) : Fin 3 → Nat :=
  let v2892 : Index := Scalar.indexCast v2891
  let c0_2409 : Index := 0#32
  let c0_2410 : Index := 0#32
  ![v2892.toNat, 0, 0]

def k0_chk414 (v2891 : BitVec 32) : Prop :=
  (∀ a, (k0_off414 v2891) a + S1x7x128.size a ≤ S10000x7x128.size a)
theorem k0_off414_inb : ∀ (v2891 : BitVec 32) (k0_hw414 : k0_chk414 v2891), ∀ a, (k0_off414 v2891) a + S1x7x128.size a ≤ S10000x7x128.size a := fun v2891 k0_hw414 => k0_hw414

def k0_off415 (v2898 : BitVec 32) : Fin 3 → Nat :=
  let v2899 : Index := Scalar.indexCast v2898
  let c0_2415 : Index := 0#32
  let c0_2416 : Index := 0#32
  ![v2899.toNat, 0, 0]

def k0_chk415 (v2898 : BitVec 32) : Prop :=
  (∀ a, (k0_off415 v2898) a + S1x7x128.size a ≤ S10000x7x128.size a)
theorem k0_off415_inb : ∀ (v2898 : BitVec 32) (k0_hw415 : k0_chk415 v2898), ∀ a, (k0_off415 v2898) a + S1x7x128.size a ≤ S10000x7x128.size a := fun v2898 k0_hw415 => k0_hw415

def k0_off416 (v2905 : BitVec 32) : Fin 3 → Nat :=
  let v2906 : Index := Scalar.indexCast v2905
  let c0_2421 : Index := 0#32
  let c0_2422 : Index := 0#32
  ![v2906.toNat, 0, 0]

def k0_chk416 (v2905 : BitVec 32) : Prop :=
  (∀ a, (k0_off416 v2905) a + S1x7x128.size a ≤ S10000x7x128.size a)
theorem k0_off416_inb : ∀ (v2905 : BitVec 32) (k0_hw416 : k0_chk416 v2905), ∀ a, (k0_off416 v2905) a + S1x7x128.size a ≤ S10000x7x128.size a := fun v2905 k0_hw416 => k0_hw416

def k0_off417 (v2912 : BitVec 32) : Fin 3 → Nat :=
  let v2913 : Index := Scalar.indexCast v2912
  let c0_2427 : Index := 0#32
  let c0_2428 : Index := 0#32
  ![v2913.toNat, 0, 0]

def k0_chk417 (v2912 : BitVec 32) : Prop :=
  (∀ a, (k0_off417 v2912) a + S1x7x128.size a ≤ S10000x7x128.size a)
theorem k0_off417_inb : ∀ (v2912 : BitVec 32) (k0_hw417 : k0_chk417 v2912), ∀ a, (k0_off417 v2912) a + S1x7x128.size a ≤ S10000x7x128.size a := fun v2912 k0_hw417 => k0_hw417

def k0_off418 (v2919 : BitVec 32) : Fin 3 → Nat :=
  let v2920 : Index := Scalar.indexCast v2919
  let c0_2432 : Index := 0#32
  let c0_2433 : Index := 0#32
  ![v2920.toNat, 0, 0]

def k0_chk418 (v2919 : BitVec 32) : Prop :=
  (∀ a, (k0_off418 v2919) a + S1x7x128.size a ≤ S10000x7x128.size a)
theorem k0_off418_inb : ∀ (v2919 : BitVec 32) (k0_hw418 : k0_chk418 v2919), ∀ a, (k0_off418 v2919) a + S1x7x128.size a ≤ S10000x7x128.size a := fun v2919 k0_hw418 => k0_hw418

def k0_off419 (v2926 : BitVec 32) : Fin 3 → Nat :=
  let v2927 : Index := Scalar.indexCast v2926
  let c0_2438 : Index := 0#32
  let c0_2439 : Index := 0#32
  ![v2927.toNat, 0, 0]

def k0_chk419 (v2926 : BitVec 32) : Prop :=
  (∀ a, (k0_off419 v2926) a + S1x7x128.size a ≤ S10000x7x128.size a)
theorem k0_off419_inb : ∀ (v2926 : BitVec 32) (k0_hw419 : k0_chk419 v2926), ∀ a, (k0_off419 v2926) a + S1x7x128.size a ≤ S10000x7x128.size a := fun v2926 k0_hw419 => k0_hw419

def k0_off420 (v2933 : BitVec 32) : Fin 3 → Nat :=
  let v2934 : Index := Scalar.indexCast v2933
  let c0_2444 : Index := 0#32
  let c0_2445 : Index := 0#32
  ![v2934.toNat, 0, 0]

def k0_chk420 (v2933 : BitVec 32) : Prop :=
  (∀ a, (k0_off420 v2933) a + S1x7x128.size a ≤ S10000x7x128.size a)
theorem k0_off420_inb : ∀ (v2933 : BitVec 32) (k0_hw420 : k0_chk420 v2933), ∀ a, (k0_off420 v2933) a + S1x7x128.size a ≤ S10000x7x128.size a := fun v2933 k0_hw420 => k0_hw420

def k0_off421 (v2940 : BitVec 32) : Fin 3 → Nat :=
  let v2941 : Index := Scalar.indexCast v2940
  let c0_2450 : Index := 0#32
  let c0_2451 : Index := 0#32
  ![v2941.toNat, 0, 0]

def k0_chk421 (v2940 : BitVec 32) : Prop :=
  (∀ a, (k0_off421 v2940) a + S1x7x128.size a ≤ S10000x7x128.size a)
theorem k0_off421_inb : ∀ (v2940 : BitVec 32) (k0_hw421 : k0_chk421 v2940), ∀ a, (k0_off421 v2940) a + S1x7x128.size a ≤ S10000x7x128.size a := fun v2940 k0_hw421 => k0_hw421

def k0_off422 (v2947 : BitVec 32) : Fin 3 → Nat :=
  let v2948 : Index := Scalar.indexCast v2947
  let c0_2456 : Index := 0#32
  let c0_2457 : Index := 0#32
  ![v2948.toNat, 0, 0]

def k0_chk422 (v2947 : BitVec 32) : Prop :=
  (∀ a, (k0_off422 v2947) a + S1x7x128.size a ≤ S10000x7x128.size a)
theorem k0_off422_inb : ∀ (v2947 : BitVec 32) (k0_hw422 : k0_chk422 v2947), ∀ a, (k0_off422 v2947) a + S1x7x128.size a ≤ S10000x7x128.size a := fun v2947 k0_hw422 => k0_hw422

def k0_off423 (v2954 : BitVec 32) : Fin 3 → Nat :=
  let v2955 : Index := Scalar.indexCast v2954
  let c0_2462 : Index := 0#32
  let c0_2463 : Index := 0#32
  ![v2955.toNat, 0, 0]

def k0_chk423 (v2954 : BitVec 32) : Prop :=
  (∀ a, (k0_off423 v2954) a + S1x7x128.size a ≤ S10000x7x128.size a)
theorem k0_off423_inb : ∀ (v2954 : BitVec 32) (k0_hw423 : k0_chk423 v2954), ∀ a, (k0_off423 v2954) a + S1x7x128.size a ≤ S10000x7x128.size a := fun v2954 k0_hw423 => k0_hw423

def k0_off424 (v2961 : BitVec 32) : Fin 3 → Nat :=
  let v2962 : Index := Scalar.indexCast v2961
  let c0_2468 : Index := 0#32
  let c0_2469 : Index := 0#32
  ![v2962.toNat, 0, 0]

def k0_chk424 (v2961 : BitVec 32) : Prop :=
  (∀ a, (k0_off424 v2961) a + S1x7x128.size a ≤ S10000x7x128.size a)
theorem k0_off424_inb : ∀ (v2961 : BitVec 32) (k0_hw424 : k0_chk424 v2961), ∀ a, (k0_off424 v2961) a + S1x7x128.size a ≤ S10000x7x128.size a := fun v2961 k0_hw424 => k0_hw424

def k0_off425 (v2968 : BitVec 32) : Fin 3 → Nat :=
  let v2969 : Index := Scalar.indexCast v2968
  let c0_2474 : Index := 0#32
  let c0_2475 : Index := 0#32
  ![v2969.toNat, 0, 0]

def k0_chk425 (v2968 : BitVec 32) : Prop :=
  (∀ a, (k0_off425 v2968) a + S1x7x128.size a ≤ S10000x7x128.size a)
theorem k0_off425_inb : ∀ (v2968 : BitVec 32) (k0_hw425 : k0_chk425 v2968), ∀ a, (k0_off425 v2968) a + S1x7x128.size a ≤ S10000x7x128.size a := fun v2968 k0_hw425 => k0_hw425

def k0_off426 (v2975 : BitVec 32) : Fin 3 → Nat :=
  let v2976 : Index := Scalar.indexCast v2975
  let c0_2480 : Index := 0#32
  let c0_2481 : Index := 0#32
  ![v2976.toNat, 0, 0]

def k0_chk426 (v2975 : BitVec 32) : Prop :=
  (∀ a, (k0_off426 v2975) a + S1x7x128.size a ≤ S10000x7x128.size a)
theorem k0_off426_inb : ∀ (v2975 : BitVec 32) (k0_hw426 : k0_chk426 v2975), ∀ a, (k0_off426 v2975) a + S1x7x128.size a ≤ S10000x7x128.size a := fun v2975 k0_hw426 => k0_hw426

def k0_off427 (v2982 : BitVec 32) : Fin 3 → Nat :=
  let v2983 : Index := Scalar.indexCast v2982
  let c0_2486 : Index := 0#32
  let c0_2487 : Index := 0#32
  ![v2983.toNat, 0, 0]

def k0_chk427 (v2982 : BitVec 32) : Prop :=
  (∀ a, (k0_off427 v2982) a + S1x7x128.size a ≤ S10000x7x128.size a)
theorem k0_off427_inb : ∀ (v2982 : BitVec 32) (k0_hw427 : k0_chk427 v2982), ∀ a, (k0_off427 v2982) a + S1x7x128.size a ≤ S10000x7x128.size a := fun v2982 k0_hw427 => k0_hw427

def k0_off428 (v2989 : BitVec 32) : Fin 3 → Nat :=
  let v2990 : Index := Scalar.indexCast v2989
  let c0_2492 : Index := 0#32
  let c0_2493 : Index := 0#32
  ![v2990.toNat, 0, 0]

def k0_chk428 (v2989 : BitVec 32) : Prop :=
  (∀ a, (k0_off428 v2989) a + S1x7x128.size a ≤ S10000x7x128.size a)
theorem k0_off428_inb : ∀ (v2989 : BitVec 32) (k0_hw428 : k0_chk428 v2989), ∀ a, (k0_off428 v2989) a + S1x7x128.size a ≤ S10000x7x128.size a := fun v2989 k0_hw428 => k0_hw428

def k0_off429 (v2996 : BitVec 32) : Fin 3 → Nat :=
  let v2997 : Index := Scalar.indexCast v2996
  let c0_2498 : Index := 0#32
  let c0_2499 : Index := 0#32
  ![v2997.toNat, 0, 0]

def k0_chk429 (v2996 : BitVec 32) : Prop :=
  (∀ a, (k0_off429 v2996) a + S1x7x128.size a ≤ S10000x7x128.size a)
theorem k0_off429_inb : ∀ (v2996 : BitVec 32) (k0_hw429 : k0_chk429 v2996), ∀ a, (k0_off429 v2996) a + S1x7x128.size a ≤ S10000x7x128.size a := fun v2996 k0_hw429 => k0_hw429

def k0_off430 (v3003 : BitVec 32) : Fin 3 → Nat :=
  let v3004 : Index := Scalar.indexCast v3003
  let c0_2504 : Index := 0#32
  let c0_2505 : Index := 0#32
  ![v3004.toNat, 0, 0]

def k0_chk430 (v3003 : BitVec 32) : Prop :=
  (∀ a, (k0_off430 v3003) a + S1x7x128.size a ≤ S10000x7x128.size a)
theorem k0_off430_inb : ∀ (v3003 : BitVec 32) (k0_hw430 : k0_chk430 v3003), ∀ a, (k0_off430 v3003) a + S1x7x128.size a ≤ S10000x7x128.size a := fun v3003 k0_hw430 => k0_hw430

def k0_off431 (v3010 : BitVec 32) : Fin 3 → Nat :=
  let v3011 : Index := Scalar.indexCast v3010
  let c0_2510 : Index := 0#32
  let c0_2511 : Index := 0#32
  ![v3011.toNat, 0, 0]

def k0_chk431 (v3010 : BitVec 32) : Prop :=
  (∀ a, (k0_off431 v3010) a + S1x7x128.size a ≤ S10000x7x128.size a)
theorem k0_off431_inb : ∀ (v3010 : BitVec 32) (k0_hw431 : k0_chk431 v3010), ∀ a, (k0_off431 v3010) a + S1x7x128.size a ≤ S10000x7x128.size a := fun v3010 k0_hw431 => k0_hw431

def k0_off432 (v3017 : BitVec 32) : Fin 3 → Nat :=
  let v3018 : Index := Scalar.indexCast v3017
  let c0_2516 : Index := 0#32
  let c0_2517 : Index := 0#32
  ![v3018.toNat, 0, 0]

def k0_chk432 (v3017 : BitVec 32) : Prop :=
  (∀ a, (k0_off432 v3017) a + S1x7x128.size a ≤ S10000x7x128.size a)
theorem k0_off432_inb : ∀ (v3017 : BitVec 32) (k0_hw432 : k0_chk432 v3017), ∀ a, (k0_off432 v3017) a + S1x7x128.size a ≤ S10000x7x128.size a := fun v3017 k0_hw432 => k0_hw432

def k0_off433 (v3024 : BitVec 32) : Fin 3 → Nat :=
  let v3025 : Index := Scalar.indexCast v3024
  let c0_2522 : Index := 0#32
  let c0_2523 : Index := 0#32
  ![v3025.toNat, 0, 0]

def k0_chk433 (v3024 : BitVec 32) : Prop :=
  (∀ a, (k0_off433 v3024) a + S1x7x128.size a ≤ S10000x7x128.size a)
theorem k0_off433_inb : ∀ (v3024 : BitVec 32) (k0_hw433 : k0_chk433 v3024), ∀ a, (k0_off433 v3024) a + S1x7x128.size a ≤ S10000x7x128.size a := fun v3024 k0_hw433 => k0_hw433

def k0_off434 (v3031 : BitVec 32) : Fin 3 → Nat :=
  let v3032 : Index := Scalar.indexCast v3031
  let c0_2528 : Index := 0#32
  let c0_2529 : Index := 0#32
  ![v3032.toNat, 0, 0]

def k0_chk434 (v3031 : BitVec 32) : Prop :=
  (∀ a, (k0_off434 v3031) a + S1x7x128.size a ≤ S10000x7x128.size a)
theorem k0_off434_inb : ∀ (v3031 : BitVec 32) (k0_hw434 : k0_chk434 v3031), ∀ a, (k0_off434 v3031) a + S1x7x128.size a ≤ S10000x7x128.size a := fun v3031 k0_hw434 => k0_hw434

def k0_off435 (v3038 : BitVec 32) : Fin 3 → Nat :=
  let v3039 : Index := Scalar.indexCast v3038
  let c0_2534 : Index := 0#32
  let c0_2535 : Index := 0#32
  ![v3039.toNat, 0, 0]

def k0_chk435 (v3038 : BitVec 32) : Prop :=
  (∀ a, (k0_off435 v3038) a + S1x7x128.size a ≤ S10000x7x128.size a)
theorem k0_off435_inb : ∀ (v3038 : BitVec 32) (k0_hw435 : k0_chk435 v3038), ∀ a, (k0_off435 v3038) a + S1x7x128.size a ≤ S10000x7x128.size a := fun v3038 k0_hw435 => k0_hw435

def k0_off436 (v3045 : BitVec 32) : Fin 3 → Nat :=
  let v3046 : Index := Scalar.indexCast v3045
  let c0_2540 : Index := 0#32
  let c0_2541 : Index := 0#32
  ![v3046.toNat, 0, 0]

def k0_chk436 (v3045 : BitVec 32) : Prop :=
  (∀ a, (k0_off436 v3045) a + S1x7x128.size a ≤ S10000x7x128.size a)
theorem k0_off436_inb : ∀ (v3045 : BitVec 32) (k0_hw436 : k0_chk436 v3045), ∀ a, (k0_off436 v3045) a + S1x7x128.size a ≤ S10000x7x128.size a := fun v3045 k0_hw436 => k0_hw436

def k0_off437 (v3052 : BitVec 32) : Fin 3 → Nat :=
  let v3053 : Index := Scalar.indexCast v3052
  let c0_2546 : Index := 0#32
  let c0_2547 : Index := 0#32
  ![v3053.toNat, 0, 0]

def k0_chk437 (v3052 : BitVec 32) : Prop :=
  (∀ a, (k0_off437 v3052) a + S1x7x128.size a ≤ S10000x7x128.size a)
theorem k0_off437_inb : ∀ (v3052 : BitVec 32) (k0_hw437 : k0_chk437 v3052), ∀ a, (k0_off437 v3052) a + S1x7x128.size a ≤ S10000x7x128.size a := fun v3052 k0_hw437 => k0_hw437

def k0_off438 (v3059 : BitVec 32) : Fin 3 → Nat :=
  let v3060 : Index := Scalar.indexCast v3059
  let c0_2552 : Index := 0#32
  let c0_2553 : Index := 0#32
  ![v3060.toNat, 0, 0]

def k0_chk438 (v3059 : BitVec 32) : Prop :=
  (∀ a, (k0_off438 v3059) a + S1x7x128.size a ≤ S10000x7x128.size a)
theorem k0_off438_inb : ∀ (v3059 : BitVec 32) (k0_hw438 : k0_chk438 v3059), ∀ a, (k0_off438 v3059) a + S1x7x128.size a ≤ S10000x7x128.size a := fun v3059 k0_hw438 => k0_hw438

def k0_off439 (v3066 : BitVec 32) : Fin 3 → Nat :=
  let v3067 : Index := Scalar.indexCast v3066
  let c0_2558 : Index := 0#32
  let c0_2559 : Index := 0#32
  ![v3067.toNat, 0, 0]

def k0_chk439 (v3066 : BitVec 32) : Prop :=
  (∀ a, (k0_off439 v3066) a + S1x7x128.size a ≤ S10000x7x128.size a)
theorem k0_off439_inb : ∀ (v3066 : BitVec 32) (k0_hw439 : k0_chk439 v3066), ∀ a, (k0_off439 v3066) a + S1x7x128.size a ≤ S10000x7x128.size a := fun v3066 k0_hw439 => k0_hw439

def k0_off440 (v3073 : BitVec 32) : Fin 3 → Nat :=
  let v3074 : Index := Scalar.indexCast v3073
  let c0_2564 : Index := 0#32
  let c0_2565 : Index := 0#32
  ![v3074.toNat, 0, 0]

def k0_chk440 (v3073 : BitVec 32) : Prop :=
  (∀ a, (k0_off440 v3073) a + S1x7x128.size a ≤ S10000x7x128.size a)
theorem k0_off440_inb : ∀ (v3073 : BitVec 32) (k0_hw440 : k0_chk440 v3073), ∀ a, (k0_off440 v3073) a + S1x7x128.size a ≤ S10000x7x128.size a := fun v3073 k0_hw440 => k0_hw440

def k0_off441 (v3080 : BitVec 32) : Fin 3 → Nat :=
  let v3081 : Index := Scalar.indexCast v3080
  let c0_2570 : Index := 0#32
  let c0_2571 : Index := 0#32
  ![v3081.toNat, 0, 0]

def k0_chk441 (v3080 : BitVec 32) : Prop :=
  (∀ a, (k0_off441 v3080) a + S1x7x128.size a ≤ S10000x7x128.size a)
theorem k0_off441_inb : ∀ (v3080 : BitVec 32) (k0_hw441 : k0_chk441 v3080), ∀ a, (k0_off441 v3080) a + S1x7x128.size a ≤ S10000x7x128.size a := fun v3080 k0_hw441 => k0_hw441

def k0_off442 (v3087 : BitVec 32) : Fin 3 → Nat :=
  let v3088 : Index := Scalar.indexCast v3087
  let c0_2576 : Index := 0#32
  let c0_2577 : Index := 0#32
  ![v3088.toNat, 0, 0]

def k0_chk442 (v3087 : BitVec 32) : Prop :=
  (∀ a, (k0_off442 v3087) a + S1x7x128.size a ≤ S10000x7x128.size a)
theorem k0_off442_inb : ∀ (v3087 : BitVec 32) (k0_hw442 : k0_chk442 v3087), ∀ a, (k0_off442 v3087) a + S1x7x128.size a ≤ S10000x7x128.size a := fun v3087 k0_hw442 => k0_hw442

def k0_off443 (v3094 : BitVec 32) : Fin 3 → Nat :=
  let v3095 : Index := Scalar.indexCast v3094
  let c0_2582 : Index := 0#32
  let c0_2583 : Index := 0#32
  ![v3095.toNat, 0, 0]

def k0_chk443 (v3094 : BitVec 32) : Prop :=
  (∀ a, (k0_off443 v3094) a + S1x7x128.size a ≤ S10000x7x128.size a)
theorem k0_off443_inb : ∀ (v3094 : BitVec 32) (k0_hw443 : k0_chk443 v3094), ∀ a, (k0_off443 v3094) a + S1x7x128.size a ≤ S10000x7x128.size a := fun v3094 k0_hw443 => k0_hw443

def k0_off444 (v3101 : BitVec 32) : Fin 3 → Nat :=
  let v3102 : Index := Scalar.indexCast v3101
  let c0_2588 : Index := 0#32
  let c0_2589 : Index := 0#32
  ![v3102.toNat, 0, 0]

def k0_chk444 (v3101 : BitVec 32) : Prop :=
  (∀ a, (k0_off444 v3101) a + S1x7x128.size a ≤ S10000x7x128.size a)
theorem k0_off444_inb : ∀ (v3101 : BitVec 32) (k0_hw444 : k0_chk444 v3101), ∀ a, (k0_off444 v3101) a + S1x7x128.size a ≤ S10000x7x128.size a := fun v3101 k0_hw444 => k0_hw444

def k0_off445 (v3108 : BitVec 32) : Fin 3 → Nat :=
  let v3109 : Index := Scalar.indexCast v3108
  let c0_2594 : Index := 0#32
  let c0_2595 : Index := 0#32
  ![v3109.toNat, 0, 0]

def k0_chk445 (v3108 : BitVec 32) : Prop :=
  (∀ a, (k0_off445 v3108) a + S1x7x128.size a ≤ S10000x7x128.size a)
theorem k0_off445_inb : ∀ (v3108 : BitVec 32) (k0_hw445 : k0_chk445 v3108), ∀ a, (k0_off445 v3108) a + S1x7x128.size a ≤ S10000x7x128.size a := fun v3108 k0_hw445 => k0_hw445

def k0_off446 (v3115 : BitVec 32) : Fin 3 → Nat :=
  let v3116 : Index := Scalar.indexCast v3115
  let c0_2600 : Index := 0#32
  let c0_2601 : Index := 0#32
  ![v3116.toNat, 0, 0]

def k0_chk446 (v3115 : BitVec 32) : Prop :=
  (∀ a, (k0_off446 v3115) a + S1x7x128.size a ≤ S10000x7x128.size a)
theorem k0_off446_inb : ∀ (v3115 : BitVec 32) (k0_hw446 : k0_chk446 v3115), ∀ a, (k0_off446 v3115) a + S1x7x128.size a ≤ S10000x7x128.size a := fun v3115 k0_hw446 => k0_hw446

def k0_off447 (v3122 : BitVec 32) : Fin 3 → Nat :=
  let v3123 : Index := Scalar.indexCast v3122
  let c0_2606 : Index := 0#32
  let c0_2607 : Index := 0#32
  ![v3123.toNat, 0, 0]

def k0_chk447 (v3122 : BitVec 32) : Prop :=
  (∀ a, (k0_off447 v3122) a + S1x7x128.size a ≤ S10000x7x128.size a)
theorem k0_off447_inb : ∀ (v3122 : BitVec 32) (k0_hw447 : k0_chk447 v3122), ∀ a, (k0_off447 v3122) a + S1x7x128.size a ≤ S10000x7x128.size a := fun v3122 k0_hw447 => k0_hw447

def k0_off448 (v3129 : BitVec 32) : Fin 3 → Nat :=
  let v3130 : Index := Scalar.indexCast v3129
  let c0_2612 : Index := 0#32
  let c0_2613 : Index := 0#32
  ![v3130.toNat, 0, 0]

def k0_chk448 (v3129 : BitVec 32) : Prop :=
  (∀ a, (k0_off448 v3129) a + S1x7x128.size a ≤ S10000x7x128.size a)
theorem k0_off448_inb : ∀ (v3129 : BitVec 32) (k0_hw448 : k0_chk448 v3129), ∀ a, (k0_off448 v3129) a + S1x7x128.size a ≤ S10000x7x128.size a := fun v3129 k0_hw448 => k0_hw448

def k0_off449 (v3136 : BitVec 32) : Fin 3 → Nat :=
  let v3137 : Index := Scalar.indexCast v3136
  let c0_2618 : Index := 0#32
  let c0_2619 : Index := 0#32
  ![v3137.toNat, 0, 0]

def k0_chk449 (v3136 : BitVec 32) : Prop :=
  (∀ a, (k0_off449 v3136) a + S1x7x128.size a ≤ S10000x7x128.size a)
theorem k0_off449_inb : ∀ (v3136 : BitVec 32) (k0_hw449 : k0_chk449 v3136), ∀ a, (k0_off449 v3136) a + S1x7x128.size a ≤ S10000x7x128.size a := fun v3136 k0_hw449 => k0_hw449

def k0_off450 (v3143 : BitVec 32) : Fin 3 → Nat :=
  let v3144 : Index := Scalar.indexCast v3143
  let c0_2623 : Index := 0#32
  let c0_2624 : Index := 0#32
  ![v3144.toNat, 0, 0]

def k0_chk450 (v3143 : BitVec 32) : Prop :=
  (∀ a, (k0_off450 v3143) a + S1x7x128.size a ≤ S10000x7x128.size a)
theorem k0_off450_inb : ∀ (v3143 : BitVec 32) (k0_hw450 : k0_chk450 v3143), ∀ a, (k0_off450 v3143) a + S1x7x128.size a ≤ S10000x7x128.size a := fun v3143 k0_hw450 => k0_hw450

def k0_off451 (v3150 : BitVec 32) : Fin 3 → Nat :=
  let v3151 : Index := Scalar.indexCast v3150
  let c0_2629 : Index := 0#32
  let c0_2630 : Index := 0#32
  ![v3151.toNat, 0, 0]

def k0_chk451 (v3150 : BitVec 32) : Prop :=
  (∀ a, (k0_off451 v3150) a + S1x7x128.size a ≤ S10000x7x128.size a)
theorem k0_off451_inb : ∀ (v3150 : BitVec 32) (k0_hw451 : k0_chk451 v3150), ∀ a, (k0_off451 v3150) a + S1x7x128.size a ≤ S10000x7x128.size a := fun v3150 k0_hw451 => k0_hw451

def k0_off452 (v3157 : BitVec 32) : Fin 3 → Nat :=
  let v3158 : Index := Scalar.indexCast v3157
  let c0_2635 : Index := 0#32
  let c0_2636 : Index := 0#32
  ![v3158.toNat, 0, 0]

def k0_chk452 (v3157 : BitVec 32) : Prop :=
  (∀ a, (k0_off452 v3157) a + S1x7x128.size a ≤ S10000x7x128.size a)
theorem k0_off452_inb : ∀ (v3157 : BitVec 32) (k0_hw452 : k0_chk452 v3157), ∀ a, (k0_off452 v3157) a + S1x7x128.size a ≤ S10000x7x128.size a := fun v3157 k0_hw452 => k0_hw452

def k0_off453 (v3164 : BitVec 32) : Fin 3 → Nat :=
  let v3165 : Index := Scalar.indexCast v3164
  let c0_2641 : Index := 0#32
  let c0_2642 : Index := 0#32
  ![v3165.toNat, 0, 0]

def k0_chk453 (v3164 : BitVec 32) : Prop :=
  (∀ a, (k0_off453 v3164) a + S1x7x128.size a ≤ S10000x7x128.size a)
theorem k0_off453_inb : ∀ (v3164 : BitVec 32) (k0_hw453 : k0_chk453 v3164), ∀ a, (k0_off453 v3164) a + S1x7x128.size a ≤ S10000x7x128.size a := fun v3164 k0_hw453 => k0_hw453

def k0_off454 (v3171 : BitVec 32) : Fin 3 → Nat :=
  let v3172 : Index := Scalar.indexCast v3171
  let c0_2647 : Index := 0#32
  let c0_2648 : Index := 0#32
  ![v3172.toNat, 0, 0]

def k0_chk454 (v3171 : BitVec 32) : Prop :=
  (∀ a, (k0_off454 v3171) a + S1x7x128.size a ≤ S10000x7x128.size a)
theorem k0_off454_inb : ∀ (v3171 : BitVec 32) (k0_hw454 : k0_chk454 v3171), ∀ a, (k0_off454 v3171) a + S1x7x128.size a ≤ S10000x7x128.size a := fun v3171 k0_hw454 => k0_hw454

def k0_off455 (v3178 : BitVec 32) : Fin 3 → Nat :=
  let v3179 : Index := Scalar.indexCast v3178
  let c0_2653 : Index := 0#32
  let c0_2654 : Index := 0#32
  ![v3179.toNat, 0, 0]

def k0_chk455 (v3178 : BitVec 32) : Prop :=
  (∀ a, (k0_off455 v3178) a + S1x7x128.size a ≤ S10000x7x128.size a)
theorem k0_off455_inb : ∀ (v3178 : BitVec 32) (k0_hw455 : k0_chk455 v3178), ∀ a, (k0_off455 v3178) a + S1x7x128.size a ≤ S10000x7x128.size a := fun v3178 k0_hw455 => k0_hw455

def k0_off456 (v3185 : BitVec 32) : Fin 3 → Nat :=
  let v3186 : Index := Scalar.indexCast v3185
  let c0_2659 : Index := 0#32
  let c0_2660 : Index := 0#32
  ![v3186.toNat, 0, 0]

def k0_chk456 (v3185 : BitVec 32) : Prop :=
  (∀ a, (k0_off456 v3185) a + S1x7x128.size a ≤ S10000x7x128.size a)
theorem k0_off456_inb : ∀ (v3185 : BitVec 32) (k0_hw456 : k0_chk456 v3185), ∀ a, (k0_off456 v3185) a + S1x7x128.size a ≤ S10000x7x128.size a := fun v3185 k0_hw456 => k0_hw456

def k0_off457 (v3192 : BitVec 32) : Fin 3 → Nat :=
  let v3193 : Index := Scalar.indexCast v3192
  let c0_2665 : Index := 0#32
  let c0_2666 : Index := 0#32
  ![v3193.toNat, 0, 0]

def k0_chk457 (v3192 : BitVec 32) : Prop :=
  (∀ a, (k0_off457 v3192) a + S1x7x128.size a ≤ S10000x7x128.size a)
theorem k0_off457_inb : ∀ (v3192 : BitVec 32) (k0_hw457 : k0_chk457 v3192), ∀ a, (k0_off457 v3192) a + S1x7x128.size a ≤ S10000x7x128.size a := fun v3192 k0_hw457 => k0_hw457

def k0_off458 (v3199 : BitVec 32) : Fin 3 → Nat :=
  let v3200 : Index := Scalar.indexCast v3199
  let c0_2671 : Index := 0#32
  let c0_2672 : Index := 0#32
  ![v3200.toNat, 0, 0]

def k0_chk458 (v3199 : BitVec 32) : Prop :=
  (∀ a, (k0_off458 v3199) a + S1x7x128.size a ≤ S10000x7x128.size a)
theorem k0_off458_inb : ∀ (v3199 : BitVec 32) (k0_hw458 : k0_chk458 v3199), ∀ a, (k0_off458 v3199) a + S1x7x128.size a ≤ S10000x7x128.size a := fun v3199 k0_hw458 => k0_hw458

def k0_off459 (v3206 : BitVec 32) : Fin 3 → Nat :=
  let v3207 : Index := Scalar.indexCast v3206
  let c0_2677 : Index := 0#32
  let c0_2678 : Index := 0#32
  ![v3207.toNat, 0, 0]

def k0_chk459 (v3206 : BitVec 32) : Prop :=
  (∀ a, (k0_off459 v3206) a + S1x7x128.size a ≤ S10000x7x128.size a)
theorem k0_off459_inb : ∀ (v3206 : BitVec 32) (k0_hw459 : k0_chk459 v3206), ∀ a, (k0_off459 v3206) a + S1x7x128.size a ≤ S10000x7x128.size a := fun v3206 k0_hw459 => k0_hw459

def k0_off460 (v3213 : BitVec 32) : Fin 3 → Nat :=
  let v3214 : Index := Scalar.indexCast v3213
  let c0_2683 : Index := 0#32
  let c0_2684 : Index := 0#32
  ![v3214.toNat, 0, 0]

def k0_chk460 (v3213 : BitVec 32) : Prop :=
  (∀ a, (k0_off460 v3213) a + S1x7x128.size a ≤ S10000x7x128.size a)
theorem k0_off460_inb : ∀ (v3213 : BitVec 32) (k0_hw460 : k0_chk460 v3213), ∀ a, (k0_off460 v3213) a + S1x7x128.size a ≤ S10000x7x128.size a := fun v3213 k0_hw460 => k0_hw460

def k0_off461 (v3220 : BitVec 32) : Fin 3 → Nat :=
  let v3221 : Index := Scalar.indexCast v3220
  let c0_2689 : Index := 0#32
  let c0_2690 : Index := 0#32
  ![v3221.toNat, 0, 0]

def k0_chk461 (v3220 : BitVec 32) : Prop :=
  (∀ a, (k0_off461 v3220) a + S1x7x128.size a ≤ S10000x7x128.size a)
theorem k0_off461_inb : ∀ (v3220 : BitVec 32) (k0_hw461 : k0_chk461 v3220), ∀ a, (k0_off461 v3220) a + S1x7x128.size a ≤ S10000x7x128.size a := fun v3220 k0_hw461 => k0_hw461

def k0_off462 (v3227 : BitVec 32) : Fin 3 → Nat :=
  let v3228 : Index := Scalar.indexCast v3227
  let c0_2695 : Index := 0#32
  let c0_2696 : Index := 0#32
  ![v3228.toNat, 0, 0]

def k0_chk462 (v3227 : BitVec 32) : Prop :=
  (∀ a, (k0_off462 v3227) a + S1x7x128.size a ≤ S10000x7x128.size a)
theorem k0_off462_inb : ∀ (v3227 : BitVec 32) (k0_hw462 : k0_chk462 v3227), ∀ a, (k0_off462 v3227) a + S1x7x128.size a ≤ S10000x7x128.size a := fun v3227 k0_hw462 => k0_hw462

def k0_off463 (v3234 : BitVec 32) : Fin 3 → Nat :=
  let v3235 : Index := Scalar.indexCast v3234
  let c0_2701 : Index := 0#32
  let c0_2702 : Index := 0#32
  ![v3235.toNat, 0, 0]

def k0_chk463 (v3234 : BitVec 32) : Prop :=
  (∀ a, (k0_off463 v3234) a + S1x7x128.size a ≤ S10000x7x128.size a)
theorem k0_off463_inb : ∀ (v3234 : BitVec 32) (k0_hw463 : k0_chk463 v3234), ∀ a, (k0_off463 v3234) a + S1x7x128.size a ≤ S10000x7x128.size a := fun v3234 k0_hw463 => k0_hw463

def k0_off464 (v3241 : BitVec 32) : Fin 3 → Nat :=
  let v3242 : Index := Scalar.indexCast v3241
  let c0_2707 : Index := 0#32
  let c0_2708 : Index := 0#32
  ![v3242.toNat, 0, 0]

def k0_chk464 (v3241 : BitVec 32) : Prop :=
  (∀ a, (k0_off464 v3241) a + S1x7x128.size a ≤ S10000x7x128.size a)
theorem k0_off464_inb : ∀ (v3241 : BitVec 32) (k0_hw464 : k0_chk464 v3241), ∀ a, (k0_off464 v3241) a + S1x7x128.size a ≤ S10000x7x128.size a := fun v3241 k0_hw464 => k0_hw464

def k0_off465 (v3248 : BitVec 32) : Fin 3 → Nat :=
  let v3249 : Index := Scalar.indexCast v3248
  let c0_2713 : Index := 0#32
  let c0_2714 : Index := 0#32
  ![v3249.toNat, 0, 0]

def k0_chk465 (v3248 : BitVec 32) : Prop :=
  (∀ a, (k0_off465 v3248) a + S1x7x128.size a ≤ S10000x7x128.size a)
theorem k0_off465_inb : ∀ (v3248 : BitVec 32) (k0_hw465 : k0_chk465 v3248), ∀ a, (k0_off465 v3248) a + S1x7x128.size a ≤ S10000x7x128.size a := fun v3248 k0_hw465 => k0_hw465

def k0_off466 (v3255 : BitVec 32) : Fin 3 → Nat :=
  let v3256 : Index := Scalar.indexCast v3255
  let c0_2719 : Index := 0#32
  let c0_2720 : Index := 0#32
  ![v3256.toNat, 0, 0]

def k0_chk466 (v3255 : BitVec 32) : Prop :=
  (∀ a, (k0_off466 v3255) a + S1x7x128.size a ≤ S10000x7x128.size a)
theorem k0_off466_inb : ∀ (v3255 : BitVec 32) (k0_hw466 : k0_chk466 v3255), ∀ a, (k0_off466 v3255) a + S1x7x128.size a ≤ S10000x7x128.size a := fun v3255 k0_hw466 => k0_hw466

def k0_off467 (v3262 : BitVec 32) : Fin 3 → Nat :=
  let v3263 : Index := Scalar.indexCast v3262
  let c0_2725 : Index := 0#32
  let c0_2726 : Index := 0#32
  ![v3263.toNat, 0, 0]

def k0_chk467 (v3262 : BitVec 32) : Prop :=
  (∀ a, (k0_off467 v3262) a + S1x7x128.size a ≤ S10000x7x128.size a)
theorem k0_off467_inb : ∀ (v3262 : BitVec 32) (k0_hw467 : k0_chk467 v3262), ∀ a, (k0_off467 v3262) a + S1x7x128.size a ≤ S10000x7x128.size a := fun v3262 k0_hw467 => k0_hw467

def k0_off468 (v3269 : BitVec 32) : Fin 3 → Nat :=
  let v3270 : Index := Scalar.indexCast v3269
  let c0_2731 : Index := 0#32
  let c0_2732 : Index := 0#32
  ![v3270.toNat, 0, 0]

def k0_chk468 (v3269 : BitVec 32) : Prop :=
  (∀ a, (k0_off468 v3269) a + S1x7x128.size a ≤ S10000x7x128.size a)
theorem k0_off468_inb : ∀ (v3269 : BitVec 32) (k0_hw468 : k0_chk468 v3269), ∀ a, (k0_off468 v3269) a + S1x7x128.size a ≤ S10000x7x128.size a := fun v3269 k0_hw468 => k0_hw468

def k0_off469 (v3276 : BitVec 32) : Fin 3 → Nat :=
  let v3277 : Index := Scalar.indexCast v3276
  let c0_2737 : Index := 0#32
  let c0_2738 : Index := 0#32
  ![v3277.toNat, 0, 0]

def k0_chk469 (v3276 : BitVec 32) : Prop :=
  (∀ a, (k0_off469 v3276) a + S1x7x128.size a ≤ S10000x7x128.size a)
theorem k0_off469_inb : ∀ (v3276 : BitVec 32) (k0_hw469 : k0_chk469 v3276), ∀ a, (k0_off469 v3276) a + S1x7x128.size a ≤ S10000x7x128.size a := fun v3276 k0_hw469 => k0_hw469

def k0_off470 (v3283 : BitVec 32) : Fin 3 → Nat :=
  let v3284 : Index := Scalar.indexCast v3283
  let c0_2743 : Index := 0#32
  let c0_2744 : Index := 0#32
  ![v3284.toNat, 0, 0]

def k0_chk470 (v3283 : BitVec 32) : Prop :=
  (∀ a, (k0_off470 v3283) a + S1x7x128.size a ≤ S10000x7x128.size a)
theorem k0_off470_inb : ∀ (v3283 : BitVec 32) (k0_hw470 : k0_chk470 v3283), ∀ a, (k0_off470 v3283) a + S1x7x128.size a ≤ S10000x7x128.size a := fun v3283 k0_hw470 => k0_hw470

def k0_off471 (v3290 : BitVec 32) : Fin 3 → Nat :=
  let v3291 : Index := Scalar.indexCast v3290
  let c0_2749 : Index := 0#32
  let c0_2750 : Index := 0#32
  ![v3291.toNat, 0, 0]

def k0_chk471 (v3290 : BitVec 32) : Prop :=
  (∀ a, (k0_off471 v3290) a + S1x7x128.size a ≤ S10000x7x128.size a)
theorem k0_off471_inb : ∀ (v3290 : BitVec 32) (k0_hw471 : k0_chk471 v3290), ∀ a, (k0_off471 v3290) a + S1x7x128.size a ≤ S10000x7x128.size a := fun v3290 k0_hw471 => k0_hw471

def k0_off472 (v3297 : BitVec 32) : Fin 3 → Nat :=
  let v3298 : Index := Scalar.indexCast v3297
  let c0_2755 : Index := 0#32
  let c0_2756 : Index := 0#32
  ![v3298.toNat, 0, 0]

def k0_chk472 (v3297 : BitVec 32) : Prop :=
  (∀ a, (k0_off472 v3297) a + S1x7x128.size a ≤ S10000x7x128.size a)
theorem k0_off472_inb : ∀ (v3297 : BitVec 32) (k0_hw472 : k0_chk472 v3297), ∀ a, (k0_off472 v3297) a + S1x7x128.size a ≤ S10000x7x128.size a := fun v3297 k0_hw472 => k0_hw472

def k0_off473 (v3304 : BitVec 32) : Fin 3 → Nat :=
  let v3305 : Index := Scalar.indexCast v3304
  let c0_2761 : Index := 0#32
  let c0_2762 : Index := 0#32
  ![v3305.toNat, 0, 0]

def k0_chk473 (v3304 : BitVec 32) : Prop :=
  (∀ a, (k0_off473 v3304) a + S1x7x128.size a ≤ S10000x7x128.size a)
theorem k0_off473_inb : ∀ (v3304 : BitVec 32) (k0_hw473 : k0_chk473 v3304), ∀ a, (k0_off473 v3304) a + S1x7x128.size a ≤ S10000x7x128.size a := fun v3304 k0_hw473 => k0_hw473

def k0_off474 (v3311 : BitVec 32) : Fin 3 → Nat :=
  let v3312 : Index := Scalar.indexCast v3311
  let c0_2767 : Index := 0#32
  let c0_2768 : Index := 0#32
  ![v3312.toNat, 0, 0]

def k0_chk474 (v3311 : BitVec 32) : Prop :=
  (∀ a, (k0_off474 v3311) a + S1x7x128.size a ≤ S10000x7x128.size a)
theorem k0_off474_inb : ∀ (v3311 : BitVec 32) (k0_hw474 : k0_chk474 v3311), ∀ a, (k0_off474 v3311) a + S1x7x128.size a ≤ S10000x7x128.size a := fun v3311 k0_hw474 => k0_hw474

def k0_off475 (v3318 : BitVec 32) : Fin 3 → Nat :=
  let v3319 : Index := Scalar.indexCast v3318
  let c0_2773 : Index := 0#32
  let c0_2774 : Index := 0#32
  ![v3319.toNat, 0, 0]

def k0_chk475 (v3318 : BitVec 32) : Prop :=
  (∀ a, (k0_off475 v3318) a + S1x7x128.size a ≤ S10000x7x128.size a)
theorem k0_off475_inb : ∀ (v3318 : BitVec 32) (k0_hw475 : k0_chk475 v3318), ∀ a, (k0_off475 v3318) a + S1x7x128.size a ≤ S10000x7x128.size a := fun v3318 k0_hw475 => k0_hw475

def k0_off476 (v3325 : BitVec 32) : Fin 3 → Nat :=
  let v3326 : Index := Scalar.indexCast v3325
  let c0_2779 : Index := 0#32
  let c0_2780 : Index := 0#32
  ![v3326.toNat, 0, 0]

def k0_chk476 (v3325 : BitVec 32) : Prop :=
  (∀ a, (k0_off476 v3325) a + S1x7x128.size a ≤ S10000x7x128.size a)
theorem k0_off476_inb : ∀ (v3325 : BitVec 32) (k0_hw476 : k0_chk476 v3325), ∀ a, (k0_off476 v3325) a + S1x7x128.size a ≤ S10000x7x128.size a := fun v3325 k0_hw476 => k0_hw476

def k0_off477 (v3332 : BitVec 32) : Fin 3 → Nat :=
  let v3333 : Index := Scalar.indexCast v3332
  let c0_2785 : Index := 0#32
  let c0_2786 : Index := 0#32
  ![v3333.toNat, 0, 0]

def k0_chk477 (v3332 : BitVec 32) : Prop :=
  (∀ a, (k0_off477 v3332) a + S1x7x128.size a ≤ S10000x7x128.size a)
theorem k0_off477_inb : ∀ (v3332 : BitVec 32) (k0_hw477 : k0_chk477 v3332), ∀ a, (k0_off477 v3332) a + S1x7x128.size a ≤ S10000x7x128.size a := fun v3332 k0_hw477 => k0_hw477

def k0_off478 (v3339 : BitVec 32) : Fin 3 → Nat :=
  let v3340 : Index := Scalar.indexCast v3339
  let c0_2791 : Index := 0#32
  let c0_2792 : Index := 0#32
  ![v3340.toNat, 0, 0]

def k0_chk478 (v3339 : BitVec 32) : Prop :=
  (∀ a, (k0_off478 v3339) a + S1x7x128.size a ≤ S10000x7x128.size a)
theorem k0_off478_inb : ∀ (v3339 : BitVec 32) (k0_hw478 : k0_chk478 v3339), ∀ a, (k0_off478 v3339) a + S1x7x128.size a ≤ S10000x7x128.size a := fun v3339 k0_hw478 => k0_hw478

def k0_off479 (v3346 : BitVec 32) : Fin 3 → Nat :=
  let v3347 : Index := Scalar.indexCast v3346
  let c0_2797 : Index := 0#32
  let c0_2798 : Index := 0#32
  ![v3347.toNat, 0, 0]

def k0_chk479 (v3346 : BitVec 32) : Prop :=
  (∀ a, (k0_off479 v3346) a + S1x7x128.size a ≤ S10000x7x128.size a)
theorem k0_off479_inb : ∀ (v3346 : BitVec 32) (k0_hw479 : k0_chk479 v3346), ∀ a, (k0_off479 v3346) a + S1x7x128.size a ≤ S10000x7x128.size a := fun v3346 k0_hw479 => k0_hw479

def k0_off480 (v3353 : BitVec 32) : Fin 3 → Nat :=
  let v3354 : Index := Scalar.indexCast v3353
  let c0_2803 : Index := 0#32
  let c0_2804 : Index := 0#32
  ![v3354.toNat, 0, 0]

def k0_chk480 (v3353 : BitVec 32) : Prop :=
  (∀ a, (k0_off480 v3353) a + S1x7x128.size a ≤ S10000x7x128.size a)
theorem k0_off480_inb : ∀ (v3353 : BitVec 32) (k0_hw480 : k0_chk480 v3353), ∀ a, (k0_off480 v3353) a + S1x7x128.size a ≤ S10000x7x128.size a := fun v3353 k0_hw480 => k0_hw480

def k0_off481 (v3360 : BitVec 32) : Fin 3 → Nat :=
  let v3361 : Index := Scalar.indexCast v3360
  let c0_2809 : Index := 0#32
  let c0_2810 : Index := 0#32
  ![v3361.toNat, 0, 0]

def k0_chk481 (v3360 : BitVec 32) : Prop :=
  (∀ a, (k0_off481 v3360) a + S1x7x128.size a ≤ S10000x7x128.size a)
theorem k0_off481_inb : ∀ (v3360 : BitVec 32) (k0_hw481 : k0_chk481 v3360), ∀ a, (k0_off481 v3360) a + S1x7x128.size a ≤ S10000x7x128.size a := fun v3360 k0_hw481 => k0_hw481

def k0_off482 (v3367 : BitVec 32) : Fin 3 → Nat :=
  let v3368 : Index := Scalar.indexCast v3367
  let c0_2814 : Index := 0#32
  let c0_2815 : Index := 0#32
  ![v3368.toNat, 0, 0]

def k0_chk482 (v3367 : BitVec 32) : Prop :=
  (∀ a, (k0_off482 v3367) a + S1x7x128.size a ≤ S10000x7x128.size a)
theorem k0_off482_inb : ∀ (v3367 : BitVec 32) (k0_hw482 : k0_chk482 v3367), ∀ a, (k0_off482 v3367) a + S1x7x128.size a ≤ S10000x7x128.size a := fun v3367 k0_hw482 => k0_hw482

def k0_off483 (v3374 : BitVec 32) : Fin 3 → Nat :=
  let v3375 : Index := Scalar.indexCast v3374
  let c0_2820 : Index := 0#32
  let c0_2821 : Index := 0#32
  ![v3375.toNat, 0, 0]

def k0_chk483 (v3374 : BitVec 32) : Prop :=
  (∀ a, (k0_off483 v3374) a + S1x7x128.size a ≤ S10000x7x128.size a)
theorem k0_off483_inb : ∀ (v3374 : BitVec 32) (k0_hw483 : k0_chk483 v3374), ∀ a, (k0_off483 v3374) a + S1x7x128.size a ≤ S10000x7x128.size a := fun v3374 k0_hw483 => k0_hw483

def k0_off484 (v3381 : BitVec 32) : Fin 3 → Nat :=
  let v3382 : Index := Scalar.indexCast v3381
  let c0_2826 : Index := 0#32
  let c0_2827 : Index := 0#32
  ![v3382.toNat, 0, 0]

def k0_chk484 (v3381 : BitVec 32) : Prop :=
  (∀ a, (k0_off484 v3381) a + S1x7x128.size a ≤ S10000x7x128.size a)
theorem k0_off484_inb : ∀ (v3381 : BitVec 32) (k0_hw484 : k0_chk484 v3381), ∀ a, (k0_off484 v3381) a + S1x7x128.size a ≤ S10000x7x128.size a := fun v3381 k0_hw484 => k0_hw484

def k0_off485 (v3388 : BitVec 32) : Fin 3 → Nat :=
  let v3389 : Index := Scalar.indexCast v3388
  let c0_2832 : Index := 0#32
  let c0_2833 : Index := 0#32
  ![v3389.toNat, 0, 0]

def k0_chk485 (v3388 : BitVec 32) : Prop :=
  (∀ a, (k0_off485 v3388) a + S1x7x128.size a ≤ S10000x7x128.size a)
theorem k0_off485_inb : ∀ (v3388 : BitVec 32) (k0_hw485 : k0_chk485 v3388), ∀ a, (k0_off485 v3388) a + S1x7x128.size a ≤ S10000x7x128.size a := fun v3388 k0_hw485 => k0_hw485

def k0_off486 (v3395 : BitVec 32) : Fin 3 → Nat :=
  let v3396 : Index := Scalar.indexCast v3395
  let c0_2838 : Index := 0#32
  let c0_2839 : Index := 0#32
  ![v3396.toNat, 0, 0]

def k0_chk486 (v3395 : BitVec 32) : Prop :=
  (∀ a, (k0_off486 v3395) a + S1x7x128.size a ≤ S10000x7x128.size a)
theorem k0_off486_inb : ∀ (v3395 : BitVec 32) (k0_hw486 : k0_chk486 v3395), ∀ a, (k0_off486 v3395) a + S1x7x128.size a ≤ S10000x7x128.size a := fun v3395 k0_hw486 => k0_hw486

def k0_off487 (v3402 : BitVec 32) : Fin 3 → Nat :=
  let v3403 : Index := Scalar.indexCast v3402
  let c0_2844 : Index := 0#32
  let c0_2845 : Index := 0#32
  ![v3403.toNat, 0, 0]

def k0_chk487 (v3402 : BitVec 32) : Prop :=
  (∀ a, (k0_off487 v3402) a + S1x7x128.size a ≤ S10000x7x128.size a)
theorem k0_off487_inb : ∀ (v3402 : BitVec 32) (k0_hw487 : k0_chk487 v3402), ∀ a, (k0_off487 v3402) a + S1x7x128.size a ≤ S10000x7x128.size a := fun v3402 k0_hw487 => k0_hw487

def k0_off488 (v3409 : BitVec 32) : Fin 3 → Nat :=
  let v3410 : Index := Scalar.indexCast v3409
  let c0_2850 : Index := 0#32
  let c0_2851 : Index := 0#32
  ![v3410.toNat, 0, 0]

def k0_chk488 (v3409 : BitVec 32) : Prop :=
  (∀ a, (k0_off488 v3409) a + S1x7x128.size a ≤ S10000x7x128.size a)
theorem k0_off488_inb : ∀ (v3409 : BitVec 32) (k0_hw488 : k0_chk488 v3409), ∀ a, (k0_off488 v3409) a + S1x7x128.size a ≤ S10000x7x128.size a := fun v3409 k0_hw488 => k0_hw488

def k0_off489 (v3416 : BitVec 32) : Fin 3 → Nat :=
  let v3417 : Index := Scalar.indexCast v3416
  let c0_2856 : Index := 0#32
  let c0_2857 : Index := 0#32
  ![v3417.toNat, 0, 0]

def k0_chk489 (v3416 : BitVec 32) : Prop :=
  (∀ a, (k0_off489 v3416) a + S1x7x128.size a ≤ S10000x7x128.size a)
theorem k0_off489_inb : ∀ (v3416 : BitVec 32) (k0_hw489 : k0_chk489 v3416), ∀ a, (k0_off489 v3416) a + S1x7x128.size a ≤ S10000x7x128.size a := fun v3416 k0_hw489 => k0_hw489

def k0_off490 (v3423 : BitVec 32) : Fin 3 → Nat :=
  let v3424 : Index := Scalar.indexCast v3423
  let c0_2862 : Index := 0#32
  let c0_2863 : Index := 0#32
  ![v3424.toNat, 0, 0]

def k0_chk490 (v3423 : BitVec 32) : Prop :=
  (∀ a, (k0_off490 v3423) a + S1x7x128.size a ≤ S10000x7x128.size a)
theorem k0_off490_inb : ∀ (v3423 : BitVec 32) (k0_hw490 : k0_chk490 v3423), ∀ a, (k0_off490 v3423) a + S1x7x128.size a ≤ S10000x7x128.size a := fun v3423 k0_hw490 => k0_hw490

def k0_off491 (v3430 : BitVec 32) : Fin 3 → Nat :=
  let v3431 : Index := Scalar.indexCast v3430
  let c0_2868 : Index := 0#32
  let c0_2869 : Index := 0#32
  ![v3431.toNat, 0, 0]

def k0_chk491 (v3430 : BitVec 32) : Prop :=
  (∀ a, (k0_off491 v3430) a + S1x7x128.size a ≤ S10000x7x128.size a)
theorem k0_off491_inb : ∀ (v3430 : BitVec 32) (k0_hw491 : k0_chk491 v3430), ∀ a, (k0_off491 v3430) a + S1x7x128.size a ≤ S10000x7x128.size a := fun v3430 k0_hw491 => k0_hw491

def k0_off492 (v3437 : BitVec 32) : Fin 3 → Nat :=
  let v3438 : Index := Scalar.indexCast v3437
  let c0_2874 : Index := 0#32
  let c0_2875 : Index := 0#32
  ![v3438.toNat, 0, 0]

def k0_chk492 (v3437 : BitVec 32) : Prop :=
  (∀ a, (k0_off492 v3437) a + S1x7x128.size a ≤ S10000x7x128.size a)
theorem k0_off492_inb : ∀ (v3437 : BitVec 32) (k0_hw492 : k0_chk492 v3437), ∀ a, (k0_off492 v3437) a + S1x7x128.size a ≤ S10000x7x128.size a := fun v3437 k0_hw492 => k0_hw492

def k0_off493 (v3444 : BitVec 32) : Fin 3 → Nat :=
  let v3445 : Index := Scalar.indexCast v3444
  let c0_2880 : Index := 0#32
  let c0_2881 : Index := 0#32
  ![v3445.toNat, 0, 0]

def k0_chk493 (v3444 : BitVec 32) : Prop :=
  (∀ a, (k0_off493 v3444) a + S1x7x128.size a ≤ S10000x7x128.size a)
theorem k0_off493_inb : ∀ (v3444 : BitVec 32) (k0_hw493 : k0_chk493 v3444), ∀ a, (k0_off493 v3444) a + S1x7x128.size a ≤ S10000x7x128.size a := fun v3444 k0_hw493 => k0_hw493

def k0_off494 (v3451 : BitVec 32) : Fin 3 → Nat :=
  let v3452 : Index := Scalar.indexCast v3451
  let c0_2886 : Index := 0#32
  let c0_2887 : Index := 0#32
  ![v3452.toNat, 0, 0]

def k0_chk494 (v3451 : BitVec 32) : Prop :=
  (∀ a, (k0_off494 v3451) a + S1x7x128.size a ≤ S10000x7x128.size a)
theorem k0_off494_inb : ∀ (v3451 : BitVec 32) (k0_hw494 : k0_chk494 v3451), ∀ a, (k0_off494 v3451) a + S1x7x128.size a ≤ S10000x7x128.size a := fun v3451 k0_hw494 => k0_hw494

def k0_off495 (v3458 : BitVec 32) : Fin 3 → Nat :=
  let v3459 : Index := Scalar.indexCast v3458
  let c0_2892 : Index := 0#32
  let c0_2893 : Index := 0#32
  ![v3459.toNat, 0, 0]

def k0_chk495 (v3458 : BitVec 32) : Prop :=
  (∀ a, (k0_off495 v3458) a + S1x7x128.size a ≤ S10000x7x128.size a)
theorem k0_off495_inb : ∀ (v3458 : BitVec 32) (k0_hw495 : k0_chk495 v3458), ∀ a, (k0_off495 v3458) a + S1x7x128.size a ≤ S10000x7x128.size a := fun v3458 k0_hw495 => k0_hw495

def k0_off496 (v3465 : BitVec 32) : Fin 3 → Nat :=
  let v3466 : Index := Scalar.indexCast v3465
  let c0_2898 : Index := 0#32
  let c0_2899 : Index := 0#32
  ![v3466.toNat, 0, 0]

def k0_chk496 (v3465 : BitVec 32) : Prop :=
  (∀ a, (k0_off496 v3465) a + S1x7x128.size a ≤ S10000x7x128.size a)
theorem k0_off496_inb : ∀ (v3465 : BitVec 32) (k0_hw496 : k0_chk496 v3465), ∀ a, (k0_off496 v3465) a + S1x7x128.size a ≤ S10000x7x128.size a := fun v3465 k0_hw496 => k0_hw496

def k0_off497 (v3472 : BitVec 32) : Fin 3 → Nat :=
  let v3473 : Index := Scalar.indexCast v3472
  let c0_2904 : Index := 0#32
  let c0_2905 : Index := 0#32
  ![v3473.toNat, 0, 0]

def k0_chk497 (v3472 : BitVec 32) : Prop :=
  (∀ a, (k0_off497 v3472) a + S1x7x128.size a ≤ S10000x7x128.size a)
theorem k0_off497_inb : ∀ (v3472 : BitVec 32) (k0_hw497 : k0_chk497 v3472), ∀ a, (k0_off497 v3472) a + S1x7x128.size a ≤ S10000x7x128.size a := fun v3472 k0_hw497 => k0_hw497

def k0_off498 (v3479 : BitVec 32) : Fin 3 → Nat :=
  let v3480 : Index := Scalar.indexCast v3479
  let c0_2910 : Index := 0#32
  let c0_2911 : Index := 0#32
  ![v3480.toNat, 0, 0]

def k0_chk498 (v3479 : BitVec 32) : Prop :=
  (∀ a, (k0_off498 v3479) a + S1x7x128.size a ≤ S10000x7x128.size a)
theorem k0_off498_inb : ∀ (v3479 : BitVec 32) (k0_hw498 : k0_chk498 v3479), ∀ a, (k0_off498 v3479) a + S1x7x128.size a ≤ S10000x7x128.size a := fun v3479 k0_hw498 => k0_hw498

def k0_off499 (v3486 : BitVec 32) : Fin 3 → Nat :=
  let v3487 : Index := Scalar.indexCast v3486
  let c0_2916 : Index := 0#32
  let c0_2917 : Index := 0#32
  ![v3487.toNat, 0, 0]

def k0_chk499 (v3486 : BitVec 32) : Prop :=
  (∀ a, (k0_off499 v3486) a + S1x7x128.size a ≤ S10000x7x128.size a)
theorem k0_off499_inb : ∀ (v3486 : BitVec 32) (k0_hw499 : k0_chk499 v3486), ∀ a, (k0_off499 v3486) a + S1x7x128.size a ≤ S10000x7x128.size a := fun v3486 k0_hw499 => k0_hw499

def k0_off500 (v3493 : BitVec 32) : Fin 3 → Nat :=
  let v3494 : Index := Scalar.indexCast v3493
  let c0_2922 : Index := 0#32
  let c0_2923 : Index := 0#32
  ![v3494.toNat, 0, 0]

def k0_chk500 (v3493 : BitVec 32) : Prop :=
  (∀ a, (k0_off500 v3493) a + S1x7x128.size a ≤ S10000x7x128.size a)
theorem k0_off500_inb : ∀ (v3493 : BitVec 32) (k0_hw500 : k0_chk500 v3493), ∀ a, (k0_off500 v3493) a + S1x7x128.size a ≤ S10000x7x128.size a := fun v3493 k0_hw500 => k0_hw500

def k0_off501 (v3500 : BitVec 32) : Fin 3 → Nat :=
  let v3501 : Index := Scalar.indexCast v3500
  let c0_2928 : Index := 0#32
  let c0_2929 : Index := 0#32
  ![v3501.toNat, 0, 0]

def k0_chk501 (v3500 : BitVec 32) : Prop :=
  (∀ a, (k0_off501 v3500) a + S1x7x128.size a ≤ S10000x7x128.size a)
theorem k0_off501_inb : ∀ (v3500 : BitVec 32) (k0_hw501 : k0_chk501 v3500), ∀ a, (k0_off501 v3500) a + S1x7x128.size a ≤ S10000x7x128.size a := fun v3500 k0_hw501 => k0_hw501

def k0_off502 (v3507 : BitVec 32) : Fin 3 → Nat :=
  let v3508 : Index := Scalar.indexCast v3507
  let c0_2934 : Index := 0#32
  let c0_2935 : Index := 0#32
  ![v3508.toNat, 0, 0]

def k0_chk502 (v3507 : BitVec 32) : Prop :=
  (∀ a, (k0_off502 v3507) a + S1x7x128.size a ≤ S10000x7x128.size a)
theorem k0_off502_inb : ∀ (v3507 : BitVec 32) (k0_hw502 : k0_chk502 v3507), ∀ a, (k0_off502 v3507) a + S1x7x128.size a ≤ S10000x7x128.size a := fun v3507 k0_hw502 => k0_hw502

def k0_off503 (v3514 : BitVec 32) : Fin 3 → Nat :=
  let v3515 : Index := Scalar.indexCast v3514
  let c0_2940 : Index := 0#32
  let c0_2941 : Index := 0#32
  ![v3515.toNat, 0, 0]

def k0_chk503 (v3514 : BitVec 32) : Prop :=
  (∀ a, (k0_off503 v3514) a + S1x7x128.size a ≤ S10000x7x128.size a)
theorem k0_off503_inb : ∀ (v3514 : BitVec 32) (k0_hw503 : k0_chk503 v3514), ∀ a, (k0_off503 v3514) a + S1x7x128.size a ≤ S10000x7x128.size a := fun v3514 k0_hw503 => k0_hw503

def k0_off504 (v3521 : BitVec 32) : Fin 3 → Nat :=
  let v3522 : Index := Scalar.indexCast v3521
  let c0_2946 : Index := 0#32
  let c0_2947 : Index := 0#32
  ![v3522.toNat, 0, 0]

def k0_chk504 (v3521 : BitVec 32) : Prop :=
  (∀ a, (k0_off504 v3521) a + S1x7x128.size a ≤ S10000x7x128.size a)
theorem k0_off504_inb : ∀ (v3521 : BitVec 32) (k0_hw504 : k0_chk504 v3521), ∀ a, (k0_off504 v3521) a + S1x7x128.size a ≤ S10000x7x128.size a := fun v3521 k0_hw504 => k0_hw504

def k0_off505 (v3528 : BitVec 32) : Fin 3 → Nat :=
  let v3529 : Index := Scalar.indexCast v3528
  let c0_2952 : Index := 0#32
  let c0_2953 : Index := 0#32
  ![v3529.toNat, 0, 0]

def k0_chk505 (v3528 : BitVec 32) : Prop :=
  (∀ a, (k0_off505 v3528) a + S1x7x128.size a ≤ S10000x7x128.size a)
theorem k0_off505_inb : ∀ (v3528 : BitVec 32) (k0_hw505 : k0_chk505 v3528), ∀ a, (k0_off505 v3528) a + S1x7x128.size a ≤ S10000x7x128.size a := fun v3528 k0_hw505 => k0_hw505

def k0_off506 (v3535 : BitVec 32) : Fin 3 → Nat :=
  let v3536 : Index := Scalar.indexCast v3535
  let c0_2958 : Index := 0#32
  let c0_2959 : Index := 0#32
  ![v3536.toNat, 0, 0]

def k0_chk506 (v3535 : BitVec 32) : Prop :=
  (∀ a, (k0_off506 v3535) a + S1x7x128.size a ≤ S10000x7x128.size a)
theorem k0_off506_inb : ∀ (v3535 : BitVec 32) (k0_hw506 : k0_chk506 v3535), ∀ a, (k0_off506 v3535) a + S1x7x128.size a ≤ S10000x7x128.size a := fun v3535 k0_hw506 => k0_hw506

def k0_off507 (v3542 : BitVec 32) : Fin 3 → Nat :=
  let v3543 : Index := Scalar.indexCast v3542
  let c0_2964 : Index := 0#32
  let c0_2965 : Index := 0#32
  ![v3543.toNat, 0, 0]

def k0_chk507 (v3542 : BitVec 32) : Prop :=
  (∀ a, (k0_off507 v3542) a + S1x7x128.size a ≤ S10000x7x128.size a)
theorem k0_off507_inb : ∀ (v3542 : BitVec 32) (k0_hw507 : k0_chk507 v3542), ∀ a, (k0_off507 v3542) a + S1x7x128.size a ≤ S10000x7x128.size a := fun v3542 k0_hw507 => k0_hw507

def k0_off508 (v3549 : BitVec 32) : Fin 3 → Nat :=
  let v3550 : Index := Scalar.indexCast v3549
  let c0_2970 : Index := 0#32
  let c0_2971 : Index := 0#32
  ![v3550.toNat, 0, 0]

def k0_chk508 (v3549 : BitVec 32) : Prop :=
  (∀ a, (k0_off508 v3549) a + S1x7x128.size a ≤ S10000x7x128.size a)
theorem k0_off508_inb : ∀ (v3549 : BitVec 32) (k0_hw508 : k0_chk508 v3549), ∀ a, (k0_off508 v3549) a + S1x7x128.size a ≤ S10000x7x128.size a := fun v3549 k0_hw508 => k0_hw508

def k0_off509 (v3556 : BitVec 32) : Fin 3 → Nat :=
  let v3557 : Index := Scalar.indexCast v3556
  let c0_2976 : Index := 0#32
  let c0_2977 : Index := 0#32
  ![v3557.toNat, 0, 0]

def k0_chk509 (v3556 : BitVec 32) : Prop :=
  (∀ a, (k0_off509 v3556) a + S1x7x128.size a ≤ S10000x7x128.size a)
theorem k0_off509_inb : ∀ (v3556 : BitVec 32) (k0_hw509 : k0_chk509 v3556), ∀ a, (k0_off509 v3556) a + S1x7x128.size a ≤ S10000x7x128.size a := fun v3556 k0_hw509 => k0_hw509

def k0_off510 (v3563 : BitVec 32) : Fin 3 → Nat :=
  let v3564 : Index := Scalar.indexCast v3563
  let c0_2982 : Index := 0#32
  let c0_2983 : Index := 0#32
  ![v3564.toNat, 0, 0]

def k0_chk510 (v3563 : BitVec 32) : Prop :=
  (∀ a, (k0_off510 v3563) a + S1x7x128.size a ≤ S10000x7x128.size a)
theorem k0_off510_inb : ∀ (v3563 : BitVec 32) (k0_hw510 : k0_chk510 v3563), ∀ a, (k0_off510 v3563) a + S1x7x128.size a ≤ S10000x7x128.size a := fun v3563 k0_hw510 => k0_hw510

def k0_off511 (v3570 : BitVec 32) : Fin 3 → Nat :=
  let v3571 : Index := Scalar.indexCast v3570
  let c0_2988 : Index := 0#32
  let c0_2989 : Index := 0#32
  ![v3571.toNat, 0, 0]

def k0_chk511 (v3570 : BitVec 32) : Prop :=
  (∀ a, (k0_off511 v3570) a + S1x7x128.size a ≤ S10000x7x128.size a)
theorem k0_off511_inb : ∀ (v3570 : BitVec 32) (k0_hw511 : k0_chk511 v3570), ∀ a, (k0_off511 v3570) a + S1x7x128.size a ≤ S10000x7x128.size a := fun v3570 k0_hw511 => k0_hw511

def k0_off512 (v3577 : BitVec 32) : Fin 3 → Nat :=
  let v3578 : Index := Scalar.indexCast v3577
  let c0_2994 : Index := 0#32
  let c0_2995 : Index := 0#32
  ![v3578.toNat, 0, 0]

def k0_chk512 (v3577 : BitVec 32) : Prop :=
  (∀ a, (k0_off512 v3577) a + S1x7x128.size a ≤ S10000x7x128.size a)
theorem k0_off512_inb : ∀ (v3577 : BitVec 32) (k0_hw512 : k0_chk512 v3577), ∀ a, (k0_off512 v3577) a + S1x7x128.size a ≤ S10000x7x128.size a := fun v3577 k0_hw512 => k0_hw512

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S16x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x7x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x224 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S10000x32 : Shape := ⟨2, ![10000, 32]⟩
abbrev S10000x128 : Shape := ⟨2, ![10000, 128]⟩
abbrev S1x1x32x7 : Shape := ⟨4, ![1, 1, 32, 7]⟩
abbrev S1 : Shape := ⟨1, ![1]⟩
abbrev S_ : Shape := ⟨0, ![]⟩
abbrev S10000x32x1 : Shape := ⟨3, ![10000, 32, 1]⟩
abbrev S10000x32x128 : Shape := ⟨3, ![10000, 32, 128]⟩
abbrev S10000x32x134 : Shape := ⟨3, ![10000, 32, 134]⟩
abbrev S1x1x32x1 : Shape := ⟨4, ![1, 1, 32, 1]⟩
abbrev S32 : Shape := ⟨1, ![32]⟩
abbrev S1x32x1 : Shape := ⟨3, ![1, 32, 1]⟩
abbrev S1x1 : Shape := ⟨2, ![1, 1]⟩

abbrev nBuf : Space → Nat
  | .hbm => 81
  | .vmem => 0
  | .smem => 0
  | _ => 0

abbrev bufTy : (tb : Table) → Fin (tcTables nBuf tb) → BufTy
  | .hbm, ⟨0, _⟩ => ⟨S10000x32, .i32⟩
  | .hbm, ⟨1, _⟩ => ⟨S10000x128, .f32⟩
  | .hbm, ⟨2, _⟩ => ⟨S1x1x32x7, .f32⟩
  | .hbm, ⟨3, _⟩ => ⟨S1, .f32⟩
  | .hbm, ⟨4, _⟩ => ⟨S_, .i32⟩
  | .hbm, ⟨5, _⟩ => ⟨S10000x32, .i32⟩
  | .hbm, ⟨6, _⟩ => ⟨S10000x32, .i1⟩
  | .hbm, ⟨7, _⟩ => ⟨S_, .i32⟩
  | .hbm, ⟨8, _⟩ => ⟨S10000x32, .i32⟩
  | .hbm, ⟨9, _⟩ => ⟨S10000x32, .i32⟩
  | .hbm, ⟨10, _⟩ => ⟨S10000x32, .i32⟩
  | .hbm, ⟨11, _⟩ => ⟨S10000x32x1, .i32⟩
  | .hbm, ⟨12, _⟩ => ⟨S10000x32x128, .f32⟩
  | .hbm, ⟨13, _⟩ => ⟨S_, .i32⟩
  | .hbm, ⟨14, _⟩ => ⟨S_, .f32⟩
  | .hbm, ⟨15, _⟩ => ⟨S10000x32x134, .f32⟩
  | .hbm, ⟨16, _⟩ => ⟨S1x1x32x1, .f32⟩
  | .hbm, ⟨17, _⟩ => ⟨S32, .f32⟩
  | .hbm, ⟨18, _⟩ => ⟨S1x32x1, .f32⟩
  | .hbm, ⟨19, _⟩ => ⟨S10000x32x128, .f32⟩
  | .hbm, ⟨20, _⟩ => ⟨S10000x32x128, .f32⟩
  | .hbm, ⟨21, _⟩ => ⟨S10000x32x128, .f32⟩
  | .hbm, ⟨22, _⟩ => ⟨S_, .f32⟩
  | .hbm, ⟨23, _⟩ => ⟨S10000x128, .f32⟩
  | .hbm, ⟨24, _⟩ => ⟨S1x1x32x1, .f32⟩
  | .hbm, ⟨25, _⟩ => ⟨S32, .f32⟩
  | .hbm, ⟨26, _⟩ => ⟨S1x32x1, .f32⟩
  | .hbm, ⟨27, _⟩ => ⟨S10000x32x128, .f32⟩
  | .hbm, ⟨28, _⟩ => ⟨S10000x32x128, .f32⟩
  | .hbm, ⟨29, _⟩ => ⟨S10000x32x128, .f32⟩
  | .hbm, ⟨30, _⟩ => ⟨S_, .f32⟩
  | .hbm, ⟨31, _⟩ => ⟨S10000x128, .f32⟩
  | .hbm, ⟨32, _⟩ => ⟨S1x1x32x1, .f32⟩
  | .hbm, ⟨33, _⟩ => ⟨S32, .f32⟩
  | .hbm, ⟨34, _⟩ => ⟨S1x32x1, .f32⟩
  | .hbm, ⟨35, _⟩ => ⟨S10000x32x128, .f32⟩
  | .hbm, ⟨36, _⟩ => ⟨S10000x32x128, .f32⟩
  | .hbm, ⟨37, _⟩ => ⟨S10000x32x128, .f32⟩
  | .hbm, ⟨38, _⟩ => ⟨S_, .f32⟩
  | .hbm, ⟨39, _⟩ => ⟨S10000x128, .f32⟩
  | .hbm, ⟨40, _⟩ => ⟨S1x1x32x1, .f32⟩
  | .hbm, ⟨41, _⟩ => ⟨S32, .f32⟩
  | .hbm, ⟨42, _⟩ => ⟨S1x32x1, .f32⟩
  | .hbm, ⟨43, _⟩ => ⟨S10000x32x128, .f32⟩
  | .hbm, ⟨44, _⟩ => ⟨S10000x32x128, .f32⟩
  | .hbm, ⟨45, _⟩ => ⟨S10000x32x128, .f32⟩
  | .hbm, ⟨46, _⟩ => ⟨S_, .f32⟩
  | .hbm, ⟨47, _⟩ => ⟨S10000x128, .f32⟩
  | .hbm, ⟨48, _⟩ => ⟨S1x1x32x1, .f32⟩
  | .hbm, ⟨49, _⟩ => ⟨S32, .f32⟩
  | .hbm, ⟨50, _⟩ => ⟨S1x32x1, .f32⟩
  | .hbm, ⟨51, _⟩ => ⟨S10000x32x128, .f32⟩
  | .hbm, ⟨52, _⟩ => ⟨S10000x32x128, .f32⟩
  | .hbm, ⟨53, _⟩ => ⟨S10000x32x128, .f32⟩
  | .hbm, ⟨54, _⟩ => ⟨S_, .f32⟩
  | .hbm, ⟨55, _⟩ => ⟨S10000x128, .f32⟩
  | .hbm, ⟨56, _⟩ => ⟨S1x1x32x1, .f32⟩
  | .hbm, ⟨57, _⟩ => ⟨S32, .f32⟩
  | .hbm, ⟨58, _⟩ => ⟨S1x32x1, .f32⟩
  | .hbm, ⟨59, _⟩ => ⟨S10000x32x128, .f32⟩
  | .hbm, ⟨60, _⟩ => ⟨S10000x32x128, .f32⟩
  | .hbm, ⟨61, _⟩ => ⟨S10000x32x128, .f32⟩
  | .hbm, ⟨62, _⟩ => ⟨S_, .f32⟩
  | .hbm, ⟨63, _⟩ => ⟨S10000x128, .f32⟩
  | .hbm, ⟨64, _⟩ => ⟨S1x1x32x1, .f32⟩
  | .hbm, ⟨65, _⟩ => ⟨S32, .f32⟩
  | .hbm, ⟨66, _⟩ => ⟨S1x32x1, .f32⟩
  | .hbm, ⟨67, _⟩ => ⟨S10000x32x128, .f32⟩
  | .hbm, ⟨68, _⟩ => ⟨S10000x32x128, .f32⟩
  | .hbm, ⟨69, _⟩ => ⟨S10000x32x128, .f32⟩
  | .hbm, ⟨70, _⟩ => ⟨S_, .f32⟩
  | .hbm, ⟨71, _⟩ => ⟨S10000x128, .f32⟩
  | .hbm, ⟨72, _⟩ => ⟨S10000x128, .f32⟩
  | .hbm, ⟨73, _⟩ => ⟨S10000x128, .f32⟩
  | .hbm, ⟨74, _⟩ => ⟨S10000x128, .f32⟩
  | .hbm, ⟨75, _⟩ => ⟨S10000x128, .f32⟩
  | .hbm, ⟨76, _⟩ => ⟨S10000x128, .f32⟩
  | .hbm, ⟨77, _⟩ => ⟨S10000x128, .f32⟩
  | .hbm, ⟨78, _⟩ => ⟨S1x1, .f32⟩
  | .hbm, ⟨79, _⟩ => ⟨S10000x128, .f32⟩
  | .hbm, ⟨80, _⟩ => ⟨S10000x128, .f32⟩
  | _, _ => ⟨S10000x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_7 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩

abbrev nD : Nat := 1
abbrev τ : Topo := Topo.v7x

variable {F : FTy → Type} [FloatOps F]
-- ==== Kernel3.lean ====
abbrev S10000x10000 : Shape := ⟨2, ![10000, 10000]⟩
abbrev S10000x32 : Shape := ⟨2, ![10000, 32]⟩
abbrev S8x10000 : Shape := ⟨2, ![8, 10000]⟩
abbrev S8x32 : Shape := ⟨2, ![8, 32]⟩
abbrev S8x128 : Shape := ⟨2, ![8, 128]⟩
abbrev S8 : Shape := ⟨1, ![8]⟩
abbrev S8x1 : Shape := ⟨2, ![8, 1]⟩

abbrev nBuf : Space → Nat
  | .hbm => 2
  | .vmem => 4
  | .smem => 0
  | _ => 0

abbrev bufTy : (tb : Table) → Fin (tcTables nBuf tb) → BufTy
  | .hbm, ⟨0, _⟩ => ⟨S10000x10000, .f32⟩
  | .hbm, ⟨1, _⟩ => ⟨S10000x32, .i32⟩
  | .local _ .vmem, ⟨0, _⟩ => ⟨S8x10000, .f32⟩
  | .local _ .vmem, ⟨1, _⟩ => ⟨S8x10000, .f32⟩
  | .local _ .vmem, ⟨2, _⟩ => ⟨S8x32, .i32⟩
  | .local _ .vmem, ⟨3, _⟩ => ⟨S8x32, .i32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![1250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference3Ideal.lean ====
abbrev S10000x10000 : Shape := ⟨2, ![10000, 10000]⟩
abbrev S10000x32 : Shape := ⟨2, ![10000, 32]⟩

abbrev nBuf : Space → Nat
  | .hbm => 4
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x32, .f32⟩
  | .hbm, ⟨2, _⟩ => ⟨S10000x32, .i32⟩
  | .hbm, ⟨3, _⟩ => ⟨S10000x32, .i32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Ids.lean ====
/- The precondition read at a word: every user and service number of the data array names a row of the tables. -/
module

public import proofs.«01_k».proof.Proof.Gen.Pre_ids_in_range
public import Idealize.ShloMosaic.Lib.ReduceAll
public import Idealize.ShloMosaic.Lib.Pointwise

@[expose] public section

namespace Cert.Ids

open Idealize.ShloMosaic

/-- A word that is at least zero and below ten thousand, both read signed, is below ten thousand. -/
theorem word_lt (w : BitVec 32) (h : IntOp.andi (IntOp.cmpi .sge w 0#32) (IntOp.cmpi .slt w 10000#32) = 1#1) : w.toNat < 10000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true] at h
  obtain ⟨hge, hlt⟩ := h
  simp only [BitVec.sle, BitVec.slt, decide_eq_true_eq, BitVec.toInt, BitVec.toNat_ofNat] at hge hlt
  omega

open Cert.Pre_ids_in_range Cert.Pre_ids_in_range.Gen in
/-- Under the precondition every number in the last two columns is below ten thousand. -/
theorem lt_of_pre {F : FTy → Type} [FloatOps F] (d : IVec S16384x3 32) (a1 a2 a3 a4 : FVec F S10000x128 .f32) (a5 : FVec F S128x128 .f32) (a6 : FVec F S128 .f32)
    (a7 : FVec F S128x128 .f32) (a8 : FVec F S128 .f32) (a9 : FVec F S64x512 .f32) (a10 : FVec F S64 .f32)
    (h : fn d a1 a2 a3 a4 a5 a6 a7 a8 a9 a10 = fun _ => 1#1) (i : Fin 16384) (j : Fin 2) :
    (d (ix2 i (⟨j.val + 1, by omega⟩ : Fin 3))).toNat < 10000 := by
  haveI : Subsingleton S_.Idx := inferInstanceAs (Subsingleton ((a : Fin 0) → _))
  have e := congrFun h fun a => a.elim0
  unfold fn at e
  have e := Host.reduce_andi_all _ _ _ _ _ e (ix2 i j)
  refine word_lt _ (Eq.trans (congrArg (fun w => IntOp.andi (IntOp.cmpi .sge w 0#32) (IntOp.cmpi .slt w 10000#32)) ?_) e)
  pointwise
  exact congrArg (fun k => d (ix2 i k)) (Fin.ext (Nat.add_comm _ _))

end Cert.Ids
-- ==== Proof.HypsKernel.lean ====
/- The precondition gives every side condition of Kernel's body: each word the body reads off its block of numbers names a
   row of the tables. -/
module

public import proofs.«01_k».proof.Defs
public import proofs.«01_k».proof.Proof.Ids
public import proofs.«01_k».proof.Proof.Gen.Kernel.Frame

@[expose] public section

namespace Cert.Kernel.Asm

open Cert.Kernel Cert.Kernel.Gen
open Idealize.ShloMosaic Idealize.ShloMosaic.TcCoe

attribute [local instance] Cert.Pre_ids_in_range.Gen.facts

/-- The array of numbers the region reads: row `i` holds the user's number and the service's. -/
theorem ids_at (m : (ℓ : Loc nD τ sig) → Buf (Elt Bits) ℓ) (c : Dev nD) (i : Fin 16384) (j : Fin 2) :
    (V m c main_v6 : IVec S16384x2 32) (ix2 i j) = (m ((c : Thread nD τ).loc main_arg0) : IVec S16384x3 32) (ix2 i (⟨j.val + 1, by omega⟩ : Fin 3)) := by
  entry_read
  fin_cases j <;> pointwise

/-- Every number the region reads is below ten thousand. -/
theorem ids_lt (m : (ℓ : Loc nD τ sig) → Buf (Elt Bits) ℓ) (h : Cert.Pre_Kernel m) (c : Dev nD) (y : S16384x2.Idx) :
    ((V m c main_v6 : IVec S16384x2 32) y).toNat < 10000 := by
  have e := Cert.Ids.lt_of_pre _ _ _ _ _ _ _ _ _ _ _ (h c) (y 0) (y 1)
  rw [← ids_at m c (y 0) (y 1)] at e
  rw [eq_ix2 y]
  exact e

/-- A word read off the block of numbers at a point is below ten thousand. -/
theorem word_lt (m : (ℓ : Loc nD τ sig) → Buf (Elt Bits) ℓ) (h : Cert.Pre_Kernel m) (c : Dev nD) (t : Fin cfg0.N) (R : LoadRect S128x2) (i : R.shape.Idx) :
    ((ms0_0 t).view.readAt (Elt Bits) R ((hs0_0 t).unread (iblk m c 0 t)) i).toNat < 10000 := by
  simp only [View.readAt_apply, Memref.IsWhole.read_unread]
  unfold iblk
  rw [View.read_apply, cast_eq]
  exact ids_lt m h c _

/-- A word below ten thousand names a row of a table. -/
theorem names (w : BitVec 32) (h : w.toNat < 10000) : k0_chk1 w := by
  intro a
  fin_cases a <;> simp [k0_off1, Scalar.indexCast] <;> omega

theorem hyps_of_pre (m : (ℓ : Loc nD τ sig) → Buf (Elt Bits) ℓ) (h : Cert.Pre_Kernel m) : Hyps m := by
  apply Hyps.of
  all_goals exact fun c t => names _ (word_lt m h c t _ _)

end Cert.Kernel.Asm
-- ==== Proof.HypsIdeal.lean ====
/- The precondition gives every side condition of KernelIdeal's body: each word the body reads off its block of numbers names a
   row of the tables. -/
module

public import proofs.«01_k».proof.Defs
public import proofs.«01_k».proof.Proof.Ids
public import proofs.«01_k».proof.Proof.Gen.KernelIdeal.Frame

@[expose] public section

namespace Cert.KernelIdeal.Asm

open Cert.KernelIdeal Cert.KernelIdeal.Gen
open Idealize.ShloMosaic Idealize.ShloMosaic.TcCoe

attribute [local instance] Cert.Pre_ids_in_range.Gen.facts

/-- The array of numbers the region reads: row `i` holds the user's number and the service's. -/
theorem ids_at (m : (ℓ : Loc nD τ sig) → Buf (Elt Ideal) ℓ) (c : Dev nD) (i : Fin 16384) (j : Fin 2) :
    (V m c main_v6 : IVec S16384x2 32) (ix2 i j) = (m ((c : Thread nD τ).loc main_arg0) : IVec S16384x3 32) (ix2 i (⟨j.val + 1, by omega⟩ : Fin 3)) := by
  entry_read
  fin_cases j <;> pointwise

/-- Every number the region reads is below ten thousand. -/
theorem ids_lt (m : (ℓ : Loc nD τ sig) → Buf (Elt Ideal) ℓ) (h : Cert.Pre_KernelIdeal m) (c : Dev nD) (y : S16384x2.Idx) :
    ((V m c main_v6 : IVec S16384x2 32) y).toNat < 10000 := by
  have e := Cert.Ids.lt_of_pre _ _ _ _ _ _ _ _ _ _ _ (h c) (y 0) (y 1)
  rw [← ids_at m c (y 0) (y 1)] at e
  rw [eq_ix2 y]
  exact e

/-- A word read off the block of numbers at a point is below ten thousand. -/
theorem word_lt (m : (ℓ : Loc nD τ sig) → Buf (Elt Ideal) ℓ) (h : Cert.Pre_KernelIdeal m) (c : Dev nD) (t : Fin cfg0.N) (R : LoadRect S128x2) (i : R.shape.Idx) :
    ((ms0_0 t).view.readAt (Elt Ideal) R ((hs0_0 t).unread (iblk m c 0 t)) i).toNat < 10000 := by
  simp only [View.readAt_apply, Memref.IsWhole.read_unread]
  unfold iblk
  rw [View.read_apply, cast_eq]
  exact ids_lt m h c _

/-- A word below ten thousand names a row of a table. -/
theorem names (w : BitVec 32) (h : w.toNat < 10000) : k0_chk1 w := by
  intro a
  fin_cases a <;> simp [k0_off1, Scalar.indexCast] <;> omega

theorem hyps_of_pre (m : (ℓ : Loc nD τ sig) → Buf (Elt Ideal) ℓ) (h : Cert.Pre_KernelIdeal m) : Hyps m := by
  apply Hyps.of
  all_goals exact fun c t => names _ (word_lt m h c t _ _)

end Cert.KernelIdeal.Asm
-- ==== Proof.Select.lean ====
/- Repeated argmax against a stable sort.

   The kernel picks the largest entry (the lowest position on a tie), masks it with `⊥`, and repeats. The reference
   sorts stably, greater first. Both give the same positions when no entry is `⊥`. -/
module

public import Idealize.ShloMosaic.Lib.SortPrefix
public import Mathlib.Data.EReal.Basic
public import Mathlib.Data.Fintype.Card
public import Mathlib.Data.Fintype.Lattice

@[expose] public section

noncomputable section

namespace Cert.Select

open Idealize.ShloMosaic

variable {N : ℕ}

/-- `p` holds a largest entry, and it is the lowest such position. -/
def IsLead (v : Fin N → EReal) (p : Fin N) : Prop := ∀ q, v q ≤ v p ∧ (v q = v p → p ≤ q)

theorem IsLead.unique {v : Fin N → EReal} {p q : Fin N} (hp : IsLead v p) (hq : IsLead v q) : p = q := by
  have e : v p = v q := le_antisymm (hq p).1 (hp q).1
  exact le_antisymm ((hp q).2 e.symm) ((hq p).2 e)

theorem exists_isLead [NeZero N] (v : Fin N → EReal) : ∃ p, IsLead v p := by
  classical
  obtain ⟨p, hp⟩ := Finite.exists_max v
  let S : Finset (Fin N) := Finset.univ.filter fun q => v q = v p
  have hS : S.Nonempty := ⟨p, by simp [S]⟩
  have hmem : v (S.min' hS) = v p := by have := S.min'_mem hS; simpa [S] using this
  refine ⟨S.min' hS, fun q => ⟨hmem ▸ hp q, fun e => S.min'_le q ?_⟩⟩
  simp [S, e, hmem]

/-- The position the kernel's argmax gives. -/
def lead [NeZero N] (v : Fin N → EReal) : Fin N := (exists_isLead v).choose

theorem lead_spec [NeZero N] (v : Fin N → EReal) : IsLead v (lead v) := (exists_isLead v).choose_spec

theorem lead_eq [NeZero N] {v : Fin N → EReal} {p : Fin N} (h : IsLead v p) : lead v = p := (lead_spec v).unique h

/-- `v` with position `p` set to `⊥`. -/
def mask (v : Fin N → EReal) (p : Fin N) : Fin N → EReal := fun q => if q = p then ⊥ else v q

/-- `v` after `r` rounds of "pick and mask". -/
def rounds [NeZero N] (v : Fin N → EReal) : ℕ → Fin N → EReal
  | 0 => v
  | r + 1 => mask (rounds v r) (lead (rounds v r))

/-- The position that round `r` picks. -/
def sel [NeZero N] (v : Fin N → EReal) (r : ℕ) : Fin N := lead (rounds v r)

/-- After `r` rounds the picked positions hold `⊥` and the others their entry. -/
theorem rounds_apply [NeZero N] (v : Fin N → EReal) (r : ℕ) (q : Fin N) :
    ((∃ j < r, sel v j = q) → rounds v r q = ⊥) ∧ ((∀ j < r, sel v j ≠ q) → rounds v r q = v q) := by
  induction r with
  | zero => exact ⟨fun ⟨_, h, _⟩ => absurd h (Nat.not_lt_zero _), fun _ => rfl⟩
  | succ r ih =>
    have hs : rounds v (r + 1) q = if q = sel v r then ⊥ else rounds v r q := rfl
    rw [hs]
    constructor
    · rintro ⟨j, hj, e⟩
      split_ifs with h
      · rfl
      · have : j ≠ r := fun hjr => h (by rw [← e, hjr])
        exact ih.1 ⟨j, by omega, e⟩
    · intro h
      rw [if_neg fun e => h r (Nat.lt_succ_self r) e.symm]
      exact ih.2 fun j hj => h j (by omega)

/-- Some position is not picked in the first `r < N` rounds. -/
theorem exists_fresh [NeZero N] (v : Fin N → EReal) (r : ℕ) (hr : r < N) : ∃ q, ∀ j < r, sel v j ≠ q := by
  classical
  by_contra hc
  push Not at hc
  have hsub : (Finset.univ : Finset (Fin N)) ⊆ (Finset.range r).image (sel v) := fun q _ => by
    obtain ⟨j, hj, e⟩ := hc q
    exact Finset.mem_image.mpr ⟨j, Finset.mem_range.mpr hj, e⟩
  have h1 := Finset.card_le_card hsub
  have h2 := (Finset.card_image_le (s := Finset.range r) (f := sel v))
  simp only [Finset.card_univ, Fintype.card_fin, Finset.card_range] at h1 h2
  omega

/-- A round picks a position that no earlier round picked. -/
theorem sel_fresh [NeZero N] (v : Fin N → EReal) (hv : ∀ q, ⊥ < v q) (r : ℕ) (hr : r < N) : ∀ j < r, sel v j ≠ sel v r := by
  intro j hj e
  obtain ⟨q, hq⟩ := exists_fresh v r hr
  have h1 := ((rounds_apply v r q).2 hq).symm
  have h2 := (rounds_apply v r (sel v r)).1 ⟨j, hj, e⟩
  have h3 := (lead_spec (rounds v r) q).1
  change _ ≤ rounds v r (sel v r) at h3
  rw [h2, ← h1] at h3
  exact absurd (hv q) (not_lt.mpr h3)

/-- `a` sorts strictly before `b`: a greater key, or an equal key at a lower position. -/
def before (v : Fin N → EReal) (a b : Fin N) : Bool := decide (v b < v a) || (decide (v a = v b) && decide (a < b))

theorem before_total (v : Fin N → EReal) : StrictTotalBefore (before v) :=
  StrictTotalBefore.of_key_then_position (fun a b : EReal => decide (b < a)) v (fun a => by simp)
    (fun a b c hab hbc => by simp only [decide_eq_true_eq] at *; exact hbc.trans hab)
    (fun a b => by
      simp only [decide_eq_true_eq]
      rcases lt_trichotomy b a with h | h | h
      · exact Or.inl h
      · exact Or.inr (Or.inl h.symm)
      · exact Or.inr (Or.inr h))

/-- On a list in increasing position order, a stable sort under a relation sorts as under any relation that agrees
    with it on "the later one against the earlier one". -/
theorem stableSort_eq {ι : Type} (lt : ι → ι → Prop) (R R' : ι → ι → Bool) (h : ∀ a b, lt a b → R b a = R' b a) (l : List ι)
    (hl : l.Pairwise lt) : stableSort R l = stableSort R' l := by
  induction l with
  | nil => rfl
  | cons a l ih =>
    rw [List.pairwise_cons] at hl
    unfold stableSort
    rw [ih hl.2]
    refine insertBefore_congr R R' a _ fun b hb => h a b (hl.1 b ?_)
    exact (perm_stableSort R' l).mem_iff.mp hb

/-- The stable sort by "greater" is the sort by the key and then the position. -/
theorem sortedFrom_gt (v : Fin N → EReal) : sortedFrom (fun a b => decide (v b < v a)) = sortedFrom (before v) := by
  funext k
  have e : sortPositions N (fun a b => decide (v b < v a)) = sortPositions N (before v) := by
    refine stableSort_eq (· < ·) _ _ (fun a b hab => ?_) _ (List.pairwise_lt_finRange N)
    simp [before, not_lt.mpr hab.le]
  unfold sortedFrom
  rw [List.get_of_eq e]
  rfl

/-- No position other than those of earlier rounds sorts before the one a round picks. -/
theorem not_before_sel [NeZero N] (v : Fin N → EReal) (hv : ∀ q, ⊥ < v q) (r : ℕ) (hr : r < N) (p : Fin N)
    (hp : ∀ j < r, sel v j ≠ p) : before v p (sel v r) = false := by
  have h := lead_spec (rounds v r) p
  change rounds v r p ≤ rounds v r (sel v r) ∧ (rounds v r p = rounds v r (sel v r) → sel v r ≤ p) at h
  rw [(rounds_apply v r p).2 hp, (rounds_apply v r (sel v r)).2 (sel_fresh v hv r hr)] at h
  simp only [before, Bool.or_eq_false_iff, decide_eq_false_iff_not, not_lt, Bool.and_eq_false_iff]
  refine ⟨h.1, ?_⟩
  by_cases e : v p = v (sel v r)
  · exact Or.inr (h.2 e)
  · exact Or.inl e

/-- Position `r` of the stable sort by a key that orders as `v` does is the position that round `r` picks. -/
theorem sortedFrom_eq_sel [NeZero N] (v key : Fin N → EReal) (hkey : ∀ a b, key a < key b ↔ v a < v b) (hv : ∀ q, ⊥ < v q)
    (r : Fin N) : sortedFrom (fun a b => decide (key b < key a)) r = sel v r := by
  have e : (fun a b => decide (key b < key a)) = fun a b => decide (v b < v a) := by
    funext a b; exact decide_eq_decide.mpr (hkey b a)
  rw [e, sortedFrom_gt]
  have hinj : Function.Injective fun j : Fin N => sel v j := fun i j hij => by
    rcases lt_trichotomy i j with h | h | h
    · exact absurd hij (sel_fresh v hv j j.isLt i h)
    · exact h
    · exact absurd hij.symm (sel_fresh v hv i i.isLt j h)
  refine (before_total v).sortedFrom_eq_of_prefix le_rfl (fun j : Fin N => sel v j) hinj (fun i j hij => ?_) (fun i p hp => ?_) r
  · exact not_before_sel v hv i i.isLt _ fun k hk e => by
      have : (⟨k, hk.trans i.isLt⟩ : Fin N) = j := hinj e
      have hkj : k = j.val := congrArg Fin.val this
      have : i.val < j.val := hij
      omega
  · exact not_before_sel v hv i i.isLt _ fun k hk => hp ⟨k, hk.trans i.isLt⟩

end Cert.Select

end
-- ==== Proof.AsmRows.lean ====
/- The assemble kernel's mathematics on one row, over the extended reals.

   A row has six pair vectors of 128 entries. The four with the greatest squared norms, greatest first, are multiplied
   with four slabs of the last layer's weights. -/
module

public import proofs.«01_k».proof.Proof.Select
public import Idealize.ShloMosaic.Lib.Pointwise

@[expose] public section

noncomputable section

namespace Cert.Asm

open Idealize.ShloMosaic Cert.Select
open scoped BigOperators

/-- One linear layer with its bias: `w j k` multiplies entry `j` into entry `k`. -/
def lin (w : Fin 128 → Fin 128 → EReal) (b x : Fin 128 → EReal) (k : Fin 128) : EReal := (∑ j, x j * w j k) + b k

/-- The gated interaction of a pair sum `x`, after the rectifier. -/
def gate (wf wi : Fin 128 → Fin 128 → EReal) (bf bi x : Fin 128 → EReal) (k : Fin 128) : EReal :=
  max (Ideal.logistic (lin wf bf x k) * lin wi bi x k + (1 - Ideal.logistic (lin wf bf x k)) * x k) 0

theorem gate_nonneg (wf wi : Fin 128 → Fin 128 → EReal) (bf bi x : Fin 128 → EReal) (k : Fin 128) : 0 ≤ gate wf wi bf bi x k :=
  le_max_right _ _

/-- The squared norm of a vector. -/
def sqnorm (x : Fin 128 → EReal) : EReal := ∑ k, x k * x k

theorem sqnorm_nonneg (x : Fin 128 → EReal) (hx : ∀ k, 0 ≤ x k) : 0 ≤ sqnorm x :=
  Finset.sum_nonneg fun k _ => mul_nonneg (hx k) (hx k)

/-- The first of each pair of the four features, in the order of the six pairs. -/
def fstOf : Fin 6 → Fin 4 := ![0, 0, 0, 1, 1, 2]

/-- The second of each pair. -/
def sndOf : Fin 6 → Fin 4 := ![1, 2, 3, 2, 3, 3]

/-- The six pair vectors of a row with features `f`. -/
def pairs (wf wi : Fin 128 → Fin 128 → EReal) (bf bi : Fin 128 → EReal) (f : Fin 4 → Fin 128 → EReal) (p : Fin 6) :
    Fin 128 → EReal :=
  gate wf wi bf bi fun k => f (fstOf p) k + f (sndOf p) k

/-- One output of a row: the bias and the four selected vectors against their slabs. -/
def rowOut (T : Fin 6 → Fin 128 → EReal) (W : Fin 4 → Fin 128 → EReal) (b : EReal) : EReal :=
  b + (∑ k, T (sel (fun p => sqnorm (T p)) 0) k * W 0 k) + (∑ k, T (sel (fun p => sqnorm (T p)) 1) k * W 1 k)
    + (∑ k, T (sel (fun p => sqnorm (T p)) 2) k * W 2 k) + ∑ k, T (sel (fun p => sqnorm (T p)) 3) k * W 3 k

end Cert.Asm

end
-- ==== Proof.AsmVec.lean ====
/- The assemble kernel's stored block, read at an index.

   The printed values are named here as six gated products, their squared norms and four rounds of selection. Each is then
   read at a row, as the row functions of `AsmRows`. -/
module

public import proofs.«01_k».proof.Proof.AsmRows
public import proofs.«01_k».proof.Proof.Gen.KernelIdeal.Skeleton

@[expose] public section

set_option maxRecDepth 16384

noncomputable section

namespace Cert.KernelIdeal.Asm

open Idealize.ShloMosaic Idealize.ShloMosaic.TcCoe Idealize.SL.Sem
open Cert.KernelIdeal Cert.KernelIdeal.Gen Cert.Select
open scoped BigOperators

/-- A block of 128 rows of 128 entries. -/
abbrev M := FVec Ideal S128x128 .f32

/-- The gated product of the pair sum `S`. -/
def gateV (S WF WI : M) (BF BI : FVec Ideal S1x128 .f32) : M :=
  let g : M := logistic (addf (matmul dot_S128x128_S128x128_S128x128_1_0_0_1_n_n none S WF (constant S128x128 .f32 0x00000000#32))
    (broadcastTo S128x128 BF broadcasts_S1x128_S128x128))
  let t : M := addf (matmul dot_S128x128_S128x128_S128x128_1_0_0_1_n_n none S WI (constant S128x128 .f32 0x00000000#32))
    (broadcastTo S128x128 BI broadcasts_S1x128_S128x128)
  maximumf (addf (mulf g t) (mulf (subf (broadcast S128x128 (Scalar.ofBits .f32 0x3F800000#32)) g) S))
    (broadcast S128x128 (Scalar.ofBits .f32 0x00000000#32))

/-- The squared norms of the rows. -/
def sqV (T : M) : FVec Ideal S128x1 .f32 :=
  shapeCast S128x1 (multiReduction .add [1] S128 (mulf T T) 0x00000000#32 reduces_S128x128_S128 (.inl rfl) rfl) shapeCasts_S128_S128x1

/-- The six columns of squared norms. -/
def catV (T0 T1 T2 T3 T4 T5 : M) : FVec Ideal S128x6 .f32 :=
  concatenate S128x6 1 [⟨S128x1, sqV T0⟩, ⟨S128x1, sqV T1⟩, ⟨S128x1, sqV T2⟩, ⟨S128x1, sqV T3⟩, ⟨S128x1, sqV T4⟩, ⟨S128x1, sqV T5⟩]
    concatenates_S128x1_S128x1_S128x1_S128x1_S128x1_S128x1_S128x6_d1

/-- The column numbers. -/
def laneV : IVec S128x6 32 := iota .tc S128x6 32 [1] iota_S128x6_d1_w32

/-- The lowest column that holds the row's largest entry. -/
def pickV (n : FVec Ideal S128x6 .f32) : IVec S128x1 32 :=
  shapeCast S128x1 (multiReductionI .minsi [1] S128
    (select (cmpf .oeq n (broadcastTo S128x6 (shapeCast S128x1
      (multiReduction .maximumf [1] S128 n 0xFF800000#32 reduces_S128x6_S128 (.inl rfl) rfl) shapeCasts_S128_S128x1) broadcasts_S128x1_S128x6))
      laneV (broadcast S128x6 6#32)) 2147483647#32 reduces_S128x6_S128 rfl) shapeCasts_S128_S128x1

/-- The picked column masked. -/
def maskV (n : FVec Ideal S128x6 .f32) (p : IVec S128x1 32) : FVec Ideal S128x6 .f32 :=
  select (cmpi .eq laneV (broadcastTo S128x6 p broadcasts_S128x1_S128x6)) (broadcast S128x6 (Scalar.ofBits .f32 0xFF800000#32)) n

/-- Pair vector `T` where column `c` was picked, zero elsewhere. -/
def hotV (p : IVec S128x1 32) (c : BitVec 32) (T : M) : M :=
  mulf (broadcastTo S128x128 (select (cmpi .eq p (broadcast S128x1 c)) (broadcast S128x1 (Scalar.ofBits (F := Ideal) .f32 0x3F800000#32))
    (broadcast S128x1 (Scalar.ofBits (F := Ideal) .f32 0x00000000#32))) broadcasts_S128x1_S128x128) T

/-- The picked pair vectors. -/
def selV (p : IVec S128x1 32) (T0 T1 T2 T3 T4 T5 : M) : M :=
  addf (addf (addf (addf (addf (addf (broadcast S128x128 (Scalar.ofBits .f32 0x00000000#32)) (hotV p 0#32 T0)) (hotV p 1#32 T1))
    (hotV p 2#32 T2)) (hotV p 3#32 T3)) (hotV p 4#32 T4)) (hotV p 5#32 T5)

/-- One round's contribution to the output. -/
def accV (o : FVec Ideal S128x64 .f32) (s : M) (W : FVec Ideal S128x64 .f32) : FVec Ideal S128x64 .f32 :=
  addf o (matmul dot_S128x128_S128x64_S128x64_1_0_0_1_n_n none s (shapeCast S128x64 W shapeCasts_S128x64_S128x64)
    (constant S128x64 .f32 0x00000000#32))

/-- The output from the pair vectors: the bias, then four rounds. -/
def fourV (T0 T1 T2 T3 T4 T5 : M) (B : FVec Ideal S1x64 .f32) (W0 W1 W2 W3 : FVec Ideal S128x64 .f32) : FVec Ideal S128x64 .f32 :=
  let n0 := catV T0 T1 T2 T3 T4 T5
  let p0 := pickV n0
  let n1 := maskV n0 p0
  let p1 := pickV n1
  let n2 := maskV n1 p1
  let p2 := pickV n2
  let n3 := maskV n2 p2
  let p3 := pickV n3
  accV (accV (accV (accV (k0_pay577 B) (selV p0 T0 T1 T2 T3 T4 T5) W0) (selV p1 T0 T1 T2 T3 T4 T5) W1)
    (selV p2 T0 T1 T2 T3 T4 T5) W2) (selV p3 T0 T1 T2 T3 T4 T5) W3

/-! ## Reading at a row -/

theorem gateV_at (S WF WI : M) (BF BI : FVec Ideal S1x128 .f32) (s k : Fin 128) :
    gateV S WF WI BF BI (ix2 s k) = Cert.Asm.gate (fun j k => WF (ix2 j k)) (fun j k => WI (ix2 j k)) (fun k => BF (ix2 0 k))
      (fun k => BI (ix2 0 k)) (fun k => S (ix2 s k)) k := by
  pointwise [gateV, Cert.Asm.gate, Cert.Asm.lin]

theorem catV_at (T0 T1 T2 T3 T4 T5 : M) (s : Fin 128) (p : Fin 6) :
    catV T0 T1 T2 T3 T4 T5 (ix2 s p) = Cert.Asm.sqnorm fun k => (![T0, T1, T2, T3, T4, T5] p) (ix2 s k) := by
  fin_cases p <;> pointwise [catV, sqV, Cert.Asm.sqnorm] <;> rfl

/-- The lowest of six column numbers, six standing for "not a candidate". -/
theorem fold_min_lane : ∀ (p : Fin 6) (b : Fin 6 → Bool), b p = true → (∀ q, q < p → b q = false) →
    Finset.univ.fold IntOp.minsi 2147483647#32 (fun q : Fin 6 => if b q then BitVec.ofNat 32 q.val else 6#32) = BitVec.ofNat 32 p.val := by
  decide +kernel

theorem minusInf : Ideal.ofBits FTy.f32 4286578688#32 = ⊥ := by simp [Ideal.ofBits, Ideal.ieee]

/-- The fold of the maximum is the leader's entry. -/
theorem fold_max_lead (v : Fin 6 → EReal) : Finset.univ.fold max ⊥ v = v (lead v) := by
  apply le_antisymm
  · rw [Finset.fold_max_le]
    exact ⟨bot_le, fun q _ => (lead_spec v q).1⟩
  · rw [Finset.le_fold_max]
    exact Or.inr ⟨_, Finset.mem_univ _, le_rfl⟩

theorem pickV_at (n : FVec Ideal S128x6 .f32) (s : Fin 128) :
    pickV n (ix2 s 0) = BitVec.ofNat 32 (lead fun p => n (ix2 s p)).val := by
  pointwise [pickV, laneV]
  rw [minusInf, fold_max_lead fun x => n (ix2 s x)]
  set v : Fin 6 → EReal := fun p => n (ix2 s p) with hv
  have key := fold_min_lane (lead v) (fun q => decide (v q = v (lead v))) (by simp) (fun q hq => by
    simp only [decide_eq_false_iff_not]
    intro h
    exact absurd ((lead_spec v q).2 h) (not_le.2 hq))
  rw [← key]
  refine Finset.fold_congr fun q _ => ?_
  by_cases h : v q = v (lead v)
  · simp [h, hv]
  · simp [h, hv]

theorem maskV_at (n : FVec Ideal S128x6 .f32) (p : IVec S128x1 32) (s : Fin 128) (q : Fin 6) (hp : p (ix2 s 0) = BitVec.ofNat 32 q.val) :
    (fun c => maskV n p (ix2 s c)) = mask (fun c => n (ix2 s c)) q := by
  funext c
  pointwise [maskV, laneV, mask]
  rw [minusInf, hp]
  fin_cases c <;> fin_cases q <;> rfl

theorem selV_at (p : IVec S128x1 32) (T0 T1 T2 T3 T4 T5 : M) (s k : Fin 128) (q : Fin 6) (hp : p (ix2 s 0) = BitVec.ofNat 32 q.val) :
    selV p T0 T1 T2 T3 T4 T5 (ix2 s k) = (![T0, T1, T2, T3, T4, T5] q) (ix2 s k) := by
  pointwise [selV, hotV]
  rw [hp]
  have one (x : EReal) : Scalar.select 1#1 x 0 = x := rfl
  have zero (x : EReal) : Scalar.select 0#1 x 0 = 0 := rfl
  have cmp : ∀ a b : Fin 6, IntOp.cmpi CmpIPredicate.eq (BitVec.ofNat 32 a.val) (BitVec.ofNat 32 b.val) = if a = b then 1#1 else 0#1 := by
    decide
  rw [show (0#32) = BitVec.ofNat 32 (0 : Fin 6).val from rfl, show (1#32) = BitVec.ofNat 32 (1 : Fin 6).val from rfl,
    show (2#32) = BitVec.ofNat 32 (2 : Fin 6).val from rfl, show (3#32) = BitVec.ofNat 32 (3 : Fin 6).val from rfl,
    show (4#32) = BitVec.ofNat 32 (4 : Fin 6).val from rfl, show (5#32) = BitVec.ofNat 32 (5 : Fin 6).val from rfl]
  simp only [cmp]
  fin_cases q <;> simp [one, zero]

theorem accV_at (o : FVec Ideal S128x64 .f32) (S : M) (W : FVec Ideal S128x64 .f32) (s : Fin 128) (j : Fin 64) :
    accV o S W (ix2 s j) = o (ix2 s j) + ∑ k : Fin 128, S (ix2 s k) * W (ix2 k j) := by
  pointwise [accV]

/-- The stored block at a row: the row function of the six pair vectors, the four slabs and the bias. -/
theorem fourV_at (T0 T1 T2 T3 T4 T5 : M) (B : FVec Ideal S1x64 .f32) (W0 W1 W2 W3 : FVec Ideal S128x64 .f32) (s : Fin 128) (j : Fin 64) :
    fourV T0 T1 T2 T3 T4 T5 B W0 W1 W2 W3 (ix2 s j)
      = Cert.Asm.rowOut (fun p k => (![T0, T1, T2, T3, T4, T5] p) (ix2 s k)) (fun r k => (![W0, W1, W2, W3] r) (ix2 k j)) (B (ix2 0 j)) := by
  unfold fourV
  set n0 := catV T0 T1 T2 T3 T4 T5
  set p0 := pickV n0
  set n1 := maskV n0 p0
  set p1 := pickV n1
  set n2 := maskV n1 p1
  set p2 := pickV n2
  set n3 := maskV n2 p2
  set p3 := pickV n3
  set T : Fin 6 → Fin 128 → EReal := fun p k => (![T0, T1, T2, T3, T4, T5] p) (ix2 s k) with hT
  set v : Fin 6 → EReal := fun p => Cert.Asm.sqnorm (T p) with hv
  have e0 : (fun p => n0 (ix2 s p)) = rounds v 0 := funext fun p => catV_at T0 T1 T2 T3 T4 T5 s p
  have q0 : p0 (ix2 s 0) = BitVec.ofNat 32 (sel v 0).val := (pickV_at n0 s).trans (by rw [e0]; rfl)
  have e1 : (fun p => n1 (ix2 s p)) = rounds v 1 :=
    (maskV_at n0 p0 s _ q0).trans (by rw [e0]; rfl)
  have q1 : p1 (ix2 s 0) = BitVec.ofNat 32 (sel v 1).val := (pickV_at n1 s).trans (by rw [e1]; rfl)
  have e2 : (fun p => n2 (ix2 s p)) = rounds v 2 :=
    (maskV_at n1 p1 s _ q1).trans (by rw [e1]; rfl)
  have q2 : p2 (ix2 s 0) = BitVec.ofNat 32 (sel v 2).val := (pickV_at n2 s).trans (by rw [e2]; rfl)
  have e3 : (fun p => n3 (ix2 s p)) = rounds v 3 :=
    (maskV_at n2 p2 s _ q2).trans (by rw [e2]; rfl)
  have q3 : p3 (ix2 s 0) = BitVec.ofNat 32 (sel v 3).val := (pickV_at n3 s).trans (by rw [e3]; rfl)
  rw [accV_at, accV_at, accV_at, accV_at]
  simp only [fun k => selV_at p0 T0 T1 T2 T3 T4 T5 s k _ q0, fun k => selV_at p1 T0 T1 T2 T3 T4 T5 s k _ q1,
    fun k => selV_at p2 T0 T1 T2 T3 T4 T5 s k _ q2, fun k => selV_at p3 T0 T1 T2 T3 T4 T5 s k _ q3]
  have hb : k0_pay577 B (ix2 s j) = B (ix2 0 j) := by pointwise [k0_pay577]
  rw [hb]
  rfl

end Cert.KernelIdeal.Asm

end
-- ==== Proof.AsmRead.lean ====
/- Rows gathered into a scratch block one at a time, read back as one block. -/
module

public import proofs.«01_k».proof.Proof.AsmVec
public import Idealize.ShloMosaic.Lib.Pipeline.ReadBack
public import Idealize.ShloMosaic.Lib.Pipeline.ValueKit

@[expose] public section

noncomputable section

namespace Cert.KernelIdeal.Asm

open Idealize.ShloMosaic Idealize.ShloMosaic.TcCoe Idealize.SL.Sem
open Cert.KernelIdeal Cert.KernelIdeal.Gen

/-- The table's rows that column `col` of the block of numbers names, one below the other (zero where a number names none). -/
def rowsOf (X : FVec Ideal S10000x1x128 .f32) (I : IVec S128x2 32) (col : Fin 2) : M := fun y =>
  if h : (I (ix2 (y 0 : Fin 128) col)).toNat < 10000 then X (ix3 (⟨_, h⟩ : Fin 10000) (0 : Fin 1) (y 1 : Fin 128)) else 0

theorem rowsOf_at (X : FVec Ideal S10000x1x128 .f32) (I : IVec S128x2 32) (col : Fin 2) (s k : Fin 128) (h : (I (ix2 s col)).toNat < 10000) :
    rowsOf X I col (ix2 s k) = X (ix3 (⟨_, h⟩ : Fin 10000) (0 : Fin 1) k) := dif_pos h

/-- One stored row is a row of `rowsOf`. -/
theorem row_piece (X : FVec Ideal S10000x1x128 .f32) (I : IVec S128x2 32) (s : Fin 128) (col : Fin 2)
    (h1 : ∀ a, (![s.val, col.val] : Fin 2 → ℕ) a + (![1, 1] : Fin 2 → ℕ) a ≤ S128x2.size a)
    (h2 : 0 < (Rect.unit (s := S128x2) ![s.val, col.val] ![1, 1] h1).shape.numel)
    (h3 : ∀ a, k0_off1 (View.ld (Val := Elt Ideal) (e' := .i32) I (Rect.unit (s := S128x2) ![s.val, col.val] ![1, 1] h1) (Shape.Idx.first h2)) a
      + (![1, 1, 128] : Fin 3 → ℕ) a ≤ S10000x1x128.size a)
    (h4 : (Rect.unit (s := S10000x1x128) (k0_off1 (View.ld (Val := Elt Ideal) (e' := .i32) I (Rect.unit (s := S128x2) ![s.val, col.val] ![1, 1] h1) (Shape.Idx.first h2)))
      ![1, 1, 128] h3).shape.ShapeCasts S128)
    (h5 : S128.ShapeCasts S1x128) (h6 : ∀ a, (![s.val, 0] : Fin 2 → ℕ) a + (![1, 128] : Fin 2 → ℕ) a ≤ S128x128.size a)
    (x : S1x128.Idx) :
    shapeCast S1x128 (shapeCast S128 (View.ld (Val := Elt Ideal) (e' := .f32) X
      (Rect.unit (s := S10000x1x128) (k0_off1 (View.ld (Val := Elt Ideal) (e' := .i32) I (Rect.unit (s := S128x2) ![s.val, col.val] ![1, 1] h1) (Shape.Idx.first h2))) ![1, 1, 128] h3)) h4) h5 x
      = rowsOf X I col ((Rect.unit (s := S128x128) ![s.val, 0] ![1, 128] h6).emb x) := by
  set w : BitVec 32 := View.ld (Val := Elt Ideal) (e' := .i32) I (Rect.unit (s := S128x2) ![s.val, col.val] ![1, 1] h1) (Shape.Idx.first h2) with hw
  have hw' : w = I (ix2 s col) := by
    rw [hw]
    refine congrArg I (funext fun a => ?_)
    apply Fin.ext
    fin_cases a <;> simp [Rect.unit, Rect.emb_apply, ix2]
  have hlt : w.toNat < 10000 := by
    have := h3 0
    simp [k0_off1, Scalar.indexCast] at this
    omega
  idx_vars x
  pointwise
  have he : (Rect.unit (s := S128x128) ![s.val, 0] ![1, 128] h6).emb (ix2 x0 x1) = ix2 s x1 := by
    refine funext fun a => Fin.ext ?_
    rw [Rect.emb_apply]
    fin_cases a <;> simp [Rect.unit, ix2]
  rw [hw'] at hlt
  rw [he]
  refine Eq.trans ?_ (rowsOf_at X I col s x1 hlt).symm
  refine congrArg X (funext fun a => Fin.ext ?_)
  fin_cases a <;> simp [k0_off1, Scalar.indexCast, ix2, ix3]

/-- The same with the row and the column as numbers, as the stores print them. -/
theorem row_piece' (X : FVec Ideal S10000x1x128 .f32) (I : IVec S128x2 32) (col : Fin 2) (s n : ℕ) (hn : n = col.val)
    (h1 : ∀ a, (![s, n] : Fin 2 → ℕ) a + (![1, 1] : Fin 2 → ℕ) a ≤ S128x2.size a)
    (h2 : 0 < (Rect.unit (s := S128x2) ![s, n] ![1, 1] h1).shape.numel)
    (h3 : ∀ a, k0_off1 (View.ld (Val := Elt Ideal) (e' := .i32) I (Rect.unit (s := S128x2) ![s, n] ![1, 1] h1) (Shape.Idx.first h2)) a
      + (![1, 1, 128] : Fin 3 → ℕ) a ≤ S10000x1x128.size a)
    (h4 : (Rect.unit (s := S10000x1x128) (k0_off1 (View.ld (Val := Elt Ideal) (e' := .i32) I (Rect.unit (s := S128x2) ![s, n] ![1, 1] h1) (Shape.Idx.first h2)))
      ![1, 1, 128] h3).shape.ShapeCasts S128)
    (h5 : S128.ShapeCasts S1x128) (h6 : ∀ a, (![s, 0] : Fin 2 → ℕ) a + (![1, 128] : Fin 2 → ℕ) a ≤ S128x128.size a) (x : S1x128.Idx) :
    shapeCast S1x128 (shapeCast S128 (View.ld (Val := Elt Ideal) (e' := .f32) X
      (Rect.unit (s := S10000x1x128) (k0_off1 (View.ld (Val := Elt Ideal) (e' := .i32) I (Rect.unit (s := S128x2) ![s, n] ![1, 1] h1) (Shape.Idx.first h2))) ![1, 1, 128] h3)) h4) h5 x
      = rowsOf X I col ((Rect.unit (s := S128x128) ![s, 0] ![1, 128] h6).emb x) := by
  subst hn
  have hs : s < 128 := h1 0
  exact row_piece X I ⟨s, hs⟩ col h1 h2 h3 h4 h5 h6 x

/-- A load of the whole block after stores that are blocks of `G` and cover it reads `G`. -/
theorem read_rows {sig : RefSig} {κ : Kind} {sp : Space} (v : View sig κ sp S128x128 .f32) (G : M) (L : List (View.Piece (Elt Ideal) S128x128 .f32))
    (inb : ∀ a, (![0, 0] : Fin 2 → ℕ) a + S128x128.size a ≤ S128x128.size a) (hp : View.PiecesOf G L) (hc : ∀ y, ∃ p ∈ L, y ∈ p.1.set) :
    v.readCov L (Rect.unit (s := S128x128) ![0, 0] S128x128.size inb).toLoadRect = G := by
  rw [View.readCov_eq_canon']
  funext y
  rw [View.canon_apply_of_pieces G L hp.mem _ (hc _)]
  refine congrArg G (funext fun a => Fin.ext ?_)
  show (Rect.unit (s := S128x128) ![0, 0] S128x128.size inb).emb y a = (y a : ℕ)
  rw [Rect.emb_apply]
  fin_cases a <;> simp [Rect.unit]

/-- The stored block as printed: its payloads over the four gathered blocks, the weights, the biases and the slabs. -/
def storedV (A B C D X5 X7 : M) (X6 X8 : FVec Ideal S1x128 .f32) (X10 : FVec Ideal S1x64 .f32) (W0 W1 W2 W3 : FVec Ideal S128x64 .f32) :
    FVec Ideal S128x64 .f32 :=
  let wf := k0_pay557 X5
  let wi := k0_pay558 X7
  let bf := k0_pay559 X6
  let bi := k0_pay560 X8
  let t0 := k0_pay561 A B X5 X7 X6 X8
  let q0 := k0_pay562 A B X5 X7 X6 X8
  let s1 := k0_pay563 A C
  let f1 := k0_pay564 A C X5 X6
  let g1 := k0_pay565 A C X5 X7 X6 X8
  let t1 := k0_pay566 s1 f1 g1 (FloatOps.ofBits .f32 1065353216#32)
  let q1 := k0_pay567 s1 f1 g1 (FloatOps.ofBits .f32 1065353216#32)
  let t2 := k0_pay568 A D wf wi bf bi
  let q2 := k0_pay569 A D wf wi bf bi
  let t3 := k0_pay570 B C wf wi bf bi
  let q3 := k0_pay571 B C wf wi bf bi
  let s4 := k0_pay572 B D
  let f4 := k0_pay573 B D wf
  let t4 := k0_pay574 wi bf bi s4 f4
  let t5 := k0_pay575 C D wf wi bf bi
  let b := k0_pay577 X10
  let n0 := k0_pay576 C D wf wi bf bi q0 q1 q2 q3 s4 f4
  let lane : IVec S128x6 32 := iota .tc S128x6 32 [1] iota_S128x6_d1_w32
  let c0 := k0_pay578 C D wf wi bf bi q0 q1 q2 q3 s4 f4
  let p0 := k0_pay579 c0
  let e0 := k0_pay580 t0 t1 t2 t3 t4 c0
  let o0 := k0_pay581 t5 b p0 e0 5#32 W0
  let m1 := k0_pay582 n0 lane p0
  let p1 := k0_pay583 n0 lane p0
  let e1 := k0_pay584 t0 t1 n0 lane p0
  let z1 := k0_pay585 n0 lane p0
  let o1 := k0_pay586 t2 t3 t4 t5 o0 p1 e1 z1 W1
  let m2 := k0_pay587 lane m1 p1
  let c2 := k0_pay588 lane m1 p1
  let p2 := k0_pay590 lane c2 k0_pay589
  let e2 := k0_pay591 t0 t1 t2 t3 lane c2 k0_pay589
  let z2 := k0_pay592 t4 lane c2 k0_pay589
  let o2 := k0_pay593 t5 o1 p2 e2 z2 W2
  let p3 := k0_pay594 lane m2 p2
  let e3 := k0_pay595 t0 t1 lane m2 p2
  k0_pay1 t2 t3 t4 t5 o2 p3 e3 (k0_pay596 2#32) W3

section Payloads

set_option maxRecDepth 4000
set_option maxHeartbeats 20000
variable (A B C D X5 X7 : M) (X6 X8 : FVec Ideal S1x128 .f32)

theorem pay_t0 : k0_pay561 A B X5 X7 X6 X8 = gateV (addf A B) (k0_pay557 X5) (k0_pay558 X7) (k0_pay559 X6) (k0_pay560 X8) := rfl
theorem pay_q0 : k0_pay562 A B X5 X7 X6 X8 = sqV (gateV (addf A B) (k0_pay557 X5) (k0_pay558 X7) (k0_pay559 X6) (k0_pay560 X8)) := rfl
theorem pay_t1 : k0_pay566 (k0_pay563 A C) (k0_pay564 A C X5 X6) (k0_pay565 A C X5 X7 X6 X8) (FloatOps.ofBits .f32 1065353216#32)
    = gateV (addf A C) (k0_pay557 X5) (k0_pay558 X7) (k0_pay559 X6) (k0_pay560 X8) := rfl
theorem pay_q1 : k0_pay567 (k0_pay563 A C) (k0_pay564 A C X5 X6) (k0_pay565 A C X5 X7 X6 X8) (FloatOps.ofBits .f32 1065353216#32)
    = sqV (gateV (addf A C) (k0_pay557 X5) (k0_pay558 X7) (k0_pay559 X6) (k0_pay560 X8)) := rfl
theorem pay_t2 : k0_pay568 A D (k0_pay557 X5) (k0_pay558 X7) (k0_pay559 X6) (k0_pay560 X8) = gateV (addf A D) (k0_pay557 X5) (k0_pay558 X7) (k0_pay559 X6) (k0_pay560 X8) := rfl
theorem pay_q2 : k0_pay569 A D (k0_pay557 X5) (k0_pay558 X7) (k0_pay559 X6) (k0_pay560 X8) = sqV (gateV (addf A D) (k0_pay557 X5) (k0_pay558 X7) (k0_pay559 X6) (k0_pay560 X8)) := rfl
theorem pay_t3 : k0_pay570 B C (k0_pay557 X5) (k0_pay558 X7) (k0_pay559 X6) (k0_pay560 X8) = gateV (addf B C) (k0_pay557 X5) (k0_pay558 X7) (k0_pay559 X6) (k0_pay560 X8) := rfl
theorem pay_q3 : k0_pay571 B C (k0_pay557 X5) (k0_pay558 X7) (k0_pay559 X6) (k0_pay560 X8) = sqV (gateV (addf B C) (k0_pay557 X5) (k0_pay558 X7) (k0_pay559 X6) (k0_pay560 X8)) := rfl
theorem pay_t4 : k0_pay574 (k0_pay558 X7) (k0_pay559 X6) (k0_pay560 X8) (k0_pay572 B D) (k0_pay573 B D (k0_pay557 X5)) = gateV (addf B D) (k0_pay557 X5) (k0_pay558 X7) (k0_pay559 X6) (k0_pay560 X8) := rfl
theorem pay_t5 : k0_pay575 C D (k0_pay557 X5) (k0_pay558 X7) (k0_pay559 X6) (k0_pay560 X8) = gateV (addf C D) (k0_pay557 X5) (k0_pay558 X7) (k0_pay559 X6) (k0_pay560 X8) := rfl

end Payloads

theorem storedV_eq (A B C D X5 X7 : M) (X6 X8 : FVec Ideal S1x128 .f32) (X10 : FVec Ideal S1x64 .f32) (W0 W1 W2 W3 : FVec Ideal S128x64 .f32) :
    storedV A B C D X5 X7 X6 X8 X10 W0 W1 W2 W3
      = fourV (gateV (addf A B) (k0_pay557 X5) (k0_pay558 X7) (k0_pay559 X6) (k0_pay560 X8))
          (gateV (addf A C) (k0_pay557 X5) (k0_pay558 X7) (k0_pay559 X6) (k0_pay560 X8))
          (gateV (addf A D) (k0_pay557 X5) (k0_pay558 X7) (k0_pay559 X6) (k0_pay560 X8))
          (gateV (addf B C) (k0_pay557 X5) (k0_pay558 X7) (k0_pay559 X6) (k0_pay560 X8))
          (gateV (addf B D) (k0_pay557 X5) (k0_pay558 X7) (k0_pay559 X6) (k0_pay560 X8))
          (gateV (addf C D) (k0_pay557 X5) (k0_pay558 X7) (k0_pay559 X6) (k0_pay560 X8)) X10 W0 W1 W2 W3 := rfl

theorem pay_wf (X : M) : k0_pay557 X = X := by
  funext i; idx_vars i; pointwise [k0_pay557]
theorem pay_wi (X : M) : k0_pay558 X = X := by
  funext i; idx_vars i; pointwise [k0_pay558]
theorem pay_bf (X : FVec Ideal S1x128 .f32) : k0_pay559 X = X := by
  funext i; idx_vars i; pointwise [k0_pay559]
theorem pay_bi (X : FVec Ideal S1x128 .f32) : k0_pay560 X = X := by
  funext i; idx_vars i; pointwise [k0_pay560]

end Cert.KernelIdeal.Asm

end
-- ==== Proof.AsmStored.lean ====
/- What the assemble kernel's body leaves in its output block, as a function of its input blocks. -/
module

public import proofs.«01_k».proof.Proof.AsmRead
public import proofs.«01_k».proof.Proof.Gen.KernelIdeal.Value

@[expose] public section

set_option maxRecDepth 16384

noncomputable section

namespace Cert.KernelIdeal.Asm

open Idealize.ShloMosaic Idealize.ShloMosaic.TcCoe Idealize.SL.Sem
open Cert.KernelIdeal Cert.KernelIdeal.Gen

/-- A buffer that 128 row stores fill, each row loaded through an id, reads back as the named rows. -/
theorem rows_back {sig : RefSig} {κ : Kind} {sp : Space} {v : View sig κ sp S128x128 .f32} {L : List (View.Piece (Elt Ideal) S128x128 .f32)}
    {inb : ∀ a, (![0, 0] : Fin 2 → ℕ) a + S128x128.size a ≤ S128x128.size a} {A : M}
    (h : v.readCov L (Rect.unit (s := S128x128) ![0, 0] S128x128.size inb).toLoadRect = A)
    (X : FVec Ideal S10000x1x128 .f32) {I J : IVec S128x2 32} (col : Fin 2) (hi : I = J)
    (hp : View.PiecesOf (rowsOf X I col) L) (hc : ∀ y, ∃ p ∈ L, y ∈ p.1.set) : A = rowsOf X J col := by
  subst hi
  exact h.symm.trans (read_rows v _ L inb hp hc)

/-- One more stored row keeps the list a list of named rows. -/
theorem rows_cons {X : FVec Ideal S10000x1x128 .f32} {I : IVec S128x2 32} {col : Fin 2} {s n : ℕ}
    {h6 : ∀ a, (![s, 0] : Fin 2 → ℕ) a + (![1, 128] : Fin 2 → ℕ) a ≤ S128x128.size a} {o : Fin 3 → ℕ}
    {h3 : ∀ a, o a + (![1, 1, 128] : Fin 3 → ℕ) a ≤ S10000x1x128.size a}
    {h4 : (Rect.unit (s := S10000x1x128) o ![1, 1, 128] h3).shape.ShapeCasts S128}
    {h5 : S128.ShapeCasts S1x128} {L : List (View.Piece (Elt Ideal) S128x128 .f32)}
    {h1 : ∀ a, (![s, n] : Fin 2 → ℕ) a + (![1, 1] : Fin 2 → ℕ) a ≤ S128x2.size a}
    {h2 : 0 < (Rect.unit (s := S128x2) ![s, n] ![1, 1] h1).shape.numel}
    (ho : o = k0_off1 (View.ld (Val := Elt Ideal) (e' := .i32) I (Rect.unit (s := S128x2) ![s, n] ![1, 1] h1) (Shape.Idx.first h2)))
    (hn : n = col.val) (h : View.PiecesOf (rowsOf X I col) L) :
    View.PiecesOf (rowsOf X I col) (⟨Rect.unit (s := S128x128) ![s, 0] ![1, 128] h6, shapeCast S1x128 (shapeCast S128
      (View.ld (Val := Elt Ideal) (e' := .f32) X (Rect.unit (s := S10000x1x128) o ![1, 1, 128] h3)) h4) h5⟩ :: L) := by
  subst ho
  exact ⟨fun x => row_piece' X I col s n hn h1 h2 h3 h4 h5 h6 x, h⟩

/-- The slab of the last layer's weights that starts at row `n`. -/
abbrev slab (X : FVec Ideal S512x64 .f32) (n : ℕ) (h : ∀ a, (![n, 0] : Fin 2 → ℕ) a + S128x64.size a ≤ S512x64.size a) : FVec Ideal S128x64 .f32 :=
  View.ld (Val := Elt Ideal) (e' := .f32) X (Rect.unit (s := S512x64) ![n, 0] S128x64.size h)

seal View.readCov View.canon in
set_option maxHeartbeats 20000000 in
theorem stored (m : (ℓ : Loc nD τ sig) → Buf (Elt Ideal) ℓ) (hH : Hyps m) (c : Dev nD) (t : Fin cfg0.N) :
    outsAt0 m hH c t = storedV (rowsOf (iblk m c 1 t) (iblk m c 0 t) 0) (rowsOf (iblk m c 3 t) (iblk m c 0 t) 1) (rowsOf (iblk m c 2 t) (iblk m c 0 t) 0)
      (rowsOf (iblk m c 4 t) (iblk m c 0 t) 1) (iblk m c 5 t) (iblk m c 7 t) (iblk m c 6 t) (iblk m c 8 t) (iblk m c 10 t)
      (slab (iblk m c 9 t) 0 (by decide)) (slab (iblk m c 9 t) 128 (by decide)) (slab (iblk m c 9 t) 256 (by decide)) (slab (iblk m c 9 t) 384 (by decide)) := by
  unfold outsAt0
  frame_out
  generalize hA : View.readCov (Val := Elt Ideal) (View.whole cc0_scratch0) _ _ = A
  generalize hB : View.readCov (Val := Elt Ideal) (View.whole cc0_scratch1) _ _ = B
  generalize hC : View.readCov (Val := Elt Ideal) (View.whole cc0_scratch2) _ _ = C
  generalize hD : View.readCov (Val := Elt Ideal) (View.whole cc0_scratch3) _ _ = D
  have hi := (hs0_0 t).read_unread (Val := Elt Ideal) (iblk m c 0 t)
  have hA' := rows_back hA (iblk m c 1 t) 0 hi (by repeat' first | exact trivial | refine rows_cons rfl rfl ?_) (View.cover_of_tiled_head _ _ _ rfl)
  have hB' := rows_back hB (iblk m c 3 t) 1 hi (by repeat' first | exact trivial | refine rows_cons rfl rfl ?_) (View.cover_of_tiled_head _ _ _ rfl)
  have hC' := rows_back hC (iblk m c 2 t) 0 hi (by repeat' first | exact trivial | refine rows_cons rfl rfl ?_) (View.cover_of_tiled_head _ _ _ rfl)
  have hD' := rows_back hD (iblk m c 4 t) 1 hi (by repeat' first | exact trivial | refine rows_cons rfl rfl ?_) (View.cover_of_tiled_head _ _ _ rfl)
  clear hA hB hC hD
  subst hA' hB' hC' hD'
  rfl

end Cert.KernelIdeal.Asm

end
-- ==== Proof.AsmSpec.lean ====
/- The assemble kernel's result as one function of the argument arrays, over the extended reals. -/
module

public import proofs.«01_k».proof.Proof.AsmRows

@[expose] public section

noncomputable section

namespace Cert.Asm

open Idealize.ShloMosaic

abbrev Ids : Type := IVec ⟨2, ![16384, 3]⟩ 32
abbrev Table : Type := FVec Ideal ⟨2, ![10000, 128]⟩ .f32
abbrev Square : Type := FVec Ideal ⟨2, ![128, 128]⟩ .f32
abbrev Row : Type := FVec Ideal ⟨1, ![128]⟩ .f32

/-- Row `n` of a table, or zero where the table has no such row. -/
def table (X : Table) (n : ℕ) (k : Fin 128) : EReal := if h : n < 10000 then X (ix2 (⟨n, h⟩ : Fin 10000) k) else 0

theorem table_of (X : Table) (n : Fin 10000) (k : Fin 128) : table X n.val k = X (ix2 n k) := dif_pos n.isLt

/-- The four features of data row `i`: the user's embedding, the service's, and the two neighbour features. -/
def feats (d : Ids) (U S C E : Table) (i : Fin 16384) (q : Fin 4) (k : Fin 128) : EReal :=
  (![table U (d (ix2 i 1)).toNat k, table S (d (ix2 i 2)).toNat k, table C (d (ix2 i 1)).toNat k, table E (d (ix2 i 2)).toNat k] : Fin 4 → EReal) q

/-- The six pair vectors of data row `i`, from the weights as the arguments hold them. -/
def rowPairs (d : Ids) (U S C E : Table) (wi : Square) (bi : Row) (wf : Square) (bf : Row) (i : Fin 16384) : Fin 6 → Fin 128 → EReal :=
  pairs (fun j k => wf (ix2 k j)) (fun j k => wi (ix2 k j)) (fun k => bf (ix1 k)) (fun k => bi (ix1 k)) (feats d U S C E i)

/-- The result: each data row's output, all 64 entries. -/
def result (d : Ids) (U S C E : Table) (wi : Square) (bi : Row) (wf : Square) (bf : Row) (fw : FVec Ideal ⟨2, ![64, 512]⟩ .f32) (fb : FVec Ideal ⟨1, ![64]⟩ .f32)
    (i : Fin 16384) (j : Fin 64) : EReal :=
  rowOut (rowPairs d U S C E wi bi wf bf i) (fun r k => fw (ix2 j (⟨r.val * 128 + k.val, by omega⟩ : Fin 512))) (fb (ix1 j))

theorem rowPairs_nonneg (d : Ids) (U S C E : Table) (wi : Square) (bi : Row) (wf : Square) (bf : Row) (i : Fin 16384) (p : Fin 6) (k : Fin 128) :
    0 ≤ rowPairs d U S C E wi bi wf bf i p k := gate_nonneg _ _ _ _ _ _

/-- The square root keeps the order of numbers that are not negative. -/
theorem sqrt_lt_iff (a b : EReal) (ha : 0 ≤ a) (hb : 0 ≤ b) : Ideal.sqrt a < Ideal.sqrt b ↔ a < b := by
  induction a with
  | bot => exact absurd ha (by simp)
  | top => simp
  | coe x =>
    have hx : 0 ≤ x := EReal.coe_nonneg.mp ha
    induction b with
    | bot => exact absurd hb (by simp)
    | top => rw [Ideal.sqrt_coe, if_neg (not_lt.mpr hx), Ideal.sqrt_top]; simp [EReal.coe_lt_top]
    | coe y =>
      have hy : 0 ≤ y := EReal.coe_nonneg.mp hb
      rw [Ideal.sqrt_coe, Ideal.sqrt_coe, if_neg (not_lt.mpr hx), if_neg (not_lt.mpr hy), EReal.coe_lt_coe_iff, EReal.coe_lt_coe_iff]
      exact Real.sqrt_lt_sqrt_iff hx

end Cert.Asm

end
-- ==== Proof.AsmPoint.lean ====
/- The stored block at a row is the result of the data row whose numbers and tables the input blocks hold. -/
module

public import proofs.«01_k».proof.Proof.AsmRead
public import proofs.«01_k».proof.Proof.AsmSpec

@[expose] public section

set_option maxRecDepth 16384

noncomputable section

namespace Cert.KernelIdeal.Asm

open Idealize.ShloMosaic Idealize.ShloMosaic.TcCoe Idealize.SL.Sem
open Cert.KernelIdeal Cert.KernelIdeal.Gen Cert.Asm

/-- A named row of a block is the named row of the table that the block holds. -/
theorem rowsOf_table (X : FVec Ideal S10000x1x128 .f32) (T : Cert.Asm.Table) (hT : ∀ (n : Fin 10000) (k : Fin 128), X (ix3 n 0 k) = T (ix2 n k))
    (I : IVec S128x2 32) (col : Fin 2) (s k : Fin 128) (w : BitVec 32) (hw : I (ix2 s col) = w) : rowsOf X I col (ix2 s k) = table T w.toNat k := by
  subst hw
  unfold table
  by_cases h : (I (ix2 s col)).toNat < 10000
  · rw [dif_pos h, ← hT]
    exact rowsOf_at X I col s k h
  · rw [dif_neg h]
    exact dif_neg h

theorem storedV_at (d : Ids) (U S C E : Cert.Asm.Table) (wi : Square) (bi : Row) (wf : Square) (bf : Row) (fw : FVec Ideal ⟨2, ![64, 512]⟩ .f32)
    (fb : FVec Ideal ⟨1, ![64]⟩ .f32) (X1 X2 X3 X4 : FVec Ideal S10000x1x128 .f32) (I : IVec S128x2 32) (X5 X7 : M) (X6 X8 : FVec Ideal S1x128 .f32)
    (X10 : FVec Ideal S1x64 .f32) (W0 W1 W2 W3 : FVec Ideal S128x64 .f32) (i : Fin 16384) (s : Fin 128) (j : Fin 64)
    (hI : ∀ col : Fin 2, I (ix2 s col) = d (ix2 i (⟨col.val + 1, by omega⟩ : Fin 3)))
    (h1 : ∀ (n : Fin 10000) (k : Fin 128), X1 (ix3 n 0 k) = U (ix2 n k)) (h3 : ∀ (n : Fin 10000) (k : Fin 128), X3 (ix3 n 0 k) = S (ix2 n k))
    (h2 : ∀ (n : Fin 10000) (k : Fin 128), X2 (ix3 n 0 k) = C (ix2 n k)) (h4 : ∀ (n : Fin 10000) (k : Fin 128), X4 (ix3 n 0 k) = E (ix2 n k))
    (h5 : ∀ a b : Fin 128, X5 (ix2 a b) = wf (ix2 b a)) (h7 : ∀ a b : Fin 128, X7 (ix2 a b) = wi (ix2 b a))
    (h6 : ∀ k : Fin 128, X6 (ix2 0 k) = bf (ix1 k)) (h8 : ∀ k : Fin 128, X8 (ix2 0 k) = bi (ix1 k)) (h10 : X10 (ix2 0 j) = fb (ix1 j))
    (hW : ∀ (r : Fin 4) (k : Fin 128), (![W0, W1, W2, W3] r) (ix2 k j) = fw (ix2 j (⟨r.val * 128 + k.val, by omega⟩ : Fin 512))) :
    storedV (rowsOf X1 I 0) (rowsOf X3 I 1) (rowsOf X2 I 0) (rowsOf X4 I 1) X5 X7 X6 X8 X10 W0 W1 W2 W3 (ix2 s j)
      = result d U S C E wi bi wf bf fw fb i j := by
  rw [storedV_eq, pay_wf, pay_wi, pay_bf, pay_bi, fourV_at, h10]
  unfold result
  have hF : ∀ (q : Fin 4) (k : Fin 128), (![rowsOf X1 I 0, rowsOf X3 I 1, rowsOf X2 I 0, rowsOf X4 I 1] q) (ix2 s k) = feats d U S C E i q k := fun q k => by
    fin_cases q
    · exact rowsOf_table X1 U h1 I 0 s k _ (hI 0)
    · exact rowsOf_table X3 S h3 I 1 s k _ (hI 1)
    · exact rowsOf_table X2 C h2 I 0 s k _ (hI 0)
    · exact rowsOf_table X4 E h4 I 1 s k _ (hI 1)
  have hg : ∀ (p : Fin 6) (A B : M), (∀ k, A (ix2 s k) = feats d U S C E i (fstOf p) k) → (∀ k, B (ix2 s k) = feats d U S C E i (sndOf p) k) → ∀ k,
      gateV (addf A B) X5 X7 X6 X8 (ix2 s k) = rowPairs d U S C E wi bi wf bf i p k := fun p A B hA hB k => by
    rw [gateV_at]
    simp only [h5, h6, h7, h8]
    unfold rowPairs pairs
    refine congrArg (fun x => gate _ _ _ _ x k) (funext fun k => ?_)
    exact congrArg₂ (fun a b : EReal => a + b) (hA k) (hB k)
  refine congrArg₂ (fun T W => rowOut T W (fb (ix1 j))) (funext fun p => funext fun k => ?_) (funext fun r => funext fun k => hW r k)
  fin_cases p
  · exact hg 0 _ _ (hF 0) (hF 1) k
  · exact hg 1 _ _ (hF 0) (hF 2) k
  · exact hg 2 _ _ (hF 0) (hF 3) k
  · exact hg 3 _ _ (hF 1) (hF 2) k
  · exact hg 4 _ _ (hF 1) (hF 3) k
  · exact hg 5 _ _ (hF 2) (hF 3) k

end Cert.KernelIdeal.Asm

end
-- ==== Proof.AsmFinal.lean ====
/- The assemble kernel's result array is the result of the arguments. -/
module

public import proofs.«01_k».proof.Proof.AsmStored
public import proofs.«01_k».proof.Proof.AsmPoint
public import proofs.«01_k».proof.Proof.HypsIdeal
public import Idealize.ShloMosaic.Lib.Pipeline.ValueKit

@[expose] public section

set_option maxRecDepth 16384

noncomputable section

namespace Cert.KernelIdeal.Asm

open Idealize.ShloMosaic Idealize.ShloMosaic.TcCoe Idealize.SL.Sem
open Cert.KernelIdeal Cert.KernelIdeal.Gen Cert.Asm
open Idealize.ShloMosaic.Pipeline (Dat)

theorem idx : ∀ t : Fin cfg0.N, win0_0.index t = ![t.val, 0] ∧ win0_1.index t = ![0, 0, 0] ∧ win0_2.index t = ![0, 0, 0] ∧ win0_3.index t = ![0, 0, 0]
    ∧ win0_4.index t = ![0, 0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![t.val, 0] :=
  (by decide +kernel : ∀ t : Fin grid0.N, _)

variable (m : (ℓ : Loc nD τ sig) → Buf (Elt Ideal) ℓ) (c : Dev nD)

abbrev ids : Ids := m ((c : Thread nD τ).loc main_arg0)
abbrev users : Cert.Asm.Table := m ((c : Thread nD τ).loc main_arg1)
abbrev services : Cert.Asm.Table := m ((c : Thread nD τ).loc main_arg2)
abbrev userNear : Cert.Asm.Table := m ((c : Thread nD τ).loc main_arg3)
abbrev serviceNear : Cert.Asm.Table := m ((c : Thread nD τ).loc main_arg4)
abbrev wi : Square := m ((c : Thread nD τ).loc main_arg5)
abbrev bi : Row := m ((c : Thread nD τ).loc main_arg6)
abbrev wf : Square := m ((c : Thread nD τ).loc main_arg7)
abbrev bf : Row := m ((c : Thread nD τ).loc main_arg8)
abbrev fw : FVec Ideal ⟨2, ![64, 512]⟩ .f32 := m ((c : Thread nD τ).loc main_arg9)
abbrev fb : FVec Ideal ⟨1, ![64]⟩ .f32 := m ((c : Thread nD τ).loc main_arg10)

/-- The result as an array. -/
def resultV : FVec Ideal S16384x64 .f32 := fun y =>
  result (ids m c) (users m c) (services m c) (userNear m c) (serviceNear m c) (wi m c) (bi m c) (wf m c) (bf m c) (fw m c) (fb m c) (y 0) (y 1)

/-! ## The arrays the region reads, at an index -/

theorem user_entry (n : Fin 10000) (k : Fin 128) : (V m c (Pipeline.arrRef spec0 1) : FVec Ideal S10000x1x128 .f32) (ix3 n 0 k) = users m c (ix2 n k) := by
  entry_read
  pointwise

theorem near_entry (n : Fin 10000) (k : Fin 128) : (V m c (Pipeline.arrRef spec0 2) : FVec Ideal S10000x1x128 .f32) (ix3 n 0 k) = userNear m c (ix2 n k) := by
  entry_read
  pointwise

theorem service_entry (n : Fin 10000) (k : Fin 128) : (V m c (Pipeline.arrRef spec0 3) : FVec Ideal S10000x1x128 .f32) (ix3 n 0 k) = services m c (ix2 n k) := by
  entry_read
  pointwise

theorem serviceNear_entry (n : Fin 10000) (k : Fin 128) : (V m c (Pipeline.arrRef spec0 4) : FVec Ideal S10000x1x128 .f32) (ix3 n 0 k) = serviceNear m c (ix2 n k) := by
  entry_read
  pointwise

theorem wf_entry (a b : Fin 128) : (V m c (Pipeline.arrRef spec0 5) : FVec Ideal S128x128 .f32) (ix2 a b) = wf m c (ix2 b a) := by
  entry_read
  pointwise

theorem bf_entry (k : Fin 128) : (V m c (Pipeline.arrRef spec0 6) : FVec Ideal S1x128 .f32) (ix2 0 k) = bf m c (ix1 k) := by
  entry_read
  pointwise

theorem wi_entry (a b : Fin 128) : (V m c (Pipeline.arrRef spec0 7) : FVec Ideal S128x128 .f32) (ix2 a b) = wi m c (ix2 b a) := by
  entry_read
  pointwise

theorem bi_entry (k : Fin 128) : (V m c (Pipeline.arrRef spec0 8) : FVec Ideal S1x128 .f32) (ix2 0 k) = bi m c (ix1 k) := by
  entry_read
  pointwise

theorem fw_entry (a : Fin 512) (b : Fin 64) : (V m c (Pipeline.arrRef spec0 9) : FVec Ideal S512x64 .f32) (ix2 a b) = fw m c (ix2 b a) := by
  entry_read
  pointwise

theorem fb_entry (k : Fin 64) : (V m c (Pipeline.arrRef spec0 10) : FVec Ideal S1x64 .f32) (ix2 0 k) = fb m c (ix1 k) := by
  entry_read
  pointwise

/-! ## The blocks at a point, at an index -/

theorem user_blk (t : Fin cfg0.N) (n : Fin 10000) (k : Fin 128) : (iblk m c 1 t : FVec Ideal S10000x1x128 .f32) (ix3 n 0 k) = users m c (ix2 n k) := by
  refine Eq.trans ?_ (user_entry m c n k)
  blk_point [iblk, idx t]

theorem near_blk (t : Fin cfg0.N) (n : Fin 10000) (k : Fin 128) : (iblk m c 2 t : FVec Ideal S10000x1x128 .f32) (ix3 n 0 k) = userNear m c (ix2 n k) := by
  refine Eq.trans ?_ (near_entry m c n k)
  blk_point [iblk, idx t]

theorem service_blk (t : Fin cfg0.N) (n : Fin 10000) (k : Fin 128) : (iblk m c 3 t : FVec Ideal S10000x1x128 .f32) (ix3 n 0 k) = services m c (ix2 n k) := by
  refine Eq.trans ?_ (service_entry m c n k)
  blk_point [iblk, idx t]

theorem serviceNear_blk (t : Fin cfg0.N) (n : Fin 10000) (k : Fin 128) : (iblk m c 4 t : FVec Ideal S10000x1x128 .f32) (ix3 n 0 k) = serviceNear m c (ix2 n k) := by
  refine Eq.trans ?_ (serviceNear_entry m c n k)
  blk_point [iblk, idx t]

theorem wf_blk (t : Fin cfg0.N) (a b : Fin 128) : (iblk m c 5 t : FVec Ideal S128x128 .f32) (ix2 a b) = wf m c (ix2 b a) := by
  refine Eq.trans ?_ (wf_entry m c a b)
  blk_point [iblk, idx t]

theorem bf_blk (t : Fin cfg0.N) (k : Fin 128) : (iblk m c 6 t : FVec Ideal S1x128 .f32) (ix2 0 k) = bf m c (ix1 k) := by
  refine Eq.trans ?_ (bf_entry m c k)
  blk_point [iblk, idx t]

theorem wi_blk (t : Fin cfg0.N) (a b : Fin 128) : (iblk m c 7 t : FVec Ideal S128x128 .f32) (ix2 a b) = wi m c (ix2 b a) := by
  refine Eq.trans ?_ (wi_entry m c a b)
  blk_point [iblk, idx t]

theorem bi_blk (t : Fin cfg0.N) (k : Fin 128) : (iblk m c 8 t : FVec Ideal S1x128 .f32) (ix2 0 k) = bi m c (ix1 k) := by
  refine Eq.trans ?_ (bi_entry m c k)
  blk_point [iblk, idx t]

theorem fw_blk (t : Fin cfg0.N) (a : Fin 512) (b : Fin 64) : (iblk m c 9 t : FVec Ideal S512x64 .f32) (ix2 a b) = fw m c (ix2 b a) := by
  refine Eq.trans ?_ (fw_entry m c a b)
  blk_point [iblk, idx t]

theorem fb_blk (t : Fin cfg0.N) (k : Fin 64) : (iblk m c 10 t : FVec Ideal S1x64 .f32) (ix2 0 k) = fb m c (ix1 k) := by
  refine Eq.trans ?_ (fb_entry m c k)
  blk_point [iblk, idx t]

theorem ids_blk (t : Fin cfg0.N) (s : Fin 128) (col : Fin 2) (i : Fin 16384) (hi : i.val = t.val * 128 + s.val) :
    (iblk m c 0 t : IVec S128x2 32) (ix2 s col) = ids m c (ix2 i (⟨col.val + 1, by omega⟩ : Fin 3)) := by
  refine Eq.trans ?_ (ids_at m c i col)
  blk_point [iblk, idx t, hi]

/-- THE RESULT ARRAY. -/
theorem final (hH : Hyps m) : (dats m hH 0 c).arrAt 11 cfg0.N = resultV m c := by
  refine (dats m hH 0 c).arrAt_eq_of_covers 11 _ (by decide +kernel) fun t _ y => ?_
  blk_simp
  rw [after0_11, stored]
  idx_vars y
  have ht : t.val < 128 := lt_of_lt_of_eq t.isLt (by decide +kernel)
  let i : Fin 16384 := ⟨t.val * 128 + y0.val, by omega⟩
  have hi : i.val = t.val * 128 + y0.val := rfl
  have he : ((View.whole main_v17).slice (win0_11.rect t)).emb (ix2 y0 y1) = (ix2 i y1 : S16384x64.Idx) := by
    blk_ext [idx t, hi]
  refine Eq.trans ?_ (congrArg (resultV m c) he).symm
  refine storedV_at (ids m c) (users m c) (services m c) (userNear m c) (serviceNear m c) (wi m c) (bi m c) (wf m c) (bf m c) (fw m c) (fb m c)
    (iblk m c 1 t) (iblk m c 2 t) (iblk m c 3 t) (iblk m c 4 t) (iblk m c 0 t) (iblk m c 5 t) (iblk m c 7 t) (iblk m c 6 t) (iblk m c 8 t) (iblk m c 10 t)
    _ _ _ _ i y0 y1 (fun col => ids_blk m c t y0 col i hi) (user_blk m c t) (service_blk m c t) (near_blk m c t) (serviceNear_blk m c t)
    (wf_blk m c t) (wi_blk m c t) (bf_blk m c t) (bi_blk m c t) (fb_blk m c t y1) fun r k => ?_
  refine Eq.trans ?_ (fw_blk m c t (⟨r.val * 128 + k.val, by omega⟩ : Fin 512) y1)
  fin_cases r
  all_goals
    refine congrArg (iblk m c 9 t : FVec Ideal S512x64 .f32) (funext fun a => Fin.ext ?_)
    fin_cases a <;> simp [Rect.emb_apply, Rect.unit, ix2]

end Cert.KernelIdeal.Asm

end
-- ==== Proof.RefGather.lean ====
/- The reference's gathers read at an index: rows of the tables, features of a pair, and the selected pair vectors. -/
module

public import proofs.«01_k».proof.Proof.Gen.ReferenceIdeal.Run
public import Idealize.ShloMosaic.Lib.Pointwise

@[expose] public section

set_option maxRecDepth 16384

namespace Cert.ReferenceIdeal.Asm

open Idealize.ShloMosaic Idealize.ShloMosaic.TcCoe
open Cert.ReferenceIdeal Cert.ReferenceIdeal.Gen

/-- A gather is its operand at the index whose coordinates are the starts, batch and offset coordinates. -/
theorem gather_eq {α : Type} {s si t : Shape} (d : GatherDims s si t) {w : ℕ} (x : s.Idx → α) (idx : IVec si w) (j : t.Idx) (o : s.Idx)
    (h : ∀ a, d.start j idx a + d.batchCoord j a + d.offCoord j a = (o a).val) : Host.gather d x idx j = x o :=
  congrArg x (funext fun a => Fin.ext (h a))

/-- A word with a small value reads the same signed and clamped. -/
theorem clamp_eq (w : BitVec 32) (n b : ℕ) (hw : w.toNat = n) (hn : n ≤ b) (hb : b < 2 ^ 31) : min w.toInt.toNat b = n := by
  have e : w.toInt = (w.toNat : ℤ) := BitVec.toInt_eq_toNat_of_lt (by omega)
  rw [e, Int.toNat_natCast, hw]
  exact Nat.min_eq_left hn

/-- A table's row for a number. -/
theorem row_at {α : Type} (x : S10000x128.Idx → α) (idx : IVec S16384x1 32) (i : Fin 16384) (k : Fin 128) (n : Fin 10000)
    (hn : (idx (ix2 i 0)).toNat = n.val) :
    Host.gather gather_S10000x128_S16384x1_S16384x128_1_0_n_n_0_1_1128 x idx (ix2 i k) = x (ix2 n k) := by
  refine gather_eq _ x idx _ _ fun a => ?_
  fin_cases a
  · refine Eq.trans ?_ (clamp_eq (idx (ix2 i 0)) n.val 9999 hn (by omega) (by norm_num))
    show min (idx (GatherDims.siIdx _ (ix2 i k) _)).toInt.toNat 9999 + 0 + 0 = _
    refine congrArg (fun z => min (idx z).toInt.toNat 9999) (funext fun b => Fin.ext ?_)
    fin_cases b <;> rfl
  · show 0 + 0 + k.val = k.val
    omega

/-- A feature for a place. -/
theorem feat_at {α : Type} (x : S16384x4x128.Idx → α) (idx : IVec S6x1 32) (i : Fin 16384) (p : Fin 6) (k : Fin 128) (q : Fin 4)
    (hq : (idx (ix2 p 0)).toNat = q.val) :
    Host.gather gather_S16384x4x128_S6x1_S16384x6x128_02_1_n_n_1_1_163841128 x idx (ix3 i p k) = x (ix3 i q k) := by
  refine gather_eq _ x idx _ _ fun a => ?_
  fin_cases a
  · show 0 + 0 + i.val = i.val
    omega
  · refine Eq.trans ?_ (clamp_eq (idx (ix2 p 0)) q.val 3 hq (by omega) (by norm_num))
    show min (idx (GatherDims.siIdx _ (ix3 i p k) _)).toInt.toNat 3 + 0 + 0 = _
    refine congrArg (fun z => min (idx z).toInt.toNat 3) (funext fun b => Fin.ext ?_)
    fin_cases b <;> rfl
  · show 0 + 0 + k.val = k.val
    omega

/-- A pair vector for a place, row by row. -/
theorem pick_at {α : Type} (x : S16384x6x128.Idx → α) (idx : IVec S16384x4x1 32) (i : Fin 16384) (r : Fin 4) (k : Fin 128) (p : Fin 6)
    (hp : (idx (ix3 i r 0)).toNat = p.val) :
    Host.gather gather_S16384x6x128_S16384x4x1_S16384x4x128_2_1_0_0_1_2_11128 x idx (ix3 i r k) = x (ix3 i p k) := by
  refine gather_eq _ x idx _ _ fun a => ?_
  fin_cases a
  · show 0 + i.val + 0 = i.val
    omega
  · refine Eq.trans ?_ (clamp_eq (idx (ix3 i r 0)) p.val 5 hp (by omega) (by norm_num))
    show min (idx (GatherDims.siIdx _ (ix3 i r k) _)).toInt.toNat 5 + 0 + 0 = _
    refine congrArg (fun z => min (idx z).toInt.toNat 5) (funext fun b => Fin.ext ?_)
    fin_cases b <;> rfl
  · show 0 + 0 + k.val = k.val
    omega

end Cert.ReferenceIdeal.Asm

end
-- ==== Proof.RefTop.lean ====
/- The reference's top-k indices read at a place: the positions a stable sort by decreasing norm puts first. -/
module

public import proofs.«01_k».proof.Proof.RefGather
public import proofs.«01_k».proof.Proof.AsmSpec

@[expose] public section

set_option maxRecDepth 16384

noncomputable section

namespace Cert.ReferenceIdeal.Asm

open Idealize.ShloMosaic Idealize.ShloMosaic.TcCoe
open Cert.ReferenceIdeal Cert.ReferenceIdeal.Gen

/-- Index `r` of row `i`: where the sort's place `r` comes from. -/
theorem top_at (x : FVec Ideal S16384x6 .f32) (h : S16384x6.Slices (fun _ => 0) S16384x4) (i : Fin 16384) (r : Fin 4) :
    (Host.topK S16384x4 1 (FloatOps.cmpfTotal .gt) x h).2 (ix2 i r)
      = BitVec.ofNat 32 (sortedFrom (fun a b : Fin 6 => decide (x (ix2 i b) < x (ix2 i a))) (r.castLE (by decide))).val := by
  have e : ∀ k : Fin 6, (ix2 i (r.castLE (by decide) : Fin 6) : S16384x6.Idx).along 1 k = ix2 i k := fun k => by
    funext a; fin_cases a <;> rfl
  have hs : ∀ v : IVec S16384x6 32, extractStridedSlice S16384x4 (fun _ => 0) v h (ix2 i r) = v (ix2 i (r.castLE (by decide) : Fin 6)) := fun v => by
    refine congrArg v (funext fun a => Fin.ext ?_)
    fin_cases a <;> exact Nat.zero_add _
  dsimp only [Host.topK]
  refine (hs _).trans ?_
  show BitVec.ofNat 32 (sortedFrom (fun a b : Fin 6 => FloatOps.cmpfTotal (F := Ideal) (φ := .f32) .gt (x ((ix2 i (r.castLE (by decide) : Fin 6) : S16384x6.Idx).along 1 a))
          (x ((ix2 i (r.castLE (by decide) : Fin 6) : S16384x6.Idx).along 1 b)) == 1#1) (r.castLE (by decide))).val = _
  refine congrArg (fun R : Fin 6 → Fin 6 → Bool => BitVec.ofNat 32 (sortedFrom R (r.castLE (by decide))).val) (funext fun a => funext fun b => ?_)
  rw [e, e]
  show (BitVec.ofBool (decide (x (ix2 i b) < x (ix2 i a))) == 1#1) = _
  cases decide (x (ix2 i b) < x (ix2 i a)) <;> rfl

end Cert.ReferenceIdeal.Asm

end
-- ==== Proof.RefPairs.lean ====
/- The reference's pair vectors read at an index. -/
module

public import proofs.«01_k».proof.Proof.RefTop

@[expose] public section

set_option maxRecDepth 16384

noncomputable section

namespace Cert.ReferenceIdeal.Asm

open Idealize.ShloMosaic Idealize.ShloMosaic.TcCoe Idealize.SL.Sem
open Cert.ReferenceIdeal Cert.ReferenceIdeal.Gen Cert.ReferenceIdeal.Value Cert.Asm

variable (V0 : Valuation τ sig (Elt Ideal))

abbrev ids : Ids := V0 (Proc.devRef .tc main_arg0)
abbrev users : Cert.Asm.Table := V0 (Proc.devRef .tc main_arg1)
abbrev services : Cert.Asm.Table := V0 (Proc.devRef .tc main_arg2)
abbrev userNear : Cert.Asm.Table := V0 (Proc.devRef .tc main_arg3)
abbrev serviceNear : Cert.Asm.Table := V0 (Proc.devRef .tc main_arg4)
abbrev wi : Square := V0 (Proc.devRef .tc main_arg5)
abbrev bi : Row := V0 (Proc.devRef .tc main_arg6)
abbrev wf : Square := V0 (Proc.devRef .tc main_arg7)
abbrev bf : Row := V0 (Proc.devRef .tc main_arg8)
abbrev fw : FVec Ideal ⟨2, ![64, 512]⟩ .f32 := V0 (Proc.devRef .tc main_arg9)
abbrev fb : FVec Ideal ⟨1, ![64]⟩ .f32 := V0 (Proc.devRef .tc main_arg10)

/-- The numbers name rows of the tables. -/
abbrev InRange : Prop := ∀ (i : Fin 16384) (j : Fin 2), (ids V0 (ix2 i (⟨j.val + 1, by omega⟩ : Fin 3))).toNat < 10000

/-- A word that is small as a number is not negative as a signed one, so the wrapped word is the word. -/
theorem wrap_small (w n : BitVec 32) (h : w.toNat < 10000) : Scalar.select (IntOp.cmpi .slt w 0#32) (IntOp.addi w n) w = w := by
  have e : IntOp.cmpi .slt w 0#32 = 0#1 := by
    have hn : ¬ w.toInt < (0#32 : BitVec 32).toInt := by
      rw [BitVec.toInt_eq_toNat_of_lt (by omega)]
      simp
    simp only [IntOp.cmpi, BitVec.slt]
    rw [decide_eq_false hn]
    rfl
  rw [e]
  rfl

theorem user_at (i : Fin 16384) : res_main_v1 V0 (ix1 i) = ids V0 (ix2 i 1) := by
  pointwise [res_main_v1]

theorem service_at (i : Fin 16384) : res_main_v3 V0 (ix1 i) = ids V0 (ix2 i 2) := by
  pointwise [res_main_v3]

/-- A number's row of a table, through the wrapped numbers. -/
theorem table_at (x : Cert.Asm.Table) (v : IVec S16384 32) (i : Fin 16384) (k : Fin 128) (h : (v (ix1 i)).toNat < 10000) :
    Host.gather gather_S10000x128_S16384x1_S16384x128_1_0_n_n_0_1_1128 x (broadcastInDim S16384x1 ![0] bcast_S16384_S16384x1_0
      (select (cmpi .slt v (broadcastInDim S16384 ![] bcast_S_S16384 (constantI S_ 32 0#32)))
        (addi v (broadcastInDim S16384 ![] bcast_S_S16384 (constantI S_ 32 10000#32))) v)) (ix2 i k) = table x (v (ix1 i)).toNat k := by
  refine (row_at x _ i k ⟨_, h⟩ (congrArg BitVec.toNat (Eq.trans ?_ (wrap_small (v (ix1 i)) 10000#32 h)))).trans (table_of x ⟨_, h⟩ k).symm
  pointwise

theorem feats_at (h : InRange V0) (i : Fin 16384) (q : Fin 4) (k : Fin 128) :
    res_main_v36 V0 (ix3 i q k) = feats (ids V0) (users V0) (services V0) (userNear V0) (serviceNear V0) i q k := by
  have hu : (res_main_v1 V0 (ix1 i)).toNat < 10000 := by rw [user_at]; exact h i 0
  have hs : (res_main_v3 V0 (ix1 i)).toNat < 10000 := by rw [service_at]; exact h i 1
  fin_cases q
  all_goals pointwise [res_main_v36]
  · exact (table_at (users V0) _ i k hu).trans (by rw [user_at]; rfl)
  · exact (table_at (services V0) _ i k hs).trans (by rw [service_at]; rfl)
  · exact (table_at (userNear V0) _ i k hu).trans (by rw [user_at]; rfl)
  · exact (table_at (serviceNear V0) _ i k hs).trans (by rw [service_at]; rfl)

/-- The pair sums. -/
theorem pairSum_at (h : InRange V0) (i : Fin 16384) (p : Fin 6) (k : Fin 128) :
    res_main_v51 V0 (ix3 i p k) = feats (ids V0) (users V0) (services V0) (userNear V0) (serviceNear V0) i (fstOf p) k
      + feats (ids V0) (users V0) (services V0) (userNear V0) (serviceNear V0) i (sndOf p) k := by
  rw [← feats_at V0 h, ← feats_at V0 h]
  pointwise [res_main_v51]
  refine congrArg₂ (fun a b : EReal => a + b) (feat_at _ _ i p k (fstOf p) ?_) (feat_at _ _ i p k (sndOf p) ?_)
  · fin_cases p <;> rfl
  · fin_cases p <;> rfl

/-- The forget gate. -/
theorem forget_at (i : Fin 16384) (p : Fin 6) (k : Fin 128) :
    res_main_v62 V0 (ix3 i p k) = Ideal.logistic (lin (fun j k => wf V0 (ix2 k j)) (fun k => bf V0 (ix1 k)) (fun j => res_main_v51 V0 (ix3 i p j)) k) := by
  pointwise [res_main_v62]
  rfl

/-- The pair vectors after the rectifier. -/
theorem pair_at (h : InRange V0) (i : Fin 16384) (p : Fin 6) (k : Fin 128) :
    res_main_v73 V0 (ix3 i p k)
      = rowPairs (ids V0) (users V0) (services V0) (userNear V0) (serviceNear V0) (wi V0) (bi V0) (wf V0) (bf V0) i p k := by
  have e : (fun j => res_main_v51 V0 (ix3 i p j)) = fun k => feats (ids V0) (users V0) (services V0) (userNear V0) (serviceNear V0) i (fstOf p) k
      + feats (ids V0) (users V0) (services V0) (userNear V0) (serviceNear V0) i (sndOf p) k := funext fun k => pairSum_at V0 h i p k
  unfold rowPairs pairs
  rw [← e]
  pointwise [res_main_v73, gate, lin]
  rw [forget_at]
  rfl

/-- The norms. -/
theorem norm_at (h : InRange V0) (i : Fin 16384) (p : Fin 6) :
    res_main_v74 V0 (ix2 i p)
      = Ideal.sqrt (sqnorm (rowPairs (ids V0) (users V0) (services V0) (userNear V0) (serviceNear V0) (wi V0) (bi V0) (wf V0) (bf V0) i p)) := by
  pointwise [res_main_v74, sqnorm]
  refine congrArg Ideal.sqrt (Finset.sum_congr rfl fun k _ => ?_)
  exact congrArg₂ (fun a b : EReal => a * b) (pair_at V0 h i p k) (pair_at V0 h i p k)

end Cert.ReferenceIdeal.Asm

end
-- ==== Proof.RefValue.lean ====
/- The reference's result read at an index. -/
module

public import proofs.«01_k».proof.Proof.RefPairs

@[expose] public section

set_option maxRecDepth 16384

noncomputable section

namespace Cert.ReferenceIdeal.Asm

open Idealize.ShloMosaic Idealize.ShloMosaic.TcCoe Idealize.SL.Sem
open Cert.ReferenceIdeal Cert.ReferenceIdeal.Gen Cert.ReferenceIdeal.Value Cert.Asm Cert.Select
open scoped BigOperators

variable (V0 : Valuation τ sig (Elt Ideal))

/-- The pair vectors of a row as the arguments give them. -/
abbrev pairsOf (i : Fin 16384) : Fin 6 → Fin 128 → EReal :=
  rowPairs (ids V0) (users V0) (services V0) (userNear V0) (serviceNear V0) (wi V0) (bi V0) (wf V0) (bf V0) i

/-- The place that round `r` picks in row `i`. -/
abbrev placeOf (i : Fin 16384) (r : Fin 4) : Fin 6 := sel (fun p => sqnorm (pairsOf V0 i p)) r.val

/-- The top-k index is the place the rounds pick. -/
theorem index_at (h : InRange V0) (i : Fin 16384) (r : Fin 4) : res_main_v75 V0 (ix3 i r 0) = BitVec.ofNat 32 (placeOf V0 i r).val := by
  have hn : ∀ p, 0 ≤ sqnorm (pairsOf V0 i p) := fun p => sqnorm_nonneg _ fun k => rowPairs_nonneg _ _ _ _ _ _ _ _ _ i p k
  have e := sortedFrom_eq_sel (fun p => sqnorm (pairsOf V0 i p)) (fun p => res_main_v74 V0 (ix2 i p))
    (fun a b => by rw [norm_at V0 h, norm_at V0 h]; exact sqrt_lt_iff _ _ (hn a) (hn b)) (fun q => lt_of_lt_of_le EReal.bot_lt_zero (hn q))
    (r.castLE (by decide))
  unfold placeOf
  refine Eq.trans ?_ (congrArg (fun z : Fin 6 => BitVec.ofNat 32 z.val) e)
  refine Eq.trans ?_ (top_at (res_main_v74 V0) sliceFits_S16384x6_S16384x4 i r)
  pointwise [res_main_v75]

theorem wrapped_at (h : InRange V0) (i : Fin 16384) (r : Fin 4) : res_main_call2_v4 V0 (ix3 i r 0) = BitVec.ofNat 32 (placeOf V0 i r).val := by
  have hp : (BitVec.ofNat 32 (placeOf V0 i r).val).toNat < 10000 := by
    rw [BitVec.toNat_ofNat]
    exact lt_of_le_of_lt (Nat.mod_le _ _) (by omega)
  rw [← index_at V0 h] at hp ⊢
  refine Eq.trans ?_ (wrap_small _ 6#32 hp)
  pointwise [res_main_call2_v4]

theorem fold_one {ι : Type} (S : Finset ι) (f : ι → BitVec 1) (hf : ∀ x, f x = 1#1) : S.fold IntOp.andi 1#1 f = 1#1 := by
  classical
  induction S using Finset.induction_on with
  | empty => rfl
  | insert a T ha ih => rw [Finset.fold_insert ha, ih, hf]; rfl

/-- One index passes the range check. -/
theorem check_at (h : InRange V0) (x : S16384x4x1.Idx) :
    IntOp.andi (IntOp.cmpi .sge ((res_main_call2_v4 V0 : IVec S16384x4x1 32) x) 0#32) (IntOp.cmpi .sle ((res_main_call2_v4 V0 : IVec S16384x4x1 32) x) 5#32) = 1#1 := by
  idx_vars x
  obtain rfl : x2 = 0 := Subsingleton.elim _ _
  have hc : ∀ p : Fin 6, IntOp.andi (IntOp.cmpi .sge (BitVec.ofNat 32 p.val) 0#32) (IntOp.cmpi .sle (BitVec.ofNat 32 p.val) 5#32) = 1#1 := by decide
  refine Eq.trans (congrArg (fun w : BitVec 32 => IntOp.andi (IntOp.cmpi .sge w 0#32) (IntOp.cmpi .sle w 5#32)) (wrapped_at V0 h x0 x1)) (hc _)

/-- Every index passes the range check. -/
theorem valid_at (h : InRange V0) (y : S16384x4.Idx) :
    Host.reduce IntOp.andi (andi (cmpi .sge (res_main_call2_v4 V0) (broadcastInDim S16384x4x1 ![] bcast_S_S16384x4x1 (constantI S_ 32 0#32)))
      (cmpi .sle (res_main_call2_v4 V0) (broadcastInDim S16384x4x1 ![0, 1, 2] bcast_S1x1x1_S16384x4x1_0_1_2 (broadcastInDim S1x1x1 ![2] bcast_S1_S1x1x1_2 (constantI S1 32 5#32)))))
      (constantI S_ 1 1#1) reducesTo_S16384x4x1_S16384x4_d2 h_S_ y = 1#1 := by
  idx_vars y
  pointwise
  refine fold_one _ _ fun x => ?_
  exact check_at V0 h x

/-- The selected vectors. -/
def chosen : FVec Ideal S16384x4x128 .f32 :=
  select (broadcastInDim S16384x4x128 ![0, 1] bcast_S16384x4_S16384x4x128_0_1 (Host.reduce IntOp.andi (andi (cmpi .sge (res_main_call2_v4 V0) (broadcastInDim S16384x4x1 ![] bcast_S_S16384x4x1 (constantI S_ 32 0#32))) (cmpi .sle (res_main_call2_v4 V0) (broadcastInDim S16384x4x1 ![0, 1, 2] bcast_S1x1x1_S16384x4x1_0_1_2 (broadcastInDim S1x1x1 ![2] bcast_S1_S1x1x1_2 (constantI S1 32 5#32))))) (constantI S_ 1 1#1) reducesTo_S16384x4x1_S16384x4_d2 h_S_)) (Host.gather gather_S16384x6x128_S16384x4x1_S16384x4x128_2_1_0_0_1_2_11128 (res_main_v73 V0) (res_main_call2_v4 V0)) (broadcastInDim S16384x4x128 ![] bcast_S_S16384x4x128 (constant S_ .f32 0x7FC00000#32))

theorem chosen_at (h : InRange V0) (i : Fin 16384) (r : Fin 4) (k : Fin 128) : chosen V0 (ix3 i r k) = pairsOf V0 i (placeOf V0 i r) k := by
  have hp : (res_main_call2_v4 V0 (ix3 i r 0)).toNat = (placeOf V0 i r).val := by
    rw [wrapped_at V0 h, BitVec.toNat_ofNat]
    exact Nat.mod_eq_of_lt (by omega)
  refine Eq.trans ?_ ((pick_at (res_main_v73 V0) (res_main_call2_v4 V0) i r k _ hp).trans (pair_at V0 h i _ k))
  unfold chosen
  show Scalar.select (Host.reduce _ _ _ _ _ _) _ _ = _
  rw [valid_at V0 h]
  rfl

/-- The reference's result as its run states it. -/
def REF : FVec Ideal S16384x64 .f32 :=
  addf (Host.dotGeneral dot_S16384x512_S512x64_S16384x64_1_0_0_1_n_n none (shapeCast S16384x512 (chosen V0) shapeCasts_S16384x4x128_S16384x512)
    (transpose S512x64 [1, 0] (fw V0) transposes_S64x512_S512x64_1_0))
    (broadcastInDim S16384x64 ![0, 1] bcast_S1x64_S16384x64_0_1 (broadcastInDim S1x64 ![1] bcast_S64_S1x64_1 (fb V0)))

/-- A contraction over 512 entries is the four slabs' contractions. -/
theorem sum_slabs (f : Fin 4 → Fin 128 → EReal) (g : Fin 512 → EReal) (F : Fin 512 → EReal)
    (hF : ∀ (r : Fin 4) (k : Fin 128), F ⟨r.val * 128 + k.val, by omega⟩ = f r k * g ⟨r.val * 128 + k.val, by omega⟩) :
    ∑ x, F x = (∑ k, f 0 k * g ⟨(0 : Fin 4).val * 128 + k.val, by omega⟩) + (∑ k, f 1 k * g ⟨(1 : Fin 4).val * 128 + k.val, by omega⟩)
      + (∑ k, f 2 k * g ⟨(2 : Fin 4).val * 128 + k.val, by omega⟩) + ∑ k, f 3 k * g ⟨(3 : Fin 4).val * 128 + k.val, by omega⟩ := by
  rw [Fin.sum_univ_tiles 4 128 rfl F, Fin.sum_univ_four]
  simp only [← hF]

theorem ref_at (h : InRange V0) (i : Fin 16384) (j : Fin 64) :
    REF V0 (ix2 i j) = result (ids V0) (users V0) (services V0) (userNear V0) (serviceNear V0) (wi V0) (bi V0) (wf V0) (bf V0) (fw V0) (fb V0) i j := by
  unfold result rowOut
  pointwise [REF]
  rw [add_comm]
  rw [sum_slabs (fun r k => pairsOf V0 i (placeOf V0 i r) k) (fun x => fw V0 (ix2 j x)) _ fun r k => ?_]
  · simp only [add_assoc]
    rfl
  · have e1 : (⟨(r.val * 128 + k.val) / 128, by omega⟩ : Fin 4) = r := Fin.ext (by show (r.val * 128 + k.val) / 128 = r.val; omega)
    have e2 : (⟨(r.val * 128 + k.val) % 128, by omega⟩ : Fin 128) = k := Fin.ext (by show (r.val * 128 + k.val) % 128 = k.val; omega)
    refine congrArg (fun z : EReal => z * fw V0 (ix2 j (⟨r.val * 128 + k.val, by omega⟩ : Fin 512))) (Eq.trans ?_ (chosen_at V0 h i r k))
    exact congrArg₂ (fun a b => chosen V0 (ix3 i a b)) e1 e2

end Cert.ReferenceIdeal.Asm

end
-- ==== Proof.AsmClaim.lean ====
/- The value claim: the assemble kernel and its reference end with the same result. -/
module

public import proofs.«01_k».proof.Defs
public import proofs.«01_k».proof.Proof.AsmFinal
public import proofs.«01_k».proof.Proof.RefValue
public import Idealize.ShloMosaic.Lib.Claim

@[expose] public section

set_option maxRecDepth 16384

noncomputable section

namespace Cert.AsmClaim

open Idealize.ShloMosaic Idealize.ShloMosaic.TcCoe Idealize.SL.Sem Idealize.ShloMosaic.StableHlo

attribute [local instance] Cert.KernelIdeal.Gen.facts Cert.ReferenceIdeal.Gen.facts Cert.Pre_ids_in_range.Gen.facts

/-- From equal arguments the two results are equal. -/
theorem values (m : (ℓ : Loc Cert.KernelIdeal.nD Cert.KernelIdeal.τ Cert.KernelIdeal.sig) → Buf (Elt Ideal) ℓ) (h : Cert.Pre_KernelIdeal m)
    (c : Dev Cert.KernelIdeal.nD) (V0 : Valuation Cert.ReferenceIdeal.τ Cert.ReferenceIdeal.sig (Elt Ideal))
    (h0 : Cert.ReferenceIdeal.Asm.ids V0 = Cert.KernelIdeal.Asm.ids m c) (h1 : Cert.ReferenceIdeal.Asm.users V0 = Cert.KernelIdeal.Asm.users m c)
    (h2 : Cert.ReferenceIdeal.Asm.services V0 = Cert.KernelIdeal.Asm.services m c) (h3 : Cert.ReferenceIdeal.Asm.userNear V0 = Cert.KernelIdeal.Asm.userNear m c)
    (h4 : Cert.ReferenceIdeal.Asm.serviceNear V0 = Cert.KernelIdeal.Asm.serviceNear m c) (h5 : Cert.ReferenceIdeal.Asm.wi V0 = Cert.KernelIdeal.Asm.wi m c)
    (h6 : Cert.ReferenceIdeal.Asm.bi V0 = Cert.KernelIdeal.Asm.bi m c) (h7 : Cert.ReferenceIdeal.Asm.wf V0 = Cert.KernelIdeal.Asm.wf m c)
    (h8 : Cert.ReferenceIdeal.Asm.bf V0 = Cert.KernelIdeal.Asm.bf m c) (h9 : Cert.ReferenceIdeal.Asm.fw V0 = Cert.KernelIdeal.Asm.fw m c)
    (h10 : Cert.ReferenceIdeal.Asm.fb V0 = Cert.KernelIdeal.Asm.fb m c) :
    Cert.ReferenceIdeal.Asm.REF V0 = Cert.KernelIdeal.Asm.resultV m c := by
  have hr : Cert.ReferenceIdeal.Asm.InRange V0 := fun i j => by
    have e := Cert.Ids.lt_of_pre _ _ _ _ _ _ _ _ _ _ _ (h c) i j
    rw [h0]
    exact e
  funext y
  idx_vars y
  rw [Cert.ReferenceIdeal.Asm.ref_at V0 hr, h0, h1, h2, h3, h4, h5, h6, h7, h8, h9, h10]
  rfl

theorem algebraic : Cert.algebraic_KernelIdeal_ReferenceIdeal := by
  pair_intro
  · run_from Cert.KernelIdeal.Value.run_blocks m g (Cert.KernelIdeal.Asm.hyps_of_pre m hpre)
  · refine (θ_run _ _ _).mono (fun r hr c => ?_) (Cert.ReferenceIdeal.Value.run m' g')
    obtain ⟨hv, hargs⟩ := hr c
    refine ⟨hv.trans (Eq.trans ?_ (Cert.KernelIdeal.Asm.final m c (Cert.KernelIdeal.Asm.hyps_of_pre m hpre)).symm), hargs⟩
    obtain ⟨h0, h1, h2, h3, h4, h5, h6, h7, h8, h9, h10⟩ := hagree c
    exact values m hpre c (launchContents m' c) h0 h1 h2 h3 h4 h5 h6 h7 h8 h9 h10

end Cert.AsmClaim

end
-- ==== Proof.ConvRun.lean ====
/- The body of the convolution call, run once: which pieces it leaves in its output block and in its scratch array. -/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Conv

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A word below ten thousand names a row of the table. -/
theorem names (w : BitVec 32) (h : w.toNat < 10000) : k0_chk1 w := by
  intro a
  fin_cases a <;> simp [k0_off1, Scalar.indexCast] <;> omega

/-- A word read off a block of numbers below ten thousand is below ten thousand. -/
theorem word_lt (arg1 : Memref sig .tc .smem S16x32 .i32) (harg1 : arg1.IsWhole) (x0 : Vec F S16x32 .i32)
    (hw : ∀ y, BitVec.toNat (x0 y : BitVec 32) < 10000) (R : LoadRect S16x32) (i : R.shape.Idx) :
    BitVec.toNat (arg1.view.readAt (Elt F) R (harg1.unread x0) i : BitVec 32) < 10000 := by
  simp only [View.readAt_apply, Memref.IsWhole.read_unread]
  exact hw _

set_option maxHeartbeats 20000000 in
/-- The body, from its blocks held whole and numbers below ten thousand, runs; the inputs stay; the pieces it wrote to the output
    block and the scratch array are the ones found here. -/
def bodyRun (c : Dev nD) (i : grid0.Coords) (arg1 : Memref sig .tc .smem S16x32 .i32) (harg1 : arg1.IsWhole)
    (arg2 : Memref sig .tc .vmem S10000x7x128 .f32) (harg2 : arg2.IsWhole) (arg3 : Memref sig .tc .vmem S16x224 .f32) (harg3 : arg3.IsWhole)
    (arg4 : Memref sig .tc .smem S1x1 .f32) (harg4 : arg4.IsWhole) (arg5 : Memref sig .tc .vmem S16x128 .f32) (harg5 : arg5.IsWhole)
    (arg6 : Memref sig .tc .vmem S224x2048 .f32) (harg6 : arg6.IsWhole)
    (x0 : Vec F S16x32 .i32) (x1 : Vec F S10000x7x128 .f32) (x2 : Vec F S16x224 .f32) (x3 : Vec F S1x1 .f32)
    (hw : ∀ y, BitVec.toNat (x0 y : BitVec 32) < 10000) :
    Σ' (L : List (View.Piece (Elt F) S16x128 .f32)), { T : List (View.Piece (Elt F) S224x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3
                ∗ (∃ f, arg5.view.loc (c : Thread nD τ) ↦[arg5.view.set]{fullShare} arg5.view.writes (Elt F) f L)
                ∗ (∃ f, arg6.view.loc (c : Thread nD τ) ↦[arg6.view.set]{fullShare} arg6.view.writes (Elt F) f T)) -∗ K ⟨⟩))
          ⊢ wp frame (wpE (defs₀ (F := F)) Variants.none c none) E
              (cc0__conv_kernel i arg1 harg1 arg2 harg2 arg3 harg3 arg4 harg4 arg5 harg5 arg6 harg6) K } := by
  refine ⟨?_, ?_, fun E K => ?run⟩
  case run =>
    simp only [cc0__conv_kernel_eq_skeleton]; unfold cc0__conv_kernel_skel
    simp only [k0_part132_eq_skeleton, k0_part133_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton]
    unfold k0_part132_skel k0_part133_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg1.eq_unread hf0; obtain rfl := harg2.eq_unread hf1; obtain rfl := harg3.eq_unread hf2; obtain rfl := harg4.eq_unread hf3
    sl_exec (disch := sl_exact names _ (word_lt arg1 harg1 x0 hw _ _))
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

end Cert.Kernel2Ideal.Conv

end
-- ==== Proof.ConvFrame.lean ====
/- The convolution program's run: what the host lines leave for the call, what each point leaves in its output block, and the frame. -/
module

public import proofs.«01_k».proof.Proof.ConvRun

@[expose] public section

set_option maxRecDepth 16384

noncomputable section

namespace Cert.Kernel2Ideal.Conv

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines before the call. -/
abbrev hostLines : List (List (HloOp τ sig (Elt F))) := [hostOps0, hostOps0_1, hostOps0_2]

/-- The buffers as the call finds them. -/
abbrev V (c : Dev nD) (b : Ref sig .tc) : Buf (Elt F) ((c : Thread nD τ).loc b) := StableHlo.after (hostLines (F := F)).flatten (fun b => m (c, b)) b

theorem lines_fresh : (hostLines (F := F)).Forall fun ops => ops.Forall fun op => op.fresh = ∅ := by
  simp only [List.Forall]
  repeat' constructor

theorem lines_main : Pipeline.HMain (Ix := Unit) (Name := ℕ) (U := UR sig nD τ) (Lvl := ℕ) cfgs 0 defs₀ Variants.none m (main (F := F)) (V m) :=
  Pipeline.hmain_prefixes cfgs 0 defs₀ Variants.none m main hostLines ⟨hostOps0_sub, hostOps0_1_sub, hostOps0_2_sub⟩ lines_fresh main_chain

/-- A buffer that no host line writes is found as launched. -/
theorem V_kept (c : Dev nD) (b : Ref sig .tc)
    (h : (hostLines (F := F)).flatten.Forall fun op => Proc.devRef (τ := τ) .tc b ∉ op.writes) : V m c b = m ((c : Thread nD τ).loc b) :=
  StableHlo.after_of_forall_not_mem (b := Proc.devRef .tc b) _ _ (List.forall_iff_forall_mem.mp h)

/-- No host line writes an argument. -/
theorem V_arg (c : Dev nD) (b : Ref sig .tc) (hb : b = main_arg0 ∨ b = main_arg1 ∨ b = main_arg2 ∨ b = main_arg3) :
    V m c b = m ((c : Thread nD τ).loc b) := by
  apply V_kept
  simp only [hostLines, hostOps0, hostOps0_1, hostOps0_2, List.flatten_cons, List.flatten_nil, List.append_nil, List.cons_append, List.nil_append, List.Forall,
    StableHlo.TRef.unary, StableHlo.TRef.binary, StableHlo.nullary_writes, StableHlo.unary_writes, StableHlo.binary_writes, StableHlo.nary_writes, StableHlo.reshape_writes, Finset.mem_singleton]
  rcases hb with rfl | rfl | rfl | rfl <;> repeat' apply And.intro
  all_goals exact StableHlo.devRef_ne_of_ne (by decide)

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The numbers the call reads lie below ten thousand. -/
def Small : Prop := ∀ (c : Dev nD) (t : Fin cfg0.N) (y : S16x32.Idx), BitVec.toNat ((iblk m c 0 t : Vec F S16x32 .i32) y : BitVec 32) < 10000

/-! ## What each point leaves in its output block -/

/-- The output window's first staging buffer; contents are stated through it. -/
abbrev outView : View sig .tc .vmem S16x128 .f32 := (Memref.whole cc0_stg4_0 : Memref sig .tc .vmem S16x128 .f32).view

/-- The run of the body on the buffers and blocks of point `t`. -/
abbrev runAt (hS : Small m) (c : Dev nD) (t : Fin cfg0.N) :=
  bodyRun (F := F) c (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (Memref.whole cc0_scratch0) (Memref.isWhole_whole _)
    (iblk m c 0 t) (iblk m c 1 t) (iblk m c 2 t) (iblk m c 3 t) (hS c t)

/-- The output block after point `t`: the pieces of the run, read back. -/
def outAt (hS : Small m) (c : Dev nD) (t : Fin cfg0.N) : Vec F S16x128 .f32 :=
  outView.read (Elt F) (outView.writes (Elt F) outView.junk (runAt m hS c t).1)

set_option maxHeartbeats 4000000 in
/-- The run's sixteen output rows are the whole block. -/
theorem rows_cover (hS : Small m) (c : Dev nD) (t : Fin cfg0.N) (y : S16x128.Idx) : ∃ pc ∈ (runAt m hS c t).1, y ∈ pc.1.set :=
  View.cover_of_tiledL (runAt m hS c t).1 S1x128.size (by sl_kernel_rfl) y

/-- The pipeline's data: inputs keep their blocks, the output block is `outAt`. -/
def dats (hS : Small m) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m hS c t
  Φ _ := Pipeline.ΦA spec0 c
  q _ := fullShare
  owed _ := 0

theorem dats_A (hS : Small m) (c : Dev nD) (w : Fin cfg0.W) : (dats m hS 0 c).A w = V m c (Pipeline.arrRef spec0 w) := by
  dsimp only [dats]

theorem after_in (hS : Small m) (c : Dev nD) (t : Fin cfg0.N) :
    (dats m hS 0 c).after 0 t = iblk m c 0 t ∧ (dats m hS 0 c).after 1 t = iblk m c 1 t
      ∧ (dats m hS 0 c).after 2 t = iblk m c 2 t ∧ (dats m hS 0 c).after 3 t = iblk m c 3 t := by
  dsimp only [dats]
  exact ⟨rfl, rfl, rfl, rfl⟩

theorem after_out (hS : Small m) (c : Dev nD) (t : Fin cfg0.N) : (dats m hS 0 c).after 4 t = outAt m hS c t := by
  dsimp only [dats]

theorem before_0 (hS : Small m) (c : Dev nD) (t : Fin cfg0.N) (d) : (dats m hS 0 c).before 0 t d = iblk m c 0 t :=
  ((dats m hS 0 c).before_in_eq_fetched 0 rfl (fun _ => rfl) (fun _ _ _ => rfl)
    (fun s => by rw [(after_in m hS c s).1]; unfold Dat.blockOf iblk; rw [dats_A]; try rfl) t d).trans
    (by unfold Dat.fetched Dat.blockOf iblk; rw [dats_A]; try rfl)

theorem before_1 (hS : Small m) (c : Dev nD) (t : Fin cfg0.N) (d) : (dats m hS 0 c).before 1 t d = iblk m c 1 t :=
  ((dats m hS 0 c).before_in_eq_fetched 1 rfl (fun _ => rfl) (fun _ _ _ => rfl)
    (fun s => by rw [(after_in m hS c s).2.1]; unfold Dat.blockOf iblk; rw [dats_A]; try rfl) t d).trans
    (by unfold Dat.fetched Dat.blockOf iblk; rw [dats_A]; try rfl)

theorem before_2 (hS : Small m) (c : Dev nD) (t : Fin cfg0.N) (d) : (dats m hS 0 c).before 2 t d = iblk m c 2 t :=
  ((dats m hS 0 c).before_in_eq_fetched 2 rfl (fun _ => rfl) (fun _ _ _ => rfl)
    (fun s => by rw [(after_in m hS c s).2.2.1]; unfold Dat.blockOf iblk; rw [dats_A]; try rfl) t d).trans
    (by unfold Dat.fetched Dat.blockOf iblk; rw [dats_A]; try rfl)

theorem before_3 (hS : Small m) (c : Dev nD) (t : Fin cfg0.N) (d) : (dats m hS 0 c).before 3 t d = iblk m c 3 t :=
  ((dats m hS 0 c).before_in_eq_fetched 3 rfl (fun _ => rfl) (fun _ _ _ => rfl)
    (fun s => by rw [(after_in m hS c s).2.2.2]; unfold Dat.blockOf iblk; rw [dats_A]; try rfl) t d).trans
    (by unfold Dat.fetched Dat.blockOf iblk; rw [dats_A]; try rfl)

/-! ## The body at a point -/

theorem invariant_eq (c : Dev nD) :
    (Pipeline.ΦA spec0 c : sProp 𝕄)
      = iprop((∃ d, owns (c : Thread nD τ) (Memref.whole cc0_scratch0 : Memref sig .tc .vmem S224x2048 .f32) fullShare d) ∗ (∃ r, prngReg c r)) := by
  unfold Pipeline.ΦA
  rw [scopedRest0_eq]
  simp only [owns_whole]
  try rfl

/-- What the body is called with at point `t`. -/
def pre (hS : Small m) (c : Dev nD) (t : Fin cfg0.N) : sProp 𝕄 :=
  iprop((dats m hS 0 c).Φ t.castSucc ∗ (dats m hS 0 c).owesAt () t.castSucc
    ∗ (∃ d, owns (c : Thread nD τ) (win0_0.stage (cfg0.slots t 0)) fullShare ((dats m hS 0 c).before 0 t d))
    ∗ (∃ d, owns (c : Thread nD τ) (win0_1.stage (cfg0.slots t 1)) fullShare ((dats m hS 0 c).before 1 t d))
    ∗ (∃ d, owns (c : Thread nD τ) (win0_2.stage (cfg0.slots t 2)) fullShare ((dats m hS 0 c).before 2 t d))
    ∗ (∃ d, owns (c : Thread nD τ) (win0_3.stage (cfg0.slots t 3)) fullShare ((dats m hS 0 c).before 3 t d))
    ∗ (∃ d, owns (c : Thread nD τ) (win0_4.stage (cfg0.slots t 4)) fullShare ((dats m hS 0 c).before 4 t d)))

/-- What the body returns. -/
def post (hS : Small m) (c : Dev nD) (t : Fin cfg0.N) : sProp 𝕄 :=
  iprop((dats m hS 0 c).Φ t.succ ∗ (dats m hS 0 c).owesAt () t.succ
    ∗ owns (c : Thread nD τ) (win0_0.stage (cfg0.slots t 0)) fullShare ((dats m hS 0 c).after 0 t)
    ∗ owns (c : Thread nD τ) (win0_1.stage (cfg0.slots t 1)) fullShare ((dats m hS 0 c).after 1 t)
    ∗ owns (c : Thread nD τ) (win0_2.stage (cfg0.slots t 2)) fullShare ((dats m hS 0 c).after 2 t)
    ∗ owns (c : Thread nD τ) (win0_3.stage (cfg0.slots t 3)) fullShare ((dats m hS 0 c).after 3 t)
    ∗ owns (c : Thread nD τ) (win0_4.stage (cfg0.slots t 4)) fullShare ((dats m hS 0 c).after 4 t))

set_option maxHeartbeats 8000000 in
theorem body_at (hS : Small m) (c : Dev nD) (t : Fin cfg0.N) :
    pre m hS c t ⊢ wp frame (wpE (defs₀ (F := F)) Variants.none c none) Set.univ (bodyAt0 t) (fun _ => post m hS c t) := by
  unfold pre post bodyAt0
  rw [show (dats m hS 0 c).Φ t.succ = Pipeline.ΦA spec0 c from rfl, show (dats m hS 0 c).Φ t.castSucc = Pipeline.ΦA spec0 c from rfl,
    show (dats m hS 0 c).owesAt () t.succ = (dats m hS 0 c).owesAt () t.castSucc from rfl,
    (after_in m hS c t).1, (after_in m hS c t).2.1, (after_in m hS c t).2.2.1, (after_in m hS c t).2.2.2, after_out, invariant_eq]
  simp only [before_0, before_1, before_2, before_3]
  unfold outAt
  iintro ⟨⟨HS, Hg⟩, Ho, ⟨%d0, H0⟩, ⟨%d1, H1⟩, ⟨%d2, H2⟩, ⟨%d3, H3⟩, ⟨%d4, H4⟩⟩
  iapply ((runAt m hS c t).2.2 Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%e, H4⟩, ⟨%f, HS⟩⟩
  isplitl [HS Hg]
  · isplitl [HS]
    · iexists _; unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (rows_cover m hS c t)

theorem row_eq (t : Fin cfg0.N) : defs₀ (F := F) .tc cfg0.body (cfg0.bodyArgs t (cfg0.slots t)) = bodyAt0 t := by
  unfold defs₀; rw [Defs.onTc_tc]

theorem obligation (hS : Small m) (c : Dev nD) : BodyObligation (dats (F := F) m hS 0 c) (defs₀ (F := F)) Variants.none () Set.univ := fun t => by
  rw [bigSep_W0, bigSep_W0, row_eq]
  exact triple_restated (body_at m hS c t) rfl .rfl fun _ => .rfl

/-! ## The run and the frame -/

set_option backward.isDefEq.respectTransparency.types false in
/-- The program runs to the pipeline's post, and every semaphore counter ends at zero. -/
theorem runs (hS : Small m) : θ_run defs (onTc (τ := τ) (main (F := F))) (s₀ m ρ) (fun r => (Pipeline.FramePost cfgs (dats m hS) 0 (V m)) r ∧ r.2.sem = fun _ => 0) :=
  Pipeline.θ_run_frame (Q' := _) cfgs (dats m hS) (0 : Fin 1) launch0 defs₀ Variants.none m ρ main
    (hbody := fun c => (obligation m hS c).loose) (hshare := fun c => (dats m hS 0 c).share_full fun _ => rfl)
    (howed := fun _ _ => rfl) (V := V m) (hmain := lines_main m) (hA := dats_A m hS) (hΦ := fun _ _ => rfl)

/-- The arguments after the run. -/
theorem kept (hS : Small m) (r : PUnit × MemSt nD τ sig (Elt F)) (h : Pipeline.FramePost cfgs (dats m hS) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine ⟨?_, ?_, ?_, ?_⟩
  · exact (((h c).1 0).trans ((dats m hS 0 c).arrAt_in 0 rfl _)).trans ((dats_A m hS c 0).trans (V_arg m c main_arg0 (by simp)))
  · exact ((h c).2 main_arg1 (Pipeline.mem_restRefs_of main_arg1 (by decide) (by decide))).trans (V_arg m c main_arg1 (by simp))
  · exact ((h c).2 main_arg2 (Pipeline.mem_restRefs_of main_arg2 (by decide) (by decide))).trans (V_arg m c main_arg2 (by simp))
  · exact ((h c).2 main_arg3 (Pipeline.mem_restRefs_of main_arg3 (by decide) (by decide))).trans (V_arg m c main_arg3 (by simp))

/-- The frame. -/
theorem framed (hS : Small m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨kept m hS r h.1, h.2⟩) (runs m ρ hS)

/-- The run with the result array named. -/
theorem results (hS : Small m) : θ_run defs (onTc (τ := τ) (main (F := F))) ⟨m, fun _ => 0, ρ⟩ (fun r => ∀ c : Dev nD,
      r.2.mem ((c.tc : Thread nD τ).loc main_v20) = (dats m hS 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1 c).1 4, kept m hS r h.1 c⟩) (runs m ρ hS)

end Cert.Kernel2Ideal.Conv

end
-- ==== Proof.Nbr.lean ====
/- The second precondition read at a word: every neighbour number names a row of the table. -/
module

public import proofs.«01_k».proof.Defs
public import proofs.«01_k».proof.Proof.Ids
public import proofs.«01_k».proof.Proof.ConvFrame
public import proofs.«01_k».proof.Proof.Gen.Pre_nbr_in_range
public import Idealize.ShloMosaic.Lib.ReduceAll
public import Idealize.ShloMosaic.Lib.Pointwise

@[expose] public section

namespace Cert.Nbr

open Idealize.ShloMosaic Idealize.ShloMosaic.TcCoe

open Cert.Pre_nbr_in_range Cert.Pre_nbr_in_range.Gen in
/-- Under the precondition every number is below ten thousand. -/
theorem lt_of_pre {F : FTy → Type} [FloatOps F] (d : IVec S10000x32 32) (a1 : FVec F S10000x128 .f32) (a2 : FVec F S1x1x32x7 .f32) (a3 : FVec F S1 .f32)
    (h : fn d a1 a2 a3 = fun _ => 1#1) (y : S10000x32.Idx) : (d y).toNat < 10000 := by
  haveI : Subsingleton S_.Idx := inferInstanceAs (Subsingleton ((a : Fin 0) → _))
  have e := congrFun h fun a => a.elim0
  unfold fn at e
  have e := Host.reduce_andi_all _ _ _ _ _ e y
  exact Cert.Ids.word_lt _ e

attribute [local instance] Cert.Pre_nbr_in_range.Gen.facts

open Cert.Kernel2Ideal Cert.Kernel2Ideal.Gen Cert.Kernel2Ideal.Conv in
/-- Numbers of the argument below ten thousand are so in every block the call reads. -/
theorem small_of {F : FTy → Type} [FloatOps F] (m : (ℓ : Loc nD τ sig) → Buf (Elt F) ℓ)
    (h : ∀ (c : Dev nD) (y : S10000x32.Idx), ((m ((c : Thread nD τ).loc main_arg0) : IVec S10000x32 32) y).toNat < 10000) : Small m := by
  intro c t y
  unfold iblk
  rw [View.read_apply, cast_eq]
  refine lt_of_eq_of_lt (congrArg BitVec.toNat (congrFun (V_arg m c main_arg0 (Or.inl rfl)) _)) (h c _)

end Cert.Nbr
-- ==== Proof.ConvSame.lean ====
/- The convolution program and its ideal program read the same, so the frame of the one is the frame of the other. -/
module

public import proofs.«01_k».proof.Proof.Nbr
public import proofs.«01_k».proof.Proof.Gen.Kernel2.Launch
public import proofs.«01_k».proof.Proof.Gen.Kernel2.Skeleton

@[expose] public section

set_option maxRecDepth 16384

namespace Cert.Conv

open Idealize.ShloMosaic Idealize.ShloMosaic.TcCoe Idealize.SL.Sem

attribute [local instance] Cert.Pre_nbr_in_range.Gen.facts Cert.Kernel2.Gen.facts Cert.Kernel2Ideal.Gen.facts

variable {F : FTy → Type} [FloatOps F]

theorem main_same : (Cert.Kernel2.main (F := F)) = Cert.Kernel2Ideal.main (F := F) := by
  rfl

theorem calls_same : (Cert.Kernel2.pcfgs (F := F)) = Cert.Kernel2Ideal.pcfgs (F := F) := by
  rfl

theorem body_same : (Cert.Kernel2.defs (F := F)) = Cert.Kernel2Ideal.defs (F := F) := by
  sl_kernel_rfl

/-- The program's frame, through its ideal program's. -/
theorem framed (m : (ℓ : Loc Cert.Kernel2.nD Cert.Kernel2.τ Cert.Kernel2.sig) → Buf (Elt F) ℓ) (g : Dev Cert.Kernel2.nD → PrngReg)
    (hS : Cert.Kernel2Ideal.Conv.Small (F := F) m) :
    θ_run (Cert.Kernel2.defs (F := F)) (onTc (τ := Cert.Kernel2.τ) (Cert.Kernel2.main (F := F))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0) := by
  rw [main_same, body_same]
  exact Cert.Kernel2Ideal.Conv.framed m g hS

theorem quiescent : Cert.quiescent_Kernel2 := fun m g h =>
  framed m g (Cert.Nbr.small_of (F := Bits) m fun c y => Cert.Nbr.lt_of_pre _ _ _ _ (h c) y)

theorem quiescent_ideal : Cert.quiescent_Kernel2Ideal := fun m g h =>
  Cert.Kernel2Ideal.Conv.framed m g (Cert.Nbr.small_of m fun c y => Cert.Nbr.lt_of_pre _ _ _ _ (h c) y)

end Cert.Conv
-- ==== Proof.ConvRead.lean ====
/- The rows that the convolution body copies into its scratch array one at a time, read back as one block. -/
module

public import proofs.«01_k».proof.Proof.ConvFrame
public import Idealize.ShloMosaic.Lib.Pipeline.ReadBack
public import Idealize.ShloMosaic.Lib.Pipeline.ValueKit

@[expose] public section

noncomputable section

namespace Cert.Kernel2Ideal.Conv

open Idealize.ShloMosaic Idealize.ShloMosaic.TcCoe Idealize.SL.Sem
open Cert.Kernel2Ideal Cert.Kernel2Ideal.Gen

/-- The seven shifted rows that number `j` of group `u` names lie at rows `7 j + t` and columns `128 u + k` (zero where a number names none). -/
def patches (X : FVec Ideal S10000x7x128 .f32) (I : IVec S16x32 32) : FVec Ideal S224x2048 .f32 := fun y =>
  if h : (I (ix2 (⟨(y 1).val / 128, by have := (y 1).isLt; simp at this; omega⟩ : Fin 16) (⟨(y 0).val / 7, by have := (y 0).isLt; simp at this; omega⟩ : Fin 32))).toNat < 10000
  then X (ix3 (⟨_, h⟩ : Fin 10000) (⟨(y 0).val % 7, Nat.mod_lt _ (by decide)⟩ : Fin 7) (⟨(y 1).val % 128, Nat.mod_lt _ (by decide)⟩ : Fin 128)) else 0

theorem patches_at (X : FVec Ideal S10000x7x128 .f32) (I : IVec S16x32 32) (y : S224x2048.Idx) (u : Fin 16) (j : Fin 32) (t : Fin 7) (k : Fin 128)
    (h0 : (y 0).val = j.val * 7 + t.val) (h1 : (y 1).val = u.val * 128 + k.val) (h : (I (ix2 u j)).toNat < 10000) :
    patches X I y = X (ix3 (⟨_, h⟩ : Fin 10000) t k) := by
  have eu : (⟨(y 1).val / 128, by have := (y 1).isLt; simp at this; omega⟩ : Fin 16) = u := Fin.ext (by simp only []; omega)
  have ej : (⟨(y 0).val / 7, by have := (y 0).isLt; simp at this; omega⟩ : Fin 32) = j := Fin.ext (by simp only []; omega)
  have et : (⟨(y 0).val % 7, Nat.mod_lt _ (by decide)⟩ : Fin 7) = t := Fin.ext (by simp only []; omega)
  have ek : (⟨(y 1).val % 128, Nat.mod_lt _ (by decide)⟩ : Fin 128) = k := Fin.ext (by simp only []; omega)
  unfold patches
  rw [eu, ej, et, ek]
  exact dif_pos h

/-- The two casts of a stored patch drop its leading axis. -/
theorem cast_at (v : FVec Ideal S1x7x128 .f32) (h4 : S1x7x128.ShapeCasts S7x128) (h5 : S7x128.ShapeCasts S7x128) (t : Fin 7) (k : Fin 128) :
    shapeCast S7x128 (shapeCast S7x128 v h4) h5 (ix2 t k) = v (ix3 0 t k) := by
  pointwise

/-- One stored patch is a patch of `patches`. -/
theorem patch_piece (X : FVec Ideal S10000x7x128 .f32) (I : IVec S16x32 32) (u : Fin 16) (j : Fin 32) (r q : ℕ) (hr : r = j.val * 7) (hq : q = u.val * 128)
    (h1 : ∀ a, (![u.val, j.val] : Fin 2 → ℕ) a + (![1, 1] : Fin 2 → ℕ) a ≤ S16x32.size a)
    (h2 : 0 < (Rect.unit (s := S16x32) ![u.val, j.val] ![1, 1] h1).shape.numel)
    (h3 : ∀ a, k0_off1 (View.ld (Val := Elt Ideal) (e' := .i32) I (Rect.unit (s := S16x32) ![u.val, j.val] ![1, 1] h1) (Shape.Idx.first h2)) a
      + (![1, 7, 128] : Fin 3 → ℕ) a ≤ S10000x7x128.size a)
    (h4 : (Rect.unit (s := S10000x7x128) (k0_off1 (View.ld (Val := Elt Ideal) (e' := .i32) I (Rect.unit (s := S16x32) ![u.val, j.val] ![1, 1] h1) (Shape.Idx.first h2)))
      ![1, 7, 128] h3).shape.ShapeCasts S7x128)
    (h5 : S7x128.ShapeCasts S7x128) (h6 : ∀ a, (![r, q] : Fin 2 → ℕ) a + (![7, 128] : Fin 2 → ℕ) a ≤ S224x2048.size a)
    (x : S7x128.Idx) :
    shapeCast S7x128 (shapeCast S7x128 (View.ld (Val := Elt Ideal) (e' := .f32) X
      (Rect.unit (s := S10000x7x128) (k0_off1 (View.ld (Val := Elt Ideal) (e' := .i32) I (Rect.unit (s := S16x32) ![u.val, j.val] ![1, 1] h1) (Shape.Idx.first h2))) ![1, 7, 128] h3)) h4) h5 x
      = patches X I ((Rect.unit (s := S224x2048) ![r, q] ![7, 128] h6).emb x) := by
  set w : BitVec 32 := View.ld (Val := Elt Ideal) (e' := .i32) I (Rect.unit (s := S16x32) ![u.val, j.val] ![1, 1] h1) (Shape.Idx.first h2) with hw
  have hw' : w = I (ix2 u j) := by
    rw [hw]
    refine congrArg I (funext fun a => ?_)
    apply Fin.ext
    fin_cases a <;> simp [Rect.unit, Rect.emb_apply, ix2]
  have hlt : w.toNat < 10000 := by
    have := h3 0
    simp [k0_off1, Scalar.indexCast] at this
    omega
  idx_vars x
  refine (cast_at _ h4 h5 x0 x1).trans ?_
  rw [hw'] at hlt
  refine Eq.trans ?_ (patches_at X I _ u j x0 x1 ?_ ?_ hlt).symm
  · refine congrArg X (funext fun a => Fin.ext ?_)
    show k0_off1 w a + 1 * ((ix3 (0 : Fin 1) x0 x1 : S1x7x128.Idx) a).val = _
    rw [hw']
    fin_cases a <;> simp [k0_off1, Scalar.indexCast, ix3]
  · rw [Rect.emb_apply]; simp [Rect.unit, ix2, hr]
  · rw [Rect.emb_apply]; simp [Rect.unit, ix2, hq]

/-- One more stored patch, its number and its rows loaded from whole blocks, keeps the list a list of patches. -/
theorem patches_cons (v1 : View sig .tc .smem S16x32 .i32) (f1 : v1.ty.Contents (Elt Ideal)) (v2 : View sig .tc .vmem S10000x7x128 .f32)
    (f2 : v2.ty.Contents (Elt Ideal)) {u j r q : ℕ} {h6 : ∀ a, (![r, q] : Fin 2 → ℕ) a + (![7, 128] : Fin 2 → ℕ) a ≤ S224x2048.size a} {o : Fin 3 → ℕ}
    {h3 : ∀ a, o a + (![1, 7, 128] : Fin 3 → ℕ) a ≤ S10000x7x128.size a}
    {h4 : (Rect.unit (s := S10000x7x128) o ![1, 7, 128] h3).shape.ShapeCasts S7x128}
    {h5 : S7x128.ShapeCasts S7x128} {L : List (View.Piece (Elt Ideal) S224x2048 .f32)}
    {h1 : ∀ a, (![u, j] : Fin 2 → ℕ) a + (![1, 1] : Fin 2 → ℕ) a ≤ S16x32.size a}
    {h2 : 0 < (Rect.unit (s := S16x32) ![u, j] ![1, 1] h1).shape.numel}
    (ho : o = k0_off1 (v1.readAt (Elt Ideal) (Rect.unit (s := S16x32) ![u, j] ![1, 1] h1).toLoadRect f1 (Shape.Idx.first h2)))
    (hr : r = j * 7) (hq : q = u * 128) (h : View.PiecesOf (patches (v2.read (Elt Ideal) f2) (v1.read (Elt Ideal) f1)) L) :
    View.PiecesOf (patches (v2.read (Elt Ideal) f2) (v1.read (Elt Ideal) f1))
      (⟨Rect.unit (s := S224x2048) ![r, q] ![7, 128] h6, shapeCast S7x128 (shapeCast S7x128
        (v2.readAt (Elt Ideal) (Rect.unit (s := S10000x7x128) o ![1, 7, 128] h3).toLoadRect f2) h4) h5⟩ :: L) := by
  subst ho
  have hu : u < 16 := h1 0
  have hj : j < 32 := h1 1
  exact ⟨fun x => patch_piece (v2.read (Elt Ideal) f2) (v1.read (Elt Ideal) f1) ⟨u, hu⟩ ⟨j, hj⟩ r q hr hq h1 h2 h3 h4 h5 h6 x, h⟩

/-- A load of the whole array after stores that are blocks of `G` and cover it reads `G`. -/
theorem read_patches {sig : RefSig} {κ : Kind} {sp : Space} (v : View sig κ sp S224x2048 .f32) (G : FVec Ideal S224x2048 .f32)
    (L : List (View.Piece (Elt Ideal) S224x2048 .f32))
    (inb : ∀ a, (![0, 0] : Fin 2 → ℕ) a + S224x2048.size a ≤ S224x2048.size a) (hp : View.PiecesOf G L) (hc : ∀ y, ∃ p ∈ L, y ∈ p.1.set) :
    v.readCov L (Rect.unit (s := S224x2048) ![0, 0] S224x2048.size inb).toLoadRect = G := by
  rw [View.readCov_eq_canon']
  funext y
  rw [View.canon_apply_of_pieces G L hp.mem _ (hc _)]
  refine congrArg G (funext fun a => Fin.ext ?_)
  show (Rect.unit (s := S224x2048) ![0, 0] S224x2048.size inb).emb y a = (y a : ℕ)
  rw [Rect.emb_apply]
  fin_cases a <;> simp [Rect.unit]

end Cert.Kernel2Ideal.Conv

end
-- ==== Proof.ConvScratch.lean ====
/- The convolution body's scratch array after its 512 copies. -/
module

public import proofs.«01_k».proof.Proof.ConvRead

@[expose] public section

set_option maxRecDepth 16384

noncomputable section

namespace Cert.Kernel2Ideal.Conv

open Idealize.ShloMosaic Idealize.ShloMosaic.TcCoe Idealize.SL.Sem
open Cert.Kernel2Ideal Cert.Kernel2Ideal.Gen

set_option maxHeartbeats 20000000 in
/-- The scratch array, read after the 512 copies, holds the patches. -/
theorem scratch_read (c : Dev nD) (arg1 : Memref sig .tc .smem S16x32 .i32) (harg1 : arg1.IsWhole)
    (arg2 : Memref sig .tc .vmem S10000x7x128 .f32) (harg2 : arg2.IsWhole) (arg6 : Memref sig .tc .vmem S224x2048 .f32)
    (x0 : Vec Ideal S16x32 .i32) (x1 : Vec Ideal S10000x7x128 .f32) (hw : ∀ y, BitVec.toNat (x0 y : BitVec 32) < 10000) :
    bodyRun.sl.v3586 (F := Ideal) c arg1 harg1 arg2 harg2 arg6 x0 x1 hw = patches x1 x0 := by
  have e0 := harg1.read_unread (Val := Elt Ideal) x0
  have e1 := harg2.read_unread (Val := Elt Ideal) x1
  unfold bodyRun.sl.v3586
  refine (read_patches _ (patches (arg2.view.read (Elt Ideal) (harg2.unread x1)) (arg1.view.read (Elt Ideal) (harg1.unread x0))) _ _ ?_ ?_).trans ?_
  · repeat' first | exact trivial | refine patches_cons arg1.view (harg1.unread x0) arg2.view (harg2.unread x1) rfl rfl rfl ?_
  · exact View.cover_of_tiled_head _ _ _ rfl
  · rw [e0, e1]

end Cert.Kernel2Ideal.Conv

end
-- ==== Proof.ConvStored.lean ====
/- What the convolution body leaves in its output block, as a function of its input blocks. -/
module

public import proofs.«01_k».proof.Proof.ConvRead

@[expose] public section

set_option maxRecDepth 16384

noncomputable section

namespace Cert.Kernel2Ideal.Conv

open Idealize.ShloMosaic Idealize.ShloMosaic.TcCoe Idealize.SL.Sem
open Cert.Kernel2Ideal Cert.Kernel2Ideal.Gen

/-- Row `u` of the stored block: the weights' row `u` times the columns of group `u`, plus the bias. -/
def rowsOut (W : FVec Ideal S16x224 .f32) (P : FVec Ideal S224x2048 .f32) (b : EReal) : FVec Ideal S16x128 .f32 := fun y =>
  (∑ x : Fin 224, W (ix2 (y 0 : Fin 16) x) * P (ix2 x (⟨(y 0).val * 128 + (y 1).val, by have := (y 0).isLt; have := (y 1).isLt; simp at *; omega⟩ : Fin 2048))) + b

theorem product_at (W : FVec Ideal S16x224 .f32) (P : FVec Ideal S224x2048 .f32) (u : Fin 16) (n : Fin 2048) :
    k0_pay516 W P (ix2 u n) = ∑ x : Fin 224, W (ix2 u x) * P (ix2 x n) := by
  pointwise [k0_pay516]

theorem row_at (D : FVec Ideal S16x2048 .f32) (b : EReal) (u : Fin 16) (h1 : S16x2048.Slices ![u.val, u.val * 128] S1x128) (h2 : S1x128.ShapeCasts S128)
    (h3 : S128.ShapeCasts S1x128) (k : Fin 128) :
    (shapeCast S1x128 (addf (shapeCast S128 (extractStridedSlice S1x128 ![u.val, u.val * 128] D h1) h2) (broadcast S128 b) : FVec Ideal S128 .f32) h3 : FVec Ideal S1x128 .f32) (ix2 0 k)
      = D (ix2 u (⟨u.val * 128 + k.val, by omega⟩ : Fin 2048)) + b := by
  pointwise

/-- One stored row is a row of `rowsOut`. -/
theorem row_piece (W : FVec Ideal S16x224 .f32) (P : FVec Ideal S224x2048 .f32) (b : EReal) (u : Fin 16) (h1 : S16x2048.Slices ![u.val, u.val * 128] S1x128)
    (h2 : S1x128.ShapeCasts S128) (h3 : S128.ShapeCasts S1x128) (h6 : ∀ a, (![u.val, 0] : Fin 2 → ℕ) a + (![1, 128] : Fin 2 → ℕ) a ≤ S16x128.size a) (x : S1x128.Idx) :
    (shapeCast S1x128 (addf (shapeCast S128 (extractStridedSlice S1x128 ![u.val, u.val * 128] (k0_pay516 W P) h1) h2) (broadcast S128 b) : FVec Ideal S128 .f32) h3 : FVec Ideal S1x128 .f32) x
      = rowsOut W P b ((Rect.unit (s := S16x128) ![u.val, 0] ![1, 128] h6).emb x) := by
  have he : (Rect.unit (s := S16x128) ![u.val, 0] ![1, 128] h6).emb x = (ix2 u (x 1 : Fin 128) : S16x128.Idx) := by
    refine funext fun a => Fin.ext ?_
    rw [Rect.emb_apply]
    have h0 : (x 0).val = 0 := by have : (x 0).val < 1 := (x 0).isLt; omega
    fin_cases a
    · show u.val + 1 * (x 0).val = u.val
      omega
    · show 0 + 1 * (x 1).val = (x 1).val
      omega
  have hx : x = ix2 (0 : Fin 1) (x 1 : Fin 128) := by
    refine funext fun a => Fin.ext ?_
    have h0 : (x 0).val = 0 := by have : (x 0).val < 1 := (x 0).isLt; omega
    fin_cases a
    · exact h0
    · rfl
  refine Eq.trans ?_ (congrArg (rowsOut W P b) he).symm
  refine (congrArg _ hx).trans ((row_at (k0_pay516 W P) b u h1 h2 h3 (x 1)).trans ?_)
  exact congrArg (· + b) (product_at W P u _)

/-- One more stored row keeps the list a list of rows. -/
theorem rows_cons {W : FVec Ideal S16x224 .f32} {P : FVec Ideal S224x2048 .f32} {D : FVec Ideal S16x2048 .f32} (hD : D = k0_pay516 W P) {b : EReal} {u q : ℕ}
    {h6 : ∀ a, (![u, 0] : Fin 2 → ℕ) a + (![1, 128] : Fin 2 → ℕ) a ≤ S16x128.size a} {pay : FVec Ideal S1x128 .f32}
    {L : List (View.Piece (Elt Ideal) S16x128 .f32)}
    {h1 : S16x2048.Slices ![u, q] S1x128} {h2 : S1x128.ShapeCasts S128} {h3 : S128.ShapeCasts S1x128}
    (hp : pay = shapeCast S1x128 (addf (shapeCast S128 (extractStridedSlice S1x128 ![u, q] D h1) h2) (broadcast S128 b) : FVec Ideal S128 .f32) h3)
    (hq : q = u * 128) (h : View.PiecesOf (rowsOut W P b) L) :
    View.PiecesOf (rowsOut W P b) (⟨Rect.unit (s := S16x128) ![u, 0] ![1, 128] h6, pay⟩ :: L) := by
  subst hp hq hD
  have hu : u < 16 := h6 0
  exact ⟨fun x => row_piece W P b ⟨u, hu⟩ h1 h2 h3 h6 x, h⟩

end Cert.Kernel2Ideal.Conv

end
-- ==== Proof.ConvOut.lean ====
/- The convolution call's output block at a point: its rows, as a function of the input blocks. -/
module

public import proofs.«01_k».proof.Proof.ConvScratch
public import proofs.«01_k».proof.Proof.ConvStored

@[expose] public section

set_option maxRecDepth 16384

noncomputable section

namespace Cert.Kernel2Ideal.Conv

open Idealize.ShloMosaic Idealize.ShloMosaic.TcCoe Idealize.SL.Sem
open Cert.Kernel2Ideal Cert.Kernel2Ideal.Gen

/-- The product the body computes is that of the weights and the patches. -/
theorem product_read (c : Dev nD) (arg1 : Memref sig .tc .smem S16x32 .i32) (harg1 : arg1.IsWhole)
    (arg2 : Memref sig .tc .vmem S10000x7x128 .f32) (harg2 : arg2.IsWhole) (arg3 : Memref sig .tc .vmem S16x224 .f32) (harg3 : arg3.IsWhole)
    (arg6 : Memref sig .tc .vmem S224x2048 .f32) (x0 : Vec Ideal S16x32 .i32) (x1 : Vec Ideal S10000x7x128 .f32) (x2 : Vec Ideal S16x224 .f32)
    (hw : ∀ y, BitVec.toNat (x0 y : BitVec 32) < 10000) :
    bodyRun.sl.r_641 (F := Ideal) c arg1 harg1 arg2 harg2 arg3 harg3 arg6 x0 x1 x2 hw = k0_pay516 x2 (patches x1 x0) := by
  unfold bodyRun.sl.r_641
  rw [scratch_read]
  refine congrArg (fun W : FVec Ideal S16x224 .f32 => k0_pay516 (F := Ideal) W (patches x1 x0)) (funext fun j => ?_)
  simp only [View.readAt_apply, Memref.IsWhole.read_unread]
  refine congrArg x2 (funext fun a => Fin.ext ?_)
  show (Rect.unit (s := S16x224) ![0, 0] S16x224.size inb_S16x224_S16x224_0_0).emb j a = (j a : ℕ)
  rw [Rect.emb_apply]
  fin_cases a <;> simp [Rect.unit]

/-- The bias the body adds. -/
theorem bias_read (c : Dev nD) (arg4 : Memref sig .tc .smem S1x1 .f32) (harg4 : arg4.IsWhole) (x3 : Vec Ideal S1x1 .f32) :
    (bodyRun.sl.r_640 (F := Ideal) c arg4 harg4 x3 : EReal) = x3 (ix2 (0 : Fin 1) (0 : Fin 1)) := by
  unfold bodyRun.sl.r_640
  simp only [View.readAt_apply, Memref.IsWhole.read_unread]
  refine congrArg x3 (funext fun a => Fin.ext ?_)
  fin_cases a <;> rfl

set_option maxHeartbeats 4000000 in
theorem out_pieces (m : (ℓ : Loc nD τ sig) → Buf (Elt Ideal) ℓ) (hS : Small m) (c : Dev nD) (t : Fin cfg0.N) :
    View.PiecesOf (rowsOut (iblk m c 2 t) (patches (iblk m c 1 t) (iblk m c 0 t)) ((iblk m c 3 t : FVec Ideal S1x1 .f32) (ix2 (0 : Fin 1) (0 : Fin 1)))) (runAt m hS c t).1 := by
  have hD := product_read c (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (Memref.whole cc0_scratch0) (iblk m c 0 t) (iblk m c 1 t) (iblk m c 2 t) (hS c t)
  rw [← bias_read c (win0_3.stage (cfg0.slots t 3)) (hstage0_3 ((cfg0.slots t 3).cast nbuf0_3)) (iblk m c 3 t)]
  dsimp only [runAt, bodyRun, bodyRun.sl.r_642, bodyRun.sl.r_643, bodyRun.sl.r_644, bodyRun.sl.r_645, k0_pay520, k0_pay526, k0_pay527, k0_pay533]
  repeat' first | exact trivial | refine rows_cons hD rfl rfl ?_

/-- The block a point leaves. -/
theorem out_eq (m : (ℓ : Loc nD τ sig) → Buf (Elt Ideal) ℓ) (hS : Small m) (c : Dev nD) (t : Fin cfg0.N) :
    outAt m hS c t = rowsOut (iblk m c 2 t) (patches (iblk m c 1 t) (iblk m c 0 t)) ((iblk m c 3 t : FVec Ideal S1x1 .f32) (ix2 (0 : Fin 1) (0 : Fin 1))) := by
  funext y
  unfold outAt
  rw [View.read_writes_junk_apply_eq_canon]
  exact View.canon_apply_of_pieces _ _ (out_pieces m hS c t).mem y (rows_cover m hS c t y)

end Cert.Kernel2Ideal.Conv

end
-- ==== Proof.ConvSpec.lean ====
/- The convolution in plain words: seven taps over the thirty-two named rows, each padded by three zeros on either side. -/
module

public import Idealize.ShloMosaic.Lib.Pointwise

@[expose] public section

noncomputable section

namespace Cert.Conv

open Idealize.ShloMosaic

abbrev Numbers := IVec ⟨2, ![10000, 32]⟩ 32
abbrev Rows := FVec Ideal ⟨2, ![10000, 128]⟩ .f32
abbrev Taps := FVec Ideal ⟨4, ![1, 1, 32, 7]⟩ .f32
abbrev Bias := FVec Ideal ⟨1, ![1]⟩ .f32

/-- Entry `q` of row `n` with three zeros put before it and three after it. -/
def padded (E : Rows) (n : Fin 10000) (q : ℕ) : EReal := if h : 3 ≤ q ∧ q < 131 then E (ix2 n (⟨q - 3, by omega⟩ : Fin 128)) else 0

/-- The same for the row that a word names (zero where it names none). -/
def named (E : Rows) (w : BitVec 32) (q : ℕ) : EReal := if h : w.toNat < 10000 then padded E ⟨_, h⟩ q else 0

theorem named_of_lt (E : Rows) (w : BitVec 32) (q : ℕ) (h : w.toNat < 10000) : named E w q = padded E ⟨_, h⟩ q := dif_pos h

/-- Entry `k` of the convolution for row `i`. -/
def conv (N : Numbers) (E : Rows) (W : Taps) (b : Bias) (i : Fin 10000) (k : Fin 128) : EReal :=
  (∑ t : Fin 7, ∑ j : Fin 32, W (ix4 0 0 j t) * named E (N (ix2 i j)) (t.val + k.val)) + b (ix1 0)

/-- The terms number by number and tap by tap, as one sum. -/
theorem conv_flat (N : Numbers) (E : Rows) (W : Taps) (b : Bias) (i : Fin 10000) (k : Fin 128) :
    (∑ x : Fin 224, W (ix4 0 0 (⟨x.val / 7, by omega⟩ : Fin 32) (⟨x.val % 7, by omega⟩ : Fin 7)) * named E (N (ix2 i (⟨x.val / 7, by omega⟩ : Fin 32))) (x.val % 7 + k.val)) + b (ix1 0)
      = conv N E W b i k := by
  unfold conv
  rw [Fin.sum_univ_tiles 32 7 rfl, Finset.sum_comm]
  refine congrArg (· + b (ix1 0)) (Finset.sum_congr rfl fun t _ => Finset.sum_congr rfl fun j _ => ?_)
  have ej : (⟨(j.val * 7 + t.val) / 7, by omega⟩ : Fin 32) = j := Fin.ext (by simp only []; omega)
  have et : (⟨(j.val * 7 + t.val) % 7, by omega⟩ : Fin 7) = t := Fin.ext (by simp only []; omega)
  have en : (j.val * 7 + t.val) % 7 = t.val := by omega
  simp only [ej, et, en]

end Cert.Conv

end
-- ==== Proof.ConvFinal.lean ====
/- The convolution call's result array is the convolution of the arguments. -/
module

public import proofs.«01_k».proof.Proof.ConvOut
public import proofs.«01_k».proof.Proof.ConvSpec
public import Idealize.ShloMosaic.Lib.KernelVsHost
public import Idealize.ShloMosaic.Lib.Claim
public import Idealize.ShloMosaic.Lib.Pipeline.ValueKit

@[expose] public section

set_option maxRecDepth 16384

noncomputable section

namespace Cert.Kernel2Ideal.Conv

open Idealize.ShloMosaic Idealize.ShloMosaic.TcCoe Idealize.SL.Sem
open Cert.Kernel2Ideal Cert.Kernel2Ideal.Gen Cert.Conv
open Idealize.ShloMosaic.Pipeline (Dat)

theorem idx : ∀ t : Fin cfg0.N, win0_0.index t = ![t.val, 0] ∧ win0_1.index t = ![0, 0, 0] ∧ win0_2.index t = ![0, 0] ∧ win0_3.index t = ![0, 0]
    ∧ win0_4.index t = ![t.val, 0] :=
  (by decide +kernel : ∀ t : Fin grid0.N, _)

variable (m : (ℓ : Loc nD τ sig) → Buf (Elt Ideal) ℓ) (c : Dev nD)

abbrev nbr : Numbers := m ((c : Thread nD τ).loc main_arg0)
abbrev emb : Rows := m ((c : Thread nD τ).loc main_arg1)
abbrev taps : Taps := m ((c : Thread nD τ).loc main_arg2)
abbrev bias : Bias := m ((c : Thread nD τ).loc main_arg3)

/-- The result as an array. -/
def resultV : FVec Ideal S10000x128 .f32 := fun y => conv (nbr m c) (emb m c) (taps m c) (bias m c) (y 0) (y 1)

theorem bias_entry : (V m c main_v19 : FVec Ideal S1x1 .f32) (ix2 0 0) = bias m c (ix1 0) := by
  simp only [V, hostLines, hostOps0, hostOps0_1, hostOps0_2, List.flatten_cons, List.flatten_nil, List.append_nil, List.cons_append, List.nil_append]
  entry_read
  pointwise

theorem taps_entry (u : Fin 16) (x : Fin 224) : (V m c main_v18 : FVec Ideal S16x224 .f32) (ix2 u x)
    = taps m c (ix4 0 0 (⟨x.val / 7, by omega⟩ : Fin 32) (⟨x.val % 7, by omega⟩ : Fin 7)) := by
  simp only [V, hostLines, hostOps0, hostOps0_1, hostOps0_2, List.flatten_cons, List.flatten_nil, List.append_nil, List.cons_append, List.nil_append]
  entry_read
  pointwise

theorem pad_at (E : Rows) (n : Fin 10000) (q : Fin 134) :
    pad S10000x134 ![0, 3] ![0, 3] ![0, 0] E (sitofp (F := Ideal) .f32 (constantI S_ 32 0#32)) pads_S10000x128_S10000x134_000_330 h_S_ (ix2 n q) = padded E n q.val := by
  unfold padded
  by_cases h : 3 ≤ q.val ∧ q.val < 131
  · rw [dif_pos h]
    refine pad_apply_of_inside _ _ _ _ _ _ _ _ (ix2 n (⟨q.val - 3, by omega⟩ : Fin 128)) fun a => ?_
    fin_cases a
    · show n.val = 0 + n.val * (0 + 1)
      omega
    · show q.val = 3 + (q.val - 3) * (0 + 1)
      omega
  · rw [dif_neg h]
    refine (pad_apply_of_not_inside _ _ _ _ _ _ _ _ (1 : Fin 2) ?_).trans ?_
    · show ¬ (3 ≤ q.val ∧ (q.val - 3) % (0 + 1) = 0 ∧ (q.val - 3) / (0 + 1) < 128)
      omega
    · pointwise
      show (((0#32 : BitVec 32).toInt : ℝ) : EReal) = 0
      simp

theorem concat_at (A : Fin 7 → S10000x1x128.Idx → EReal)
    (h : Shape.Concatenates [S10000x1x128, S10000x1x128, S10000x1x128, S10000x1x128, S10000x1x128, S10000x1x128, S10000x1x128] S10000x7x128 1)
    (n : Fin 10000) (t : Fin 7) (k : Fin 128) :
    concatenate S10000x7x128 1 [⟨S10000x1x128, A 0⟩, ⟨S10000x1x128, A 1⟩, ⟨S10000x1x128, A 2⟩, ⟨S10000x1x128, A 3⟩, ⟨S10000x1x128, A 4⟩, ⟨S10000x1x128, A 5⟩,
      ⟨S10000x1x128, A 6⟩] h (ix3 n t k) = A t (ix3 n 0 k) := by
  fin_cases t
  all_goals pointwise

/-- The seven shifts of the padded table, as the host lines make them. -/
def shifts (D : FVec Ideal S10000x134 .f32) : Fin 7 → FVec Ideal S10000x1x128 .f32 :=
  let cut (o : Fin 2 → ℕ) (h : S10000x134.Slices o S10000x128) : FVec Ideal S10000x1x128 .f32 :=
    broadcastInDim S10000x1x128 ![0, 2] bcast_S10000x128_S10000x1x128_0_2 (extractStridedSlice S10000x128 o D h)
  ![cut ![0, 0] slices_S10000x134_S10000x128_0_0, cut ![0, 1] slices_S10000x134_S10000x128_0_1, cut ![0, 2] slices_S10000x134_S10000x128_0_2,
    cut ![0, 3] slices_S10000x134_S10000x128_0_3, cut ![0, 4] slices_S10000x134_S10000x128_0_4, cut ![0, 5] slices_S10000x134_S10000x128_0_5,
    cut ![0, 6] slices_S10000x134_S10000x128_0_6]

theorem shifts_at (D : FVec Ideal S10000x134 .f32) (n : Fin 10000) (t : Fin 7) (k : Fin 128) :
    shifts D t (ix3 n 0 k) = D (ix2 n (⟨t.val + k.val, by omega⟩ : Fin 134)) := by
  fin_cases t
  all_goals
    unfold shifts
    simp only [Matrix.cons_val]
    pointwise

/-- The host lines between the padding and the call stack the seven shifts of the padded table. -/
theorem shifts_of (σ : Valuation τ sig (Elt Ideal)) :
    ∃ h, (StableHlo.after hostOps0_2 σ (Proc.tc.devRef main_v15) : FVec Ideal S10000x7x128 .f32)
      = concatenate S10000x7x128 1 [⟨S10000x1x128, shifts (σ (Proc.tc.devRef main_v0)) 0⟩, ⟨S10000x1x128, shifts (σ (Proc.tc.devRef main_v0)) 1⟩,
        ⟨S10000x1x128, shifts (σ (Proc.tc.devRef main_v0)) 2⟩, ⟨S10000x1x128, shifts (σ (Proc.tc.devRef main_v0)) 3⟩, ⟨S10000x1x128, shifts (σ (Proc.tc.devRef main_v0)) 4⟩,
        ⟨S10000x1x128, shifts (σ (Proc.tc.devRef main_v0)) 5⟩, ⟨S10000x1x128, shifts (σ (Proc.tc.devRef main_v0)) 6⟩] h :=
  ⟨concatenates_S10000x1x128_S10000x1x128_S10000x1x128_S10000x1x128_S10000x1x128_S10000x1x128_S10000x1x128_S10000x7x128_d1, by sl_kernel_rfl⟩

theorem after_append (a b : List (HloOp τ sig (Elt Ideal))) (σ : Valuation τ sig (Elt Ideal)) :
    StableHlo.after (a ++ b) σ = StableHlo.after b (StableHlo.after a σ) := by
  induction a generalizing σ with
  | nil => rfl
  | cons x a ih => exact ih _

/-- The host lines before them pad the table. -/
theorem padded_of (σ : Valuation τ sig (Elt Ideal)) :
    (StableHlo.after (hostOps0 ++ hostOps0_1) σ (Proc.tc.devRef main_v0) : FVec Ideal S10000x134 .f32)
      = pad S10000x134 ![0, 3] ![0, 3] ![0, 0] (σ (Proc.tc.devRef main_arg1) : Rows) (sitofp (F := Ideal) .f32 (constantI S_ 32 0#32))
          pads_S10000x128_S10000x134_000_330 h_S_ := by sl_kernel_rfl

/-- The table the region reads: the seven shifts of every padded row. -/
theorem shifts_entry (n : Fin 10000) (t : Fin 7) (k : Fin 128) :
    (V m c main_v15 : FVec Ideal S10000x7x128 .f32) (ix3 n t k) = padded (emb m c) n (t.val + k.val) := by
  have e : StableHlo.after (hostLines (F := Ideal)).flatten (fun b => m (c, b))
      = StableHlo.after hostOps0_2 (StableHlo.after (hostOps0 ++ hostOps0_1) (fun b => m (c, b))) :=
    (congrArg (fun l => StableHlo.after l (fun b => m (c, b))) (by simp only [hostLines, List.flatten_cons, List.flatten_nil, List.append_nil, List.append_assoc])).trans
      (after_append (hostOps0 ++ hostOps0_1) hostOps0_2 _)
  obtain ⟨h, hs⟩ := shifts_of (StableHlo.after (hostOps0 ++ hostOps0_1) (fun b => m (c, b)))
  refine (congrFun ((congrFun e (Proc.tc.devRef main_v15)).trans hs) (ix3 n t k)).trans ?_
  refine (concat_at (shifts _) h n t k).trans ((shifts_at _ n t k).trans ?_)
  rw [padded_of]
  exact pad_at (emb m c) n _

/-! ## The blocks at a point, at an index -/

theorem shifts_blk (s : Fin cfg0.N) (n : Fin 10000) (t : Fin 7) (k : Fin 128) :
    (iblk m c 1 s : FVec Ideal S10000x7x128 .f32) (ix3 n t k) = padded (emb m c) n (t.val + k.val) := by
  refine Eq.trans ?_ (shifts_entry m c n t k)
  blk_point [iblk, idx s]

theorem taps_blk (s : Fin cfg0.N) (u : Fin 16) (x : Fin 224) : (iblk m c 2 s : FVec Ideal S16x224 .f32) (ix2 u x)
    = taps m c (ix4 0 0 (⟨x.val / 7, by omega⟩ : Fin 32) (⟨x.val % 7, by omega⟩ : Fin 7)) := by
  refine Eq.trans ?_ (taps_entry m c u x)
  blk_point [iblk, idx s]

theorem bias_blk (s : Fin cfg0.N) : (iblk m c 3 s : FVec Ideal S1x1 .f32) (ix2 (0 : Fin 1) (0 : Fin 1)) = bias m c (ix1 0) := by
  refine Eq.trans ?_ (bias_entry m c)
  blk_point [iblk, idx s]

theorem nbr_blk (s : Fin cfg0.N) (u : Fin 16) (j : Fin 32) (i : Fin 10000) (hi : i.val = s.val * 16 + u.val) :
    (iblk m c 0 s : IVec S16x32 32) (ix2 u j) = nbr m c (ix2 i j) := by
  refine Eq.trans ?_ (congrFun (V_arg m c main_arg0 (Or.inl rfl)) (ix2 i j))
  blk_point [iblk, idx s, hi]

/-- THE RESULT ARRAY. -/
theorem final (hS : Small m) : (dats m hS 0 c).arrAt 4 cfg0.N = resultV m c := by
  refine (dats m hS 0 c).arrAt_eq_of_covers 4 _ (by decide +kernel) fun t _ y => ?_
  blk_simp
  rw [after_out, out_eq]
  idx_vars y
  have ht : t.val < 625 := lt_of_lt_of_eq t.isLt (by decide +kernel)
  let i : Fin 10000 := ⟨t.val * 16 + y0.val, by omega⟩
  have hi : i.val = t.val * 16 + y0.val := rfl
  have he : ((View.whole main_v20).slice (win0_4.rect t)).emb (ix2 y0 y1) = (ix2 i y1 : S10000x128.Idx) := by
    blk_ext [idx t, hi]
  refine Eq.trans ?_ (congrArg (resultV m c) he).symm
  refine Eq.trans ?_ (conv_flat (nbr m c) (emb m c) (taps m c) (bias m c) i y1)
  refine congrArg₂ (· + ·) (Finset.sum_congr rfl fun x _ => ?_) (bias_blk m c t)
  have hn := hS c t (ix2 y0 (⟨x.val / 7, by omega⟩ : Fin 32))
  refine congrArg₂ (· * ·) (taps_blk m c t y0 x) ?_
  refine (patches_at (iblk m c 1 t) (iblk m c 0 t) _ y0 (⟨x.val / 7, by omega⟩ : Fin 32) (⟨x.val % 7, by omega⟩ : Fin 7) y1 ?_ rfl hn).trans ?_
  · show x.val = x.val / 7 * 7 + x.val % 7
    omega
  · refine (shifts_blk m c t _ _ y1).trans ?_
    rw [← nbr_blk m c t y0 _ i hi]
    exact (named_of_lt _ _ _ hn).symm

end Cert.Kernel2Ideal.Conv

end
-- ==== Proof.Ref2Value.lean ====
/- The reference convolution read at an index. -/
module

public import proofs.«01_k».proof.Proof.Gen.Reference2Ideal.Run
public import proofs.«01_k».proof.Proof.ConvSpec
public import proofs.«01_k».proof.Proof.RefPairs
public import Idealize.ShloMosaic.Lib.KernelVsHost
public import Idealize.ShloMosaic.Lib.Pointwise

@[expose] public section

set_option maxRecDepth 16384

noncomputable section

namespace Cert.Reference2Ideal.Conv

open Idealize.ShloMosaic Idealize.ShloMosaic.TcCoe Idealize.SL.Sem
open Cert.Reference2Ideal Cert.Reference2Ideal.Gen Cert.Conv
open Cert.ReferenceIdeal.Asm (gather_eq clamp_eq wrap_small)

/-- The row of the table that a word names. -/
theorem gathered_at {α : Type} (x : S10000x128.Idx → α) (idx : IVec S10000x32x1 32) (i : Fin 10000) (j : Fin 32) (k : Fin 128) (n : Fin 10000)
    (hn : (idx (ix3 i j 0)).toNat = n.val) :
    Host.gather gather_S10000x128_S10000x32x1_S10000x32x128_2_0_n_n_0_2_1128 x idx (ix3 i j k) = x (ix2 n k) := by
  refine gather_eq _ x idx _ _ fun a => ?_
  fin_cases a
  · refine Eq.trans ?_ (clamp_eq (idx (ix3 i j 0)) n.val 9999 hn (by omega) (by norm_num))
    show min (idx (GatherDims.siIdx _ (ix3 i j k) _)).toInt.toNat 9999 + 0 + 0 = _
    refine congrArg (fun z => min (idx z).toInt.toNat 9999) (funext fun b => Fin.ext ?_)
    fin_cases b <;> rfl
  · show 0 + 0 + k.val = k.val
    omega

/-- The words after negative ones are wrapped, as the reference takes them. -/
def wrapped (N : Numbers) : IVec S10000x32x1 32 :=
  broadcastInDim S10000x32x1 ![0, 1] bcast_S10000x32_S10000x32x1_0_1
    (select (cmpi .slt N (broadcastInDim S10000x32 ![] bcast_S_S10000x32 (constantI S_ 32 0#32)))
      (addi N (broadcastInDim S10000x32 ![] bcast_S_S10000x32 (constantI S_ 32 10000#32))) N)

theorem wrapped_at (N : Numbers) (h : ∀ y, (N y).toNat < 10000) (i : Fin 10000) (j : Fin 32) : wrapped N (ix3 i j 0) = N (ix2 i j) := by
  refine Eq.trans ?_ (wrap_small (N (ix2 i j)) 10000#32 (h _))
  pointwise [wrapped]

/-- The named rows, padded. -/
def rows (N : Numbers) (E : Rows) : FVec Ideal S10000x32x134 .f32 :=
  pad S10000x32x134 ![0, 0, 3] ![0, 0, 3] ![0, 0, 0] (Host.gather gather_S10000x128_S10000x32x1_S10000x32x128_2_0_n_n_0_2_1128 E (wrapped N))
    (sitofp (F := Ideal) .f32 (constantI S_ 32 0#32)) pads_S10000x32x128_S10000x32x134_000_000_330 h_S_

theorem rows_at (N : Numbers) (E : Rows) (h : ∀ y, (N y).toNat < 10000) (i : Fin 10000) (j : Fin 32) (q : Fin 134) :
    rows N E (ix3 i j q) = named E (N (ix2 i j)) q.val := by
  rw [named_of_lt _ _ _ (h _)]
  unfold padded rows
  by_cases hq : 3 ≤ q.val ∧ q.val < 131
  · rw [dif_pos hq]
    refine (pad_apply_of_inside _ _ _ _ _ _ _ _ (ix3 i j (⟨q.val - 3, by omega⟩ : Fin 128)) fun a => ?_).trans ?_
    · fin_cases a
      · show i.val = 0 + i.val * (0 + 1)
        omega
      · show j.val = 0 + j.val * (0 + 1)
        omega
      · show q.val = 3 + (q.val - 3) * (0 + 1)
        omega
    · exact gathered_at E _ i j _ ⟨_, h _⟩ (congrArg BitVec.toNat (wrapped_at N h i j))
  · rw [dif_neg hq]
    refine (pad_apply_of_not_inside _ _ _ _ _ _ _ _ (2 : Fin 3) ?_).trans ?_
    · show ¬ (3 ≤ q.val ∧ (q.val - 3) % (0 + 1) = 0 ∧ (q.val - 3) / (0 + 1) < 128)
      omega
    · pointwise
      show (((0#32 : BitVec 32).toInt : ℝ) : EReal) = 0
      simp

/-- One tap of the reference. -/
def tap (W : Taps) (X : FVec Ideal S10000x32x134 .f32) (t : Fin 7) (h1 : S1x1x32x7.Slices ![0, 0, 0, t.val] S1x1x32x1)
    (h2 : S10000x32x134.Slices ![0, 0, t.val] S10000x32x128) : FVec Ideal S10000x128 .f32 :=
  Host.reduceAdd (mulf (broadcastInDim S10000x32x128 ![0, 1, 2] bcast_S1x32x1_S10000x32x128_0_1_2 (broadcastInDim S1x32x1 ![1] bcast_S32_S1x32x1_1
    (shapeCast S32 (extractStridedSlice S1x1x32x1 ![0, 0, 0, t.val] W h1) shapeCasts_S1x1x32x1_S32)))
    (extractStridedSlice S10000x32x128 ![0, 0, t.val] X h2)) (constant S_ .f32 0x0#32) reducesTo_S10000x32x128_S10000x128_d1 h_S_

theorem tap_at (W : Taps) (X : FVec Ideal S10000x32x134 .f32) (t : Fin 7) (h1) (h2) (i : Fin 10000) (k : Fin 128) :
    tap W X t h1 h2 (ix2 i k) = ∑ j : Fin 32, W (ix4 0 0 j t) * X (ix3 i j (⟨t.val + k.val, by omega⟩ : Fin 134)) := by
  pointwise [tap]

theorem named_tap_at (N : Numbers) (E : Rows) (W : Taps) (h : ∀ y, (N y).toNat < 10000) (t : Fin 7) (h1) (h2) (i : Fin 10000) (k : Fin 128) :
    tap W (rows N E) t h1 h2 (ix2 i k) = ∑ j : Fin 32, W (ix4 0 0 j t) * named E (N (ix2 i j)) (t.val + k.val) :=
  (tap_at W _ t h1 h2 i k).trans (Finset.sum_congr rfl fun j _ => congrArg (W (ix4 0 0 j t) * ·) (rows_at N E h i j _))

/-- The bias at every place. -/
def spread (b : Bias) : FVec Ideal S10000x128 .f32 :=
  broadcastInDim S10000x128 ![0, 1] bcast_S1x1_S10000x128_0_1 (broadcastInDim S1x1 ![1] bcast_S1_S1x1_1 b)

theorem spread_at (b : Bias) (i : Fin 10000) (k : Fin 128) : spread b (ix2 i k) = b (ix1 0) := by
  pointwise [spread]

variable (m : (ℓ : Loc nD τ sig) → Buf (Elt Ideal) ℓ) (c : Dev nD)

abbrev nbr : Numbers := m ((c.tc : Thread nD τ).loc main_arg0)
abbrev emb : Rows := m ((c.tc : Thread nD τ).loc main_arg1)
abbrev taps : Taps := m ((c.tc : Thread nD τ).loc main_arg2)
abbrev bias : Bias := m ((c.tc : Thread nD τ).loc main_arg3)

/-- THE REFERENCE'S RESULT at an index. -/
theorem ref_at (h : ∀ y, (nbr m c y).toNat < 10000) (i : Fin 10000) (k : Fin 128) :
    (Cert.Reference2Ideal.Value.res_main_v65 m c : FVec Ideal S10000x128 .f32) (ix2 i k) = conv (nbr m c) (emb m c) (taps m c) (bias m c) i k := by
  unfold conv
  rw [Fin.sum_univ_seven, ← spread_at (bias m c) i k]
  have e (t : Fin 7) (h1) (h2) := named_tap_at (nbr m c) (emb m c) (taps m c) h t h1 h2 i k
  rw [← e 0 slices_S1x1x32x7_S1x1x32x1_0_0_0_0 slices_S10000x32x134_S10000x32x128_0_0_0, ← e 1 slices_S1x1x32x7_S1x1x32x1_0_0_0_1 slices_S10000x32x134_S10000x32x128_0_0_1,
    ← e 2 slices_S1x1x32x7_S1x1x32x1_0_0_0_2 slices_S10000x32x134_S10000x32x128_0_0_2, ← e 3 slices_S1x1x32x7_S1x1x32x1_0_0_0_3 slices_S10000x32x134_S10000x32x128_0_0_3,
    ← e 4 slices_S1x1x32x7_S1x1x32x1_0_0_0_4 slices_S10000x32x134_S10000x32x128_0_0_4, ← e 5 slices_S1x1x32x7_S1x1x32x1_0_0_0_5 slices_S10000x32x134_S10000x32x128_0_0_5,
    ← e 6 slices_S1x1x32x7_S1x1x32x1_0_0_0_6 slices_S10000x32x134_S10000x32x128_0_0_6]
  unfold Cert.Reference2Ideal.Value.res_main_v65
  rfl

end Cert.Reference2Ideal.Conv

end
-- ==== Proof.ConvClaim.lean ====
/- The value claim of the convolution: the kernel and its reference end with the same result. -/
module

public import proofs.«01_k».proof.Defs
public import proofs.«01_k».proof.Proof.ConvFinal
public import proofs.«01_k».proof.Proof.Nbr
public import proofs.«01_k».proof.Proof.Ref2Value
public import Idealize.ShloMosaic.Lib.Claim

@[expose] public section

set_option maxRecDepth 16384

noncomputable section

namespace Cert.ConvClaim

open Idealize.ShloMosaic Idealize.ShloMosaic.TcCoe Idealize.SL.Sem Idealize.ShloMosaic.StableHlo

attribute [local instance] Cert.Kernel2Ideal.Gen.facts Cert.Reference2Ideal.Gen.facts Cert.Pre_nbr_in_range.Gen.facts

/-- From equal arguments the two results are equal. -/
theorem values (m : (ℓ : Loc Cert.Kernel2Ideal.nD Cert.Kernel2Ideal.τ Cert.Kernel2Ideal.sig) → Buf (Elt Ideal) ℓ) (h : Cert.Pre_Kernel2Ideal m)
    (c : Dev Cert.Kernel2Ideal.nD) (m' : (ℓ : Loc Cert.Reference2Ideal.nD Cert.Reference2Ideal.τ Cert.Reference2Ideal.sig) → Buf (Elt Ideal) ℓ)
    (h0 : Cert.Reference2Ideal.Conv.nbr m' c = Cert.Kernel2Ideal.Conv.nbr m c) (h1 : Cert.Reference2Ideal.Conv.emb m' c = Cert.Kernel2Ideal.Conv.emb m c)
    (h2 : Cert.Reference2Ideal.Conv.taps m' c = Cert.Kernel2Ideal.Conv.taps m c) (h3 : Cert.Reference2Ideal.Conv.bias m' c = Cert.Kernel2Ideal.Conv.bias m c) :
    Cert.Reference2Ideal.Value.res_main_v65 m' c = Cert.Kernel2Ideal.Conv.resultV m c := by
  have hr : ∀ y, (Cert.Reference2Ideal.Conv.nbr m' c y).toNat < 10000 := fun y => by
    rw [h0]
    exact Cert.Nbr.lt_of_pre _ _ _ _ (h c) y
  funext y
  idx_vars y
  refine (Cert.Reference2Ideal.Conv.ref_at m' c hr _ _).trans ?_
  rw [h0, h1, h2, h3]
  rfl

theorem algebraic : Cert.algebraic_Kernel2Ideal_Reference2Ideal := by
  pair_intro
  · run_from Cert.Kernel2Ideal.Conv.results m g (Cert.Nbr.small_of m fun c => Cert.Nbr.lt_of_pre _ _ _ _ (hpre c))
  · refine (θ_run _ _ _).mono (fun r hr c => ?_) (Cert.Reference2Ideal.Value.run m' g')
    obtain ⟨hv, hargs⟩ := hr c
    refine ⟨hv.trans (Eq.trans ?_ (Cert.Kernel2Ideal.Conv.final m c (Cert.Nbr.small_of m fun c => Cert.Nbr.lt_of_pre _ _ _ _ (hpre c))).symm), hargs⟩
    obtain ⟨h0, h1, h2, h3⟩ := hagree c
    exact values m hpre c m' h0 h1 h2 h3

end Cert.ConvClaim

end
-- ==== Proof.TopVec.lean ====
/- The vectors of the top-k body, named: rounds of "pick and mask", the gathered positions, their ranks and the ranked positions. -/
module

public import proofs.«01_k».proof.Proof.Gen.Kernel3Ideal.Frame
public import Idealize.ShloMosaic.Lib.Pipeline.ValueKit

@[expose] public section

set_option maxRecDepth 16384

noncomputable section

namespace Cert.Kernel3Ideal.Top

open Idealize.ShloMosaic Idealize.ShloMosaic.TcCoe Idealize.SL.Sem
open Cert.Kernel3Ideal Cert.Kernel3Ideal.Gen

/-- The column numbers of a block. -/
def lanes : IVec S8x10000 32 := iota .tc S8x10000 32 [1] iota_S8x10000_d1_w32

/-- The column numbers of a register. -/
def lane : IVec S8x128 32 := iota .tc S8x128 32 [1] iota_S8x128_d1_w32

/-- The lowest column that holds a row's largest entry. -/
def pick (X : FVec Ideal S8x10000 .f32) : IVec S8x1 32 :=
  fptosi 32 (shapeCast S8x1 (multiReduction .minimumf [1] S8
    (select (cmpf .oeq X (broadcastTo S8x10000 (shapeCast S8x1 (multiReduction .maximumf [1] S8 X 0xFF800000#32 reduces_S8x10000_S8 (.inl rfl) rfl) shapeCasts_S8_S8x1) broadcasts_S8x1_S8x10000))
      (sitofp .f32 lanes : FVec Ideal S8x10000 .f32) (broadcast S8x10000 (Scalar.ofBits (F := Ideal) .f32 0x4E6E6B28#32)))
    0x7F800000#32 reduces_S8x10000_S8 (.inl rfl) rfl) shapeCasts_S8_S8x1)

/-- The column `p` masked in every row. -/
def drop (X : FVec Ideal S8x10000 .f32) (p : IVec S8x1 32) : FVec Ideal S8x10000 .f32 :=
  select (cmpi .eq lanes (broadcastTo S8x10000 p broadcasts_S8x1_S8x10000)) (broadcast S8x10000 (Scalar.ofBits (F := Ideal) .f32 0xFF800000#32)) X

/-- The block after `n` rounds. -/
def left (X : FVec Ideal S8x10000 .f32) : ℕ → FVec Ideal S8x10000 .f32
  | 0 => X
  | n + 1 => drop (left X n) (pick (left X n))

/-- The positions picked in `n` rounds, one per column. -/
def gathered (X : FVec Ideal S8x10000 .f32) : ℕ → IVec S8x128 32
  | 0 => broadcast S8x128 0#32
  | n + 1 => addi (gathered X n) (select (cmpi .eq lane (broadcast S8x128 (BitVec.ofNat 32 n)))
      (broadcastTo S8x128 (shapeCast S8x1 (pick (left X n)) shapeCasts_S8x1_S8x1) broadcasts_S8x1_S8x128) (broadcast S8x128 0#32))

/-- The first 32 columns, twice. -/
def twice (I : IVec S8x128 32) : IVec S8x128 32 :=
  addi (select (cmpi .slt lane (broadcast S8x128 32#32)) I (broadcast S8x128 0#32))
    (dynamicRotate 1 96#32 none (select (cmpi .slt lane (broadcast S8x128 32#32)) I (broadcast S8x128 0#32)) rotates_S8x128_d1)

/-- How many of the `n` columns to the left hold a smaller position. -/
def smaller (I : IVec S8x128 32) : ℕ → IVec S8x128 32
  | 0 => broadcast S8x128 0#32
  | n + 1 => addi (smaller I n) (select (cmpi .slt (dynamicRotate 1 (BitVec.ofNat 32 (n + 1)) none (twice I) rotates_S8x128_d1) I)
      (broadcast S8x128 1#32) (broadcast S8x128 0#32))

theorem slices_column (n : ℕ) : S8x128.Slices ![0, n % 32] S8x1 := by
  have h : ∀ k : Fin 32, S8x128.Slices ![0, k.val] S8x1 := by decide
  exact h ⟨n % 32, Nat.mod_lt _ (by decide)⟩

/-- Column `n`. -/
def column (I : IVec S8x128 32) (n : ℕ) : IVec S8x1 32 := extractStridedSlice S8x1 ![0, n % 32] I (slices_column n)

/-- The first `n` columns put where the ranks say. -/
def placed (I R : IVec S8x128 32) : ℕ → IVec S8x128 32
  | 0 => broadcast S8x128 0#32
  | n + 1 => addi (placed I R n) (select (cmpi .eq lane (broadcastTo S8x128 (column R n) broadcasts_S8x1_S8x128))
      (broadcastTo S8x128 (shapeCast S8x1 (column I n) shapeCasts_S8x1_S8x1) broadcasts_S8x1_S8x128) (broadcast S8x128 0#32))

/-- The stored block. -/
def sorted (X : FVec Ideal S8x10000 .f32) : IVec S8x32 32 :=
  extractStridedSlice S8x32 ![0, 0] (placed (gathered X 32) (smaller (gathered X 32) 31) 32) slices_S8x128_o0_0_S8x32

end Cert.Kernel3Ideal.Top

end
-- ==== Proof.TopEq.lean ====
/- The body's stored block is the named vectors. -/
module

public import proofs.«01_k».proof.Proof.TopVec

@[expose] public section

set_option maxRecDepth 16384

noncomputable section

namespace Cert.Kernel3Ideal.Top

open Idealize.ShloMosaic Idealize.ShloMosaic.TcCoe Idealize.SL.Sem
open Cert.Kernel3Ideal Cert.Kernel3Ideal.Gen

theorem gathered_eq (x : Vec Ideal S8x10000 .f32) : k0_pay136 (F := Ideal) x = gathered (View.ld x r0_0) 32 := by sl_kernel_rfl

theorem smaller_eq (x : Vec Ideal S8x10000 .f32) : k0_pay141 (F := Ideal) x = smaller (k0_pay136 (F := Ideal) x) 31 := by sl_kernel_rfl

theorem pieces_eq (x : Vec Ideal S8x10000 .f32) :
    out0_1 (F := Ideal) x = View.canon [⟨r0_1, (sorted (View.ld x r0_0) : Vec Ideal S8x32 .i32)⟩] := by sl_kernel_rfl

/-- The stored block from the block read. -/
theorem out_eq (x : Vec Ideal S8x10000 .f32) : out0_1 (F := Ideal) x = sorted x := by
  have e : (View.ld x r0_0 : Vec Ideal S8x10000 .f32) = x := by
    funext y
    refine congrArg x (funext fun a => Fin.ext ?_)
    fin_cases a <;> simp [Rect.emb_apply, Rect.unit]
  rw [pieces_eq, e]
  exact View.canon_cons_unit_zero (funext fun a => by fin_cases a <;> rfl) _ _ _

end Cert.Kernel3Ideal.Top

end
-- ==== Proof.TopRounds.lean ====
/- The rounds of the top-k body read at a row: each picks the leader of what is left and masks it. -/
module

public import proofs.«01_k».proof.Proof.TopVec
public import proofs.«01_k».proof.Proof.Select
public import Idealize.ShloMosaic.Lib.Pointwise

@[expose] public section

set_option maxRecDepth 16384

noncomputable section

namespace Cert.Kernel3Ideal.Top

open Idealize.ShloMosaic Idealize.ShloMosaic.TcCoe Idealize.SL.Sem
open Cert.Kernel3Ideal Cert.Kernel3Ideal.Gen Cert.Select

theorem bottom : Ideal.ofBits FTy.f32 4286578688#32 = ⊥ := by simp [Ideal.ofBits, Ideal.ieee]

theorem topmost : Ideal.ofBits FTy.f32 2139095040#32 = ⊤ := by simp [Ideal.ofBits, Ideal.ieee]

theorem billion : Ideal.ofBits FTy.f32 1315859240#32 = ((1000000000 : ℝ) : EReal) := by
  simp [Ideal.ofBits, Ideal.ieee]
  rw [← EReal.coe_pow, ← EReal.coe_mul]
  norm_num

/-- The fold of the maximum is the leader's entry. -/
theorem fold_lead (v : Fin 10000 → EReal) : Finset.univ.fold max ⊥ v = v (lead v) := by
  apply le_antisymm
  · rw [Finset.fold_max_le]
    exact ⟨bot_le, fun q _ => (lead_spec v q).1⟩
  · rw [Finset.le_fold_max]
    exact Or.inr ⟨_, Finset.mem_univ _, le_rfl⟩

/-- A column number as a float. -/
theorem lane_float (q : Fin 10000) : (FloatOps.sitofp FTy.f32 (BitVec.ofNat 32 q.val) : Ideal .f32) = ((q.val : ℝ) : EReal) := by
  have e : (BitVec.ofNat 32 q.val).toInt = (q.val : ℤ) := by
    have h := q.isLt
    rw [BitVec.toInt_eq_toNat_of_lt (by rw [BitVec.toNat_ofNat]; omega), BitVec.toNat_ofNat, Nat.mod_eq_of_lt (by omega)]
  show (((BitVec.ofNat 32 q.val).toInt : ℝ) : EReal) = _
  rw [e, Int.cast_natCast]

/-- A column number as a float, turned back to a word. -/
theorem float_lane (q : Fin 10000) : (FloatOps.fptosi (F := Ideal) (φ := .f32) 32 ((q.val : ℝ) : EReal)) = BitVec.ofNat 32 q.val := by
  show BitVec.ofInt 32 (max _ (min _ (if (0 : ℝ) ≤ (q.val : ℝ) then ⌊(q.val : ℝ)⌋ else ⌈(q.val : ℝ)⌉))) = _
  rw [if_pos (Nat.cast_nonneg _), Int.floor_natCast]
  have := q.isLt
  rw [min_eq_right (by norm_num; omega), max_eq_right (by norm_num)]
  exact BitVec.ofInt_natCast 32 q.val

/-- The least float column number where `X` equals its largest entry is the leader's. -/
theorem fold_first (v : Fin 10000 → EReal) :
    Finset.fold min (⊤ : EReal) (fun q => if v q = v (lead v) then ((q.val : ℝ) : EReal) else ((1000000000 : ℝ) : EReal)) Finset.univ
      = (((lead v).val : ℝ) : EReal) := by
  apply le_antisymm
  · rw [Finset.fold_min_le]
    exact Or.inr ⟨lead v, Finset.mem_univ _, by rw [if_pos rfl]⟩
  · rw [Finset.le_fold_min]
    refine ⟨le_top, fun q _ => ?_⟩
    split
    · next h => exact EReal.coe_le_coe_iff.2 (Nat.cast_le.2 ((lead_spec v q).2 h))
    · refine EReal.coe_le_coe_iff.2 ?_
      have h := (lead v).isLt
      have h' : ((lead v).val : ℝ) ≤ ((1000000000 : ℕ) : ℝ) := Nat.cast_le.2 (by omega)
      simpa using h'

theorem pick_at (X : FVec Ideal S8x10000 .f32) (s : Fin 8) : pick X (ix2 s 0) = BitVec.ofNat 32 (lead fun q => X (ix2 s q)).val := by
  pointwise [pick, lanes]
  rw [bottom, topmost, billion, fold_lead fun q => X (ix2 s q)]
  simp only [lane_float]
  refine (congrArg (FloatOps.fptosi (F := Ideal) (φ := .f32) 32) (fold_first fun q => X (ix2 s q))).trans ?_
  exact float_lane _

/-- Small words are equal where their numbers are. -/
theorem cmp_small {a b : ℕ} (ha : a < 10000) (hb : b < 10000) :
    IntOp.cmpi CmpIPredicate.eq (BitVec.ofNat 32 a) (BitVec.ofNat 32 b) = if a = b then 1#1 else 0#1 := by
  have e : (BitVec.ofNat 32 a = BitVec.ofNat 32 b) ↔ a = b := by
    rw [← BitVec.toNat_inj, BitVec.toNat_ofNat, BitVec.toNat_ofNat, Nat.mod_eq_of_lt (by omega), Nat.mod_eq_of_lt (by omega)]
  by_cases h : a = b
  · subst h; simp [IntOp.cmpi]
  · have h' := mt e.1 h
    have h'' : (BitVec.ofNat 32 a == BitVec.ofNat 32 b) = false := beq_eq_false_iff_ne.2 h'
    rw [if_neg h]
    show BitVec.ofBool (BitVec.ofNat 32 a == BitVec.ofNat 32 b) = 0#1
    rw [h'']
    rfl

theorem drop_at (X : FVec Ideal S8x10000 .f32) (p : IVec S8x1 32) (s : Fin 8) (q : Fin 10000) (hp : p (ix2 s 0) = BitVec.ofNat 32 q.val) :
    (fun c => drop X p (ix2 s c)) = mask (fun c => X (ix2 s c)) q := by
  funext c
  pointwise [drop, lanes, mask]
  rw [bottom, hp, cmp_small c.isLt q.isLt]
  by_cases h : c = q
  · subst h; simp [Scalar.select]
  · have h' : c.val ≠ q.val := fun e => h (Fin.ext e)
    simp [Scalar.select, h, h']

theorem left_at (X : FVec Ideal S8x10000 .f32) (s : Fin 8) (n : ℕ) : (fun c => left X n (ix2 s c)) = rounds (fun c => X (ix2 s c)) n := by
  induction n with
  | zero => rfl
  | succ n ih =>
    refine (drop_at (left X n) (pick (left X n)) s _ (pick_at (left X n) s)).trans ?_
    rw [ih]
    rfl

theorem gathered_at (X : FVec Ideal S8x10000 .f32) (s : Fin 8) (n : ℕ) (hn : n ≤ 128) (l : Fin 128) :
    gathered X n (ix2 s l) = if l.val < n then BitVec.ofNat 32 (sel (fun c => X (ix2 s c)) l.val).val else 0#32 := by
  induction n with
  | zero => rfl
  | succ n ih =>
    have hp : pick (left X n) (ix2 s 0) = BitVec.ofNat 32 (sel (fun c => X (ix2 s c)) n).val := by
      rw [pick_at, left_at]
      rfl
    have e : gathered X (n + 1) (ix2 s l) = IntOp.addi (gathered X n (ix2 s l))
        (Scalar.select (IntOp.cmpi .eq (BitVec.ofNat 32 l.val) (BitVec.ofNat 32 n)) (pick (left X n) (ix2 s 0)) 0#32) := by
      rw [gathered]
      pointwise [lane]
    rw [e, ih (by omega), hp]
    rw [cmp_small (by omega) (by omega)]
    rcases lt_trichotomy l.val n with h | h | h
    · simp [IntOp.addi, Scalar.select, h, h.ne, Nat.lt_succ_of_lt h]
    · simp [IntOp.addi, Scalar.select, h]
    · simp [IntOp.addi, Scalar.select, h.ne', not_lt.2 h.le, not_lt.2 (Nat.succ_le_of_lt h)]

end Cert.Kernel3Ideal.Top

end
-- ==== Proof.TopSort.lean ====
/- Sorting by counting: the position whose word has `r` smaller words is where a stable sort finds its place `r`. -/
module

public import proofs.«01_k».proof.Proof.Select
public import Mathlib.Algebra.BigOperators.Fin
public import Mathlib.Algebra.BigOperators.Ring.Finset
public import Mathlib.Algebra.Order.BigOperators.Group.Finset
public import Mathlib.Algebra.Order.Group.Nat
public import Mathlib.Data.ZMod.Defs
public import Mathlib.Algebra.Group.Units.Equiv

@[expose] public section

noncomputable section

namespace Cert.TopSort

open Idealize.ShloMosaic

variable {N : ℕ}

/-- How many entries are smaller than entry `j`. -/
def rank (w : Fin N → ℕ) (j : Fin N) : ℕ := ∑ k : Fin N, if w k < w j then 1 else 0

theorem rank_lt_of_lt (w : Fin N → ℕ) {i j : Fin N} (h : w i < w j) : rank w i < rank w j := by
  refine Finset.sum_lt_sum (fun k _ => ?_) ⟨i, Finset.mem_univ i, ?_⟩
  · split_ifs <;> omega
  · rw [if_neg (lt_irrefl _), if_pos h]
    exact Nat.one_pos

theorem rank_lt (w : Fin N → ℕ) (j : Fin N) : rank w j < N := by
  have h : rank w j < ∑ _k : Fin N, 1 := by
    refine Finset.sum_lt_sum (fun k _ => ?_) ⟨j, Finset.mem_univ j, ?_⟩
    · split_ifs <;> omega
    · rw [if_neg (lt_irrefl _)]
      exact Nat.one_pos
  simpa using h

theorem rank_injective {w : Fin N → ℕ} (hw : Function.Injective w) : Function.Injective (rank w) := fun i j e => by
  rcases lt_trichotomy (w i) (w j) with h | h | h
  · exact absurd e (rank_lt_of_lt w h).ne
  · exact hw h
  · exact absurd e (rank_lt_of_lt w h).ne'

/-- Every place is some entry's rank. -/
theorem exists_rank {w : Fin N → ℕ} (hw : Function.Injective w) (r : Fin N) : ∃ j, rank w j = r.val := by
  have hi : Function.Injective fun j => (⟨rank w j, rank_lt w j⟩ : Fin N) := fun i j e => rank_injective hw (congrArg Fin.val e)
  obtain ⟨j, hj⟩ := Finite.surjective_of_injective hi r
  exact ⟨j, congrArg Fin.val hj⟩

/-- A stable sort by the entries puts an entry where its rank says. -/
theorem sortedFrom_rank {w : Fin N → ℕ} (hw : Function.Injective w) (r j : Fin N) (hj : rank w j = r.val) :
    sortedFrom (fun a b => decide (w a < w b)) r = j := by
  have hB : StrictTotalBefore fun a b : Fin N => decide (w a < w b) :=
    { irrefl := fun a => by simp
      trans := fun a b c hab hbc => by simp only [decide_eq_true_eq] at *; omega
      total := fun a b hab => by
        simp only [decide_eq_true_eq]
        have : w a ≠ w b := fun e => hab (hw e)
        omega }
  choose p hp using exists_rank hw
  have hinj : Function.Injective p := fun a b e => Fin.ext (by rw [← hp a, ← hp b, e])
  have h := hB.sortedFrom_eq_of_prefix le_rfl p hinj (fun a b hab => ?_) (fun i q hq => ?_) r
  · refine h.trans (rank_injective hw ?_)
    rw [hp, hj]
  · simp only [decide_eq_false_iff_not]
    intro hlt
    have := rank_lt_of_lt w hlt
    rw [hp, hp] at this
    exact absurd this (not_lt.mpr (le_of_lt hab))
  · exact absurd (rank_injective hw (hp ⟨rank w q, rank_lt w q⟩)) (hq _)

/-- The rank as a count over the places to the left, going round. -/
theorem rank_rotated (w : Fin 32 → ℕ) (l : Fin 32) : ∑ j ∈ Finset.range 31, (if w (l - Fin.ofNat 32 (j + 1)) < w l then 1 else 0) = rank w l := by
  have h0 : (∑ j ∈ Finset.range 32, if w (l - Fin.ofNat 32 j) < w l then 1 else 0)
      = ∑ j ∈ Finset.range 31, (if w (l - Fin.ofNat 32 (j + 1)) < w l then 1 else 0) := by
    rw [Finset.sum_range_succ']
    have e : l - Fin.ofNat 32 0 = l := sub_zero l
    rw [e, if_neg (lt_irrefl _), Nat.add_zero]
  rw [← h0, Finset.sum_range, rank]
  refine Fintype.sum_equiv (Equiv.subLeft l) _ _ fun j => ?_
  have e : Fin.ofNat 32 j.val = j := Fin.ext (Nat.mod_eq_of_lt j.isLt)
  rw [e]
  rfl

end Cert.TopSort

end
-- ==== Proof.TopRead.lean ====
/- The ranks of the picked positions and the placed register read at a lane. -/
module

public import proofs.«01_k».proof.Proof.TopRounds
public import proofs.«01_k».proof.Proof.TopSort

@[expose] public section

set_option maxRecDepth 16384

noncomputable section

namespace Cert.Kernel3Ideal.Top

open Idealize.ShloMosaic Idealize.ShloMosaic.TcCoe Idealize.SL.Sem
open Cert.Kernel3Ideal Cert.Kernel3Ideal.Gen Cert.Select Cert.TopSort

/-- Small words compare as their numbers. -/
theorem slt_small {a b : ℕ} (ha : a < 10000) (hb : b < 10000) :
    IntOp.cmpi CmpIPredicate.slt (BitVec.ofNat 32 a) (BitVec.ofNat 32 b) = if a < b then 1#1 else 0#1 := by
  have h : ∀ n < 10000, (BitVec.ofNat 32 n).toInt = (n : ℤ) := fun n hn => by
    rw [BitVec.toInt_eq_toNat_of_lt (by rw [BitVec.toNat_ofNat]; omega), BitVec.toNat_ofNat, Nat.mod_eq_of_lt (by omega)]
  have e : (BitVec.ofNat 32 a).slt (BitVec.ofNat 32 b) = decide (a < b) := by
    rw [BitVec.slt, h a ha, h b hb]
    exact decide_eq_decide.2 Int.ofNat_lt
  show BitVec.ofBool ((BitVec.ofNat 32 a).slt (BitVec.ofNat 32 b)) = _
  rw [e]
  by_cases hab : a < b <;> simp [hab]

/-- The doubled register repeats the first 32 lanes at the two ends. -/
theorem twice_at (I : IVec S8x128 32) (s : Fin 8) (c : Fin 128) (hc : c.val < 32 ∨ 96 ≤ c.val) :
    twice I (ix2 s c) = I (ix2 s ⟨c.val % 32, by omega⟩) := by
  pointwise [twice, lane]
  rw [show (32#32) = BitVec.ofNat 32 32 from rfl, slt_small (by omega) (by decide), slt_small (by omega) (by decide)]
  rcases hc with hc | hc
  · rw [if_pos hc, if_neg (by omega)]
    refine (BitVec.add_zero _).trans (congrArg I (congrArg (ix2 s) (Fin.ext ?_)))
    exact (Nat.mod_eq_of_lt hc).symm
  · rw [if_neg (by omega), if_pos (by omega)]
    refine (BitVec.zero_add _).trans (congrArg I (congrArg (ix2 s) (Fin.ext ?_)))
    show (c.val + 128 - 96) % 128 = c.val % 32
    omega

theorem rotated_at (I : IVec S8x128 32) (s : Fin 8) (n : ℕ) (hn : n < 31) (l : Fin 32) :
    dynamicRotate 1 (BitVec.ofNat 32 (n + 1)) none (twice I) rotates_S8x128_d1 (ix2 s (l.castLE (by decide)))
      = I (ix2 s ((l - Fin.ofNat 32 (n + 1)).castLE (by decide))) := by
  pointwise
  have hm : (BitVec.ofNat 32 (n + 1)).toNat = n + 1 := by
    rw [BitVec.toNat_ofNat]
    omega
  have hl := l.isLt
  refine (twice_at I s _ ?_).trans (congrArg I (congrArg (ix2 s) (Fin.ext ?_)))
  · show (l.val + 128 - (BitVec.ofNat 32 (n + 1)).toNat % 128) % 128 < 32 ∨ 96 ≤ (l.val + 128 - (BitVec.ofNat 32 (n + 1)).toNat % 128) % 128
    rw [hm]
    omega
  · show (l.val + 128 - (BitVec.ofNat 32 (n + 1)).toNat % 128) % 128 % 32 = (32 - (n + 1) % 32 + l.val) % 32
    rw [hm]
    omega

theorem smaller_at (I : IVec S8x128 32) (s : Fin 8) (w : Fin 32 → ℕ) (hw : ∀ l, w l < 10000)
    (hI : ∀ l : Fin 32, I (ix2 s (l.castLE (by decide))) = BitVec.ofNat 32 (w l)) (n : ℕ) (hn : n ≤ 31) (l : Fin 32) :
    smaller I n (ix2 s (l.castLE (by decide)))
      = BitVec.ofNat 32 (∑ j ∈ Finset.range n, if w (l - Fin.ofNat 32 (j + 1)) < w l then 1 else 0) := by
  induction n with
  | zero => rfl
  | succ n ih =>
    have e : smaller I (n + 1) (ix2 s (l.castLE (by decide))) = IntOp.addi (smaller I n (ix2 s (l.castLE (by decide))))
        (Scalar.select (IntOp.cmpi .slt (dynamicRotate 1 (BitVec.ofNat 32 (n + 1)) none (twice I) rotates_S8x128_d1 (ix2 s (l.castLE (by decide))))
          (I (ix2 s (l.castLE (by decide))))) 1#32 0#32) := rfl
    rw [e, ih (by omega), rotated_at I s n (by omega), hI, hI, slt_small (hw _) (hw _), Finset.sum_range_succ]
    split
    · exact (BitVec.ofNat_add _ _).symm
    · exact (BitVec.add_zero _)

theorem column_at (I : IVec S8x128 32) (s : Fin 8) (n : Fin 32) : column I n.val (ix2 s 0) = I (ix2 s (n.castLE (by decide))) := by
  refine congrArg I (funext fun a => Fin.ext ?_)
  fin_cases a
  · exact Nat.zero_add _
  · exact Nat.mod_eq_of_lt n.isLt

/-- The lane of rank `l` receives the entry of that rank. -/
theorem placed_at (I R : IVec S8x128 32) (s : Fin 8) (w r : Fin 32 → ℕ) (hr : Function.Injective r) (hr' : ∀ j, r j < 32)
    (hI : ∀ l : Fin 32, I (ix2 s (l.castLE (by decide))) = BitVec.ofNat 32 (w l))
    (hR : ∀ l : Fin 32, R (ix2 s (l.castLE (by decide))) = BitVec.ofNat 32 (r l)) (l : Fin 128) (j : Fin 32) (hj : r j = l.val) (n : ℕ) (hn : n ≤ 32) :
    placed I R n (ix2 s l) = if j.val < n then BitVec.ofNat 32 (w j) else 0#32 := by
  induction n with
  | zero => rfl
  | succ n ih =>
    have e : placed I R (n + 1) (ix2 s l) = IntOp.addi (placed I R n (ix2 s l))
        (Scalar.select (IntOp.cmpi .eq (BitVec.ofNat 32 l.val) (column R n (ix2 s 0))) (column I n (ix2 s 0)) 0#32) := by
      rw [placed]
      pointwise [lane]
    have hc : column R n (ix2 s 0) = _ := column_at R s ⟨n, by omega⟩
    have hd : column I n (ix2 s 0) = _ := column_at I s ⟨n, by omega⟩
    rw [e, ih (by omega), hc, hd, hI, hR, cmp_small (by omega) (by have := hr' ⟨n, by omega⟩; omega)]
    rcases lt_trichotomy j.val n with h | h | h
    · have h' : l.val ≠ r ⟨n, by omega⟩ := fun e => by
        have := congrArg Fin.val (hr (hj.trans e))
        simp at this
        omega
      simp [IntOp.addi, Scalar.select, h, h', Nat.lt_succ_of_lt h]
    · have h0 : (⟨n, by omega⟩ : Fin 32) = j := Fin.ext h.symm
      rw [h0, if_neg (by omega), if_pos hj.symm, if_pos (by omega)]
      exact BitVec.zero_add _
    · have h' : l.val ≠ r ⟨n, by omega⟩ := fun e => by
        have := congrArg Fin.val (hr (hj.trans e))
        simp at this
        omega
      simp [IntOp.addi, Scalar.select, h', not_lt.2 h.le, not_lt.2 (Nat.succ_le_of_lt h)]

/-- Row `s` of the stored block: the picked positions in increasing order. -/
theorem sorted_at (X : FVec Ideal S8x10000 .f32) (s : Fin 8) (hX : ∀ q, ⊥ < X (ix2 s q)) (r : Fin 32) :
    sorted X (ix2 s r) = BitVec.ofNat 32 (sel (fun q => X (ix2 s q))
      (sortedFrom (fun a b : Fin 32 => decide ((sel (fun q => X (ix2 s q)) a.val).val < (sel (fun q => X (ix2 s q)) b.val).val)) r).val).val := by
  set v : Fin 10000 → EReal := fun q => X (ix2 s q) with hv
  let w : Fin 32 → ℕ := fun l => (sel v l.val).val
  have hw : Function.Injective w := fun a b e => by
    have e' : sel v a.val = sel v b.val := Fin.ext e
    rcases lt_trichotomy a.val b.val with h | h | h
    · exact absurd e' (sel_fresh v hX b.val (by omega) a.val h)
    · exact Fin.ext h
    · exact absurd e'.symm (sel_fresh v hX a.val (by omega) b.val h)
  obtain ⟨j, hj⟩ := exists_rank hw r
  have hI : ∀ l : Fin 32, gathered X 32 (ix2 s (l.castLE (by decide))) = BitVec.ofNat 32 (w l) := fun l =>
    (gathered_at X s 32 (by decide) _).trans (if_pos l.isLt)
  have hR : ∀ l : Fin 32, smaller (gathered X 32) 31 (ix2 s (l.castLE (by decide))) = BitVec.ofNat 32 (rank w l) := fun l => by
    rw [smaller_at _ s w (fun l => (sel v l.val).isLt) hI 31 le_rfl l, rank_rotated]
  have e : sorted X (ix2 s r) = placed (gathered X 32) (smaller (gathered X 32) 31) 32 (ix2 s (r.castLE (by decide))) := by
    refine congrArg (placed (gathered X 32) (smaller (gathered X 32) 31) 32) (funext fun a => Fin.ext ?_)
    fin_cases a <;> exact Nat.zero_add _
  rw [e, placed_at _ _ s w (rank w) (rank_injective hw) (rank_lt w) hI hR _ j hj 32 le_rfl, if_pos j.isLt]
  rw [show sortedFrom (fun a b : Fin 32 => decide ((sel v a.val).val < (sel v b.val).val)) r = j from sortedFrom_rank hw r j hj]

end Cert.Kernel3Ideal.Top

end
-- ==== Proof.TopFinal.lean ====
/- The top-k call's result array: the picked positions of every row, in increasing order. -/
module

public import proofs.«01_k».proof.Proof.TopEq
public import proofs.«01_k».proof.Proof.TopRead
public import proofs.«01_k».proof.Proof.Gen.Kernel3Ideal.Value

@[expose] public section

set_option maxRecDepth 16384

noncomputable section

namespace Cert.Kernel3Ideal.Top

open Idealize.ShloMosaic Idealize.ShloMosaic.TcCoe Idealize.SL.Sem
open Cert.Kernel3Ideal Cert.Kernel3Ideal.Gen Cert.Select

attribute [local instance] Cert.Kernel3Ideal.Gen.facts

variable (m : (ℓ : Loc nD τ sig) → Buf (Elt Ideal) ℓ) (c : Dev nD)

/-- The similarities. -/
abbrev sim : FVec Ideal S10000x10000 .f32 := m ((c : Thread nD τ).loc main_arg0)

/-- The picked positions of a row of `x`. -/
def picked (x : FVec Ideal S10000x10000 .f32) (i : Fin 10000) (l : Fin 32) : ℕ := (sel (fun q => x (ix2 i q)) l.val).val

/-- The result: place `r` of row `i` holds the position of rank `r` among the picked ones. -/
def sortedV (x : FVec Ideal S10000x10000 .f32) : IVec S10000x32 32 := fun y =>
  BitVec.ofNat 32 (picked x (y 0) (sortedFrom (fun a b => decide (picked x (y 0) a < picked x (y 0) b)) (y 1)))

theorem idx : ∀ t : Fin grid0.N, win0_0.index t 0 = t.val ∧ win0_0.index t 1 = 0 ∧ win0_1.index t 0 = t.val ∧ win0_1.index t 1 = 0 := by
  decide +kernel

theorem sim_blk (t : Fin cfg0.N) (s : Fin 8) (q : Fin 10000) (i : Fin 10000) (hi : i.val = t.val * 8 + s.val) :
    (iblk m c 0 t : FVec Ideal S8x10000 .f32) (ix2 s q) = sim m c (ix2 i q) := by
  refine Eq.trans ?_ (congrFun (V_main_arg0 m c) (ix2 i q))
  blk_point [iblk, idx t, hi]

/-- THE RESULT ARRAY. -/
theorem final (hS : ∀ y, ⊥ < sim m c y) : (dats m 0 c).arrAt 1 cfg0.N = sortedV (sim m c) := by
  refine (dats m 0 c).arrAt_eq_of_covers 1 _ (by decide +kernel) fun t _ y => ?_
  blk_simp
  rw [after0_1, out_eq]
  idx_vars y
  have ht : t.val < 1250 := lt_of_lt_of_eq t.isLt (by decide +kernel)
  let i : Fin 10000 := ⟨t.val * 8 + y0.val, by omega⟩
  have hi : i.val = t.val * 8 + y0.val := rfl
  have he : ((View.whole main_v0).slice (win0_1.rect t)).emb (ix2 y0 y1) = (ix2 i y1 : S10000x32.Idx) := by
    blk_ext [idx t, hi]
  refine Eq.trans ?_ (congrArg (sortedV (sim m c)) he).symm
  have hr : (fun q => (iblk m c 0 t : FVec Ideal S8x10000 .f32) (ix2 y0 q)) = fun q => sim m c (ix2 i q) :=
    funext fun q => sim_blk m c t y0 q i hi
  refine (sorted_at (iblk m c 0 t) y0 (fun q => ?_) y1).trans ?_
  · rw [sim_blk m c t y0 q i hi]
    exact hS _
  · rw [hr]
    rfl

end Cert.Kernel3Ideal.Top

end
-- ==== Proof.Above.lean ====
/- The third precondition read at an entry: it is above minus infinity. -/
module

public import proofs.«01_k».proof.Defs
public import proofs.«01_k».proof.Proof.Gen.Pre_sim_above
public import Idealize.ShloMosaic.Lib.ReduceAll
public import Idealize.ShloMosaic.Lib.Pointwise

@[expose] public section

namespace Cert.Above

open Idealize.ShloMosaic Idealize.ShloMosaic.TcCoe

open Cert.Pre_sim_above Cert.Pre_sim_above.Gen in
/-- Under the precondition no entry is minus infinity. -/
theorem of_pre (x : FVec Ideal S10000x10000 .f32) (h : fn x = fun _ => 1#1) (y : S10000x10000.Idx) : (⊥ : EReal) < x y := by
  haveI : Subsingleton S_.Idx := inferInstanceAs (Subsingleton ((a : Fin 0) → _))
  have e := congrFun h fun a => a.elim0
  unfold fn at e
  have e : BitVec.ofBool (decide (Ideal.ofBits FTy.f32 4286578688#32 < x y)) = 1#1 := Host.reduce_andi_all _ _ _ _ _ e y
  rw [show Ideal.ofBits FTy.f32 4286578688#32 = ⊥ by simp [Ideal.ofBits, Ideal.ieee]] at e
  by_contra hc
  rw [decide_eq_false hc] at e
  exact absurd e (by decide)

end Cert.Above
-- ==== Proof.Ref3Value.lean ====
/- The reference's sorted top-k indices read at a place. -/
module

public import proofs.«01_k».proof.Proof.Select
public import proofs.«01_k».proof.Proof.TopSort
public import proofs.«01_k».proof.Proof.Gen.Reference3Ideal
public import proofs.«01_k».proof.Proof.Gen.Reference3Ideal.Run
public import Idealize.ShloMosaic.Lib.Pointwise

@[expose] public section

set_option maxRecDepth 16384

noncomputable section

namespace Cert.Reference3Ideal.Top

open Idealize.ShloMosaic Idealize.ShloMosaic.TcCoe
open Cert.Reference3Ideal Cert.Reference3Ideal.Gen Cert.Select

/-- Index `r` of row `i`: where the sort's place `r` comes from. -/
theorem place_at (x : FVec Ideal S10000x10000 .f32) (h : S10000x10000.Slices (fun _ => 0) S10000x32) (i : Fin 10000) (r : Fin 32) :
    (Host.topK S10000x32 1 (FloatOps.cmpfTotal .gt) x h).2 (ix2 i r)
      = BitVec.ofNat 32 (sortedFrom (fun a b : Fin 10000 => decide (x (ix2 i b) < x (ix2 i a))) (r.castLE (by decide))).val := by
  have e : ∀ k : Fin 10000, (ix2 i (r.castLE (by decide) : Fin 10000) : S10000x10000.Idx).along 1 k = ix2 i k := fun k => by
    funext a; fin_cases a <;> rfl
  have hs : ∀ v : IVec S10000x10000 32, extractStridedSlice S10000x32 (fun _ => 0) v h (ix2 i r) = v (ix2 i (r.castLE (by decide) : Fin 10000)) := fun v => by
    refine congrArg v (funext fun a => Fin.ext ?_)
    fin_cases a <;> exact Nat.zero_add _
  dsimp only [Host.topK]
  rw [hs]
  dsimp only [Host.sort2]
  rw [dif_pos (by decide)]
  dsimp only
  rw [dif_pos (by decide)]
  have hi : ∀ k : Fin 10000, iotaInDim S10000x10000 32 1 ((ix2 i (r.castLE (by decide) : Fin 10000) : S10000x10000.Idx).along 1 k)
      = BitVec.ofNat 32 k.val := fun k => rfl
  refine (hi _).trans ?_
  have key : (fun a b : Fin 10000 => FloatOps.cmpfTotal (F := Ideal) (φ := .f32) .gt (x ((ix2 i (r.castLE (by decide) : Fin 10000) : S10000x10000.Idx).along 1 a))
      (x ((ix2 i (r.castLE (by decide) : Fin 10000) : S10000x10000.Idx).along 1 b)) == 1#1) = fun a b : Fin 10000 => decide (x (ix2 i b) < x (ix2 i a)) := by
    funext a b
    rw [e, e]
    show (BitVec.ofBool (decide (x (ix2 i b) < x (ix2 i a))) == 1#1) = _
    cases decide (x (ix2 i b) < x (ix2 i a)) <;> rfl
  exact congrArg (fun R : Fin 10000 → Fin 10000 → Bool => BitVec.ofNat 32 (sortedFrom R (r.castLE (by decide))).val) key

/-- Index `r` of row `i`: the position that round `r` picks. -/
theorem top_at (x : FVec Ideal S10000x10000 .f32) (h : S10000x10000.Slices (fun _ => 0) S10000x32) (i : Fin 10000)
    (hx : ∀ q, ⊥ < x (ix2 i q)) (r : Fin 32) :
    (Host.topK S10000x32 1 (FloatOps.cmpfTotal .gt) x h).2 (ix2 i r) = BitVec.ofNat 32 (sel (fun q => x (ix2 i q)) r.val).val := by
  rw [place_at, sortedFrom_eq_sel (fun q => x (ix2 i q)) (fun q => x (ix2 i q)) (fun _ _ => Iff.rfl) hx]
  rfl

/-- Small words compare as their numbers. -/
theorem less_small {a b : ℕ} (ha : a < 10000) (hb : b < 10000) :
    (IntOp.cmpi CmpIPredicate.slt (BitVec.ofNat 32 a) (BitVec.ofNat 32 b) == 1#1) = decide (a < b) := by
  have h : ∀ n < 10000, (BitVec.ofNat 32 n).toInt = (n : ℤ) := fun n hn => by
    rw [BitVec.toInt_eq_toNat_of_lt (by rw [BitVec.toNat_ofNat]; omega), BitVec.toNat_ofNat, Nat.mod_eq_of_lt (by omega)]
  have e : (BitVec.ofNat 32 a).slt (BitVec.ofNat 32 b) = decide (a < b) := by
    rw [BitVec.slt, h a ha, h b hb]
    exact decide_eq_decide.2 Int.ofNat_lt
  show (BitVec.ofBool ((BitVec.ofNat 32 a).slt (BitVec.ofNat 32 b)) == 1#1) = _
  rw [e]
  cases decide (a < b) <;> rfl

/-- Place `r` of row `i` of the sorted indices. -/
theorem sort_at (d : IVec S10000x32 32) (i : Fin 10000) (w : Fin 32 → ℕ) (hw : ∀ l, w l < 10000) (hd : ∀ l, d (ix2 i l) = BitVec.ofNat 32 (w l)) (r : Fin 32) :
    Host.sort S10000x32 1 comparator_i32_d1 d (ix2 i r) = BitVec.ofNat 32 (w (sortedFrom (fun a b => decide (w a < w b)) r)) := by
  have e : ∀ k : Fin 32, (ix2 i r : S10000x32.Idx).along 1 k = ix2 i k := fun k => by
    funext a; fin_cases a <;> rfl
  refine Eq.trans ?_ (hd _)
  have hR : (fun a b : Fin 32 => decide (w a < w b)) = fun a b : Fin 32 => comparator_i32_d1 (d ((ix2 i r : S10000x32.Idx).along 1 a)) (d ((ix2 i r : S10000x32.Idx).along 1 b)) == 1#1 := by
    funext a b
    rw [e, e, hd, hd]
    exact (less_small (hw a) (hw b)).symm
  rw [hR]
  exact congrArg d (e _)

end Cert.Reference3Ideal.Top

end
-- ==== Proof.TopClaim.lean ====
/- The value claim of the top-k call: the kernel and its reference end with the same result. -/
module

public import proofs.«01_k».proof.Defs
public import proofs.«01_k».proof.Proof.TopFinal
public import proofs.«01_k».proof.Proof.Above
public import proofs.«01_k».proof.Proof.Ref3Value
public import Idealize.ShloMosaic.Lib.Claim

@[expose] public section

set_option maxRecDepth 16384

noncomputable section

namespace Cert.TopClaim

open Idealize.ShloMosaic Idealize.ShloMosaic.TcCoe Idealize.SL.Sem Idealize.ShloMosaic.StableHlo Cert.Select

attribute [local instance] Cert.Kernel3Ideal.Gen.facts Cert.Reference3Ideal.Gen.facts Cert.Pre_sim_above.Gen.facts

open Cert.Reference3Ideal Cert.Reference3Ideal.Gen in
/-- The reference's result is the sorted picked positions. -/
theorem value (x : FVec Ideal S10000x10000 .f32) (hx : ∀ y, ⊥ < x y) (h : S10000x10000.Slices (fun _ => 0) S10000x32) :
    Host.sort S10000x32 1 comparator_i32_d1 (Host.topK S10000x32 1 (FloatOps.cmpfTotal .gt) x h).2 = Cert.Kernel3Ideal.Top.sortedV x := by
  funext y
  idx_vars y
  exact Cert.Reference3Ideal.Top.sort_at _ y0 (Cert.Kernel3Ideal.Top.picked x y0) (fun l => (sel (fun q => x (ix2 y0 q)) l.val).isLt)
    (fun l => Cert.Reference3Ideal.Top.top_at x h y0 (fun q => hx _) l) y1

theorem algebraic : Cert.algebraic_Kernel3Ideal_Reference3Ideal_pre_sim_above := by
  pair_intro
  · run_from Cert.Kernel3Ideal.Value.run_blocks m g
  · refine (θ_run _ _ _).mono (fun r hr c => ?_) (Cert.Reference3Ideal.Value.run m' g')
    obtain ⟨hv, hargs⟩ := hr c
    refine ⟨hv.trans (Eq.trans ?_ (Cert.Kernel3Ideal.Top.final m c (Cert.Above.of_pre _ (hpre c))).symm), hargs⟩
    have h0 := hagree c
    refine (congrArg (fun x => Host.sort _ 1 Cert.Reference3Ideal.comparator_i32_d1 (Host.topK _ 1 (FloatOps.cmpfTotal .gt) x _).2) h0).trans ?_
    exact value _ (Cert.Above.of_pre _ (hpre c)) _

end Cert.TopClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_ids_in_range
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Reference2Ideal.Run
public import proofs.«01_k».proof.Proof.Gen.Pre_nbr_in_range
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_sim_above
public import proofs.«01_k».proof.Proof.HypsKernel
public import proofs.«01_k».proof.Proof.HypsIdeal
public import proofs.«01_k».proof.Proof.AsmClaim
public import proofs.«01_k».proof.Proof.ConvSame
public import proofs.«01_k».proof.Proof.ConvClaim
public import proofs.«01_k».proof.Proof.TopClaim
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs and leaves its arguments; it has no semaphore. -/
theorem refRuns : Cert.quiescent_ReferenceIdeal (hReferenceIdeal := Cert.ReferenceIdeal.Gen.facts) := fun m g _ =>
  (θ_run (Cert.ReferenceIdeal.defs (F := Ideal)) _ _).mono (fun r h => ⟨fun c => (h c).2, sem_eq_zero_of_no_sems rfl r.2⟩)
    (Cert.ReferenceIdeal.Value.run m g)

/-- The convolution's reference runs and leaves its arguments; it has no semaphore. -/
theorem ref2Runs : Cert.quiescent_Reference2Ideal (hReference2Ideal := Cert.Reference2Ideal.Gen.facts) := fun m g _ =>
  (θ_run (Cert.Reference2Ideal.defs (F := Ideal)) _ _).mono (fun r h => ⟨fun c => (h c).2, sem_eq_zero_of_no_sems rfl r.2⟩)
    (Cert.Reference2Ideal.Value.run m g)

/-- The top-k call's reference runs and leaves its argument; it has no semaphore. -/
theorem ref3Runs : Cert.quiescent_Reference3Ideal (hReference3Ideal := Cert.Reference3Ideal.Gen.facts) := fun m g _ =>
  (θ_run (Cert.Reference3Ideal.defs (F := Ideal)) _ _).mono (fun r h => ⟨fun c => (h c).2, sem_eq_zero_of_no_sems rfl r.2⟩)
    (Cert.Reference3Ideal.Value.run m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Pre_ids_in_range.Gen.facts, Cert.Pre_nbr_in_range.Gen.facts, Cert.Pre_sim_above.Gen.facts,
  fun m g h => Cert.Kernel.Gen.frame m g (Cert.Kernel.Asm.hyps_of_pre m h),
  fun m g h => Cert.KernelIdeal.Gen.frame m g (Cert.KernelIdeal.Asm.hyps_of_pre m h),
  refRuns,
  fun m g _ => refRuns m g trivial,
  Cert.Conv.quiescent,
  Cert.Conv.quiescent_ideal,
  ref2Runs,
  fun m g _ => ref2Runs m g trivial,
  fun m g _ => Cert.Kernel3.Gen.frame m g,
  fun m g _ => Cert.Kernel3Ideal.Gen.frame m g,
  fun m g _ => Cert.Kernel3Ideal.Gen.frame m g,
  ref3Runs,
  fun m g _ => ref3Runs m g trivial,
  trivial,
  Cert.AsmClaim.algebraic,
  trivial,
  Cert.ConvClaim.algebraic,
  trivial,
  Cert.TopClaim.algebraic⟩

end Cert.Proof

end
